-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Samp (m : (ℓ : Loc Cert.Samp.nD Cert.Samp.τ Cert.Samp.sig) → Buf (Elt Bits) ℓ) : Prop :=
  True

def Pre_SampIdeal (m : (ℓ : Loc Cert.SampIdeal.nD Cert.SampIdeal.τ Cert.SampIdeal.sig) → Buf (Elt Ideal) ℓ) : Prop :=
  True

def Pre_SampReferenceIdeal (m : (ℓ : Loc Cert.SampReferenceIdeal.nD Cert.SampReferenceIdeal.τ Cert.SampReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10)
      ∧ r.2.mem ((c.tc : Thread Cert.TailReferenceIdeal.nD Cert.TailReferenceIdeal.τ).loc Cert.TailReferenceIdeal.main_arg11) = m ((c.tc : Thread Cert.TailReferenceIdeal.nD Cert.TailReferenceIdeal.τ).loc Cert.TailReferenceIdeal.main_arg11)
      ∧ r.2.mem ((c.tc : Thread Cert.TailReferenceIdeal.nD Cert.TailReferenceIdeal.τ).loc Cert.TailReferenceIdeal.main_arg12) = m ((c.tc : Thread Cert.TailReferenceIdeal.nD Cert.TailReferenceIdeal.τ).loc Cert.TailReferenceIdeal.main_arg12)
      ∧ r.2.mem ((c.tc : Thread Cert.TailReferenceIdeal.nD Cert.TailReferenceIdeal.τ).loc Cert.TailReferenceIdeal.main_arg13) = m ((c.tc : Thread Cert.TailReferenceIdeal.nD Cert.TailReferenceIdeal.τ).loc Cert.TailReferenceIdeal.main_arg13))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6))
      ∧ r.2.sem = fun _ => 0)

def quiescent_Samp [hSamp : Cert.Samp.Facts] : Prop :=
  ∀ (m : (ℓ : Loc Cert.Samp.nD Cert.Samp.τ Cert.Samp.sig) → Buf (Elt Bits) ℓ) (g : Dev Cert.Samp.nD → PrngReg), Pre_Samp m →
    θ_run (Cert.Samp.defs (F := Bits)) (onTc (τ := Cert.Samp.τ) (Cert.Samp.main (F := Bits))) ⟨m, fun _ => 0, g⟩ (fun r => (∀ c : Dev Cert.Samp.nD,
      r.2.mem ((c.tc : Thread Cert.Samp.nD Cert.Samp.τ).loc Cert.Samp.main_arg0) = m ((c.tc : Thread Cert.Samp.nD Cert.Samp.τ).loc Cert.Samp.main_arg0)
      ∧ r.2.mem ((c.tc : Thread Cert.Samp.nD Cert.Samp.τ).loc Cert.Samp.main_arg1) = m ((c.tc : Thread Cert.Samp.nD Cert.Samp.τ).loc Cert.Samp.main_arg1)
      ∧ r.2.mem ((c.tc : Thread Cert.Samp.nD Cert.Samp.τ).loc Cert.Samp.main_arg2) = m ((c.tc : Thread Cert.Samp.nD Cert.Samp.τ).loc Cert.Samp.main_arg2)
      ∧ r.2.mem ((c.tc : Thread Cert.Samp.nD Cert.Samp.τ).loc Cert.Samp.main_arg3) = m ((c.tc : Thread Cert.Samp.nD Cert.Samp.τ).loc Cert.Samp.main_arg3)
      ∧ r.2.mem ((c.tc : Thread Cert.Samp.nD Cert.Samp.τ).loc Cert.Samp.main_arg4) = m ((c.tc : Thread Cert.Samp.nD Cert.Samp.τ).loc Cert.Samp.main_arg4)
      ∧ r.2.mem ((c.tc : Thread Cert.Samp.nD Cert.Samp.τ).loc Cert.Samp.main_arg5) = m ((c.tc : Thread Cert.Samp.nD Cert.Samp.τ).loc Cert.Samp.main_arg5)
      ∧ r.2.mem ((c.tc : Thread Cert.Samp.nD Cert.Samp.τ).loc Cert.Samp.main_arg6) = m ((c.tc : Thread Cert.Samp.nD Cert.Samp.τ).loc Cert.Samp.main_arg6))
      ∧ r.2.sem = fun _ => 0)

def quiescent_SampIdeal [hSampIdeal : Cert.SampIdeal.Facts] : Prop :=
  ∀ (m : (ℓ : Loc Cert.SampIdeal.nD Cert.SampIdeal.τ Cert.SampIdeal.sig) → Buf (Elt Ideal) ℓ) (g : Dev Cert.SampIdeal.nD → PrngReg), Pre_SampIdeal m →
    θ_run (Cert.SampIdeal.defs (F := Ideal)) (onTc (τ := Cert.SampIdeal.τ) (Cert.SampIdeal.main (F := Ideal))) ⟨m, fun _ => 0, g⟩ (fun r => (∀ c : Dev Cert.SampIdeal.nD,
      r.2.mem ((c.tc : Thread Cert.SampIdeal.nD Cert.SampIdeal.τ).loc Cert.SampIdeal.main_arg0) = m ((c.tc : Thread Cert.SampIdeal.nD Cert.SampIdeal.τ).loc Cert.SampIdeal.main_arg0)
      ∧ r.2.mem ((c.tc : Thread Cert.SampIdeal.nD Cert.SampIdeal.τ).loc Cert.SampIdeal.main_arg1) = m ((c.tc : Thread Cert.SampIdeal.nD Cert.SampIdeal.τ).loc Cert.SampIdeal.main_arg1)
      ∧ r.2.mem ((c.tc : Thread Cert.SampIdeal.nD Cert.SampIdeal.τ).loc Cert.SampIdeal.main_arg2) = m ((c.tc : Thread Cert.SampIdeal.nD Cert.SampIdeal.τ).loc Cert.SampIdeal.main_arg2)
      ∧ r.2.mem ((c.tc : Thread Cert.SampIdeal.nD Cert.SampIdeal.τ).loc Cert.SampIdeal.main_arg3) = m ((c.tc : Thread Cert.SampIdeal.nD Cert.SampIdeal.τ).loc Cert.SampIdeal.main_arg3)
      ∧ r.2.mem ((c.tc : Thread Cert.SampIdeal.nD Cert.SampIdeal.τ).loc Cert.SampIdeal.main_arg4) = m ((c.tc : Thread Cert.SampIdeal.nD Cert.SampIdeal.τ).loc Cert.SampIdeal.main_arg4)
      ∧ r.2.mem ((c.tc : Thread Cert.SampIdeal.nD Cert.SampIdeal.τ).loc Cert.SampIdeal.main_arg5) = m ((c.tc : Thread Cert.SampIdeal.nD Cert.SampIdeal.τ).loc Cert.SampIdeal.main_arg5)
      ∧ r.2.mem ((c.tc : Thread Cert.SampIdeal.nD Cert.SampIdeal.τ).loc Cert.SampIdeal.main_arg6) = m ((c.tc : Thread Cert.SampIdeal.nD Cert.SampIdeal.τ).loc Cert.SampIdeal.main_arg6))
      ∧ r.2.sem = fun _ => 0)

def quiescent_SampReferenceIdeal [hSampReferenceIdeal : Cert.SampReferenceIdeal.Facts] : Prop :=
  ∀ (m : (ℓ : Loc Cert.SampReferenceIdeal.nD Cert.SampReferenceIdeal.τ Cert.SampReferenceIdeal.sig) → Buf (Elt Ideal) ℓ) (g : Dev Cert.SampReferenceIdeal.nD → PrngReg), Pre_SampReferenceIdeal m →
    θ_run (Cert.SampReferenceIdeal.defs (F := Ideal)) (onTc (τ := Cert.SampReferenceIdeal.τ) (Cert.SampReferenceIdeal.main (F := Ideal))) ⟨m, fun _ => 0, g⟩ (fun r => (∀ c : Dev Cert.SampReferenceIdeal.nD,
      r.2.mem ((c.tc : Thread Cert.SampReferenceIdeal.nD Cert.SampReferenceIdeal.τ).loc Cert.SampReferenceIdeal.main_arg0) = m ((c.tc : Thread Cert.SampReferenceIdeal.nD Cert.SampReferenceIdeal.τ).loc Cert.SampReferenceIdeal.main_arg0)
      ∧ r.2.mem ((c.tc : Thread Cert.SampReferenceIdeal.nD Cert.SampReferenceIdeal.τ).loc Cert.SampReferenceIdeal.main_arg1) = m ((c.tc : Thread Cert.SampReferenceIdeal.nD Cert.SampReferenceIdeal.τ).loc Cert.SampReferenceIdeal.main_arg1)
      ∧ r.2.mem ((c.tc : Thread Cert.SampReferenceIdeal.nD Cert.SampReferenceIdeal.τ).loc Cert.SampReferenceIdeal.main_arg2) = m ((c.tc : Thread Cert.SampReferenceIdeal.nD Cert.SampReferenceIdeal.τ).loc Cert.SampReferenceIdeal.main_arg2)
      ∧ r.2.mem ((c.tc : Thread Cert.SampReferenceIdeal.nD Cert.SampReferenceIdeal.τ).loc Cert.SampReferenceIdeal.main_arg3) = m ((c.tc : Thread Cert.SampReferenceIdeal.nD Cert.SampReferenceIdeal.τ).loc Cert.SampReferenceIdeal.main_arg3)
      ∧ r.2.mem ((c.tc : Thread Cert.SampReferenceIdeal.nD Cert.SampReferenceIdeal.τ).loc Cert.SampReferenceIdeal.main_arg4) = m ((c.tc : Thread Cert.SampReferenceIdeal.nD Cert.SampReferenceIdeal.τ).loc Cert.SampReferenceIdeal.main_arg4)
      ∧ r.2.mem ((c.tc : Thread Cert.SampReferenceIdeal.nD Cert.SampReferenceIdeal.τ).loc Cert.SampReferenceIdeal.main_arg5) = m ((c.tc : Thread Cert.SampReferenceIdeal.nD Cert.SampReferenceIdeal.τ).loc Cert.SampReferenceIdeal.main_arg5)
      ∧ r.2.mem ((c.tc : Thread Cert.SampReferenceIdeal.nD Cert.SampReferenceIdeal.τ).loc Cert.SampReferenceIdeal.main_arg6) = m ((c.tc : Thread Cert.SampReferenceIdeal.nD Cert.SampReferenceIdeal.τ).loc Cert.SampReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)
      ∧ m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7)
      ∧ m' ((c.tc : Thread Cert.TailReferenceIdeal.nD Cert.TailReferenceIdeal.τ).loc Cert.TailReferenceIdeal.main_arg8) = m ((c.tc : Thread Cert.TailIdeal.nD Cert.TailIdeal.τ).loc Cert.TailIdeal.main_arg8)
      ∧ m' ((c.tc : Thread Cert.TailReferenceIdeal.nD Cert.TailReferenceIdeal.τ).loc Cert.TailReferenceIdeal.main_arg9) = m ((c.tc : Thread Cert.TailIdeal.nD Cert.TailIdeal.τ).loc Cert.TailIdeal.main_arg9)
      ∧ m' ((c.tc : Thread Cert.TailReferenceIdeal.nD Cert.TailReferenceIdeal.τ).loc Cert.TailReferenceIdeal.main_arg10) = m ((c.tc : Thread Cert.TailIdeal.nD Cert.TailIdeal.τ).loc Cert.TailIdeal.main_arg10)
      ∧ m' ((c.tc : Thread Cert.TailReferenceIdeal.nD Cert.TailReferenceIdeal.τ).loc Cert.TailReferenceIdeal.main_arg11) = m ((c.tc : Thread Cert.TailIdeal.nD Cert.TailIdeal.τ).loc Cert.TailIdeal.main_arg11)
      ∧ m' ((c.tc : Thread Cert.TailReferenceIdeal.nD Cert.TailReferenceIdeal.τ).loc Cert.TailReferenceIdeal.main_arg12) = m ((c.tc : Thread Cert.TailIdeal.nD Cert.TailIdeal.τ).loc Cert.TailIdeal.main_arg12)
      ∧ m' ((c.tc : Thread Cert.TailReferenceIdeal.nD Cert.TailReferenceIdeal.τ).loc Cert.TailReferenceIdeal.main_arg13) = m ((c.tc : Thread Cert.TailIdeal.nD Cert.TailIdeal.τ).loc Cert.TailIdeal.main_arg13)) →
    ∃ (v0 : (c : Dev Cert.TailIdeal.nD) → Buf (Elt Ideal) ((c.tc : Thread Cert.TailIdeal.nD Cert.TailIdeal.τ).loc Cert.TailIdeal.main_v9_0)) (v1 : (c : Dev Cert.TailIdeal.nD) → Buf (Elt Ideal) ((c.tc : Thread Cert.TailIdeal.nD Cert.TailIdeal.τ).loc Cert.TailIdeal.main_v9_1)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v9_0) = v0 c
          ∧ r.2.mem ((c.tc : Thread Cert.TailIdeal.nD Cert.TailIdeal.τ).loc Cert.TailIdeal.main_v9_1) = v1 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v71) = v0 c
          ∧ r.2.mem ((c.tc : Thread Cert.TailReferenceIdeal.nD Cert.TailReferenceIdeal.τ).loc Cert.TailReferenceIdeal.main_v72) = v1 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9)
          ∧ r.2.mem ((c.tc : Thread Cert.TailReferenceIdeal.nD Cert.TailReferenceIdeal.τ).loc Cert.TailReferenceIdeal.main_arg10) = m' ((c.tc : Thread Cert.TailReferenceIdeal.nD Cert.TailReferenceIdeal.τ).loc Cert.TailReferenceIdeal.main_arg10)
          ∧ r.2.mem ((c.tc : Thread Cert.TailReferenceIdeal.nD Cert.TailReferenceIdeal.τ).loc Cert.TailReferenceIdeal.main_arg11) = m' ((c.tc : Thread Cert.TailReferenceIdeal.nD Cert.TailReferenceIdeal.τ).loc Cert.TailReferenceIdeal.main_arg11)
          ∧ r.2.mem ((c.tc : Thread Cert.TailReferenceIdeal.nD Cert.TailReferenceIdeal.τ).loc Cert.TailReferenceIdeal.main_arg12) = m' ((c.tc : Thread Cert.TailReferenceIdeal.nD Cert.TailReferenceIdeal.τ).loc Cert.TailReferenceIdeal.main_arg12)
          ∧ r.2.mem ((c.tc : Thread Cert.TailReferenceIdeal.nD Cert.TailReferenceIdeal.τ).loc Cert.TailReferenceIdeal.main_arg13) = m' ((c.tc : Thread Cert.TailReferenceIdeal.nD Cert.TailReferenceIdeal.τ).loc Cert.TailReferenceIdeal.main_arg13))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v143_0)) (v1 : (c : Dev Cert.ProjIdeal.nD) → Buf (Elt Ideal) ((c.tc : Thread Cert.ProjIdeal.nD Cert.ProjIdeal.τ).loc Cert.ProjIdeal.main_v143_3)) (v2 : (c : Dev Cert.ProjIdeal.nD) → Buf (Elt Ideal) ((c.tc : Thread Cert.ProjIdeal.nD Cert.ProjIdeal.τ).loc Cert.ProjIdeal.main_v143_4)) (v3 : (c : Dev Cert.ProjIdeal.nD) → Buf (Elt Ideal) ((c.tc : Thread Cert.ProjIdeal.nD Cert.ProjIdeal.τ).loc Cert.ProjIdeal.main_v143_5)) (v4 : (c : Dev Cert.ProjIdeal.nD) → Buf (Elt Ideal) ((c.tc : Thread Cert.ProjIdeal.nD Cert.ProjIdeal.τ).loc Cert.ProjIdeal.main_v143_8)) (v5 : (c : Dev Cert.ProjIdeal.nD) → Buf (Elt Ideal) ((c.tc : Thread Cert.ProjIdeal.nD Cert.ProjIdeal.τ).loc Cert.ProjIdeal.main_v143_9)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v143_0) = v0 c
          ∧ r.2.mem ((c.tc : Thread Cert.ProjIdeal.nD Cert.ProjIdeal.τ).loc Cert.ProjIdeal.main_v143_3) = v1 c
          ∧ r.2.mem ((c.tc : Thread Cert.ProjIdeal.nD Cert.ProjIdeal.τ).loc Cert.ProjIdeal.main_v143_4) = v2 c
          ∧ r.2.mem ((c.tc : Thread Cert.ProjIdeal.nD Cert.ProjIdeal.τ).loc Cert.ProjIdeal.main_v143_5) = v3 c
          ∧ r.2.mem ((c.tc : Thread Cert.ProjIdeal.nD Cert.ProjIdeal.τ).loc Cert.ProjIdeal.main_v143_8) = v4 c
          ∧ r.2.mem ((c.tc : Thread Cert.ProjIdeal.nD Cert.ProjIdeal.τ).loc Cert.ProjIdeal.main_v143_9) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v111) = v0 c
          ∧ r.2.mem ((c.tc : Thread Cert.ProjReferenceIdeal.nD Cert.ProjReferenceIdeal.τ).loc Cert.ProjReferenceIdeal.main_v112) = v1 c
          ∧ r.2.mem ((c.tc : Thread Cert.ProjReferenceIdeal.nD Cert.ProjReferenceIdeal.τ).loc Cert.ProjReferenceIdeal.main_v114) = v2 c
          ∧ r.2.mem ((c.tc : Thread Cert.ProjReferenceIdeal.nD Cert.ProjReferenceIdeal.τ).loc Cert.ProjReferenceIdeal.main_v116) = v3 c
          ∧ r.2.mem ((c.tc : Thread Cert.ProjReferenceIdeal.nD Cert.ProjReferenceIdeal.τ).loc Cert.ProjReferenceIdeal.main_v123) = v4 c
          ∧ r.2.mem ((c.tc : Thread Cert.ProjReferenceIdeal.nD Cert.ProjReferenceIdeal.τ).loc Cert.ProjReferenceIdeal.main_v130) = v5 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6))

def preserves_Samp_SampIdeal : Prop :=
  True

def algebraic_SampIdeal_SampReferenceIdeal [hSampIdeal : Cert.SampIdeal.Facts] [hSampReferenceIdeal : Cert.SampReferenceIdeal.Facts] : Prop :=
  ∀ (m : (ℓ : Loc Cert.SampIdeal.nD Cert.SampIdeal.τ Cert.SampIdeal.sig) → Buf (Elt Ideal) ℓ) (g : Dev Cert.SampIdeal.nD → PrngReg)
    (m' : (ℓ : Loc Cert.SampReferenceIdeal.nD Cert.SampReferenceIdeal.τ Cert.SampReferenceIdeal.sig) → Buf (Elt Ideal) ℓ) (g' : Dev Cert.SampReferenceIdeal.nD → PrngReg), Pre_SampIdeal m →
    (∀ c : Dev Cert.SampIdeal.nD,
      m' ((c.tc : Thread Cert.SampReferenceIdeal.nD Cert.SampReferenceIdeal.τ).loc Cert.SampReferenceIdeal.main_arg0) = m ((c.tc : Thread Cert.SampIdeal.nD Cert.SampIdeal.τ).loc Cert.SampIdeal.main_arg0)
      ∧ m' ((c.tc : Thread Cert.SampReferenceIdeal.nD Cert.SampReferenceIdeal.τ).loc Cert.SampReferenceIdeal.main_arg1) = m ((c.tc : Thread Cert.SampIdeal.nD Cert.SampIdeal.τ).loc Cert.SampIdeal.main_arg1)
      ∧ m' ((c.tc : Thread Cert.SampReferenceIdeal.nD Cert.SampReferenceIdeal.τ).loc Cert.SampReferenceIdeal.main_arg2) = m ((c.tc : Thread Cert.SampIdeal.nD Cert.SampIdeal.τ).loc Cert.SampIdeal.main_arg2)
      ∧ m' ((c.tc : Thread Cert.SampReferenceIdeal.nD Cert.SampReferenceIdeal.τ).loc Cert.SampReferenceIdeal.main_arg3) = m ((c.tc : Thread Cert.SampIdeal.nD Cert.SampIdeal.τ).loc Cert.SampIdeal.main_arg3)
      ∧ m' ((c.tc : Thread Cert.SampReferenceIdeal.nD Cert.SampReferenceIdeal.τ).loc Cert.SampReferenceIdeal.main_arg4) = m ((c.tc : Thread Cert.SampIdeal.nD Cert.SampIdeal.τ).loc Cert.SampIdeal.main_arg4)
      ∧ m' ((c.tc : Thread Cert.SampReferenceIdeal.nD Cert.SampReferenceIdeal.τ).loc Cert.SampReferenceIdeal.main_arg5) = m ((c.tc : Thread Cert.SampIdeal.nD Cert.SampIdeal.τ).loc Cert.SampIdeal.main_arg5)
      ∧ m' ((c.tc : Thread Cert.SampReferenceIdeal.nD Cert.SampReferenceIdeal.τ).loc Cert.SampReferenceIdeal.main_arg6) = m ((c.tc : Thread Cert.SampIdeal.nD Cert.SampIdeal.τ).loc Cert.SampIdeal.main_arg6)) →
    ∃ (v0 : (c : Dev Cert.SampIdeal.nD) → Buf (Elt Ideal) ((c.tc : Thread Cert.SampIdeal.nD Cert.SampIdeal.τ).loc Cert.SampIdeal.main_v148_0)) (v1 : (c : Dev Cert.SampIdeal.nD) → Buf (Elt Ideal) ((c.tc : Thread Cert.SampIdeal.nD Cert.SampIdeal.τ).loc Cert.SampIdeal.main_v148_3)) (v2 : (c : Dev Cert.SampIdeal.nD) → Buf (Elt Ideal) ((c.tc : Thread Cert.SampIdeal.nD Cert.SampIdeal.τ).loc Cert.SampIdeal.main_v148_4)) (v3 : (c : Dev Cert.SampIdeal.nD) → Buf (Elt Ideal) ((c.tc : Thread Cert.SampIdeal.nD Cert.SampIdeal.τ).loc Cert.SampIdeal.main_v148_5)) (v4 : (c : Dev Cert.SampIdeal.nD) → Buf (Elt Ideal) ((c.tc : Thread Cert.SampIdeal.nD Cert.SampIdeal.τ).loc Cert.SampIdeal.main_v148_8)) (v5 : (c : Dev Cert.SampIdeal.nD) → Buf (Elt Ideal) ((c.tc : Thread Cert.SampIdeal.nD Cert.SampIdeal.τ).loc Cert.SampIdeal.main_v148_9)),
      θ_run (Cert.SampIdeal.defs (F := Ideal)) (onTc (τ := Cert.SampIdeal.τ) (Cert.SampIdeal.main (F := Ideal))) ⟨m, fun _ => 0, g⟩ (fun r => ∀ c : Dev Cert.SampIdeal.nD,
          r.2.mem ((c.tc : Thread Cert.SampIdeal.nD Cert.SampIdeal.τ).loc Cert.SampIdeal.main_v148_0) = v0 c
          ∧ r.2.mem ((c.tc : Thread Cert.SampIdeal.nD Cert.SampIdeal.τ).loc Cert.SampIdeal.main_v148_3) = v1 c
          ∧ r.2.mem ((c.tc : Thread Cert.SampIdeal.nD Cert.SampIdeal.τ).loc Cert.SampIdeal.main_v148_4) = v2 c
          ∧ r.2.mem ((c.tc : Thread Cert.SampIdeal.nD Cert.SampIdeal.τ).loc Cert.SampIdeal.main_v148_5) = v3 c
          ∧ r.2.mem ((c.tc : Thread Cert.SampIdeal.nD Cert.SampIdeal.τ).loc Cert.SampIdeal.main_v148_8) = v4 c
          ∧ r.2.mem ((c.tc : Thread Cert.SampIdeal.nD Cert.SampIdeal.τ).loc Cert.SampIdeal.main_v148_9) = v5 c
          ∧ r.2.mem ((c.tc : Thread Cert.SampIdeal.nD Cert.SampIdeal.τ).loc Cert.SampIdeal.main_arg0) = m ((c.tc : Thread Cert.SampIdeal.nD Cert.SampIdeal.τ).loc Cert.SampIdeal.main_arg0)
          ∧ r.2.mem ((c.tc : Thread Cert.SampIdeal.nD Cert.SampIdeal.τ).loc Cert.SampIdeal.main_arg1) = m ((c.tc : Thread Cert.SampIdeal.nD Cert.SampIdeal.τ).loc Cert.SampIdeal.main_arg1)
          ∧ r.2.mem ((c.tc : Thread Cert.SampIdeal.nD Cert.SampIdeal.τ).loc Cert.SampIdeal.main_arg2) = m ((c.tc : Thread Cert.SampIdeal.nD Cert.SampIdeal.τ).loc Cert.SampIdeal.main_arg2)
          ∧ r.2.mem ((c.tc : Thread Cert.SampIdeal.nD Cert.SampIdeal.τ).loc Cert.SampIdeal.main_arg3) = m ((c.tc : Thread Cert.SampIdeal.nD Cert.SampIdeal.τ).loc Cert.SampIdeal.main_arg3)
          ∧ r.2.mem ((c.tc : Thread Cert.SampIdeal.nD Cert.SampIdeal.τ).loc Cert.SampIdeal.main_arg4) = m ((c.tc : Thread Cert.SampIdeal.nD Cert.SampIdeal.τ).loc Cert.SampIdeal.main_arg4)
          ∧ r.2.mem ((c.tc : Thread Cert.SampIdeal.nD Cert.SampIdeal.τ).loc Cert.SampIdeal.main_arg5) = m ((c.tc : Thread Cert.SampIdeal.nD Cert.SampIdeal.τ).loc Cert.SampIdeal.main_arg5)
          ∧ r.2.mem ((c.tc : Thread Cert.SampIdeal.nD Cert.SampIdeal.τ).loc Cert.SampIdeal.main_arg6) = m ((c.tc : Thread Cert.SampIdeal.nD Cert.SampIdeal.τ).loc Cert.SampIdeal.main_arg6))
      ∧ θ_run (Cert.SampReferenceIdeal.defs (F := Ideal)) (onTc (τ := Cert.SampReferenceIdeal.τ) (Cert.SampReferenceIdeal.main (F := Ideal))) ⟨m', fun _ => 0, g'⟩ (fun r => ∀ c : Dev Cert.SampReferenceIdeal.nD,
          r.2.mem ((c.tc : Thread Cert.SampReferenceIdeal.nD Cert.SampReferenceIdeal.τ).loc Cert.SampReferenceIdeal.main_v113) = v0 c
          ∧ r.2.mem ((c.tc : Thread Cert.SampReferenceIdeal.nD Cert.SampReferenceIdeal.τ).loc Cert.SampReferenceIdeal.main_v115) = v1 c
          ∧ r.2.mem ((c.tc : Thread Cert.SampReferenceIdeal.nD Cert.SampReferenceIdeal.τ).loc Cert.SampReferenceIdeal.main_v117) = v2 c
          ∧ r.2.mem ((c.tc : Thread Cert.SampReferenceIdeal.nD Cert.SampReferenceIdeal.τ).loc Cert.SampReferenceIdeal.main_v119) = v3 c
          ∧ r.2.mem ((c.tc : Thread Cert.SampReferenceIdeal.nD Cert.SampReferenceIdeal.τ).loc Cert.SampReferenceIdeal.main_v126) = v4 c
          ∧ r.2.mem ((c.tc : Thread Cert.SampReferenceIdeal.nD Cert.SampReferenceIdeal.τ).loc Cert.SampReferenceIdeal.main_v133) = v5 c
          ∧ r.2.mem ((c.tc : Thread Cert.SampReferenceIdeal.nD Cert.SampReferenceIdeal.τ).loc Cert.SampReferenceIdeal.main_arg0) = m' ((c.tc : Thread Cert.SampReferenceIdeal.nD Cert.SampReferenceIdeal.τ).loc Cert.SampReferenceIdeal.main_arg0)
          ∧ r.2.mem ((c.tc : Thread Cert.SampReferenceIdeal.nD Cert.SampReferenceIdeal.τ).loc Cert.SampReferenceIdeal.main_arg1) = m' ((c.tc : Thread Cert.SampReferenceIdeal.nD Cert.SampReferenceIdeal.τ).loc Cert.SampReferenceIdeal.main_arg1)
          ∧ r.2.mem ((c.tc : Thread Cert.SampReferenceIdeal.nD Cert.SampReferenceIdeal.τ).loc Cert.SampReferenceIdeal.main_arg2) = m' ((c.tc : Thread Cert.SampReferenceIdeal.nD Cert.SampReferenceIdeal.τ).loc Cert.SampReferenceIdeal.main_arg2)
          ∧ r.2.mem ((c.tc : Thread Cert.SampReferenceIdeal.nD Cert.SampReferenceIdeal.τ).loc Cert.SampReferenceIdeal.main_arg3) = m' ((c.tc : Thread Cert.SampReferenceIdeal.nD Cert.SampReferenceIdeal.τ).loc Cert.SampReferenceIdeal.main_arg3)
          ∧ r.2.mem ((c.tc : Thread Cert.SampReferenceIdeal.nD Cert.SampReferenceIdeal.τ).loc Cert.SampReferenceIdeal.main_arg4) = m' ((c.tc : Thread Cert.SampReferenceIdeal.nD Cert.SampReferenceIdeal.τ).loc Cert.SampReferenceIdeal.main_arg4)
          ∧ r.2.mem ((c.tc : Thread Cert.SampReferenceIdeal.nD Cert.SampReferenceIdeal.τ).loc Cert.SampReferenceIdeal.main_arg5) = m' ((c.tc : Thread Cert.SampReferenceIdeal.nD Cert.SampReferenceIdeal.τ).loc Cert.SampReferenceIdeal.main_arg5)
          ∧ r.2.mem ((c.tc : Thread Cert.SampReferenceIdeal.nD Cert.SampReferenceIdeal.τ).loc Cert.SampReferenceIdeal.main_arg6) = m' ((c.tc : Thread Cert.SampReferenceIdeal.nD Cert.SampReferenceIdeal.τ).loc Cert.SampReferenceIdeal.main_arg6))

def Claim : Prop :=
  ∃ (hKernel : Cert.Kernel.Facts) (hKernelIdeal : Cert.KernelIdeal.Facts) (hReferenceIdeal : Cert.ReferenceIdeal.Facts) (hTail : Cert.Tail.Facts) (hTailIdeal : Cert.TailIdeal.Facts) (hTailReferenceIdeal : Cert.TailReferenceIdeal.Facts) (hProj : Cert.Proj.Facts) (hProjIdeal : Cert.ProjIdeal.Facts) (hProjReferenceIdeal : Cert.ProjReferenceIdeal.Facts) (hSamp : Cert.Samp.Facts) (hSampIdeal : Cert.SampIdeal.Facts) (hSampReferenceIdeal : Cert.SampReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Tail (hTail := hTail)
    ∧ quiescent_TailIdeal (hTailIdeal := hTailIdeal)
    ∧ quiescent_TailReferenceIdeal (hTailReferenceIdeal := hTailReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Samp (hSamp := hSamp)
    ∧ quiescent_SampIdeal (hSampIdeal := hSampIdeal)
    ∧ quiescent_SampReferenceIdeal (hSampReferenceIdeal := hSampReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Tail_TailIdeal
    ∧ algebraic_TailIdeal_TailReferenceIdeal (hTailIdeal := hTailIdeal) (hTailReferenceIdeal := hTailReferenceIdeal)
    ∧ preserves_Proj_ProjIdeal
    ∧ algebraic_ProjIdeal_ProjReferenceIdeal (hProjIdeal := hProjIdeal) (hProjReferenceIdeal := hProjReferenceIdeal)
    ∧ preserves_Samp_SampIdeal
    ∧ algebraic_SampIdeal_SampReferenceIdeal (hSampIdeal := hSampIdeal) (hSampReferenceIdeal := hSampReferenceIdeal)
-- ==== Pre_finite.lean ====
abbrev S8x2048x8x256 : Shape := ⟨4, ![8, 2048, 8, 256]⟩
abbrev S8x2048x8x32 : Shape := ⟨4, ![8, 2048, 8, 32]⟩
abbrev S8x2048x256 : Shape := ⟨3, ![8, 2048, 256]⟩
abbrev S8x2048x32 : Shape := ⟨3, ![8, 2048, 32]⟩
abbrev S256x8x64 : Shape := ⟨3, ![256, 8, 64]⟩
abbrev S_ : Shape := ⟨0, ![]⟩

class Facts : Prop where
  bcast_S_S8x2048x8x256 : S_.BroadcastsInDim S8x2048x8x256 (![] : Fin 0 → Fin S8x2048x8x256.rank)
  bcast_S_S8x2048x8x32 : S_.BroadcastsInDim S8x2048x8x32 (![] : Fin 0 → Fin S8x2048x8x32.rank)
  bcast_S_S8x2048x256 : S_.BroadcastsInDim S8x2048x256 (![] : Fin 0 → Fin S8x2048x256.rank)
  bcast_S_S8x2048x32 : S_.BroadcastsInDim S8x2048x32 (![] : Fin 0 → Fin S8x2048x32.rank)

variable [Facts]

def fn {F : FTy → Type} [FloatOps F] (main_arg0 : FVec F S8x2048x8x256 .f32) (main_arg1 : FVec F S8x2048x8x32 .f32) (main_arg2 : FVec F S8x2048x256 .f32) (main_arg3 : FVec F S8x2048x32 .f32) (main_arg4 : FVec F S256x8x64 .f32) : IVec S8x2048x8x256 1 × IVec S8x2048x8x32 1 × IVec S8x2048x256 1 × IVec S8x2048x32 1 :=
  let main_v0 : FVec F S8x2048x8x256 .f32 := Host.absf main_arg0
  let main_cst : FVec F S_ .f32 := constant S_ .f32 0x7F800000#32
  let main_v1 : FVec F S8x2048x8x256 .f32 := broadcastInDim S8x2048x8x256 ![] bcast_S_S8x2048x8x256 main_cst
  let main_v2 : IVec S8x2048x8x256 1 := cmpf .olt main_v0 main_v1
  let main_v3 : FVec F S8x2048x8x32 .f32 := Host.absf main_arg1
  let main_cst_0 : FVec F S_ .f32 := constant S_ .f32 0x7F800000#32
  let main_v4 : FVec F S8x2048x8x32 .f32 := broadcastInDim S8x2048x8x32 ![] bcast_S_S8x2048x8x32 main_cst_0
  let main_v5 : IVec S8x2048x8x32 1 := cmpf .olt main_v3 main_v4
  let main_v6 : FVec F S8x2048x256 .f32 := Host.absf main_arg2
  let main_cst_1 : FVec F S_ .f32 := constant S_ .f32 0x7F800000#32
  let main_v7 : FVec F S8x2048x256 .f32 := broadcastInDim S8x2048x256 ![] bcast_S_S8x2048x256 main_cst_1
  let main_v8 : IVec S8x2048x256 1 := cmpf .olt main_v6 main_v7
  let main_v9 : FVec F S8x2048x32 .f32 := Host.absf main_arg3
  let main_cst_2 : FVec F S_ .f32 := constant S_ .f32 0x7F800000#32
  let main_v10 : FVec F S8x2048x32 .f32 := broadcastInDim S8x2048x32 ![] bcast_S_S8x2048x32 main_cst_2
  let main_v11 : IVec S8x2048x32 1 := cmpf .olt main_v9 main_v10
  (main_v2, main_v5, main_v8, main_v11)
-- ==== Kernel.lean ====
abbrev S8x2048x8x256 : Shape := ⟨4, ![8, 2048, 8, 256]⟩
abbrev S8x2048x8x32 : Shape := ⟨4, ![8, 2048, 8, 32]⟩
abbrev S8x2048x256 : Shape := ⟨3, ![8, 2048, 256]⟩
abbrev S8x2048x32 : Shape := ⟨3, ![8, 2048, 32]⟩
abbrev S256x8x64 : Shape := ⟨3, ![256, 8, 64]⟩
abbrev S_ : Shape := ⟨0, ![]⟩
abbrev S8x2048x8x96 : Shape := ⟨4, ![8, 2048, 8, 96]⟩
abbrev S8x2048x8x384 : Shape := ⟨4, ![8, 2048, 8, 384]⟩
abbrev S8x8x2048x384 : Shape := ⟨4, ![8, 8, 2048, 384]⟩
abbrev S8x2048x96 : Shape := ⟨3, ![8, 2048, 96]⟩
abbrev S8x2048x384 : Shape := ⟨3, ![8, 2048, 384]⟩
abbrev S16384x384 : Shape := ⟨2, ![16384, 384]⟩
abbrev S8x8x256x256 : Shape := ⟨4, ![8, 8, 256, 256]⟩
abbrev S8x64x256 : Shape := ⟨3, ![8, 64, 256]⟩
abbrev S16384x512 : Shape := ⟨2, ![16384, 512]⟩
abbrev S1x8x256x384 : Shape := ⟨4, ![1, 8, 256, 384]⟩
abbrev S2048x384 : Shape := ⟨2, ![2048, 384]⟩
abbrev S1x8x256x256 : Shape := ⟨4, ![1, 8, 256, 256]⟩
abbrev S256x512 : Shape := ⟨2, ![256, 512]⟩
abbrev S1x2048 : Shape := ⟨2, ![1, 2048]⟩
abbrev S256x2048 : Shape := ⟨2, ![256, 2048]⟩
abbrev S8x256x384 : Shape := ⟨3, ![8, 256, 384]⟩
abbrev S512x384 : Shape := ⟨2, ![512, 384]⟩
abbrev S512x2048 : Shape := ⟨2, ![512, 2048]⟩
abbrev S2048 : Shape := ⟨1, ![2048]⟩
abbrev S1x1x256x256 : Shape := ⟨4, ![1, 1, 256, 256]⟩
abbrev S256x256 : Shape := ⟨2, ![256, 256]⟩
abbrev S256x384 : Shape := ⟨2, ![256, 384]⟩
abbrev S1x64x256 : Shape := ⟨3, ![1, 64, 256]⟩
abbrev S64x256 : Shape := ⟨2, ![64, 256]⟩
abbrev S512x256 : Shape := ⟨2, ![512, 256]⟩

abbrev nBuf : Space → Nat
  | .hbm => 21
  | .vmem => 12
  | .smem => 0
  | _ => 0

abbrev bufTy : (tb : Table) → Fin (tcTables nBuf tb) → BufTy
  | .hbm, ⟨0, _⟩ => ⟨S8x2048x8x256, .f32⟩
  | .hbm, ⟨1, _⟩ => ⟨S8x2048x8x32, .f32⟩
  | .hbm, ⟨2, _⟩ => ⟨S8x2048x256, .f32⟩
  | .hbm, ⟨3, _⟩ => ⟨S8x2048x32, .f32⟩
  | .hbm, ⟨4, _⟩ => ⟨S256x8x64, .f32⟩
  | .hbm, ⟨5, _⟩ => ⟨S_, .f32⟩
  | .hbm, ⟨6, _⟩ => ⟨S8x2048x8x96, .f32⟩
  | .hbm, ⟨7, _⟩ => ⟨S8x2048x8x384, .f32⟩
  | .hbm, ⟨8, _⟩ => ⟨S8x8x2048x384, .f32⟩
  | .hbm, ⟨9, _⟩ => ⟨S8x8x2048x384, .bf16⟩
  | .hbm, ⟨10, _⟩ => ⟨S_, .f32⟩
  | .hbm, ⟨11, _⟩ => ⟨S8x2048x96, .f32⟩
  | .hbm, ⟨12, _⟩ => ⟨S8x2048x384, .f32⟩
  | .hbm, ⟨13, _⟩ => ⟨S16384x384, .f32⟩
  | .hbm, ⟨14, _⟩ => ⟨S16384x384, .bf16⟩
  | .hbm, ⟨15, _⟩ => ⟨S8x8x256x256, .f32⟩
  | .hbm, ⟨16, _⟩ => ⟨S8x8x256x256, .f32⟩
  | .hbm, ⟨17, _⟩ => ⟨S8x8x256x256, .bf16⟩
  | .hbm, ⟨18, _⟩ => ⟨S8x64x256, .f32⟩
  | .hbm, ⟨19, _⟩ => ⟨S8x64x256, .bf16⟩
  | .hbm, ⟨20, _⟩ => ⟨S16384x512, .bf16⟩
  | .local _ .vmem, ⟨0, _⟩ => ⟨S1x8x256x384, .bf16⟩
  | .local _ .vmem, ⟨1, _⟩ => ⟨S1x8x256x384, .bf16⟩
  | .local _ .vmem, ⟨2, _⟩ => ⟨S2048x384, .bf16⟩
  | .local _ .vmem, ⟨3, _⟩ => ⟨S2048x384, .bf16⟩
  | .local _ .vmem, ⟨4, _⟩ => ⟨S1x8x256x256, .bf16⟩
  | .local _ .vmem, ⟨5, _⟩ => ⟨S1x8x256x256, .bf16⟩
  | .local _ .vmem, ⟨6, _⟩ => ⟨S8x64x256, .bf16⟩
  | .local _ .vmem, ⟨7, _⟩ => ⟨S256x512, .bf16⟩
  | .local _ .vmem, ⟨8, _⟩ => ⟨S256x512, .bf16⟩
  | .local _ .vmem, ⟨9, _⟩ => ⟨S1x2048, .f32⟩
  | .local _ .vmem, ⟨10, _⟩ => ⟨S1x2048, .f32⟩
  | .local _ .vmem, ⟨11, _⟩ => ⟨S256x2048, .f32⟩
  | _, _ => ⟨S8x2048x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_16 : BitVec 32 := 0#32
  let arg1 : BitVec 32 := BitVec.ofNat 32 (i 1).val
  let c0_i32 : BitVec 32 := 0#32
  let v16 : BitVec 1 := Scalar.cmpi .sgt arg1 c0_i32
  let v17 : BitVec 32 := Scalar.extui v16
  let c0_i32_11 : BitVec 32 := 0#32
  let v18 : BitVec 1 := Scalar.cmpi .slt arg1 c0_i32_11
  let v19 : BitVec 32 := Scalar.extui v18
  let v20 : BitVec 32 := Scalar.subi v17 v19
  let c2_i32 : BitVec 32 := 2#32
  let c0_i32_12 : BitVec 32 := 0#32
  let v21 : BitVec 1 := Scalar.cmpi .sgt c2_i32 c0_i32_12
  let v22 : BitVec 32 := Scalar.extui v21
  let c0_i32_13 : BitVec 32 := 0#32
  let v23 : BitVec 1 := Scalar.cmpi .slt c2_i32 c0_i32_13
  let v24 : BitVec 32 := Scalar.extui v23
  let v25 : BitVec 32 := Scalar.subi v22 v24
  let v26 : BitVec 1 := Scalar.cmpi .ne v20 v25
  let v27 : BitVec 32 := Scalar.remsi arg1 c2_i32
  let c0_i32_14 : BitVec 32 := 0#32
  let v28 : BitVec 1 := Scalar.cmpi .ne v27 c0_i32_14
  let v29 : BitVec 1 := Scalar.andi v26 v28
  let v15 : BitVec 32 := Scalar.divsi arg1 c2_i32
  let c1_i32 : BitVec 32 := 1#32
  let v30 : BitVec 32 := Scalar.subi v15 c1_i32
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_18 : BitVec 32 := 1#32
  ⟨c0_i32_16, v36, c1_i32_18⟩
def k0_mult1 (i : grid0.Coords) (k0_t1 : Fin (k0_t1_loop i).trips) : BitVec 32 :=
  let c0_i32_16 : BitVec 32 := 0#32
  let c1_i32_18 : BitVec 32 := 1#32
  let arg10 : BitVec 32 := Scf.iv c0_i32_16 c1_i32_18 k0_t1
  let c2_i32_89 : BitVec 32 := 2#32
  let v155 : BitVec 32 := Scalar.muli arg10 c2_i32_89
  let c256_i32_90 : BitVec 32 := 256#32
  let v156 : BitVec 32 := Scalar.muli v155 c256_i32_90
  v156
def k0_off1 (i : grid0.Coords) (k0_t1 : Fin (k0_t1_loop i).trips) : Fin 2 → Nat :=
  let c0_i32_16 : BitVec 32 := 0#32
  let c1_i32_18 : BitVec 32 := 1#32
  let arg10 : BitVec 32 := Scf.iv c0_i32_16 c1_i32_18 k0_t1
  let c2_i32_89 : BitVec 32 := 2#32
  let v155 : BitVec 32 := Scalar.muli arg10 c2_i32_89
  let c256_i32_90 : BitVec 32 := 256#32
  let v156 : BitVec 32 := Scalar.muli v155 c256_i32_90
  let v157 : BitVec 32 := v156
  let v158 : Index := Scalar.indexCast v157
  let c0_91 : Index := 0#32
  ![v158.toNat, 0]
def k0_off2 (i : grid0.Coords) (k0_t1 : Fin (k0_t1_loop i).trips) (c0_i32_102 : BitVec 32) : Fin 4 → Nat :=
  let c0_103 : Index := 0#32
  let c0_i32_16 : BitVec 32 := 0#32
  let c1_i32_18 : BitVec 32 := 1#32
  let arg10 : BitVec 32 := Scf.iv c0_i32_16 c1_i32_18 k0_t1
  let c2_i32_89 : BitVec 32 := 2#32
  let v155 : BitVec 32 := Scalar.muli arg10 c2_i32_89
  let v182 : BitVec 32 := Scalar.addi v155 c0_i32_102
  let v183 : Index := Scalar.indexCast v182
  let c0_104 : Index := 0#32
  let c0_105 : Index := 0#32
  ![0, v183.toNat, 0, 0]
@[reducible] def k0_t2_loop (i : grid0.Coords) : Scf.Loop 32 :=
  let c0_i32_16 : BitVec 32 := 0#32
  let arg1 : BitVec 32 := BitVec.ofNat 32 (i 1).val
  let c0_i32 : BitVec 32 := 0#32
  let v16 : BitVec 1 := Scalar.cmpi .sgt arg1 c0_i32
  let v17 : BitVec 32 := Scalar.extui v16
  let c0_i32_11 : BitVec 32 := 0#32
  let v18 : BitVec 1 := Scalar.cmpi .slt arg1 c0_i32_11
  let v19 : BitVec 32 := Scalar.extui v18
  let v20 : BitVec 32 := Scalar.subi v17 v19
  let c2_i32 : BitVec 32 := 2#32
  let c0_i32_12 : BitVec 32 := 0#32
  let v21 : BitVec 1 := Scalar.cmpi .sgt c2_i32 c0_i32_12
  let v22 : BitVec 32 := Scalar.extui v21
  let c0_i32_13 : BitVec 32 := 0#32
  let v23 : BitVec 1 := Scalar.cmpi .slt c2_i32 c0_i32_13
  let v24 : BitVec 32 := Scalar.extui v23
  let v25 : BitVec 32 := Scalar.subi v22 v24
  let v26 : BitVec 1 := Scalar.cmpi .ne v20 v25
  let v27 : BitVec 32 := Scalar.remsi arg1 c2_i32
  let c0_i32_14 : BitVec 32 := 0#32
  let v28 : BitVec 1 := Scalar.cmpi .ne v27 c0_i32_14
  let v29 : BitVec 1 := Scalar.andi v26 v28
  let v15 : BitVec 32 := Scalar.divsi arg1 c2_i32
  let c1_i32 : BitVec 32 := 1#32
  let v30 : BitVec 32 := Scalar.subi v15 c1_i32
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let v33 : BitVec 32 := Scalar.addi c0_i32_16 v32
  let c1_i32_19 : BitVec 32 := 1#32
  ⟨v36, v33, c1_i32_19⟩
def k0_mult2 (i : grid0.Coords) (k0_t2 : Fin (k0_t2_loop i).trips) : BitVec 32 :=
  let c0_i32_16 : BitVec 32 := 0#32
  let arg1 : BitVec 32 := BitVec.ofNat 32 (i 1).val
  let c0_i32 : BitVec 32 := 0#32
  let v16 : BitVec 1 := Scalar.cmpi .sgt arg1 c0_i32
  let v17 : BitVec 32 := Scalar.extui v16
  let c0_i32_11 : BitVec 32 := 0#32
  let v18 : BitVec 1 := Scalar.cmpi .slt arg1 c0_i32_11
  let v19 : BitVec 32 := Scalar.extui v18
  let v20 : BitVec 32 := Scalar.subi v17 v19
  let c2_i32 : BitVec 32 := 2#32
  let c0_i32_12 : BitVec 32 := 0#32
  let v21 : BitVec 1 := Scalar.cmpi .sgt c2_i32 c0_i32_12
  let v22 : BitVec 32 := Scalar.extui v21
  let c0_i32_13 : BitVec 32 := 0#32
  let v23 : BitVec 1 := Scalar.cmpi .slt c2_i32 c0_i32_13
  let v24 : BitVec 32 := Scalar.extui v23
  let v25 : BitVec 32 := Scalar.subi v22 v24
  let v26 : BitVec 1 := Scalar.cmpi .ne v20 v25
  let v27 : BitVec 32 := Scalar.remsi arg1 c2_i32
  let c0_i32_14 : BitVec 32 := 0#32
  let v28 : BitVec 1 := Scalar.cmpi .ne v27 c0_i32_14
  let v29 : BitVec 1 := Scalar.andi v26 v28
  let v15 : BitVec 32 := Scalar.divsi arg1 c2_i32
  let c1_i32 : BitVec 32 := 1#32
  let v30 : BitVec 32 := Scalar.subi v15 c1_i32
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_19 : BitVec 32 := 1#32
  let arg10 : BitVec 32 := Scf.iv v36 c1_i32_19 k0_t2
  let c2_i32_89 : BitVec 32 := 2#32
  let v155 : BitVec 32 := Scalar.muli arg10 c2_i32_89
  let c256_i32_90 : BitVec 32 := 256#32
  let v156 : BitVec 32 := Scalar.muli v155 c256_i32_90
  v156
def k0_off3 (i : grid0.Coords) (k0_t2 : Fin (k0_t2_loop i).trips) : Fin 2 → Nat :=
  let c0_i32_16 : BitVec 32 := 0#32
  let arg1 : BitVec 32 := BitVec.ofNat 32 (i 1).val
  let c0_i32 : BitVec 32 := 0#32
  let v16 : BitVec 1 := Scalar.cmpi .sgt arg1 c0_i32
  let v17 : BitVec 32 := Scalar.extui v16
  let c0_i32_11 : BitVec 32 := 0#32
  let v18 : BitVec 1 := Scalar.cmpi .slt arg1 c0_i32_11
  let v19 : BitVec 32 := Scalar.extui v18
  let v20 : BitVec 32 := Scalar.subi v17 v19
  let c2_i32 : BitVec 32 := 2#32
  let c0_i32_12 : BitVec 32 := 0#32
  let v21 : BitVec 1 := Scalar.cmpi .sgt c2_i32 c0_i32_12
  let v22 : BitVec 32 := Scalar.extui v21
  let c0_i32_13 : BitVec 32 := 0#32
  let v23 : BitVec 1 := Scalar.cmpi .slt c2_i32 c0_i32_13
  let v24 : BitVec 32 := Scalar.extui v23
  let v25 : BitVec 32 := Scalar.subi v22 v24
  let v26 : BitVec 1 := Scalar.cmpi .ne v20 v25
  let v27 : BitVec 32 := Scalar.remsi arg1 c2_i32
  let c0_i32_14 : BitVec 32 := 0#32
  let v28 : BitVec 1 := Scalar.cmpi .ne v27 c0_i32_14
  let v29 : BitVec 1 := Scalar.andi v26 v28
  let v15 : BitVec 32 := Scalar.divsi arg1 c2_i32
  let c1_i32 : BitVec 32 := 1#32
  let v30 : BitVec 32 := Scalar.subi v15 c1_i32
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_19 : BitVec 32 := 1#32
  let arg10 : BitVec 32 := Scf.iv v36 c1_i32_19 k0_t2
  let c2_i32_89 : BitVec 32 := 2#32
  let v155 : BitVec 32 := Scalar.muli arg10 c2_i32_89
  let c256_i32_90 : BitVec 32 := 256#32
  let v156 : BitVec 32 := Scalar.muli v155 c256_i32_90
  let v157 : BitVec 32 := v156
  let v158 : Index := Scalar.indexCast v157
  let c0_91 : Index := 0#32
  ![v158.toNat, 0]
def k0_off4 (i : grid0.Coords) (k0_t2 : Fin (k0_t2_loop i).trips) (c0_i32_102 : BitVec 32) : Fin 4 → Nat :=
  let c0_103 : Index := 0#32
  let c0_i32_16 : BitVec 32 := 0#32
  let arg1 : BitVec 32 := BitVec.ofNat 32 (i 1).val
  let c0_i32 : BitVec 32 := 0#32
  let v16 : BitVec 1 := Scalar.cmpi .sgt arg1 c0_i32
  let v17 : BitVec 32 := Scalar.extui v16
  let c0_i32_11 : BitVec 32 := 0#32
  let v18 : BitVec 1 := Scalar.cmpi .slt arg1 c0_i32_11
  let v19 : BitVec 32 := Scalar.extui v18
  let v20 : BitVec 32 := Scalar.subi v17 v19
  let c2_i32 : BitVec 32 := 2#32
  let c0_i32_12 : BitVec 32 := 0#32
  let v21 : BitVec 1 := Scalar.cmpi .sgt c2_i32 c0_i32_12
  let v22 : BitVec 32 := Scalar.extui v21
  let c0_i32_13 : BitVec 32 := 0#32
  let v23 : BitVec 1 := Scalar.cmpi .slt c2_i32 c0_i32_13
  let v24 : BitVec 32 := Scalar.extui v23
  let v25 : BitVec 32 := Scalar.subi v22 v24
  let v26 : BitVec 1 := Scalar.cmpi .ne v20 v25
  let v27 : BitVec 32 := Scalar.remsi arg1 c2_i32
  let c0_i32_14 : BitVec 32 := 0#32
  let v28 : BitVec 1 := Scalar.cmpi .ne v27 c0_i32_14
  let v29 : BitVec 1 := Scalar.andi v26 v28
  let v15 : BitVec 32 := Scalar.divsi arg1 c2_i32
  let c1_i32 : BitVec 32 := 1#32
  let v30 : BitVec 32 := Scalar.subi v15 c1_i32
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_19 : BitVec 32 := 1#32
  let arg10 : BitVec 32 := Scf.iv v36 c1_i32_19 k0_t2
  let c2_i32_89 : BitVec 32 := 2#32
  let v155 : BitVec 32 := Scalar.muli arg10 c2_i32_89
  let v182 : BitVec 32 := Scalar.addi v155 c0_i32_102
  let v183 : Index := Scalar.indexCast v182
  let c0_104 : Index := 0#32
  let c0_105 : Index := 0#32
  ![0, v183.toNat, 0, 0]
def k0_cond1 (i : grid0.Coords) : BitVec 1 :=
  let arg1 : BitVec 32 := BitVec.ofNat 32 (i 1).val
  let c2_i32_20 : BitVec 32 := 2#32
  let c0_i32_21 : BitVec 32 := 0#32
  let v37 : BitVec 1 := Scalar.cmpi .eq c2_i32_20 c0_i32_21
  let c1_i32_22 : BitVec 32 := 1#32
  let v38 : BitVec 32 := Scalar.select v37 c1_i32_22 c2_i32_20
  let v39 : BitVec 32 := Scalar.remsi arg1 v38
  let c0_i32_24 : BitVec 32 := 0#32
  let v41 : BitVec 1 := Scalar.cmpi .slt v39 c0_i32_24
  let c0_i32_25 : BitVec 32 := 0#32
  let v42 : BitVec 1 := Scalar.cmpi .slt v38 c0_i32_25
  let v43 : BitVec 1 := Scalar.xori v41 v42
  let c0_i32_23 : BitVec 32 := 0#32
  let v40 : BitVec 1 := Scalar.cmpi .ne v39 c0_i32_23
  let v44 : BitVec 1 := Scalar.andi v43 v40
  let v45 : BitVec 32 := Scalar.addi v39 v38
  let v46 : BitVec 32 := Scalar.select v44 v45 v39
  let c1_i32_26 : BitVec 32 := 1#32
  let v47 : BitVec 1 := Scalar.cmpi .sge v46 c1_i32_26
  let v48 : BitVec 32 := Scalar.extui v47
  let c0_i32_27 : BitVec 32 := 0#32
  let v49 : BitVec 1 := Scalar.cmpi .ne v48 c0_i32_27
  v49

def k0_mult3 (i : grid0.Coords) : BitVec 32 :=
  let arg1 : BitVec 32 := BitVec.ofNat 32 (i 1).val
  let c0_i32_90 : BitVec 32 := 0#32
  let v156 : BitVec 1 := Scalar.cmpi .sgt arg1 c0_i32_90
  let v157 : BitVec 32 := Scalar.extui v156
  let c0_i32_91 : BitVec 32 := 0#32
  let v158 : BitVec 1 := Scalar.cmpi .slt arg1 c0_i32_91
  let v159 : BitVec 32 := Scalar.extui v158
  let v160 : BitVec 32 := Scalar.subi v157 v159
  let c2_i32_89 : BitVec 32 := 2#32
  let c0_i32_92 : BitVec 32 := 0#32
  let v161 : BitVec 1 := Scalar.cmpi .sgt c2_i32_89 c0_i32_92
  let v162 : BitVec 32 := Scalar.extui v161
  let c0_i32_93 : BitVec 32 := 0#32
  let v163 : BitVec 1 := Scalar.cmpi .slt c2_i32_89 c0_i32_93
  let v164 : BitVec 32 := Scalar.extui v163
  let v165 : BitVec 32 := Scalar.subi v162 v164
  let v166 : BitVec 1 := Scalar.cmpi .ne v160 v165
  let v167 : BitVec 32 := Scalar.remsi arg1 c2_i32_89
  let c0_i32_94 : BitVec 32 := 0#32
  let v168 : BitVec 1 := Scalar.cmpi .ne v167 c0_i32_94
  let v169 : BitVec 1 := Scalar.andi v166 v168
  let v155 : BitVec 32 := Scalar.divsi arg1 c2_i32_89
  let c1_i32_95 : BitVec 32 := 1#32
  let v170 : BitVec 32 := Scalar.subi v155 c1_i32_95
  let v171 : BitVec 32 := Scalar.select v169 v170 v155
  let c2_i32_96 : BitVec 32 := 2#32
  let v172 : BitVec 32 := Scalar.muli v171 c2_i32_96
  let c1_i32_97 : BitVec 32 := 1#32
  let v173 : BitVec 32 := Scalar.addi v172 c1_i32_97
  let c1_i32_98 : BitVec 32 := 1#32
  let v174 : BitVec 32 := Scalar.subi v173 c1_i32_98
  let c256_i32_99 : BitVec 32 := 256#32
  let v175 : BitVec 32 := Scalar.muli v174 c256_i32_99
  v175
def k0_off5 (i : grid0.Coords) : Fin 2 → Nat :=
  let arg1 : BitVec 32 := BitVec.ofNat 32 (i 1).val
  let c0_i32_90 : BitVec 32 := 0#32
  let v156 : BitVec 1 := Scalar.cmpi .sgt arg1 c0_i32_90
  let v157 : BitVec 32 := Scalar.extui v156
  let c0_i32_91 : BitVec 32 := 0#32
  let v158 : BitVec 1 := Scalar.cmpi .slt arg1 c0_i32_91
  let v159 : BitVec 32 := Scalar.extui v158
  let v160 : BitVec 32 := Scalar.subi v157 v159
  let c2_i32_89 : BitVec 32 := 2#32
  let c0_i32_92 : BitVec 32 := 0#32
  let v161 : BitVec 1 := Scalar.cmpi .sgt c2_i32_89 c0_i32_92
  let v162 : BitVec 32 := Scalar.extui v161
  let c0_i32_93 : BitVec 32 := 0#32
  let v163 : BitVec 1 := Scalar.cmpi .slt c2_i32_89 c0_i32_93
  let v164 : BitVec 32 := Scalar.extui v163
  let v165 : BitVec 32 := Scalar.subi v162 v164
  let v166 : BitVec 1 := Scalar.cmpi .ne v160 v165
  let v167 : BitVec 32 := Scalar.remsi arg1 c2_i32_89
  let c0_i32_94 : BitVec 32 := 0#32
  let v168 : BitVec 1 := Scalar.cmpi .ne v167 c0_i32_94
  let v169 : BitVec 1 := Scalar.andi v166 v168
  let v155 : BitVec 32 := Scalar.divsi arg1 c2_i32_89
  let c1_i32_95 : BitVec 32 := 1#32
  let v170 : BitVec 32 := Scalar.subi v155 c1_i32_95
  let v171 : BitVec 32 := Scalar.select v169 v170 v155
  let c2_i32_96 : BitVec 32 := 2#32
  let v172 : BitVec 32 := Scalar.muli v171 c2_i32_96
  let c1_i32_97 : BitVec 32 := 1#32
  let v173 : BitVec 32 := Scalar.addi v172 c1_i32_97
  let c1_i32_98 : BitVec 32 := 1#32
  let v174 : BitVec 32 := Scalar.subi v173 c1_i32_98
  let c256_i32_99 : BitVec 32 := 256#32
  let v175 : BitVec 32 := Scalar.muli v174 c256_i32_99
  let v176 : BitVec 32 := v175
  let v177 : Index := Scalar.indexCast v176
  let c0_100 : Index := 0#32
  ![v177.toNat, 0]
def k0_off6 (i : grid0.Coords) : Fin 4 → Nat :=
  let c0_112 : Index := 0#32
  let arg1 : BitVec 32 := BitVec.ofNat 32 (i 1).val
  let c0_i32_90 : BitVec 32 := 0#32
  let v156 : BitVec 1 := Scalar.cmpi .sgt arg1 c0_i32_90
  let v157 : BitVec 32 := Scalar.extui v156
  let c0_i32_91 : BitVec 32 := 0#32
  let v158 : BitVec 1 := Scalar.cmpi .slt arg1 c0_i32_91
  let v159 : BitVec 32 := Scalar.extui v158
  let v160 : BitVec 32 := Scalar.subi v157 v159
  let c2_i32_89 : BitVec 32 := 2#32
  let c0_i32_92 : BitVec 32 := 0#32
  let v161 : BitVec 1 := Scalar.cmpi .sgt c2_i32_89 c0_i32_92
  let v162 : BitVec 32 := Scalar.extui v161
  let c0_i32_93 : BitVec 32 := 0#32
  let v163 : BitVec 1 := Scalar.cmpi .slt c2_i32_89 c0_i32_93
  let v164 : BitVec 32 := Scalar.extui v163
  let v165 : BitVec 32 := Scalar.subi v162 v164
  let v166 : BitVec 1 := Scalar.cmpi .ne v160 v165
  let v167 : BitVec 32 := Scalar.remsi arg1 c2_i32_89
  let c0_i32_94 : BitVec 32 := 0#32
  let v168 : BitVec 1 := Scalar.cmpi .ne v167 c0_i32_94
  let v169 : BitVec 1 := Scalar.andi v166 v168
  let v155 : BitVec 32 := Scalar.divsi arg1 c2_i32_89
  let c1_i32_95 : BitVec 32 := 1#32
  let v170 : BitVec 32 := Scalar.subi v155 c1_i32_95
  let v171 : BitVec 32 := Scalar.select v169 v170 v155
  let c2_i32_96 : BitVec 32 := 2#32
  let v172 : BitVec 32 := Scalar.muli v171 c2_i32_96
  let c1_i32_97 : BitVec 32 := 1#32
  let v173 : BitVec 32 := Scalar.addi v172 c1_i32_97
  let c1_i32_98 : BitVec 32 := 1#32
  let v174 : BitVec 32 := Scalar.subi v173 c1_i32_98
  let c0_i32_111 : BitVec 32 := 0#32
  let v201 : BitVec 32 := Scalar.addi v174 c0_i32_111
  let v202 : Index := Scalar.indexCast v201
  let c0_113 : Index := 0#32
  let c0_114 : Index := 0#32
  ![0, v202.toNat, 0, 0]
def k0_mult4 (i : grid0.Coords) : BitVec 32 :=
  let arg1 : BitVec 32 := BitVec.ofNat 32 (i 1).val
  let c256_i32_33 : BitVec 32 := 256#32
  let v69 : BitVec 32 := Scalar.muli arg1 c256_i32_33
  v69
def k0_off7 (i : grid0.Coords) : Fin 2 → Nat :=
  let arg1 : BitVec 32 := BitVec.ofNat 32 (i 1).val
  let c256_i32_33 : BitVec 32 := 256#32
  let v69 : BitVec 32 := Scalar.muli arg1 c256_i32_33
  let v70 : BitVec 32 := v69
  let v71 : Index := Scalar.indexCast v70
  let c0_34 : Index := 0#32
  ![v71.toNat, 0]
def k0_off8 (i : grid0.Coords) : Fin 4 → Nat :=
  let c0_47 : Index := 0#32
  let arg1 : BitVec 32 := BitVec.ofNat 32 (i 1).val
  let c0_i32_46 : BitVec 32 := 0#32
  let v97 : BitVec 32 := Scalar.addi arg1 c0_i32_46
  let v98 : Index := Scalar.indexCast v97
  let c0_48 : Index := 0#32
  let c0_49 : Index := 0#32
  ![0, v98.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x8x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x2048x8x256 : Shape := ⟨4, ![8, 2048, 8, 256]⟩
abbrev S8x2048x8x32 : Shape := ⟨4, ![8, 2048, 8, 32]⟩
abbrev S8x2048x256 : Shape := ⟨3, ![8, 2048, 256]⟩
abbrev S8x2048x32 : Shape := ⟨3, ![8, 2048, 32]⟩
abbrev S256x8x64 : Shape := ⟨3, ![256, 8, 64]⟩
abbrev S8x2048x2048x8 : Shape := ⟨4, ![8, 2048, 2048, 8]⟩
abbrev S8x8x2048x2048 : Shape := ⟨4, ![8, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x2048 : Shape := ⟨3, ![8, 8, 2048]⟩
abbrev S8x8x2048x1 : Shape := ⟨4, ![8, 8, 2048, 1]⟩
abbrev S8x256x8x2048 : Shape := ⟨4, ![8, 256, 8, 2048]⟩
abbrev S8x64x8x2048 : Shape := ⟨4, ![8, 64, 8, 2048]⟩
abbrev S8x2048x8x64 : Shape := ⟨4, ![8, 2048, 8, 64]⟩
abbrev S16384x512 : Shape := ⟨2, ![16384, 512]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x8x256, .f32⟩
  | .hbm, ⟨1, _⟩ => ⟨S8x2048x8x32, .f32⟩
  | .hbm, ⟨2, _⟩ => ⟨S8x2048x256, .f32⟩
  | .hbm, ⟨3, _⟩ => ⟨S8x2048x32, .f32⟩
  | .hbm, ⟨4, _⟩ => ⟨S256x8x64, .f32⟩
  | .hbm, ⟨5, _⟩ => ⟨S8x2048x2048x8, .f32⟩
  | .hbm, ⟨6, _⟩ => ⟨S8x8x2048x2048, .f32⟩
  | .hbm, ⟨7, _⟩ => ⟨S8x2048x2048x8, .f32⟩
  | .hbm, ⟨8, _⟩ => ⟨S8x8x2048x2048, .f32⟩
  | .hbm, ⟨9, _⟩ => ⟨S8x8x2048x2048, .f32⟩
  | .hbm, ⟨10, _⟩ => ⟨S_, .f32⟩
  | .hbm, ⟨11, _⟩ => ⟨S8x8x2048x2048, .f32⟩
  | .hbm, ⟨12, _⟩ => ⟨S8x8x2048x2048, .f32⟩
  | .hbm, ⟨13, _⟩ => ⟨S2048, .i32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S8x8x2048x2048, .i1⟩
  | .hbm, ⟨22, _⟩ => ⟨S8x8x2048x2048, .f32⟩
  | .hbm, ⟨23, _⟩ => ⟨S8x8x2048x2048, .f32⟩
  | .hbm, ⟨24, _⟩ => ⟨S_, .f32⟩
  | .hbm, ⟨25, _⟩ => ⟨S8x8x2048, .f32⟩
  | .hbm, ⟨26, _⟩ => ⟨S_, .f32⟩
  | .hbm, ⟨27, _⟩ => ⟨S8x8x2048, .f32⟩
  | .hbm, ⟨28, _⟩ => ⟨S8x8x2048, .f32⟩
  | .hbm, ⟨29, _⟩ => ⟨S8x8x2048x1, .f32⟩
  | .hbm, ⟨30, _⟩ => ⟨S8x8x2048x2048, .f32⟩
  | .hbm, ⟨31, _⟩ => ⟨S8x8x2048x2048, .f32⟩
  | .hbm, ⟨32, _⟩ => ⟨S8x8x2048x2048, .f32⟩
  | .hbm, ⟨33, _⟩ => ⟨S_, .f32⟩
  | .hbm, ⟨34, _⟩ => ⟨S8x8x2048, .f32⟩
  | .hbm, ⟨35, _⟩ => ⟨S8x8x2048x1, .f32⟩
  | .hbm, ⟨36, _⟩ => ⟨S8x8x2048x2048, .f32⟩
  | .hbm, ⟨37, _⟩ => ⟨S8x8x2048x2048, .f32⟩
  | .hbm, ⟨38, _⟩ => ⟨S8x256x8x2048, .f32⟩
  | .hbm, ⟨39, _⟩ => ⟨S8x2048x8x256, .f32⟩
  | .hbm, ⟨40, _⟩ => ⟨S8x64x8x2048, .f32⟩
  | .hbm, ⟨41, _⟩ => ⟨S8x2048x8x64, .f32⟩
  | .hbm, ⟨42, _⟩ => ⟨S16384x512, .f32⟩
  | .hbm, ⟨43, _⟩ => ⟨S16384x512, .bf16⟩
  | _, _ => ⟨S8x2048x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Tail.lean ====
abbrev S8x2048x1024 : Shape := ⟨3, ![8, 2048, 1024]⟩
abbrev S16384x512 : Shape := ⟨2, ![16384, 512]⟩
abbrev S16384x1024 : Shape := ⟨2, ![16384, 1024]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S8x2x5632 : Shape := ⟨3, ![8, 2, 5632]⟩
abbrev S256x1024 : Shape := ⟨2, ![256, 1024]⟩
abbrev S256x512 : Shape := ⟨2, ![256, 512]⟩
abbrev S1x2x5632 : Shape := ⟨3, ![1, 2, 5632]⟩
abbrev S264x1408 : Shape := ⟨2, ![264, 1408]⟩
abbrev S8x5632 : Shape := ⟨2, ![8, 5632]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩
abbrev S8x1408 : Shape := ⟨2, ![8, 1408]⟩
abbrev S2x1408 : Shape := ⟨2, ![2, 1408]⟩
abbrev S1x2x1408 : Shape := ⟨3, ![1, 2, 1408]⟩
abbrev S1x1408 : Shape := ⟨2, ![1, 1408]⟩
abbrev S1408x1024 : Shape := ⟨2, ![1408, 1024]⟩

abbrev nBuf : Space → Nat
  | .hbm => 25
  | .vmem => 25
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .bf16⟩
  | .hbm, ⟨2, _⟩ => ⟨S16384x512, .bf16⟩
  | .hbm, ⟨3, _⟩ => ⟨S16384x1024, .f32⟩
  | .hbm, ⟨4, _⟩ => ⟨S16384x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x5632, .f32⟩
  | .hbm, ⟨10, _⟩ => ⟨S3x5632, .f32⟩
  | .hbm, ⟨11, _⟩ => ⟨S5632, .f32⟩
  | .hbm, ⟨12, _⟩ => ⟨S2816x1024, .f32⟩
  | .hbm, ⟨13, _⟩ => ⟨S1024, .f32⟩
  | .hbm, ⟨14, _⟩ => ⟨S512x1024, .bf16⟩
  | .hbm, ⟨15, _⟩ => ⟨S512x1024, .bf16⟩
  | .hbm, ⟨16, _⟩ => ⟨S1024x1024, .bf16⟩
  | .hbm, ⟨17, _⟩ => ⟨S1x1024, .f32⟩
  | .hbm, ⟨18, _⟩ => ⟨S1024x5632, .bf16⟩
  | .hbm, ⟨19, _⟩ => ⟨S1x5632, .f32⟩
  | .hbm, ⟨20, _⟩ => ⟨S2816x1024, .bf16⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S8x2x5632, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x5632, .bf16⟩
  | .local _ .vmem, ⟨15, _⟩ => ⟨S3x5632, .f32⟩
  | .local _ .vmem, ⟨16, _⟩ => ⟨S1x5632, .f32⟩
  | .local _ .vmem, ⟨17, _⟩ => ⟨S2816x1024, .bf16⟩
  | .local _ .vmem, ⟨18, _⟩ => ⟨S1x1024, .f32⟩
  | .local _ .vmem, ⟨19, _⟩ => ⟨S256x1024, .f32⟩
  | .local _ .vmem, ⟨20, _⟩ => ⟨S256x1024, .f32⟩
  | .local _ .vmem, ⟨21, _⟩ => ⟨S1x2x5632, .f32⟩
  | .local _ .vmem, ⟨22, _⟩ => ⟨S1x2x5632, .f32⟩
  | .local _ .vmem, ⟨23, _⟩ => ⟨S264x1408, .f32⟩
  | .local _ .vmem, ⟨24, _⟩ => ⟨S8x5632, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x2x5632 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== TailReferenceIdeal.lean ====
abbrev S8x2048x1024 : Shape := ⟨3, ![8, 2048, 1024]⟩
abbrev S16384x512 : Shape := ⟨2, ![16384, 512]⟩
abbrev S16384x1024 : Shape := ⟨2, ![16384, 1024]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x2048x512 : Shape := ⟨3, ![8, 2048, 512]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2x5632 : Shape := ⟨3, ![8, 2, 5632]⟩
abbrev S8x2050x5632 : Shape := ⟨3, ![8, 2050, 5632]⟩
abbrev S1x5632 : Shape := ⟨2, ![1, 5632]⟩
abbrev S1x1x5632 : Shape := ⟨3, ![1, 1, 5632]⟩
abbrev S8x2048x2816 : Shape := ⟨3, ![8, 2048, 2816]⟩

abbrev nBuf : Space → Nat
  | .hbm => 102
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .bf16⟩
  | .hbm, ⟨2, _⟩ => ⟨S16384x512, .bf16⟩
  | .hbm, ⟨3, _⟩ => ⟨S16384x1024, .f32⟩
  | .hbm, ⟨4, _⟩ => ⟨S16384x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x5632, .f32⟩
  | .hbm, ⟨10, _⟩ => ⟨S3x5632, .f32⟩
  | .hbm, ⟨11, _⟩ => ⟨S5632, .f32⟩
  | .hbm, ⟨12, _⟩ => ⟨S2816x1024, .f32⟩
  | .hbm, ⟨13, _⟩ => ⟨S1024, .f32⟩
  | .hbm, ⟨14, _⟩ => ⟨S8x2048x512, .bf16⟩
  | .hbm, ⟨15, _⟩ => ⟨S8x2048x512, .f32⟩
  | .hbm, ⟨16, _⟩ => ⟨S8x2048x512, .bf16⟩
  | .hbm, ⟨17, _⟩ => ⟨S8x2048x512, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S8x2048x1, .f32⟩
  | .hbm, ⟨38, _⟩ => ⟨S8x2048x1024, .f32⟩
  | .hbm, ⟨39, _⟩ => ⟨S8x2048x1024, .f32⟩
  | .hbm, ⟨40, _⟩ => ⟨S1x1x1024, .f32⟩
  | .hbm, ⟨41, _⟩ => ⟨S8x2048x1024, .f32⟩
  | .hbm, ⟨42, _⟩ => ⟨S8x2048x1024, .f32⟩
  | .hbm, ⟨43, _⟩ => ⟨S8x2048x5632, .f32⟩
  | .hbm, ⟨44, _⟩ => ⟨S_, .f32⟩
  | .hbm, ⟨45, _⟩ => ⟨S8x2x5632, .f32⟩
  | .hbm, ⟨46, _⟩ => ⟨S8x2050x5632, .f32⟩
  | .hbm, ⟨47, _⟩ => ⟨S1x5632, .f32⟩
  | .hbm, ⟨48, _⟩ => ⟨S5632, .f32⟩
  | .hbm, ⟨49, _⟩ => ⟨S8x2048x5632, .f32⟩
  | .hbm, ⟨50, _⟩ => ⟨S1x1x5632, .f32⟩
  | .hbm, ⟨51, _⟩ => ⟨S8x2048x5632, .f32⟩
  | .hbm, ⟨52, _⟩ => ⟨S8x2048x5632, .f32⟩
  | .hbm, ⟨53, _⟩ => ⟨S1x1x5632, .f32⟩
  | .hbm, ⟨54, _⟩ => ⟨S8x2048x5632, .f32⟩
  | .hbm, ⟨55, _⟩ => ⟨S8x2048x5632, .f32⟩
  | .hbm, ⟨56, _⟩ => ⟨S1x5632, .f32⟩
  | .hbm, ⟨57, _⟩ => ⟨S5632, .f32⟩
  | .hbm, ⟨58, _⟩ => ⟨S8x2048x5632, .f32⟩
  | .hbm, ⟨59, _⟩ => ⟨S1x1x5632, .f32⟩
  | .hbm, ⟨60, _⟩ => ⟨S8x2048x5632, .f32⟩
  | .hbm, ⟨61, _⟩ => ⟨S8x2048x5632, .f32⟩
  | .hbm, ⟨62, _⟩ => ⟨S8x2048x5632, .f32⟩
  | .hbm, ⟨63, _⟩ => ⟨S1x5632, .f32⟩
  | .hbm, ⟨64, _⟩ => ⟨S5632, .f32⟩
  | .hbm, ⟨65, _⟩ => ⟨S8x2048x5632, .f32⟩
  | .hbm, ⟨66, _⟩ => ⟨S1x1x5632, .f32⟩
  | .hbm, ⟨67, _⟩ => ⟨S8x2048x5632, .f32⟩
  | .hbm, ⟨68, _⟩ => ⟨S8x2048x5632, .f32⟩
  | .hbm, ⟨69, _⟩ => ⟨S8x2048x5632, .f32⟩
  | .hbm, ⟨70, _⟩ => ⟨S8x2048x2816, .f32⟩
  | .hbm, ⟨71, _⟩ => ⟨S8x2048x2816, .f32⟩
  | .hbm, ⟨72, _⟩ => ⟨S8x2048x2816, .f32⟩
  | .hbm, ⟨73, _⟩ => ⟨S8x2048x2816, .f32⟩
  | .hbm, ⟨74, _⟩ => ⟨S_, .f32⟩
  | .hbm, ⟨75, _⟩ => ⟨S8x2048x2816, .f32⟩
  | .hbm, ⟨76, _⟩ => ⟨S8x2048x2816, .f32⟩
  | .hbm, ⟨77, _⟩ => ⟨S_, .f32⟩
  | .hbm, ⟨78, _⟩ => ⟨S8x2048x2816, .f32⟩
  | .hbm, ⟨79, _⟩ => ⟨S8x2048x2816, .f32⟩
  | .hbm, ⟨80, _⟩ => ⟨S8x2048x2816, .f32⟩
  | .hbm, ⟨81, _⟩ => ⟨S8x2048x2816, .f32⟩
  | .hbm, ⟨82, _⟩ => ⟨S8x2048x1024, .f32⟩
  | .hbm, ⟨83, _⟩ => ⟨S8x2048x1024, .f32⟩
  | .hbm, ⟨84, _⟩ => ⟨S8x2048x1024, .f32⟩
  | .hbm, ⟨85, _⟩ => ⟨S_, .f32⟩
  | .hbm, ⟨86, _⟩ => ⟨S8x2048, .f32⟩
  | .hbm, ⟨87, _⟩ => ⟨S8x2048x1, .f32⟩
  | .hbm, ⟨88, _⟩ => ⟨S_, .f32⟩
  | .hbm, ⟨89, _⟩ => ⟨S8x2048x1, .f32⟩
  | .hbm, ⟨90, _⟩ => ⟨S8x2048x1, .f32⟩
  | .hbm, ⟨91, _⟩ => ⟨S_, .f32⟩
  | .hbm, ⟨92, _⟩ => ⟨S8x2048x1, .f32⟩
  | .hbm, ⟨93, _⟩ => ⟨S8x2048x1, .f32⟩
  | .hbm, ⟨94, _⟩ => ⟨S8x2048x1, .f32⟩
  | .hbm, ⟨95, _⟩ => ⟨S8x2048x1024, .f32⟩
  | .hbm, ⟨96, _⟩ => ⟨S8x2048x1024, .f32⟩
  | .hbm, ⟨97, _⟩ => ⟨S1x1x1024, .f32⟩
  | .hbm, ⟨98, _⟩ => ⟨S8x2048x1024, .f32⟩
  | .hbm, ⟨99, _⟩ => ⟨S8x2048x1024, .f32⟩
  | .hbm, ⟨100, _⟩ => ⟨S16384x1024, .f32⟩
  | .hbm, ⟨101, _⟩ => ⟨S8x2x5632, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_call0_v0 : Ref sig .tc := ⟨.hbm, 72, rfl⟩
abbrev main_call0_v1 : Ref sig .tc := ⟨.hbm, 73, rfl⟩
abbrev main_call0_cst : Ref sig .tc := ⟨.hbm, 74, rfl⟩
abbrev main_call0_v2 : Ref sig .tc := ⟨.hbm, 75, rfl⟩
abbrev main_call0_v3 : Ref sig .tc := ⟨.hbm, 76, rfl⟩
abbrev main_call0_cst_0 : Ref sig .tc := ⟨.hbm, 77, rfl⟩
abbrev main_call0_v4 : Ref sig .tc := ⟨.hbm, 78, rfl⟩
abbrev main_call0_v5 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_3 : Ref sig .tc := ⟨.hbm, 85, rfl⟩
abbrev main_v59 : Ref sig .tc := ⟨.hbm, 86, rfl⟩
abbrev main_v60 : Ref sig .tc := ⟨.hbm, 87, rfl⟩
abbrev main_cst_4 : Ref sig .tc := ⟨.hbm, 88, rfl⟩
abbrev main_v61 : Ref sig .tc := ⟨.hbm, 89, rfl⟩
abbrev main_v62 : Ref sig .tc := ⟨.hbm, 90, rfl⟩
abbrev main_cst_5 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩

abbrev nD : Nat := 1
abbrev τ : Topo := Topo.v7x

variable {F : FTy → Type} [FloatOps F]
-- ==== Proj.lean ====
abbrev S8x2048x1024 : Shape := ⟨3, ![8, 2048, 1024]⟩
abbrev S1024 : Shape := ⟨1, ![1024]⟩
abbrev S1024x4384 : Shape := ⟨2, ![1024, 4384]⟩
abbrev S512 : Shape := ⟨1, ![512]⟩
abbrev S512x768 : Shape := ⟨2, ![512, 768]⟩
abbrev S256 : Shape := ⟨1, ![256]⟩
abbrev S256x8x64 : Shape := ⟨3, ![256, 8, 64]⟩
abbrev S128 : Shape := ⟨1, ![128]⟩
abbrev S1x128 : Shape := ⟨2, ![1, 128]⟩
abbrev S1024x32 : Shape := ⟨2, ![1024, 32]⟩
abbrev S_ : Shape := ⟨0, ![]⟩
abbrev S1024x128 : Shape := ⟨2, ![1024, 128]⟩
abbrev S1024x768 : Shape := ⟨2, ![1024, 768]⟩
abbrev S1024x512 : Shape := ⟨2, ![1024, 512]⟩
abbrev S1024x2048 : Shape := ⟨2, ![1024, 2048]⟩
abbrev S1024x3456 : Shape := ⟨2, ![1024, 3456]⟩
abbrev S1024x1056 : Shape := ⟨2, ![1024, 1056]⟩
abbrev S1056x1024 : Shape := ⟨2, ![1056, 1024]⟩
abbrev S512x8x96 : Shape := ⟨3, ![512, 8, 96]⟩
abbrev S512x8x64 : Shape := ⟨3, ![512, 8, 64]⟩
abbrev S512x512 : Shape := ⟨2, ![512, 512]⟩
abbrev S512x8x32 : Shape := ⟨3, ![512, 8, 32]⟩
abbrev S512x256 : Shape := ⟨2, ![512, 256]⟩
abbrev S8x64x256 : Shape := ⟨3, ![8, 64, 256]⟩
abbrev S64x256 : Shape := ⟨2, ![64, 256]⟩
abbrev S1x64x256 : Shape := ⟨3, ![1, 64, 256]⟩
abbrev S64x512 : Shape := ⟨2, ![64, 512]⟩
abbrev S128x512 : Shape := ⟨2, ![128, 512]⟩
abbrev S1x128x512 : Shape := ⟨3, ![1, 128, 512]⟩
abbrev S4x128x512 : Shape := ⟨3, ![4, 128, 512]⟩
abbrev S1x1024 : Shape := ⟨2, ![1, 1024]⟩
abbrev S1x512 : Shape := ⟨2, ![1, 512]⟩
abbrev S1x256 : Shape := ⟨2, ![1, 256]⟩
abbrev S16384x1024 : Shape := ⟨2, ![16384, 1024]⟩
abbrev S2048 : Shape := ⟨1, ![2048]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S16 : Shape := ⟨1, ![16]⟩
abbrev S1x16 : Shape := ⟨2, ![1, 16]⟩
abbrev S2048x16 : Shape := ⟨2, ![2048, 16]⟩
abbrev S128x1 : Shape := ⟨2, ![128, 1]⟩
abbrev S2048x128 : Shape := ⟨2, ![2048, 128]⟩
abbrev S2048x384 : Shape := ⟨2, ![2048, 384]⟩
abbrev S8x2048 : Shape := ⟨2, ![8, 2048]⟩
abbrev S16x2048 : Shape := ⟨2, ![16, 2048]⟩
abbrev S32x2048 : Shape := ⟨2, ![32, 2048]⟩
abbrev S16384x256 : Shape := ⟨2, ![16384, 256]⟩
abbrev S16384x384 : Shape := ⟨2, ![16384, 384]⟩
abbrev S8x8x256x256 : Shape := ⟨4, ![8, 8, 256, 256]⟩
abbrev S8x32x2048 : Shape := ⟨3, ![8, 32, 2048]⟩
abbrev S8x512x2048 : Shape := ⟨3, ![8, 512, 2048]⟩
abbrev S16384x512 : Shape := ⟨2, ![16384, 512]⟩
abbrev S8x8x2048x384 : Shape := ⟨4, ![8, 8, 2048, 384]⟩
abbrev S256x1024 : Shape := ⟨2, ![256, 1024]⟩
abbrev S256x384 : Shape := ⟨2, ![256, 384]⟩
abbrev S16x256 : Shape := ⟨2, ![16, 256]⟩
abbrev S32x256 : Shape := ⟨2, ![32, 256]⟩
abbrev S256x256 : Shape := ⟨2, ![256, 256]⟩
abbrev S1x1x256x256 : Shape := ⟨4, ![1, 1, 256, 256]⟩
abbrev S1x32x256 : Shape := ⟨3, ![1, 32, 256]⟩
abbrev S1x512x256 : Shape := ⟨3, ![1, 512, 256]⟩
abbrev S256x512 : Shape := ⟨2, ![256, 512]⟩
abbrev S1x8x256x384 : Shape := ⟨4, ![1, 8, 256, 384]⟩
abbrev S256x1 : Shape := ⟨2, ![256, 1]⟩
abbrev S1024x256 : Shape := ⟨2, ![1024, 256]⟩
abbrev S256x128 : Shape := ⟨2, ![256, 128]⟩
abbrev S1024x1024 : Shape := ⟨2, ![1024, 1024]⟩
abbrev S256x768 : Shape := ⟨2, ![256, 768]⟩
abbrev S1x1x256x128 : Shape := ⟨4, ![1, 1, 256, 128]⟩
abbrev S1056x256 : Shape := ⟨2, ![1056, 256]⟩
abbrev S8x256 : Shape := ⟨2, ![8, 256]⟩
abbrev S1x8x256 : Shape := ⟨3, ![1, 8, 256]⟩
abbrev S48x256 : Shape := ⟨2, ![48, 256]⟩
abbrev S1x48x256 : Shape := ⟨3, ![1, 48, 256]⟩

abbrev nBuf : Space → Nat
  | .hbm => 213
  | .vmem => 37
  | .smem => 0
  | _ => 0

abbrev hbmTy0_0 (i : Nat) : BufTy := match i % 128 with
  | 0 => ⟨S8x2048x1024, .f32⟩
  | 1 => ⟨S1024, .f32⟩
  | 2 => ⟨S1024x4384, .f32⟩
  | 3 => ⟨S512, .f32⟩
  | 4 => ⟨S512x768, .f32⟩
  | 5 => ⟨S256, .f32⟩
  | 6 => ⟨S256x8x64, .f32⟩
  | 7 => ⟨S128, .i32⟩
  | 8 => ⟨S128, .i1⟩
  | 9 => ⟨S128, .i1⟩
  | 10 => ⟨S1x128, .i1⟩
  | 11 => ⟨S128, .i1⟩
  | 12 => ⟨S128, .i1⟩
  | 13 => ⟨S1x128, .i1⟩
  | 14 => ⟨S128, .i1⟩
  | 15 => ⟨S128, .i1⟩
  | 16 => ⟨S1x128, .i1⟩
  | 17 => ⟨S128, .i32⟩
  | 18 => ⟨S128, .i1⟩
  | 19 => ⟨S128, .i1⟩
  | 20 => ⟨S1x128, .i1⟩
  | 21 => ⟨S128, .i1⟩
  | 22 => ⟨S128, .i1⟩
  | 23 => ⟨S1x128, .i1⟩
  | 24 => ⟨S128, .i1⟩
  | 25 => ⟨S128, .i1⟩
  | 26 => ⟨S1x128, .i1⟩
  | 27 => ⟨S1024x32, .f32⟩
  | 28 => ⟨S_, .i32⟩
  | 29 => ⟨S_, .f32⟩
  | 30 => ⟨S1024x128, .f32⟩
  | 31 => ⟨S1024x768, .f32⟩
  | 32 => ⟨S1024x512, .f32⟩
  | 33 => ⟨S1024x2048, .f32⟩
  | 34 => ⟨S1024x3456, .f32⟩
  | 35 => ⟨S1024x3456, .bf16⟩
  | 36 => ⟨S1024x512, .f32⟩
  | 37 => ⟨S1024x512, .f32⟩
  | 38 => ⟨S1024x32, .f32⟩
  | 39 => ⟨S1024x1056, .f32⟩
  | 40 => ⟨S1056x1024, .f32⟩
  | 41 => ⟨S1056x1024, .bf16⟩
  | 42 => ⟨S512x8x96, .f32⟩
  | 43 => ⟨S512x8x64, .f32⟩
  | 44 => ⟨S512x512, .f32⟩
  | 45 => ⟨S512x8x32, .f32⟩
  | 46 => ⟨S512x256, .f32⟩
  | 47 => ⟨S512x768, .f32⟩
  | 48 => ⟨S512x768, .bf16⟩
  | 49 => ⟨S8x64x256, .f32⟩
  | 50 => ⟨S8x64x256, .bf16⟩
  | 51 => ⟨S_, .bf16⟩
  | 52 => ⟨S64x256, .bf16⟩
  | 53 => ⟨S1x64x256, .bf16⟩
  | 54 => ⟨S64x256, .bf16⟩
  | 55 => ⟨S64x512, .bf16⟩
  | 56 => ⟨S1x64x256, .bf16⟩
  | 57 => ⟨S64x256, .bf16⟩
  | 58 => ⟨S64x512, .bf16⟩
  | 59 => ⟨S128x512, .bf16⟩
  | 60 => ⟨S1x64x256, .bf16⟩
  | 61 => ⟨S64x256, .bf16⟩
  | 62 => ⟨S64x512, .bf16⟩
  | 63 => ⟨S1x64x256, .bf16⟩
  | 64 => ⟨S64x256, .bf16⟩
  | 65 => ⟨S64x512, .bf16⟩
  | 66 => ⟨S128x512, .bf16⟩
  | 67 => ⟨S1x64x256, .bf16⟩
  | 68 => ⟨S64x256, .bf16⟩
  | 69 => ⟨S64x512, .bf16⟩
  | 70 => ⟨S1x64x256, .bf16⟩
  | 71 => ⟨S64x256, .bf16⟩
  | 72 => ⟨S64x512, .bf16⟩
  | 73 => ⟨S128x512, .bf16⟩
  | 74 => ⟨S1x64x256, .bf16⟩
  | 75 => ⟨S64x256, .bf16⟩
  | 76 => ⟨S64x512, .bf16⟩
  | 77 => ⟨S1x64x256, .bf16⟩
  | 78 => ⟨S64x256, .bf16⟩
  | 79 => ⟨S64x512, .bf16⟩
  | 80 => ⟨S128x512, .bf16⟩
  | 81 => ⟨S1x128x512, .bf16⟩
  | 82 => ⟨S1x128x512, .bf16⟩
  | 83 => ⟨S1x128x512, .bf16⟩
  | 84 => ⟨S1x128x512, .bf16⟩
  | 85 => ⟨S4x128x512, .bf16⟩
  | 86 => ⟨S1x1024, .f32⟩
  | 87 => ⟨S1x512, .f32⟩
  | 88 => ⟨S1x256, .f32⟩
  | 89 => ⟨S16384x1024, .f32⟩
  | 90 => ⟨S2048, .i32⟩
  | 91 => ⟨S8, .f32⟩
  | 92 => ⟨S_, .f32⟩
  | 93 => ⟨S8, .f32⟩
  | 94 => ⟨S8, .f32⟩
  | 95 => ⟨S_, .f32⟩
  | 96 => ⟨S8, .f32⟩
  | 97 => ⟨S8, .f32⟩
  | 98 => ⟨S_, .f32⟩
  | 99 => ⟨S8, .f32⟩
  | 100 => ⟨S8, .f32⟩
  | 101 => ⟨S2048, .f32⟩
  | 102 => ⟨S2048x1, .f32⟩
  | 103 => ⟨S1x8, .f32⟩
  | 104 => ⟨S2048x8, .f32⟩
  | 105 => ⟨S2048x8, .f32⟩
  | 106 => ⟨S2048x8, .f32⟩
  | 107 => ⟨S2048x8, .f32⟩
  | 108 => ⟨S2048x8, .f32⟩
  | 109 => ⟨S16, .f32⟩
  | 110 => ⟨S_, .f32⟩
  | 111 => ⟨S16, .f32⟩
  | 112 => ⟨S16, .f32⟩
  | 113 => ⟨S_, .f32⟩
  | 114 => ⟨S16, .f32⟩
  | 115 => ⟨S16, .f32⟩
  | 116 => ⟨S_, .f32⟩
  | 117 => ⟨S16, .f32⟩
  | 118 => ⟨S16, .f32⟩
  | 119 => ⟨S2048, .f32⟩
  | 120 => ⟨S2048x1, .f32⟩
  | 121 => ⟨S1x16, .f32⟩
  | 122 => ⟨S2048x16, .f32⟩
  | 123 => ⟨S2048x16, .f32⟩
  | 124 => ⟨S2048x16, .f32⟩
  | 125 => ⟨S2048x16, .f32⟩
  | 126 => ⟨S2048x16, .f32⟩
  | 127 => ⟨S_, .i32⟩
  | _ => ⟨S8x2048x1024, .f32⟩

abbrev hbmTy0_1 (i : Nat) : BufTy := match i % 128 with
  | 0 => ⟨S128, .i32⟩
  | 1 => ⟨S128, .i32⟩
  | 2 => ⟨S128, .i32⟩
  | 3 => ⟨S128x1, .i32⟩
  | 4 => ⟨S2048x128, .f32⟩
  | 5 => ⟨S_, .f32⟩
  | 6 => ⟨S_, .f32⟩
  | 7 => ⟨S2048x128, .i1⟩
  | 8 => ⟨S2048x128, .f32⟩
  | 9 => ⟨S2048x128, .f32⟩
  | 10 => ⟨S_, .i32⟩
  | 11 => ⟨S128, .i32⟩
  | 12 => ⟨S128, .i32⟩
  | 13 => ⟨S128, .i32⟩
  | 14 => ⟨S128x1, .i32⟩
  | 15 => ⟨S2048x128, .f32⟩
  | 16 => ⟨S2048x128, .f32⟩
  | 17 => ⟨S_, .f32⟩
  | 18 => ⟨S_, .f32⟩
  | 19 => ⟨S2048x128, .i1⟩
  | 20 => ⟨S2048x128, .f32⟩
  | 21 => ⟨S2048x128, .f32⟩
  | 22 => ⟨S_, .i32⟩
  | 23 => ⟨S128, .i32⟩
  | 24 => ⟨S128, .i32⟩
  | 25 => ⟨S128, .i32⟩
  | 26 => ⟨S128x1, .i32⟩
  | 27 => ⟨S2048x128, .f32⟩
  | 28 => ⟨S_, .f32⟩
  | 29 => ⟨S_, .f32⟩
  | 30 => ⟨S2048x128, .i1⟩
  | 31 => ⟨S2048x128, .f32⟩
  | 32 => ⟨S2048x128, .f32⟩
  | 33 => ⟨S2048x384, .f32⟩
  | 34 => ⟨S_, .i32⟩
  | 35 => ⟨S128, .i32⟩
  | 36 => ⟨S128, .i32⟩
  | 37 => ⟨S128, .i32⟩
  | 38 => ⟨S128x1, .i32⟩
  | 39 => ⟨S2048x128, .f32⟩
  | 40 => ⟨S_, .f32⟩
  | 41 => ⟨S_, .f32⟩
  | 42 => ⟨S2048x128, .i1⟩
  | 43 => ⟨S2048x128, .f32⟩
  | 44 => ⟨S2048x128, .f32⟩
  | 45 => ⟨S_, .i32⟩
  | 46 => ⟨S128, .i32⟩
  | 47 => ⟨S128, .i32⟩
  | 48 => ⟨S128, .i32⟩
  | 49 => ⟨S128x1, .i32⟩
  | 50 => ⟨S2048x128, .f32⟩
  | 51 => ⟨S2048x128, .f32⟩
  | 52 => ⟨S_, .f32⟩
  | 53 => ⟨S_, .f32⟩
  | 54 => ⟨S2048x128, .i1⟩
  | 55 => ⟨S2048x128, .f32⟩
  | 56 => ⟨S2048x128, .f32⟩
  | 57 => ⟨S_, .i32⟩
  | 58 => ⟨S128, .i32⟩
  | 59 => ⟨S128, .i32⟩
  | 60 => ⟨S128, .i32⟩
  | 61 => ⟨S128x1, .i32⟩
  | 62 => ⟨S2048x128, .f32⟩
  | 63 => ⟨S_, .f32⟩
  | 64 => ⟨S_, .f32⟩
  | 65 => ⟨S2048x128, .i1⟩
  | 66 => ⟨S2048x128, .f32⟩
  | 67 => ⟨S2048x128, .f32⟩
  | 68 => ⟨S2048x384, .f32⟩
  | 69 => ⟨S8x2048, .f32⟩
  | 70 => ⟨S8x2048, .f32⟩
  | 71 => ⟨S16x2048, .f32⟩
  | 72 => ⟨S16x2048, .f32⟩
  | 73 => ⟨S16x2048, .f32⟩
  | 74 => ⟨S32x2048, .f32⟩
  | 75 => ⟨S16384x256, .f32⟩
  | 76 => ⟨S16384x384, .bf16⟩
  | 77 => ⟨S8x8x256x256, .bf16⟩
  | 78 => ⟨S8x32x2048, .f32⟩
  | 79 => ⟨S8x512x2048, .f32⟩
  | 80 => ⟨S8x512x2048, .f32⟩
  | 81 => ⟨S16384x512, .bf16⟩
  | 82 => ⟨S8x8x2048x384, .bf16⟩
  | 83 => ⟨S16384x1024, .f32⟩
  | 84 => ⟨S16384x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3456, .bf16⟩
  | .local _ .vmem, ⟨4, _⟩ => ⟨S1056x1024, .bf16⟩
  | .local _ .vmem, ⟨5, _⟩ => ⟨S1x512, .f32⟩
  | .local _ .vmem, ⟨6, _⟩ => ⟨S512x768, .bf16⟩
  | .local _ .vmem, ⟨7, _⟩ => ⟨S1x256, .f32⟩
  | .local _ .vmem, ⟨8, _⟩ => ⟨S4x128x512, .bf16⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S16x256, .f32⟩
  | .local _ .vmem, ⟨14, _⟩ => ⟨S16x256, .f32⟩
  | .local _ .vmem, ⟨15, _⟩ => ⟨S32x256, .f32⟩
  | .local _ .vmem, ⟨16, _⟩ => ⟨S32x256, .f32⟩
  | .local _ .vmem, ⟨17, _⟩ => ⟨S256x256, .f32⟩
  | .local _ .vmem, ⟨18, _⟩ => ⟨S256x256, .f32⟩
  | .local _ .vmem, ⟨19, _⟩ => ⟨S256x384, .bf16⟩
  | .local _ .vmem, ⟨20, _⟩ => ⟨S256x384, .bf16⟩
  | .local _ .vmem, ⟨21, _⟩ => ⟨S1x1x256x256, .bf16⟩
  | .local _ .vmem, ⟨22, _⟩ => ⟨S1x1x256x256, .bf16⟩
  | .local _ .vmem, ⟨23, _⟩ => ⟨S1x32x256, .f32⟩
  | .local _ .vmem, ⟨24, _⟩ => ⟨S1x32x256, .f32⟩
  | .local _ .vmem, ⟨25, _⟩ => ⟨S1x512x256, .f32⟩
  | .local _ .vmem, ⟨26, _⟩ => ⟨S1x512x256, .f32⟩
  | .local _ .vmem, ⟨27, _⟩ => ⟨S1x512x256, .f32⟩
  | .local _ .vmem, ⟨28, _⟩ => ⟨S1x512x256, .f32⟩
  | .local _ .vmem, ⟨29, _⟩ => ⟨S256x512, .bf16⟩
  | .local _ .vmem, ⟨30, _⟩ => ⟨S256x512, .bf16⟩
  | .local _ .vmem, ⟨31, _⟩ => ⟨S1x8x256x384, .bf16⟩
  | .local _ .vmem, ⟨32, _⟩ => ⟨S1x8x256x384, .bf16⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_v0 : Ref sig .tc := ⟨.hbm, 10, rfl⟩
abbrev main_c_2 : Ref sig .tc := ⟨.hbm, 11, rfl⟩
abbrev main_c_3 : Ref sig .tc := ⟨.hbm, 12, rfl⟩
abbrev main_v1 : Ref sig .tc := ⟨.hbm, 13, rfl⟩
abbrev main_c_4 : Ref sig .tc := ⟨.hbm, 14, rfl⟩
abbrev main_c_5 : Ref sig .tc := ⟨.hbm, 15, rfl⟩
abbrev main_v2 : Ref sig .tc := ⟨.hbm, 16, rfl⟩
abbrev main_c_6 : Ref sig .tc := ⟨.hbm, 17, rfl⟩
abbrev main_c_7 : Ref sig .tc := ⟨.hbm, 18, rfl⟩
abbrev main_c_8 : Ref sig .tc := ⟨.hbm, 19, rfl⟩
abbrev main_v3 : Ref sig .tc := ⟨.hbm, 20, rfl⟩
abbrev main_c_9 : Ref sig .tc := ⟨.hbm, 21, rfl⟩
abbrev main_c_10 : Ref sig .tc := ⟨.hbm, 22, rfl⟩
abbrev main_v4 : Ref sig .tc := ⟨.hbm, 23, rfl⟩
abbrev main_c_11 : Ref sig .tc := ⟨.hbm, 24, rfl⟩
abbrev main_c_12 : Ref sig .tc := ⟨.hbm, 25, rfl⟩
abbrev main_v5 : Ref sig .tc := ⟨.hbm, 26, rfl⟩
abbrev main_v6 : Ref sig .tc := ⟨.hbm, 27, rfl⟩
abbrev main_c_13 : Ref sig .tc := ⟨.hbm, 28, rfl⟩
abbrev main_call0_v0 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_14 : Ref sig .tc := ⟨.hbm, 92, rfl⟩
abbrev main_v68 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_v71 : Ref sig .tc := ⟨.hbm, 97, rfl⟩
abbrev main_cst_16 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_17 : Ref sig .tc := ⟨.hbm, 110, rfl⟩
abbrev main_v83 : Ref sig .tc := ⟨.hbm, 111, rfl⟩
abbrev main_v84 : Ref sig .tc := ⟨.hbm, 112, rfl⟩
abbrev main_cst_18 : Ref sig .tc := ⟨.hbm, 113, rfl⟩
abbrev main_v85 : Ref sig .tc := ⟨.hbm, 114, rfl⟩
abbrev main_v86 : Ref sig .tc := ⟨.hbm, 115, rfl⟩
abbrev main_cst_19 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_c_20 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_21 : Ref sig .tc := ⟨.hbm, 133, rfl⟩
abbrev main_call1_v0 : Ref sig .tc := ⟨.hbm, 134, rfl⟩
abbrev main_call1_v1 : Ref sig .tc := ⟨.hbm, 135, rfl⟩
abbrev main_call1_v2 : Ref sig .tc := ⟨.hbm, 136, rfl⟩
abbrev main_v102 : Ref sig .tc := ⟨.hbm, 137, rfl⟩
abbrev main_c_22 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_23 : Ref sig .tc := ⟨.hbm, 145, rfl⟩
abbrev main_call2_v0 : Ref sig .tc := ⟨.hbm, 146, rfl⟩
abbrev main_call2_v1 : Ref sig .tc := ⟨.hbm, 147, rfl⟩
abbrev main_call2_v2 : Ref sig .tc := ⟨.hbm, 148, rfl⟩
abbrev main_v109 : Ref sig .tc := ⟨.hbm, 149, rfl⟩
abbrev main_c_24 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_cst_25 : Ref sig .tc := ⟨.hbm, 156, rfl⟩
abbrev main_call3_v0 : Ref sig .tc := ⟨.hbm, 157, rfl⟩
abbrev main_call3_v1 : Ref sig .tc := ⟨.hbm, 158, rfl⟩
abbrev main_call3_v2 : Ref sig .tc := ⟨.hbm, 159, rfl⟩
abbrev main_v115 : Ref sig .tc := ⟨.hbm, 160, rfl⟩
abbrev main_v116 : Ref sig .tc := ⟨.hbm, 161, rfl⟩
abbrev main_c_26 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_27 : Ref sig .tc := ⟨.hbm, 168, rfl⟩
abbrev main_call4_v0 : Ref sig .tc := ⟨.hbm, 169, rfl⟩
abbrev main_call4_v1 : Ref sig .tc := ⟨.hbm, 170, rfl⟩
abbrev main_call4_v2 : Ref sig .tc := ⟨.hbm, 171, rfl⟩
abbrev main_v122 : Ref sig .tc := ⟨.hbm, 172, rfl⟩
abbrev main_c_28 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_cst_29 : Ref sig .tc := ⟨.hbm, 180, rfl⟩
abbrev main_call5_v0 : Ref sig .tc := ⟨.hbm, 181, rfl⟩
abbrev main_call5_v1 : Ref sig .tc := ⟨.hbm, 182, rfl⟩
abbrev main_call5_v2 : Ref sig .tc := ⟨.hbm, 183, rfl⟩
abbrev main_v129 : Ref sig .tc := ⟨.hbm, 184, rfl⟩
abbrev main_c_30 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_cst_31 : Ref sig .tc := ⟨.hbm, 191, rfl⟩
abbrev main_call6_v0 : Ref sig .tc := ⟨.hbm, 192, rfl⟩
abbrev main_call6_v1 : Ref sig .tc := ⟨.hbm, 193, rfl⟩
abbrev main_call6_v2 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143_0 : Ref sig .tc := ⟨.hbm, 203, rfl⟩
abbrev main_v143_1 : Ref sig .tc := ⟨.hbm, 204, rfl⟩
abbrev main_v143_2 : Ref sig .tc := ⟨.hbm, 205, rfl⟩
abbrev main_v143_3 : Ref sig .tc := ⟨.hbm, 206, rfl⟩
abbrev main_v143_4 : Ref sig .tc := ⟨.hbm, 207, rfl⟩
abbrev main_v143_5 : Ref sig .tc := ⟨.hbm, 208, rfl⟩
abbrev main_v143_6 : Ref sig .tc := ⟨.hbm, 209, rfl⟩
abbrev main_v143_7 : Ref sig .tc := ⟨.hbm, 210, rfl⟩
abbrev main_v143_8 : Ref sig .tc := ⟨.hbm, 211, rfl⟩
abbrev main_v143_9 : Ref sig .tc := ⟨.hbm, 212, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_11 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_15 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_16 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_17 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1056x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x32x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x8x256x384 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== ProjReferenceIdeal.lean ====
abbrev S8x2048x1024 : Shape := ⟨3, ![8, 2048, 1024]⟩
abbrev S1024 : Shape := ⟨1, ![1024]⟩
abbrev S1024x4384 : Shape := ⟨2, ![1024, 4384]⟩
abbrev S512 : Shape := ⟨1, ![512]⟩
abbrev S512x768 : Shape := ⟨2, ![512, 768]⟩
abbrev S256 : Shape := ⟨1, ![256]⟩
abbrev S256x8x64 : Shape := ⟨3, ![256, 8, 64]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4384 : Shape := ⟨3, ![8, 2048, 4384]⟩
abbrev S8x2048x512 : Shape := ⟨3, ![8, 2048, 512]⟩
abbrev S8x2048x256 : Shape := ⟨3, ![8, 2048, 256]⟩
abbrev S8x2048x32 : Shape := ⟨3, ![8, 2048, 32]⟩
abbrev S1x1x256 : Shape := ⟨3, ![1, 1, 256]⟩
abbrev S8x2048x1x32 : Shape := ⟨4, ![8, 2048, 1, 32]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S8x2048x1x16 : Shape := ⟨4, ![8, 2048, 1, 16]⟩
abbrev S1x2048x1x16 : Shape := ⟨4, ![1, 2048, 1, 16]⟩
abbrev S8x2048x8x64 : Shape := ⟨4, ![8, 2048, 8, 64]⟩
abbrev S8x2048x8x16 : Shape := ⟨4, ![8, 2048, 8, 16]⟩
abbrev S8 : Shape := ⟨1, ![8]⟩
abbrev S1x8 : Shape := ⟨2, ![1, 8]⟩
abbrev S2048x8 : Shape := ⟨2, ![2048, 8]⟩
abbrev S2048x1x8 : Shape := ⟨3, ![2048, 1, 8]⟩
abbrev S8x2048x8x8 : Shape := ⟨4, ![8, 2048, 8, 8]⟩
abbrev S1x2048x1x8 : Shape := ⟨4, ![1, 2048, 1, 8]⟩
abbrev S8x2048x8x48 : Shape := ⟨4, ![8, 2048, 8, 48]⟩
abbrev S16384x256 : Shape := ⟨2, ![16384, 256]⟩
abbrev S8x32x2048 : Shape := ⟨3, ![8, 32, 2048]⟩
abbrev S8x8x64x2048 : Shape := ⟨4, ![8, 8, 64, 2048]⟩
abbrev S8x512x2048 : Shape := ⟨3, ![8, 512, 2048]⟩
abbrev S16384x1024 : Shape := ⟨2, ![16384, 1024]⟩

abbrev nBuf : Space → Nat
  | .hbm => 154
  | .vmem => 0
  | .smem => 0
  | _ => 0

abbrev hbmTy0_0 (i : Nat) : BufTy := match i % 128 with
  | 0 => ⟨S8x2048x1024, .f32⟩
  | 1 => ⟨S1024, .f32⟩
  | 2 => ⟨S1024x4384, .f32⟩
  | 3 => ⟨S512, .f32⟩
  | 4 => ⟨S512x768, .f32⟩
  | 5 => ⟨S256, .f32⟩
  | 6 => ⟨S256x8x64, .f32⟩
  | 7 => ⟨S2048, .i32⟩
  | 8 => ⟨S8x2048x1024, .f32⟩
  | 9 => ⟨S_, .f32⟩
  | 10 => ⟨S8x2048, .f32⟩
  | 11 => ⟨S8x2048x1, .f32⟩
  | 12 => ⟨S_, .f32⟩
  | 13 => ⟨S8x2048x1, .f32⟩
  | 14 => ⟨S8x2048x1, .f32⟩
  | 15 => ⟨S_, .f32⟩
  | 16 => ⟨S8x2048x1, .f32⟩
  | 17 => ⟨S8x2048x1, .f32⟩
  | 18 => ⟨S8x2048x1, .f32⟩
  | 19 => ⟨S8x2048x1024, .f32⟩
  | 20 => ⟨S8x2048x1024, .f32⟩
  | 21 => ⟨S1x1x1024, .f32⟩
  | 22 => ⟨S8x2048x1024, .f32⟩
  | 23 => ⟨S8x2048x1024, .f32⟩
  | 24 => ⟨S8x2048x4384, .f32⟩
  | 25 => ⟨S8x2048x512, .f32⟩
  | 26 => ⟨S8x2048x256, .f32⟩
  | 27 => ⟨S8x2048x32, .f32⟩
  | 28 => ⟨S8x2048x512, .f32⟩
  | 29 => ⟨S8x2048x512, .f32⟩
  | 30 => ⟨S8x2048x512, .f32⟩
  | 31 => ⟨S8x2048x1024, .f32⟩
  | 32 => ⟨S8x2048x1024, .f32⟩
  | 33 => ⟨S8x2048x256, .f32⟩
  | 34 => ⟨S_, .f32⟩
  | 35 => ⟨S8x2048, .f32⟩
  | 36 => ⟨S8x2048x1, .f32⟩
  | 37 => ⟨S_, .f32⟩
  | 38 => ⟨S8x2048x1, .f32⟩
  | 39 => ⟨S8x2048x1, .f32⟩
  | 40 => ⟨S_, .f32⟩
  | 41 => ⟨S8x2048x1, .f32⟩
  | 42 => ⟨S8x2048x1, .f32⟩
  | 43 => ⟨S8x2048x1, .f32⟩
  | 44 => ⟨S8x2048x256, .f32⟩
  | 45 => ⟨S8x2048x256, .f32⟩
  | 46 => ⟨S1x1x256, .f32⟩
  | 47 => ⟨S8x2048x256, .f32⟩
  | 48 => ⟨S8x2048x256, .f32⟩
  | 49 => ⟨S8x2048x1x32, .f32⟩
  | 50 => ⟨S16, .f32⟩
  | 51 => ⟨S_, .f32⟩
  | 52 => ⟨S16, .f32⟩
  | 53 => ⟨S16, .f32⟩
  | 54 => ⟨S_, .f32⟩
  | 55 => ⟨S16, .f32⟩
  | 56 => ⟨S16, .f32⟩
  | 57 => ⟨S_, .f32⟩
  | 58 => ⟨S16, .f32⟩
  | 59 => ⟨S16, .f32⟩
  | 60 => ⟨S2048, .f32⟩
  | 61 => ⟨S2048x1, .f32⟩
  | 62 => ⟨S1x16, .f32⟩
  | 63 => ⟨S2048x16, .f32⟩
  | 64 => ⟨S2048x16, .f32⟩
  | 65 => ⟨S2048x16, .f32⟩
  | 66 => ⟨S2048x16, .f32⟩
  | 67 => ⟨S2048x1x16, .f32⟩
  | 68 => ⟨S2048x16, .f32⟩
  | 69 => ⟨S2048x1x16, .f32⟩
  | 70 => ⟨S8x2048x1x16, .f32⟩
  | 71 => ⟨S8x2048x1x16, .f32⟩
  | 72 => ⟨S1x2048x1x16, .f32⟩
  | 73 => ⟨S8x2048x1x16, .f32⟩
  | 74 => ⟨S8x2048x1x16, .f32⟩
  | 75 => ⟨S1x2048x1x16, .f32⟩
  | 76 => ⟨S8x2048x1x16, .f32⟩
  | 77 => ⟨S8x2048x1x16, .f32⟩
  | 78 => ⟨S8x2048x1x16, .f32⟩
  | 79 => ⟨S1x2048x1x16, .f32⟩
  | 80 => ⟨S8x2048x1x16, .f32⟩
  | 81 => ⟨S8x2048x1x16, .f32⟩
  | 82 => ⟨S1x2048x1x16, .f32⟩
  | 83 => ⟨S8x2048x1x16, .f32⟩
  | 84 => ⟨S8x2048x1x16, .f32⟩
  | 85 => ⟨S8x2048x1x16, .f32⟩
  | 86 => ⟨S8x2048x1x32, .f32⟩
  | 87 => ⟨S8x2048x32, .f32⟩
  | 88 => ⟨S8x2048x8x64, .f32⟩
  | 89 => ⟨S8x2048x8x16, .f32⟩
  | 90 => ⟨S8, .f32⟩
  | 91 => ⟨S_, .f32⟩
  | 92 => ⟨S8, .f32⟩
  | 93 => ⟨S8, .f32⟩
  | 94 => ⟨S_, .f32⟩
  | 95 => ⟨S8, .f32⟩
  | 96 => ⟨S8, .f32⟩
  | 97 => ⟨S_, .f32⟩
  | 98 => ⟨S8, .f32⟩
  | 99 => ⟨S8, .f32⟩
  | 100 => ⟨S2048, .f32⟩
  | 101 => ⟨S2048x1, .f32⟩
  | 102 => ⟨S1x8, .f32⟩
  | 103 => ⟨S2048x8, .f32⟩
  | 104 => ⟨S2048x8, .f32⟩
  | 105 => ⟨S2048x8, .f32⟩
  | 106 => ⟨S2048x8, .f32⟩
  | 107 => ⟨S2048x1x8, .f32⟩
  | 108 => ⟨S2048x8, .f32⟩
  | 109 => ⟨S2048x1x8, .f32⟩
  | 110 => ⟨S8x2048x8x8, .f32⟩
  | 111 => ⟨S8x2048x8x8, .f32⟩
  | 112 => ⟨S1x2048x1x8, .f32⟩
  | 113 => ⟨S8x2048x8x8, .f32⟩
  | 114 => ⟨S8x2048x8x8, .f32⟩
  | 115 => ⟨S1x2048x1x8, .f32⟩
  | 116 => ⟨S8x2048x8x8, .f32⟩
  | 117 => ⟨S8x2048x8x8, .f32⟩
  | 118 => ⟨S8x2048x8x8, .f32⟩
  | 119 => ⟨S1x2048x1x8, .f32⟩
  | 120 => ⟨S8x2048x8x8, .f32⟩
  | 121 => ⟨S8x2048x8x8, .f32⟩
  | 122 => ⟨S1x2048x1x8, .f32⟩
  | 123 => ⟨S8x2048x8x8, .f32⟩
  | 124 => ⟨S8x2048x8x8, .f32⟩
  | 125 => ⟨S8x2048x8x8, .f32⟩
  | 126 => ⟨S8x2048x8x16, .f32⟩
  | 127 => ⟨S8x2048x8x48, .f32⟩
  | _ => ⟨S8x2048x1024, .f32⟩

abbrev hbmTy0_1 (i : Nat) : BufTy := match i % 128 with
  | 0 => ⟨S8x2048x8x64, .f32⟩
  | 1 => ⟨S8x2048x8x64, .f32⟩
  | 2 => ⟨S16384x256, .f32⟩
  | 3 => ⟨S8x32x2048, .f32⟩
  | 4 => ⟨S8x8x64x2048, .f32⟩
  | 5 => ⟨S8x512x2048, .f32⟩
  | 6 => ⟨S8x8x64x2048, .f32⟩
  | 7 => ⟨S8x512x2048, .f32⟩
  | 8 => ⟨S8x2048x1024, .f32⟩
  | 9 => ⟨S8x2048x1024, .f32⟩
  | 10 => ⟨S_, .f32⟩
  | 11 => ⟨S8x2048x1024, .f32⟩
  | 12 => ⟨S8x2048x1024, .f32⟩
  | 13 => ⟨S_, .f32⟩
  | 14 => ⟨S8x2048x1024, .f32⟩
  | 15 => ⟨S8x2048x1024, .f32⟩
  | 16 => ⟨S16384x1024, .f32⟩
  | 17 => ⟨S8x2048x1024, .f32⟩
  | 18 => ⟨S8x2048x1024, .f32⟩
  | 19 => ⟨S_, .f32⟩
  | 20 => ⟨S8x2048x1024, .f32⟩
  | 21 => ⟨S8x2048x1024, .f32⟩
  | 22 => ⟨S_, .f32⟩
  | 23 => ⟨S8x2048x1024, .f32⟩
  | 24 => ⟨S8x2048x1024, .f32⟩
  | 25 => ⟨S16384x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_8 : Ref sig .tc := ⟨.hbm, 91, rfl⟩
abbrev main_v75 : Ref sig .tc := ⟨.hbm, 92, rfl⟩
abbrev main_v76 : Ref sig .tc := ⟨.hbm, 93, rfl⟩
abbrev main_cst_9 : Ref sig .tc := ⟨.hbm, 94, rfl⟩
abbrev main_v77 : Ref sig .tc := ⟨.hbm, 95, rfl⟩
abbrev main_v78 : Ref sig .tc := ⟨.hbm, 96, rfl⟩
abbrev main_cst_10 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_cst_11 : Ref sig .tc := ⟨.hbm, 138, rfl⟩
abbrev main_v119 : Ref sig .tc := ⟨.hbm, 139, rfl⟩
abbrev main_v120 : Ref sig .tc := ⟨.hbm, 140, rfl⟩
abbrev main_cst_12 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_cst_13 : Ref sig .tc := ⟨.hbm, 147, rfl⟩
abbrev main_v126 : Ref sig .tc := ⟨.hbm, 148, rfl⟩
abbrev main_v127 : Ref sig .tc := ⟨.hbm, 149, rfl⟩
abbrev main_cst_14 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩

abbrev nD : Nat := 1
abbrev τ : Topo := Topo.v7x

variable {F : FTy → Type} [FloatOps F]
-- ==== Samp.lean ====
abbrev S128x4x1024 : Shape := ⟨3, ![128, 4, 1024]⟩
abbrev S1024 : Shape := ⟨1, ![1024]⟩
abbrev S1024x4384 : Shape := ⟨2, ![1024, 4384]⟩
abbrev S512 : Shape := ⟨1, ![512]⟩
abbrev S512x768 : Shape := ⟨2, ![512, 768]⟩
abbrev S256 : Shape := ⟨1, ![256]⟩
abbrev S256x8x64 : Shape := ⟨3, ![256, 8, 64]⟩
abbrev S128 : Shape := ⟨1, ![128]⟩
abbrev S1x128 : Shape := ⟨2, ![1, 128]⟩
abbrev S1024x32 : Shape := ⟨2, ![1024, 32]⟩
abbrev S_ : Shape := ⟨0, ![]⟩
abbrev S1024x128 : Shape := ⟨2, ![1024, 128]⟩
abbrev S1024x768 : Shape := ⟨2, ![1024, 768]⟩
abbrev S1024x512 : Shape := ⟨2, ![1024, 512]⟩
abbrev S1024x2048 : Shape := ⟨2, ![1024, 2048]⟩
abbrev S1024x3456 : Shape := ⟨2, ![1024, 3456]⟩
abbrev S1024x1056 : Shape := ⟨2, ![1024, 1056]⟩
abbrev S1056x1024 : Shape := ⟨2, ![1056, 1024]⟩
abbrev S512x8x96 : Shape := ⟨3, ![512, 8, 96]⟩
abbrev S512x8x64 : Shape := ⟨3, ![512, 8, 64]⟩
abbrev S512x512 : Shape := ⟨2, ![512, 512]⟩
abbrev S512x8x32 : Shape := ⟨3, ![512, 8, 32]⟩
abbrev S512x256 : Shape := ⟨2, ![512, 256]⟩
abbrev S8x64x256 : Shape := ⟨3, ![8, 64, 256]⟩
abbrev S64x256 : Shape := ⟨2, ![64, 256]⟩
abbrev S1x64x256 : Shape := ⟨3, ![1, 64, 256]⟩
abbrev S64x512 : Shape := ⟨2, ![64, 512]⟩
abbrev S128x512 : Shape := ⟨2, ![128, 512]⟩
abbrev S1x128x512 : Shape := ⟨3, ![1, 128, 512]⟩
abbrev S4x128x512 : Shape := ⟨3, ![4, 128, 512]⟩
abbrev S1x1024 : Shape := ⟨2, ![1, 1024]⟩
abbrev S1x512 : Shape := ⟨2, ![1, 512]⟩
abbrev S1x256 : Shape := ⟨2, ![1, 256]⟩
abbrev S512x1024 : Shape := ⟨2, ![512, 1024]⟩
abbrev S4 : Shape := ⟨1, ![4]⟩
abbrev S1x4 : Shape := ⟨2, ![1, 4]⟩
abbrev S128x4 : Shape := ⟨2, ![128, 4]⟩
abbrev S8 : Shape := ⟨1, ![8]⟩
abbrev S512x1 : Shape := ⟨2, ![512, 1]⟩
abbrev S1x8 : Shape := ⟨2, ![1, 8]⟩
abbrev S512x8 : Shape := ⟨2, ![512, 8]⟩
abbrev S16 : Shape := ⟨1, ![16]⟩
abbrev S1x16 : Shape := ⟨2, ![1, 16]⟩
abbrev S512x16 : Shape := ⟨2, ![512, 16]⟩
abbrev S128x1 : Shape := ⟨2, ![128, 1]⟩
abbrev S512x128 : Shape := ⟨2, ![512, 128]⟩
abbrev S512x384 : Shape := ⟨2, ![512, 384]⟩
abbrev S8x512 : Shape := ⟨2, ![8, 512]⟩
abbrev S16x512 : Shape := ⟨2, ![16, 512]⟩
abbrev S32x512 : Shape := ⟨2, ![32, 512]⟩
abbrev S1x2x256x256 : Shape := ⟨4, ![1, 2, 256, 256]⟩
abbrev S1x32x512 : Shape := ⟨3, ![1, 32, 512]⟩
abbrev S1x512x512 : Shape := ⟨3, ![1, 512, 512]⟩
abbrev S1x8x512x384 : Shape := ⟨4, ![1, 8, 512, 384]⟩
abbrev S256x1024 : Shape := ⟨2, ![256, 1024]⟩
abbrev S256x384 : Shape := ⟨2, ![256, 384]⟩
abbrev S16x256 : Shape := ⟨2, ![16, 256]⟩
abbrev S32x256 : Shape := ⟨2, ![32, 256]⟩
abbrev S256x256 : Shape := ⟨2, ![256, 256]⟩
abbrev S1x1x256x256 : Shape := ⟨4, ![1, 1, 256, 256]⟩
abbrev S1x32x256 : Shape := ⟨3, ![1, 32, 256]⟩
abbrev S1x512x256 : Shape := ⟨3, ![1, 512, 256]⟩
abbrev S256x512 : Shape := ⟨2, ![256, 512]⟩
abbrev S1x8x256x384 : Shape := ⟨4, ![1, 8, 256, 384]⟩
abbrev S256x1 : Shape := ⟨2, ![256, 1]⟩
abbrev S1024x256 : Shape := ⟨2, ![1024, 256]⟩
abbrev S256x128 : Shape := ⟨2, ![256, 128]⟩
abbrev S1024x1024 : Shape := ⟨2, ![1024, 1024]⟩
abbrev S256x768 : Shape := ⟨2, ![256, 768]⟩
abbrev S1x1x256x128 : Shape := ⟨4, ![1, 1, 256, 128]⟩
abbrev S1056x256 : Shape := ⟨2, ![1056, 256]⟩
abbrev S8x256 : Shape := ⟨2, ![8, 256]⟩
abbrev S1x8x256 : Shape := ⟨3, ![1, 8, 256]⟩
abbrev S48x256 : Shape := ⟨2, ![48, 256]⟩
abbrev S1x48x256 : Shape := ⟨3, ![1, 48, 256]⟩

abbrev nBuf : Space → Nat
  | .hbm => 219
  | .vmem => 37
  | .smem => 0
  | _ => 0

abbrev hbmTy0_0 (i : Nat) : BufTy := match i % 128 with
  | 0 => ⟨S128x4x1024, .f32⟩
  | 1 => ⟨S1024, .f32⟩
  | 2 => ⟨S1024x4384, .f32⟩
  | 3 => ⟨S512, .f32⟩
  | 4 => ⟨S512x768, .f32⟩
  | 5 => ⟨S256, .f32⟩
  | 6 => ⟨S256x8x64, .f32⟩
  | 7 => ⟨S128, .i32⟩
  | 8 => ⟨S128, .i1⟩
  | 9 => ⟨S128, .i1⟩
  | 10 => ⟨S1x128, .i1⟩
  | 11 => ⟨S128, .i1⟩
  | 12 => ⟨S128, .i1⟩
  | 13 => ⟨S1x128, .i1⟩
  | 14 => ⟨S128, .i1⟩
  | 15 => ⟨S128, .i1⟩
  | 16 => ⟨S1x128, .i1⟩
  | 17 => ⟨S128, .i32⟩
  | 18 => ⟨S128, .i1⟩
  | 19 => ⟨S128, .i1⟩
  | 20 => ⟨S1x128, .i1⟩
  | 21 => ⟨S128, .i1⟩
  | 22 => ⟨S128, .i1⟩
  | 23 => ⟨S1x128, .i1⟩
  | 24 => ⟨S128, .i1⟩
  | 25 => ⟨S128, .i1⟩
  | 26 => ⟨S1x128, .i1⟩
  | 27 => ⟨S1024x32, .f32⟩
  | 28 => ⟨S_, .i32⟩
  | 29 => ⟨S_, .f32⟩
  | 30 => ⟨S1024x128, .f32⟩
  | 31 => ⟨S1024x768, .f32⟩
  | 32 => ⟨S1024x512, .f32⟩
  | 33 => ⟨S1024x2048, .f32⟩
  | 34 => ⟨S1024x3456, .f32⟩
  | 35 => ⟨S1024x3456, .bf16⟩
  | 36 => ⟨S1024x512, .f32⟩
  | 37 => ⟨S1024x512, .f32⟩
  | 38 => ⟨S1024x32, .f32⟩
  | 39 => ⟨S1024x1056, .f32⟩
  | 40 => ⟨S1056x1024, .f32⟩
  | 41 => ⟨S1056x1024, .bf16⟩
  | 42 => ⟨S512x8x96, .f32⟩
  | 43 => ⟨S512x8x64, .f32⟩
  | 44 => ⟨S512x512, .f32⟩
  | 45 => ⟨S512x8x32, .f32⟩
  | 46 => ⟨S512x256, .f32⟩
  | 47 => ⟨S512x768, .f32⟩
  | 48 => ⟨S512x768, .bf16⟩
  | 49 => ⟨S8x64x256, .f32⟩
  | 50 => ⟨S8x64x256, .bf16⟩
  | 51 => ⟨S_, .bf16⟩
  | 52 => ⟨S64x256, .bf16⟩
  | 53 => ⟨S1x64x256, .bf16⟩
  | 54 => ⟨S64x256, .bf16⟩
  | 55 => ⟨S64x512, .bf16⟩
  | 56 => ⟨S1x64x256, .bf16⟩
  | 57 => ⟨S64x256, .bf16⟩
  | 58 => ⟨S64x512, .bf16⟩
  | 59 => ⟨S128x512, .bf16⟩
  | 60 => ⟨S1x64x256, .bf16⟩
  | 61 => ⟨S64x256, .bf16⟩
  | 62 => ⟨S64x512, .bf16⟩
  | 63 => ⟨S1x64x256, .bf16⟩
  | 64 => ⟨S64x256, .bf16⟩
  | 65 => ⟨S64x512, .bf16⟩
  | 66 => ⟨S128x512, .bf16⟩
  | 67 => ⟨S1x64x256, .bf16⟩
  | 68 => ⟨S64x256, .bf16⟩
  | 69 => ⟨S64x512, .bf16⟩
  | 70 => ⟨S1x64x256, .bf16⟩
  | 71 => ⟨S64x256, .bf16⟩
  | 72 => ⟨S64x512, .bf16⟩
  | 73 => ⟨S128x512, .bf16⟩
  | 74 => ⟨S1x64x256, .bf16⟩
  | 75 => ⟨S64x256, .bf16⟩
  | 76 => ⟨S64x512, .bf16⟩
  | 77 => ⟨S1x64x256, .bf16⟩
  | 78 => ⟨S64x256, .bf16⟩
  | 79 => ⟨S64x512, .bf16⟩
  | 80 => ⟨S128x512, .bf16⟩
  | 81 => ⟨S1x128x512, .bf16⟩
  | 82 => ⟨S1x128x512, .bf16⟩
  | 83 => ⟨S1x128x512, .bf16⟩
  | 84 => ⟨S1x128x512, .bf16⟩
  | 85 => ⟨S4x128x512, .bf16⟩
  | 86 => ⟨S1x1024, .f32⟩
  | 87 => ⟨S1x512, .f32⟩
  | 88 => ⟨S1x256, .f32⟩
  | 89 => ⟨S512x1024, .f32⟩
  | 90 => ⟨S4, .i32⟩
  | 91 => ⟨S_, .i32⟩
  | 92 => ⟨S4, .i32⟩
  | 93 => ⟨S4, .i32⟩
  | 94 => ⟨S1x4, .i32⟩
  | 95 => ⟨S128x4, .i32⟩
  | 96 => ⟨S512, .i32⟩
  | 97 => ⟨S8, .f32⟩
  | 98 => ⟨S_, .f32⟩
  | 99 => ⟨S8, .f32⟩
  | 100 => ⟨S8, .f32⟩
  | 101 => ⟨S_, .f32⟩
  | 102 => ⟨S8, .f32⟩
  | 103 => ⟨S8, .f32⟩
  | 104 => ⟨S_, .f32⟩
  | 105 => ⟨S8, .f32⟩
  | 106 => ⟨S8, .f32⟩
  | 107 => ⟨S512, .f32⟩
  | 108 => ⟨S512x1, .f32⟩
  | 109 => ⟨S1x8, .f32⟩
  | 110 => ⟨S512x8, .f32⟩
  | 111 => ⟨S512x8, .f32⟩
  | 112 => ⟨S512x8, .f32⟩
  | 113 => ⟨S512x8, .f32⟩
  | 114 => ⟨S512x8, .f32⟩
  | 115 => ⟨S16, .f32⟩
  | 116 => ⟨S_, .f32⟩
  | 117 => ⟨S16, .f32⟩
  | 118 => ⟨S16, .f32⟩
  | 119 => ⟨S_, .f32⟩
  | 120 => ⟨S16, .f32⟩
  | 121 => ⟨S16, .f32⟩
  | 122 => ⟨S_, .f32⟩
  | 123 => ⟨S16, .f32⟩
  | 124 => ⟨S16, .f32⟩
  | 125 => ⟨S512, .f32⟩
  | 126 => ⟨S512x1, .f32⟩
  | 127 => ⟨S1x16, .f32⟩
  | _ => ⟨S128x4x1024, .f32⟩

abbrev hbmTy0_1 (i : Nat) : BufTy := match i % 128 with
  | 0 => ⟨S512x16, .f32⟩
  | 1 => ⟨S512x16, .f32⟩
  | 2 => ⟨S512x16, .f32⟩
  | 3 => ⟨S512x16, .f32⟩
  | 4 => ⟨S512x16, .f32⟩
  | 5 => ⟨S_, .i32⟩
  | 6 => ⟨S128, .i32⟩
  | 7 => ⟨S128, .i32⟩
  | 8 => ⟨S128, .i32⟩
  | 9 => ⟨S128x1, .i32⟩
  | 10 => ⟨S512x128, .f32⟩
  | 11 => ⟨S_, .f32⟩
  | 12 => ⟨S_, .f32⟩
  | 13 => ⟨S512x128, .i1⟩
  | 14 => ⟨S512x128, .f32⟩
  | 15 => ⟨S512x128, .f32⟩
  | 16 => ⟨S_, .i32⟩
  | 17 => ⟨S128, .i32⟩
  | 18 => ⟨S128, .i32⟩
  | 19 => ⟨S128, .i32⟩
  | 20 => ⟨S128x1, .i32⟩
  | 21 => ⟨S512x128, .f32⟩
  | 22 => ⟨S512x128, .f32⟩
  | 23 => ⟨S_, .f32⟩
  | 24 => ⟨S_, .f32⟩
  | 25 => ⟨S512x128, .i1⟩
  | 26 => ⟨S512x128, .f32⟩
  | 27 => ⟨S512x128, .f32⟩
  | 28 => ⟨S_, .i32⟩
  | 29 => ⟨S128, .i32⟩
  | 30 => ⟨S128, .i32⟩
  | 31 => ⟨S128, .i32⟩
  | 32 => ⟨S128x1, .i32⟩
  | 33 => ⟨S512x128, .f32⟩
  | 34 => ⟨S_, .f32⟩
  | 35 => ⟨S_, .f32⟩
  | 36 => ⟨S512x128, .i1⟩
  | 37 => ⟨S512x128, .f32⟩
  | 38 => ⟨S512x128, .f32⟩
  | 39 => ⟨S512x384, .f32⟩
  | 40 => ⟨S_, .i32⟩
  | 41 => ⟨S128, .i32⟩
  | 42 => ⟨S128, .i32⟩
  | 43 => ⟨S128, .i32⟩
  | 44 => ⟨S128x1, .i32⟩
  | 45 => ⟨S512x128, .f32⟩
  | 46 => ⟨S_, .f32⟩
  | 47 => ⟨S_, .f32⟩
  | 48 => ⟨S512x128, .i1⟩
  | 49 => ⟨S512x128, .f32⟩
  | 50 => ⟨S512x128, .f32⟩
  | 51 => ⟨S_, .i32⟩
  | 52 => ⟨S128, .i32⟩
  | 53 => ⟨S128, .i32⟩
  | 54 => ⟨S128, .i32⟩
  | 55 => ⟨S128x1, .i32⟩
  | 56 => ⟨S512x128, .f32⟩
  | 57 => ⟨S512x128, .f32⟩
  | 58 => ⟨S_, .f32⟩
  | 59 => ⟨S_, .f32⟩
  | 60 => ⟨S512x128, .i1⟩
  | 61 => ⟨S512x128, .f32⟩
  | 62 => ⟨S512x128, .f32⟩
  | 63 => ⟨S_, .i32⟩
  | 64 => ⟨S128, .i32⟩
  | 65 => ⟨S128, .i32⟩
  | 66 => ⟨S128, .i32⟩
  | 67 => ⟨S128x1, .i32⟩
  | 68 => ⟨S512x128, .f32⟩
  | 69 => ⟨S_, .f32⟩
  | 70 => ⟨S_, .f32⟩
  | 71 => ⟨S512x128, .i1⟩
  | 72 => ⟨S512x128, .f32⟩
  | 73 => ⟨S512x128, .f32⟩
  | 74 => ⟨S512x384, .f32⟩
  | 75 => ⟨S8x512, .f32⟩
  | 76 => ⟨S8x512, .f32⟩
  | 77 => ⟨S16x512, .f32⟩
  | 78 => ⟨S16x512, .f32⟩
  | 79 => ⟨S16x512, .f32⟩
  | 80 => ⟨S32x512, .f32⟩
  | 81 => ⟨S512x256, .f32⟩
  | 82 => ⟨S512x384, .bf16⟩
  | 83 => ⟨S1x2x256x256, .bf16⟩
  | 84 => ⟨S1x32x512, .f32⟩
  | 85 => ⟨S1x512x512, .f32⟩
  | 86 => ⟨S1x512x512, .f32⟩
  | 87 => ⟨S512x512, .bf16⟩
  | 88 => ⟨S1x8x512x384, .bf16⟩
  | 89 => ⟨S512x1024, .f32⟩
  | 90 => ⟨S512x1024, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3456, .bf16⟩
  | .local _ .vmem, ⟨4, _⟩ => ⟨S1056x1024, .bf16⟩
  | .local _ .vmem, ⟨5, _⟩ => ⟨S1x512, .f32⟩
  | .local _ .vmem, ⟨6, _⟩ => ⟨S512x768, .bf16⟩
  | .local _ .vmem, ⟨7, _⟩ => ⟨S1x256, .f32⟩
  | .local _ .vmem, ⟨8, _⟩ => ⟨S4x128x512, .bf16⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S16x256, .f32⟩
  | .local _ .vmem, ⟨14, _⟩ => ⟨S16x256, .f32⟩
  | .local _ .vmem, ⟨15, _⟩ => ⟨S32x256, .f32⟩
  | .local _ .vmem, ⟨16, _⟩ => ⟨S32x256, .f32⟩
  | .local _ .vmem, ⟨17, _⟩ => ⟨S256x256, .f32⟩
  | .local _ .vmem, ⟨18, _⟩ => ⟨S256x256, .f32⟩
  | .local _ .vmem, ⟨19, _⟩ => ⟨S256x384, .bf16⟩
  | .local _ .vmem, ⟨20, _⟩ => ⟨S256x384, .bf16⟩
  | .local _ .vmem, ⟨21, _⟩ => ⟨S1x1x256x256, .bf16⟩
  | .local _ .vmem, ⟨22, _⟩ => ⟨S1x1x256x256, .bf16⟩
  | .local _ .vmem, ⟨23, _⟩ => ⟨S1x32x256, .f32⟩
  | .local _ .vmem, ⟨24, _⟩ => ⟨S1x32x256, .f32⟩
  | .local _ .vmem, ⟨25, _⟩ => ⟨S1x512x256, .f32⟩
  | .local _ .vmem, ⟨26, _⟩ => ⟨S1x512x256, .f32⟩
  | .local _ .vmem, ⟨27, _⟩ => ⟨S1x512x256, .f32⟩
  | .local _ .vmem, ⟨28, _⟩ => ⟨S1x512x256, .f32⟩
  | .local _ .vmem, ⟨29, _⟩ => ⟨S256x512, .bf16⟩
  | .local _ .vmem, ⟨30, _⟩ => ⟨S256x512, .bf16⟩
  | .local _ .vmem, ⟨31, _⟩ => ⟨S1x8x256x384, .bf16⟩
  | .local _ .vmem, ⟨32, _⟩ => ⟨S1x8x256x384, .bf16⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_v0 : Ref sig .tc := ⟨.hbm, 10, rfl⟩
abbrev main_c_2 : Ref sig .tc := ⟨.hbm, 11, rfl⟩
abbrev main_c_3 : Ref sig .tc := ⟨.hbm, 12, rfl⟩
abbrev main_v1 : Ref sig .tc := ⟨.hbm, 13, rfl⟩
abbrev main_c_4 : Ref sig .tc := ⟨.hbm, 14, rfl⟩
abbrev main_c_5 : Ref sig .tc := ⟨.hbm, 15, rfl⟩
abbrev main_v2 : Ref sig .tc := ⟨.hbm, 16, rfl⟩
abbrev main_c_6 : Ref sig .tc := ⟨.hbm, 17, rfl⟩
abbrev main_c_7 : Ref sig .tc := ⟨.hbm, 18, rfl⟩
abbrev main_c_8 : Ref sig .tc := ⟨.hbm, 19, rfl⟩
abbrev main_v3 : Ref sig .tc := ⟨.hbm, 20, rfl⟩
abbrev main_c_9 : Ref sig .tc := ⟨.hbm, 21, rfl⟩
abbrev main_c_10 : Ref sig .tc := ⟨.hbm, 22, rfl⟩
abbrev main_v4 : Ref sig .tc := ⟨.hbm, 23, rfl⟩
abbrev main_c_11 : Ref sig .tc := ⟨.hbm, 24, rfl⟩
abbrev main_c_12 : Ref sig .tc := ⟨.hbm, 25, rfl⟩
abbrev main_v5 : Ref sig .tc := ⟨.hbm, 26, rfl⟩
abbrev main_v6 : Ref sig .tc := ⟨.hbm, 27, rfl⟩
abbrev main_c_13 : Ref sig .tc := ⟨.hbm, 28, rfl⟩
abbrev main_call0_v0 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_15 : Ref sig .tc := ⟨.hbm, 98, rfl⟩
abbrev main_v73 : Ref sig .tc := ⟨.hbm, 99, rfl⟩
abbrev main_v74 : Ref sig .tc := ⟨.hbm, 100, rfl⟩
abbrev main_cst_16 : Ref sig .tc := ⟨.hbm, 101, rfl⟩
abbrev main_v75 : Ref sig .tc := ⟨.hbm, 102, rfl⟩
abbrev main_v76 : Ref sig .tc := ⟨.hbm, 103, rfl⟩
abbrev main_cst_17 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_18 : Ref sig .tc := ⟨.hbm, 116, rfl⟩
abbrev main_v88 : Ref sig .tc := ⟨.hbm, 117, rfl⟩
abbrev main_v89 : Ref sig .tc := ⟨.hbm, 118, rfl⟩
abbrev main_cst_19 : Ref sig .tc := ⟨.hbm, 119, rfl⟩
abbrev main_v90 : Ref sig .tc := ⟨.hbm, 120, rfl⟩
abbrev main_v91 : Ref sig .tc := ⟨.hbm, 121, rfl⟩
abbrev main_cst_20 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_c_21 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_22 : Ref sig .tc := ⟨.hbm, 139, rfl⟩
abbrev main_call1_v0 : Ref sig .tc := ⟨.hbm, 140, rfl⟩
abbrev main_call1_v1 : Ref sig .tc := ⟨.hbm, 141, rfl⟩
abbrev main_call1_v2 : Ref sig .tc := ⟨.hbm, 142, rfl⟩
abbrev main_v107 : Ref sig .tc := ⟨.hbm, 143, rfl⟩
abbrev main_c_23 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_24 : Ref sig .tc := ⟨.hbm, 151, rfl⟩
abbrev main_call2_v0 : Ref sig .tc := ⟨.hbm, 152, rfl⟩
abbrev main_call2_v1 : Ref sig .tc := ⟨.hbm, 153, rfl⟩
abbrev main_call2_v2 : Ref sig .tc := ⟨.hbm, 154, rfl⟩
abbrev main_v114 : Ref sig .tc := ⟨.hbm, 155, rfl⟩
abbrev main_c_25 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_cst_26 : Ref sig .tc := ⟨.hbm, 162, rfl⟩
abbrev main_call3_v0 : Ref sig .tc := ⟨.hbm, 163, rfl⟩
abbrev main_call3_v1 : Ref sig .tc := ⟨.hbm, 164, rfl⟩
abbrev main_call3_v2 : Ref sig .tc := ⟨.hbm, 165, rfl⟩
abbrev main_v120 : Ref sig .tc := ⟨.hbm, 166, rfl⟩
abbrev main_v121 : Ref sig .tc := ⟨.hbm, 167, rfl⟩
abbrev main_c_27 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_28 : Ref sig .tc := ⟨.hbm, 174, rfl⟩
abbrev main_call4_v0 : Ref sig .tc := ⟨.hbm, 175, rfl⟩
abbrev main_call4_v1 : Ref sig .tc := ⟨.hbm, 176, rfl⟩
abbrev main_call4_v2 : Ref sig .tc := ⟨.hbm, 177, rfl⟩
abbrev main_v127 : Ref sig .tc := ⟨.hbm, 178, rfl⟩
abbrev main_c_29 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_cst_30 : Ref sig .tc := ⟨.hbm, 186, rfl⟩
abbrev main_call5_v0 : Ref sig .tc := ⟨.hbm, 187, rfl⟩
abbrev main_call5_v1 : Ref sig .tc := ⟨.hbm, 188, rfl⟩
abbrev main_call5_v2 : Ref sig .tc := ⟨.hbm, 189, rfl⟩
abbrev main_v134 : Ref sig .tc := ⟨.hbm, 190, rfl⟩
abbrev main_c_31 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_cst_32 : Ref sig .tc := ⟨.hbm, 197, rfl⟩
abbrev main_call6_v0 : Ref sig .tc := ⟨.hbm, 198, rfl⟩
abbrev main_call6_v1 : Ref sig .tc := ⟨.hbm, 199, rfl⟩
abbrev main_call6_v2 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148_0 : Ref sig .tc := ⟨.hbm, 209, rfl⟩
abbrev main_v148_1 : Ref sig .tc := ⟨.hbm, 210, rfl⟩
abbrev main_v148_2 : Ref sig .tc := ⟨.hbm, 211, rfl⟩
abbrev main_v148_3 : Ref sig .tc := ⟨.hbm, 212, rfl⟩
abbrev main_v148_4 : Ref sig .tc := ⟨.hbm, 213, rfl⟩
abbrev main_v148_5 : Ref sig .tc := ⟨.hbm, 214, rfl⟩
abbrev main_v148_6 : Ref sig .tc := ⟨.hbm, 215, rfl⟩
abbrev main_v148_7 : Ref sig .tc := ⟨.hbm, 216, rfl⟩
abbrev main_v148_8 : Ref sig .tc := ⟨.hbm, 217, rfl⟩
abbrev main_v148_9 : Ref sig .tc := ⟨.hbm, 218, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_11 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_15 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_16 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_17 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1056x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x32x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x8x256x384 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== SampReferenceIdeal.lean ====
abbrev S128x4x1024 : Shape := ⟨3, ![128, 4, 1024]⟩
abbrev S1024 : Shape := ⟨1, ![1024]⟩
abbrev S1024x4384 : Shape := ⟨2, ![1024, 4384]⟩
abbrev S512 : Shape := ⟨1, ![512]⟩
abbrev S512x768 : Shape := ⟨2, ![512, 768]⟩
abbrev S256 : Shape := ⟨1, ![256]⟩
abbrev S256x8x64 : Shape := ⟨3, ![256, 8, 64]⟩
abbrev S4 : Shape := ⟨1, ![4]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x4384 : Shape := ⟨3, ![128, 4, 4384]⟩
abbrev S128x4x512 : Shape := ⟨3, ![128, 4, 512]⟩
abbrev S128x4x256 : Shape := ⟨3, ![128, 4, 256]⟩
abbrev S128x4x32 : Shape := ⟨3, ![128, 4, 32]⟩
abbrev S1x1x256 : Shape := ⟨3, ![1, 1, 256]⟩
abbrev S128x4x1x32 : Shape := ⟨4, ![128, 4, 1, 32]⟩
abbrev S16 : Shape := ⟨1, ![16]⟩
abbrev S4x1 : Shape := ⟨2, ![4, 1]⟩
abbrev S1x16 : Shape := ⟨2, ![1, 16]⟩
abbrev S4x16 : Shape := ⟨2, ![4, 16]⟩
abbrev S4x1x16 : Shape := ⟨3, ![4, 1, 16]⟩
abbrev S128x4x1x16 : Shape := ⟨4, ![128, 4, 1, 16]⟩
abbrev S1x4x1x16 : Shape := ⟨4, ![1, 4, 1, 16]⟩
abbrev S128x4x8x64 : Shape := ⟨4, ![128, 4, 8, 64]⟩
abbrev S128x4x8x16 : Shape := ⟨4, ![128, 4, 8, 16]⟩
abbrev S8 : Shape := ⟨1, ![8]⟩
abbrev S1x8 : Shape := ⟨2, ![1, 8]⟩
abbrev S4x8 : Shape := ⟨2, ![4, 8]⟩
abbrev S4x1x8 : Shape := ⟨3, ![4, 1, 8]⟩
abbrev S128x4x8x8 : Shape := ⟨4, ![128, 4, 8, 8]⟩
abbrev S1x4x1x8 : Shape := ⟨4, ![1, 4, 1, 8]⟩
abbrev S128x4x8x48 : Shape := ⟨4, ![128, 4, 8, 48]⟩
abbrev S512x256 : Shape := ⟨2, ![512, 256]⟩
abbrev S1x512x32 : Shape := ⟨3, ![1, 512, 32]⟩
abbrev S1x32x512 : Shape := ⟨3, ![1, 32, 512]⟩
abbrev S1x512x512 : Shape := ⟨3, ![1, 512, 512]⟩
abbrev S512x1024 : Shape := ⟨2, ![512, 1024]⟩

abbrev nBuf : Space → Nat
  | .hbm => 158
  | .vmem => 0
  | .smem => 0
  | _ => 0

abbrev hbmTy0_0 (i : Nat) : BufTy := match i % 128 with
  | 0 => ⟨S128x4x1024, .f32⟩
  | 1 => ⟨S1024, .f32⟩
  | 2 => ⟨S1024x4384, .f32⟩
  | 3 => ⟨S512, .f32⟩
  | 4 => ⟨S512x768, .f32⟩
  | 5 => ⟨S256, .f32⟩
  | 6 => ⟨S256x8x64, .f32⟩
  | 7 => ⟨S4, .i32⟩
  | 8 => ⟨S_, .i32⟩
  | 9 => ⟨S4, .i32⟩
  | 10 => ⟨S4, .i32⟩
  | 11 => ⟨S128x4x1024, .f32⟩
  | 12 => ⟨S_, .f32⟩
  | 13 => ⟨S128x4, .f32⟩
  | 14 => ⟨S128x4x1, .f32⟩
  | 15 => ⟨S_, .f32⟩
  | 16 => ⟨S128x4x1, .f32⟩
  | 17 => ⟨S128x4x1, .f32⟩
  | 18 => ⟨S_, .f32⟩
  | 19 => ⟨S128x4x1, .f32⟩
  | 20 => ⟨S128x4x1, .f32⟩
  | 21 => ⟨S128x4x1, .f32⟩
  | 22 => ⟨S128x4x1024, .f32⟩
  | 23 => ⟨S128x4x1024, .f32⟩
  | 24 => ⟨S1x1x1024, .f32⟩
  | 25 => ⟨S128x4x1024, .f32⟩
  | 26 => ⟨S128x4x1024, .f32⟩
  | 27 => ⟨S128x4x4384, .f32⟩
  | 28 => ⟨S128x4x512, .f32⟩
  | 29 => ⟨S128x4x256, .f32⟩
  | 30 => ⟨S128x4x32, .f32⟩
  | 31 => ⟨S128x4x512, .f32⟩
  | 32 => ⟨S128x4x512, .f32⟩
  | 33 => ⟨S128x4x512, .f32⟩
  | 34 => ⟨S128x4x1024, .f32⟩
  | 35 => ⟨S128x4x1024, .f32⟩
  | 36 => ⟨S128x4x256, .f32⟩
  | 37 => ⟨S_, .f32⟩
  | 38 => ⟨S128x4, .f32⟩
  | 39 => ⟨S128x4x1, .f32⟩
  | 40 => ⟨S_, .f32⟩
  | 41 => ⟨S128x4x1, .f32⟩
  | 42 => ⟨S128x4x1, .f32⟩
  | 43 => ⟨S_, .f32⟩
  | 44 => ⟨S128x4x1, .f32⟩
  | 45 => ⟨S128x4x1, .f32⟩
  | 46 => ⟨S128x4x1, .f32⟩
  | 47 => ⟨S128x4x256, .f32⟩
  | 48 => ⟨S128x4x256, .f32⟩
  | 49 => ⟨S1x1x256, .f32⟩
  | 50 => ⟨S128x4x256, .f32⟩
  | 51 => ⟨S128x4x256, .f32⟩
  | 52 => ⟨S128x4x1x32, .f32⟩
  | 53 => ⟨S16, .f32⟩
  | 54 => ⟨S_, .f32⟩
  | 55 => ⟨S16, .f32⟩
  | 56 => ⟨S16, .f32⟩
  | 57 => ⟨S_, .f32⟩
  | 58 => ⟨S16, .f32⟩
  | 59 => ⟨S16, .f32⟩
  | 60 => ⟨S_, .f32⟩
  | 61 => ⟨S16, .f32⟩
  | 62 => ⟨S16, .f32⟩
  | 63 => ⟨S4, .f32⟩
  | 64 => ⟨S4x1, .f32⟩
  | 65 => ⟨S1x16, .f32⟩
  | 66 => ⟨S4x16, .f32⟩
  | 67 => ⟨S4x16, .f32⟩
  | 68 => ⟨S4x16, .f32⟩
  | 69 => ⟨S4x16, .f32⟩
  | 70 => ⟨S4x1x16, .f32⟩
  | 71 => ⟨S4x16, .f32⟩
  | 72 => ⟨S4x1x16, .f32⟩
  | 73 => ⟨S128x4x1x16, .f32⟩
  | 74 => ⟨S128x4x1x16, .f32⟩
  | 75 => ⟨S1x4x1x16, .f32⟩
  | 76 => ⟨S128x4x1x16, .f32⟩
  | 77 => ⟨S128x4x1x16, .f32⟩
  | 78 => ⟨S1x4x1x16, .f32⟩
  | 79 => ⟨S128x4x1x16, .f32⟩
  | 80 => ⟨S128x4x1x16, .f32⟩
  | 81 => ⟨S128x4x1x16, .f32⟩
  | 82 => ⟨S1x4x1x16, .f32⟩
  | 83 => ⟨S128x4x1x16, .f32⟩
  | 84 => ⟨S128x4x1x16, .f32⟩
  | 85 => ⟨S1x4x1x16, .f32⟩
  | 86 => ⟨S128x4x1x16, .f32⟩
  | 87 => ⟨S128x4x1x16, .f32⟩
  | 88 => ⟨S128x4x1x16, .f32⟩
  | 89 => ⟨S128x4x1x32, .f32⟩
  | 90 => ⟨S128x4x32, .f32⟩
  | 91 => ⟨S128x4x8x64, .f32⟩
  | 92 => ⟨S128x4x8x16, .f32⟩
  | 93 => ⟨S8, .f32⟩
  | 94 => ⟨S_, .f32⟩
  | 95 => ⟨S8, .f32⟩
  | 96 => ⟨S8, .f32⟩
  | 97 => ⟨S_, .f32⟩
  | 98 => ⟨S8, .f32⟩
  | 99 => ⟨S8, .f32⟩
  | 100 => ⟨S_, .f32⟩
  | 101 => ⟨S8, .f32⟩
  | 102 => ⟨S8, .f32⟩
  | 103 => ⟨S4, .f32⟩
  | 104 => ⟨S4x1, .f32⟩
  | 105 => ⟨S1x8, .f32⟩
  | 106 => ⟨S4x8, .f32⟩
  | 107 => ⟨S4x8, .f32⟩
  | 108 => ⟨S4x8, .f32⟩
  | 109 => ⟨S4x8, .f32⟩
  | 110 => ⟨S4x1x8, .f32⟩
  | 111 => ⟨S4x8, .f32⟩
  | 112 => ⟨S4x1x8, .f32⟩
  | 113 => ⟨S128x4x8x8, .f32⟩
  | 114 => ⟨S128x4x8x8, .f32⟩
  | 115 => ⟨S1x4x1x8, .f32⟩
  | 116 => ⟨S128x4x8x8, .f32⟩
  | 117 => ⟨S128x4x8x8, .f32⟩
  | 118 => ⟨S1x4x1x8, .f32⟩
  | 119 => ⟨S128x4x8x8, .f32⟩
  | 120 => ⟨S128x4x8x8, .f32⟩
  | 121 => ⟨S128x4x8x8, .f32⟩
  | 122 => ⟨S1x4x1x8, .f32⟩
  | 123 => ⟨S128x4x8x8, .f32⟩
  | 124 => ⟨S128x4x8x8, .f32⟩
  | 125 => ⟨S1x4x1x8, .f32⟩
  | 126 => ⟨S128x4x8x8, .f32⟩
  | 127 => ⟨S128x4x8x8, .f32⟩
  | _ => ⟨S128x4x1024, .f32⟩

abbrev hbmTy0_1 (i : Nat) : BufTy := match i % 128 with
  | 0 => ⟨S128x4x8x8, .f32⟩
  | 1 => ⟨S128x4x8x16, .f32⟩
  | 2 => ⟨S128x4x8x48, .f32⟩
  | 3 => ⟨S128x4x8x64, .f32⟩
  | 4 => ⟨S128x4x8x64, .f32⟩
  | 5 => ⟨S512x256, .f32⟩
  | 6 => ⟨S1x512x32, .f32⟩
  | 7 => ⟨S1x32x512, .f32⟩
  | 8 => ⟨S1x512x512, .f32⟩
  | 9 => ⟨S1x512x512, .f32⟩
  | 10 => ⟨S1x512x512, .f32⟩
  | 11 => ⟨S1x512x512, .f32⟩
  | 12 => ⟨S128x4x1024, .f32⟩
  | 13 => ⟨S128x4x1024, .f32⟩
  | 14 => ⟨S_, .f32⟩
  | 15 => ⟨S128x4x1024, .f32⟩
  | 16 => ⟨S128x4x1024, .f32⟩
  | 17 => ⟨S_, .f32⟩
  | 18 => ⟨S128x4x1024, .f32⟩
  | 19 => ⟨S128x4x1024, .f32⟩
  | 20 => ⟨S512x1024, .f32⟩
  | 21 => ⟨S128x4x1024, .f32⟩
  | 22 => ⟨S128x4x1024, .f32⟩
  | 23 => ⟨S_, .f32⟩
  | 24 => ⟨S128x4x1024, .f32⟩
  | 25 => ⟨S128x4x1024, .f32⟩
  | 26 => ⟨S_, .f32⟩
  | 27 => ⟨S128x4x1024, .f32⟩
  | 28 => ⟨S128x4x1024, .f32⟩
  | 29 => ⟨S512x1024, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_8 : Ref sig .tc := ⟨.hbm, 94, rfl⟩
abbrev main_v77 : Ref sig .tc := ⟨.hbm, 95, rfl⟩
abbrev main_v78 : Ref sig .tc := ⟨.hbm, 96, rfl⟩
abbrev main_cst_9 : Ref sig .tc := ⟨.hbm, 97, rfl⟩
abbrev main_v79 : Ref sig .tc := ⟨.hbm, 98, rfl⟩
abbrev main_v80 : Ref sig .tc := ⟨.hbm, 99, rfl⟩
abbrev main_cst_10 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_cst_11 : Ref sig .tc := ⟨.hbm, 142, rfl⟩
abbrev main_v122 : Ref sig .tc := ⟨.hbm, 143, rfl⟩
abbrev main_v123 : Ref sig .tc := ⟨.hbm, 144, rfl⟩
abbrev main_cst_12 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_cst_13 : Ref sig .tc := ⟨.hbm, 151, rfl⟩
abbrev main_v129 : Ref sig .tc := ⟨.hbm, 152, rfl⟩
abbrev main_v130 : Ref sig .tc := ⟨.hbm, 153, rfl⟩
abbrev main_cst_14 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩

abbrev nD : Nat := 1
abbrev τ : Topo := Topo.v7x

variable {F : FTy → Type} [FloatOps F]
-- ==== Proof.Blocks.lean ====
/-
  What the kernel's windows hold at a grid point, in the arrays the program is given.
-/
module

public import proofs.«01_k».proof.Proof.Gen.KernelIdeal.Value
public import Idealize.ShloMosaic.Lib.Pipeline.ValueKit
public import Idealize.ShloMosaic.Lib.Pointwise

@[expose] public section
set_option maxRecDepth 16384
noncomputable section
namespace Cert.KernelIdeal.Value
open Cert.KernelIdeal Cert.KernelIdeal.Gen Idealize.ShloMosaic Idealize.ShloMosaic.TcCoe Idealize.SL.Sem
open Idealize.ShloMosaic.Pipeline (Dat)
variable (m : (ℓ : Loc nD τ sig) → Buf (Elt Ideal) ℓ)

theorem idx : ∀ t : Fin cfg0.N, win0_0.index t = ![t.val / 8, 0, t.val % 8, 0] ∧ win0_1.index t = ![t.val / 8, 0]
    ∧ win0_2.index t = ![t.val / 8, 0, 0, 0] ∧ win0_3.index t = ![0, 0, 0] ∧ win0_4.index t = ![t.val, 0] :=
  (by decide +kernel : ∀ t : Fin grid0.N, _)

theorem t8 (t : Fin cfg0.N) : t.val / 8 < 8 := by have := t.isLt; have : cfg0.N = 64 := N_0; omega

/-- The projection of the values: every point holds the whole of it, its axes in another order. -/
theorem blk_w (c : Dev nD) (t : Fin cfg0.N) (h : Fin 8) (v : Fin 64) (d : Fin 256) :
    (iblk m c 3 t : Vec Ideal S8x64x256 .bf16) (ix3 h v d)
      = (m ((c.tc : Thread nD τ).loc main_arg4) : FVec Ideal S256x8x64 .f32) (ix3 d h v) := by
  blk_simp [iblk, idx t]
  entry_read
  pointwise
  blk_ext [idx t]

/-- The latent values of a batch, in tiles of 256 keys, transposed. -/
theorem blk_v (c : Dev nD) (t : Fin cfg0.N) (g : Fin 8) (d r : Fin 256) :
    (iblk m c 2 t : Vec Ideal S1x8x256x256 .bf16) (ix4 0 g d r)
      = (m ((c.tc : Thread nD τ).loc main_arg2) : FVec Ideal S8x2048x256 .f32) (ix3 ⟨t.val / 8, t8 t⟩ ⟨g.val * 256 + r.val, by omega⟩ d) := by
  blk_simp [iblk, idx t]
  entry_read
  pointwise
  blk_ext [idx t]

theorem V_k (c : Dev nD) : V m c main_v7 = (truncf .bf16 (shapeCast S16384x384 (concatenate S8x2048x384 2 [⟨S8x2048x256, (m ((c.tc : Thread nD τ).loc main_arg2) : FVec Ideal S8x2048x256 .f32)⟩, ⟨S8x2048x32, (m ((c.tc : Thread nD τ).loc main_arg3) : FVec Ideal S8x2048x32 .f32)⟩, ⟨S8x2048x96, (broadcastInDim S8x2048x96 ![] bcast_S_S8x2048x96 (constant (F := Ideal) S_ .f32 0x00000000#32) : FVec Ideal S8x2048x96 .f32)⟩] concatenates_S8x2048x256_S8x2048x32_S8x2048x96_S8x2048x384_d2) shapeCasts_S8x2048x384_S16384x384) bitsLt_bf16_f32 : FVec Ideal S16384x384 .bf16) := by
  rfl

theorem V_q (c : Dev nD) : V m c main_v3 = (truncf .bf16 (transpose S8x8x2048x384 [0, 2, 1, 3] (concatenate S8x2048x8x384 3 [⟨S8x2048x8x256, (m ((c.tc : Thread nD τ).loc main_arg0) : FVec Ideal S8x2048x8x256 .f32)⟩, ⟨S8x2048x8x32, (m ((c.tc : Thread nD τ).loc main_arg1) : FVec Ideal S8x2048x8x32 .f32)⟩, ⟨S8x2048x8x96, (broadcastInDim S8x2048x8x96 ![] bcast_S_S8x2048x8x96 (constant (F := Ideal) S_ .f32 0x00000000#32) : FVec Ideal S8x2048x8x96 .f32)⟩] concatenates_S8x2048x8x256_S8x2048x8x32_S8x2048x8x96_S8x2048x8x384_d3) transposes_S8x2048x8x384_S8x8x2048x384_0_2_1_3) bitsLt_bf16_f32 : FVec Ideal S8x8x2048x384 .bf16) := by
  rfl

/-- The staged keys: the latent part, the rotary part, and 96 zero lanes. -/
theorem arr_k (c : Dev nD) (b : Fin 8) (k : Fin 2048) (d : Fin 384) :
    (V m c main_v7 : FVec Ideal S16384x384 .bf16) (ix2 ⟨b.val * 2048 + k.val, by omega⟩ d)
      = if h : d.val < 256 then (m ((c.tc : Thread nD τ).loc main_arg2) : FVec Ideal S8x2048x256 .f32) (ix3 b k ⟨d.val, h⟩)
        else if h : d.val - 256 < 32 then (m ((c.tc : Thread nD τ).loc main_arg3) : FVec Ideal S8x2048x32 .f32) (ix3 b k ⟨d.val - 256, h⟩)
        else (0 : EReal) := by
  rw [V_k]
  pointwise

/-- The staged queries: the latent part, the rotary part, and 96 zero lanes. -/
theorem arr_q (c : Dev nD) (b h : Fin 8) (q : Fin 2048) (d : Fin 384) :
    (V m c main_v3 : FVec Ideal S8x8x2048x384 .bf16) (ix4 b h q d)
      = if hd : d.val < 256 then (m ((c.tc : Thread nD τ).loc main_arg0) : FVec Ideal S8x2048x8x256 .f32) (ix4 b q h ⟨d.val, hd⟩)
        else if hd : d.val - 256 < 32 then (m ((c.tc : Thread nD τ).loc main_arg1) : FVec Ideal S8x2048x8x32 .f32) (ix4 b q h ⟨d.val - 256, hd⟩)
        else (0 : EReal) := by
  rw [V_q]
  pointwise

theorem blk_k (c : Dev nD) (t : Fin cfg0.N) (k : Fin 2048) (d : Fin 384) :
    (iblk m c 1 t : Vec Ideal S2048x384 .bf16) (ix2 k d)
      = (V m c main_v7 : FVec Ideal S16384x384 .bf16) (ix2 ⟨t.val / 8 * 2048 + k.val, by have := t8 t; omega⟩ d) := by
  blk_simp [iblk, idx t]
  blk_ext [idx t]

theorem blk_q (c : Dev nD) (t : Fin cfg0.N) (h : Fin 8) (r : Fin 256) (d : Fin 384) :
    (iblk m c 0 t : Vec Ideal S1x8x256x384 .bf16) (ix4 0 h r d)
      = (V m c main_v3 : FVec Ideal S8x8x2048x384 .bf16) (ix4 ⟨t.val / 8, t8 t⟩ h ⟨t.val % 8 * 256 + r.val, by omega⟩ d) := by
  blk_simp [iblk, idx t]
  blk_ext [idx t]

end Cert.KernelIdeal.Value
end
-- ==== Proof.LoopValue.lean ====
/-
  What the kernel's inner loop leaves in its three scratch buffers (running maximum, running sum, accumulator), as a
  recursion on the number of trips over plain values.
-/
module

public import proofs.«01_k».proof.Proof.Gen.KernelIdeal.Value
public import Idealize.ShloMosaic.Lib.Pipeline.ValueKit

@[expose] public section
set_option maxRecDepth 16384
noncomputable section
namespace Cert.KernelIdeal.Value
open Cert.KernelIdeal Cert.KernelIdeal.Gen Idealize.ShloMosaic Idealize.ShloMosaic.TcCoe Idealize.SL.Sem
variable {F : FTy → Type} [FloatOps F]

theorem zz2 : (![0, 0] : Fin 2 → Nat) = fun _ => 0 := funext fun a => by fin_cases a <;> rfl

/-- The running maximum, the running sum and the accumulator of the online softmax. -/
structure St (F : FTy → Type) where
  mx : Vec F S1x2048 .f32
  sm : Vec F S1x2048 .f32
  ac : Vec F S256x2048 .f32

/-- The state before the first key. -/
def st0 : St F := ⟨k0_pay23, k0_pay24, k0_pay25⟩

/-- One step of the loop: 512 keys `kt`, their values in two halves `c0` and `c1`. -/
def pairStep (v2 : FVec F S2048x384 .bf16) (kt : Vec F S512x384 .bf16) (c0 c1 : Vec F S1x1x256x256 .bf16) (s : St F) : St F :=
  ⟨k0_pay27 (k0_pay3 v2 kt s.mx), k0_pay6 v2 kt s.mx s.sm,
    k0_pay26 (k0_pay4 v2 kt s.mx) (k0_pay7 v2 kt s.mx) (k0_pay8 v2 kt s.mx c0) c1 s.ac⟩

/-- The step over 256 keys that an odd query tile takes after the loop. -/
def oneStep (v2 : FVec F S2048x384 .bf16) (kt : Vec F S256x384 .bf16) (c0 : Vec F S1x1x256x256 .bf16) (s : St F) : St F :=
  ⟨k0_pay32 (k0_pay17 v2 kt s.mx), k0_pay30 (k0_pay20 v2 kt s.mx s.sm) (k0_pay21 v2 kt s.mx),
    k0_pay31 (k0_pay18 v2 kt s.mx) (k0_pay19 v2 kt s.mx) c0 s.ac⟩

/-- The last step, over the 256 keys of the query tile itself, masked. -/
def diagStep (v2 : FVec F S2048x384 .bf16) (kt : Vec F S256x384 .bf16) (c0 : Vec F S1x1x256x256 .bf16) (s : St F) : St F :=
  ⟨k0_pay41 (k0_pay35 v2 k0_pay33 kt s.mx), k0_pay38 v2 k0_pay33 kt s.mx s.sm,
    k0_pay40 (k0_pay39 v2 k0_pay33 kt s.mx c0 s.ac)⟩

/-- The state after `n` trips of the loop at grid point `i`. -/
def loopSt (i : grid0.Coords) (v2 : FVec F S2048x384 .bf16) (x1 : Vec F S2048x384 .bf16) (x2 : Vec F S1x8x256x256 .bf16) : ℕ → St F
  | 0 => st0
  | n + 1 => if h : n < (k0_t1_loop i).trips then
      pairStep v2 (View.ld x1 (Rect.unit (s := S2048x384) (k0_off1 i ⟨n, h⟩) S512x384.size (k0_off1_inb i ⟨n, h⟩)))
        (View.ld x2 (Rect.unit (s := S1x8x256x256) (k0_off2 i ⟨n, h⟩ 0#32) S1x1x256x256.size (k0_off2_inb i ⟨n, h⟩ 0)))
        (View.ld x2 (Rect.unit (s := S1x8x256x256) (k0_off2 i ⟨n, h⟩ 1#32) S1x1x256x256.size (k0_off2_inb i ⟨n, h⟩ 1)))
        (loopSt i v2 x1 x2 n)
    else loopSt i v2 x1 x2 n

/-- A load of a whole two-dimensional buffer reads its contents. -/
theorem ld_unit2 {S : Shape} {e : EltTy} (X : S.Idx → Elt F e) {off : Fin S.rank → Nat} (h : off = fun _ => 0) (inb : ∀ a, off a + S.size a ≤ S.size a) :
    View.ld X (Rect.unit off S.size inb) = X := View.ld_unit_zero h inb X

section

/-- Reading a buffer after one store over the whole of it gives what was stored, whatever it held before. -/
theorem read_whole_store {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon, View.canon_cons_unit_zero h]
  intro y
  refine ⟨_, List.mem_cons_self, ?_⟩
  subst h
  show y ∈ (Rect.whole S).set
  rw [Rect.set_whole]; exact Finset.mem_univ y

variable (𝒱 : Variants) (c : Dev nD) (bd : Option 𝒱.V) (i : grid0.Coords) (arg2 : Memref sig .tc .vmem S1x8x256x384 .bf16) (harg2 : arg2.IsWhole) (arg3 : Memref sig .tc .vmem S2048x384 .bf16) (harg3 : arg3.IsWhole) (arg4 : Memref sig .tc .vmem S1x8x256x256 .bf16) (harg4 : arg4.IsWhole) (arg5 : Memref sig .tc .vmem S8x64x256 .bf16) (harg5 : arg5.IsWhole) (arg6 : Memref sig .tc .vmem S256x512 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S256x2048 .f32) (harg9 : arg9.IsWhole) (arg1 : BitVec 32) (v2 : FVec F S2048x384 .bf16) (c0_i32_16 : BitVec 32) (v32 v36 : BitVec 32) (X_arg3 : BufTy.Contents (Elt F) arg3.view.ty) (X_arg4 : BufTy.Contents (Elt F) arg4.view.ty)

/-- One trip, read off its stores. -/
theorem trip_mx (k : Fin (k0_t1_loop i).trips) (f7 : BufTy.Contents (Elt F) arg7.view.ty) (f8 : BufTy.Contents (Elt F) arg8.view.ty) (f9 : BufTy.Contents (Elt F) arg9.view.ty) (L : List (View.Piece (Elt F) S1x2048 .f32)) (g : BufTy.Contents (Elt F) arg7.view.ty) :
   arg7.view.read (Elt F) (arg7.view.writes (Elt F) g ((trip_k0_t1 (F := F) 𝒱 c bd i arg2 harg2 arg3 harg3 arg4 harg4 arg5 harg5 arg6 harg6 arg7 harg7 arg8 harg8 arg9 harg9 arg1 v2 c0_i32_16 v32 X_arg3 X_arg4 k).1 f7 f8 f9 ++ L))
   = k0_pay27 (k0_pay3 v2 (View.ld (arg3.view.read (Elt F) X_arg3) (Rect.unit (s := S2048x384) (k0_off1 i k) S512x384.size (k0_off1_inb i k))) (arg7.view.read (Elt F) f7)) := by
  unfold trip_k0_t1
  dsimp only
  sl_unfold_words
  refine (read_whole_store (S := S1x2048) _ _ zz2 _ _ L).trans ?_
  simp only [View.readAt_eq_ld]
  rw [show View.ld (arg7.view.read (Elt F) f7) (Rect.unit ![0, 0] S1x2048.size inb_S1x2048_S1x2048_0_0) = _ from ld_unit2 _ zz2 _]

theorem trip_sm (k : Fin (k0_t1_loop i).trips) (f7 : BufTy.Contents (Elt F) arg7.view.ty) (f8 : BufTy.Contents (Elt F) arg8.view.ty) (f9 : BufTy.Contents (Elt F) arg9.view.ty) (L : List (View.Piece (Elt F) S1x2048 .f32)) (g : BufTy.Contents (Elt F) arg8.view.ty) :
   arg8.view.read (Elt F) (arg8.view.writes (Elt F) g ((trip_k0_t1 (F := F) 𝒱 c bd i arg2 harg2 arg3 harg3 arg4 harg4 arg5 harg5 arg6 harg6 arg7 harg7 arg8 harg8 arg9 harg9 arg1 v2 c0_i32_16 v32 X_arg3 X_arg4 k).2.1 f7 f8 f9 ++ L))
   = k0_pay6 v2 (View.ld (arg3.view.read (Elt F) X_arg3) (Rect.unit (s := S2048x384) (k0_off1 i k) S512x384.size (k0_off1_inb i k))) (arg7.view.read (Elt F) f7) (arg8.view.read (Elt F) f8) := by
  unfold trip_k0_t1
  dsimp only
  sl_unfold_words
  refine (read_whole_store (S := S1x2048) _ _ zz2 _ _ L).trans ?_
  simp only [View.readAt_eq_ld]
  rw [show View.ld (arg7.view.read (Elt F) f7) (Rect.unit ![0, 0] S1x2048.size inb_S1x2048_S1x2048_0_0) = _ from ld_unit2 _ zz2 _]
  rw [show View.ld (arg8.view.read (Elt F) f8) (Rect.unit ![0, 0] S1x2048.size inb_S1x2048_S1x2048_0_0) = _ from ld_unit2 _ zz2 _]

theorem trip_ac (k : Fin (k0_t1_loop i).trips) (f7 : BufTy.Contents (Elt F) arg7.view.ty) (f8 : BufTy.Contents (Elt F) arg8.view.ty) (f9 : BufTy.Contents (Elt F) arg9.view.ty) (L : List (View.Piece (Elt F) S256x2048 .f32)) (g : BufTy.Contents (Elt F) arg9.view.ty) :
   arg9.view.read (Elt F) (arg9.view.writes (Elt F) g ((trip_k0_t1 (F := F) 𝒱 c bd i arg2 harg2 arg3 harg3 arg4 harg4 arg5 harg5 arg6 harg6 arg7 harg7 arg8 harg8 arg9 harg9 arg1 v2 c0_i32_16 v32 X_arg3 X_arg4 k).2.2.1 f7 f8 f9 ++ L))
   = k0_pay26 (k0_pay4 v2 (View.ld (arg3.view.read (Elt F) X_arg3) (Rect.unit (s := S2048x384) (k0_off1 i k) S512x384.size (k0_off1_inb i k))) (arg7.view.read (Elt F) f7))
      (k0_pay7 v2 (View.ld (arg3.view.read (Elt F) X_arg3) (Rect.unit (s := S2048x384) (k0_off1 i k) S512x384.size (k0_off1_inb i k))) (arg7.view.read (Elt F) f7))
      (k0_pay8 v2 (View.ld (arg3.view.read (Elt F) X_arg3) (Rect.unit (s := S2048x384) (k0_off1 i k) S512x384.size (k0_off1_inb i k))) (arg7.view.read (Elt F) f7)
        (View.ld (arg4.view.read (Elt F) X_arg4) (Rect.unit (s := S1x8x256x256) (k0_off2 i k 0#32) S1x1x256x256.size (k0_off2_inb i k 0))))
      (View.ld (arg4.view.read (Elt F) X_arg4) (Rect.unit (s := S1x8x256x256) (k0_off2 i k 1#32) S1x1x256x256.size (k0_off2_inb i k 1)))
      (arg9.view.read (Elt F) f9) := by
  unfold trip_k0_t1
  dsimp only
  sl_unfold_words
  refine (read_whole_store (S := S256x2048) _ _ zz2 _ _ L).trans ?_
  simp only [View.readAt_eq_ld]
  rw [show View.ld (arg9.view.read (Elt F) f9) (Rect.unit ![0, 0] S256x2048.size inb_S256x2048_S256x2048_0_0) = _ from ld_unit2 _ zz2 _]
  rw [show View.ld (arg7.view.read (Elt F) f7) (Rect.unit ![0, 0] S1x2048.size inb_S1x2048_S1x2048_0_0) = _ from ld_unit2 _ zz2 _]

/-- After `n` trips from buffers that read as the first state, they read as the state after `n` trips. -/
theorem pb_read (G7 : BufTy.Contents (Elt F) arg7.view.ty) (G8 : BufTy.Contents (Elt F) arg8.view.ty) (G9 : BufTy.Contents (Elt F) arg9.view.ty)
    (h7 : arg7.view.read (Elt F) G7 = (st0 (F := F)).mx) (h8 : arg8.view.read (Elt F) G8 = (st0 (F := F)).sm) (h9 : arg9.view.read (Elt F) G9 = (st0 (F := F)).ac)
    (n : ℕ) :
    arg7.view.read (Elt F) (arg7.view.writes (Elt F) G7 (pb_k0_t1 (F := F) 𝒱 c bd i arg2 harg2 arg3 harg3 arg4 harg4 arg5 harg5 arg6 harg6 arg7 harg7 arg8 harg8 arg9 harg9 arg1 v2 c0_i32_16 v32 X_arg3 X_arg4 G7 G8 G9 n).1)
      = (loopSt i v2 (arg3.view.read (Elt F) X_arg3) (arg4.view.read (Elt F) X_arg4) n).mx
    ∧ arg8.view.read (Elt F) (arg8.view.writes (Elt F) G8 (pb_k0_t1 (F := F) 𝒱 c bd i arg2 harg2 arg3 harg3 arg4 harg4 arg5 harg5 arg6 harg6 arg7 harg7 arg8 harg8 arg9 harg9 arg1 v2 c0_i32_16 v32 X_arg3 X_arg4 G7 G8 G9 n).2.1)
      = (loopSt i v2 (arg3.view.read (Elt F) X_arg3) (arg4.view.read (Elt F) X_arg4) n).sm
    ∧ arg9.view.read (Elt F) (arg9.view.writes (Elt F) G9 (pb_k0_t1 (F := F) 𝒱 c bd i arg2 harg2 arg3 harg3 arg4 harg4 arg5 harg5 arg6 harg6 arg7 harg7 arg8 harg8 arg9 harg9 arg1 v2 c0_i32_16 v32 X_arg3 X_arg4 G7 G8 G9 n).2.2)
      = (loopSt i v2 (arg3.view.read (Elt F) X_arg3) (arg4.view.read (Elt F) X_arg4) n).ac := by
  induction n with
  | zero => exact ⟨h7, h8, h9⟩
  | succ n ih =>
    obtain ⟨i7, i8, i9⟩ := ih
    by_cases hlt : n < (k0_t1_loop i).trips
    · have e := pb_k0_t1_succ (F := F) 𝒱 c bd i arg2 harg2 arg3 harg3 arg4 harg4 arg5 harg5 arg6 harg6 arg7 harg7 arg8 harg8 arg9 harg9 arg1 v2 c0_i32_16 v32 X_arg3 X_arg4 G7 G8 G9 ⟨n, hlt⟩
      dsimp only at e
      rw [e]
      simp only [loopSt, dif_pos hlt]
      refine ⟨?_, ?_, ?_⟩
      · rw [trip_mx, i7]; rfl
      · rw [trip_sm, i7, i8]; rfl
      · rw [trip_ac, i7, i9]; rfl
    · rw [pb_k0_t1.eq_2]
      unfold pb_k0_t1Step
      simp only [loopSt, dif_neg hlt]
      exact ⟨i7, i8, i9⟩

theorem trips2 (i : grid0.Coords) : (k0_t2_loop i).trips = 0 := by
  revert i; decide +kernel

/-- The remainder loop makes no trip. -/
theorem pb2_none (G7 : BufTy.Contents (Elt F) arg7.view.ty) (G8 : BufTy.Contents (Elt F) arg8.view.ty) (G9 : BufTy.Contents (Elt F) arg9.view.ty) :
    pb_k0_t2 (F := F) 𝒱 c bd i arg2 harg2 arg3 harg3 arg4 harg4 arg5 harg5 arg6 harg6 arg7 harg7 arg8 harg8 arg9 harg9 arg1 v2 c0_i32_16 v32 v36 X_arg3 X_arg4 G7 G8 G9 0 = ([], [], []) := rfl

theorem readCov_ld {S : Shape} {e : EltTy} {sp : Space} (v : View sig .tc sp S e) (L : List (View.Piece (Elt F) S e)) (r : Rect S) :
    v.readCov L r.toLoadRect = View.ld (v.read (Elt F) (v.writes (Elt F) v.junk L)) r := rfl

/-- The buffers after the fill and the whole loop. -/
theorem loop_read (h7 : BufTy.Contents (Elt F) arg7.view.ty) (h8 : BufTy.Contents (Elt F) arg8.view.ty) (h9 : BufTy.Contents (Elt F) arg9.view.ty) (n : ℕ) :
    arg7.view.read (Elt F) (arg7.view.writes (Elt F) (arg7.view.writes (Elt F) h7 [⟨Rect.unit ![0, 0] ![1, 2048] inb_S1x2048_S1x2048_0_0, k0_pay23⟩])
      (pb_k0_t1 (F := F) 𝒱 c bd i arg2 harg2 arg3 harg3 arg4 harg4 arg5 harg5 arg6 harg6 arg7 harg7 arg8 harg8 arg9 harg9 arg1 v2 c0_i32_16 v32 X_arg3 X_arg4
        (arg7.view.writes (Elt F) h7 [⟨Rect.unit ![0, 0] ![1, 2048] inb_S1x2048_S1x2048_0_0, k0_pay23⟩])
        (arg8.view.writes (Elt F) h8 [⟨Rect.unit ![0, 0] ![1, 2048] inb_S1x2048_S1x2048_0_0, k0_pay24⟩])
        (arg9.view.writes (Elt F) h9 [⟨Rect.unit ![0, 0] ![256, 2048] inb_S256x2048_S256x2048_0_0, k0_pay25⟩])
        n).1)
      = (loopSt i v2 (arg3.view.read (Elt F) X_arg3) (arg4.view.read (Elt F) X_arg4) n).mx
    ∧ arg8.view.read (Elt F) (arg8.view.writes (Elt F) (arg8.view.writes (Elt F) h8 [⟨Rect.unit ![0, 0] ![1, 2048] inb_S1x2048_S1x2048_0_0, k0_pay24⟩])
      (pb_k0_t1 (F := F) 𝒱 c bd i arg2 harg2 arg3 harg3 arg4 harg4 arg5 harg5 arg6 harg6 arg7 harg7 arg8 harg8 arg9 harg9 arg1 v2 c0_i32_16 v32 X_arg3 X_arg4
        (arg7.view.writes (Elt F) h7 [⟨Rect.unit ![0, 0] ![1, 2048] inb_S1x2048_S1x2048_0_0, k0_pay23⟩])
        (arg8.view.writes (Elt F) h8 [⟨Rect.unit ![0, 0] ![1, 2048] inb_S1x2048_S1x2048_0_0, k0_pay24⟩])
        (arg9.view.writes (Elt F) h9 [⟨Rect.unit ![0, 0] ![256, 2048] inb_S256x2048_S256x2048_0_0, k0_pay25⟩])
        n).2.1)
      = (loopSt i v2 (arg3.view.read (Elt F) X_arg3) (arg4.view.read (Elt F) X_arg4) n).sm
    ∧ arg9.view.read (Elt F) (arg9.view.writes (Elt F) (arg9.view.writes (Elt F) h9 [⟨Rect.unit ![0, 0] ![256, 2048] inb_S256x2048_S256x2048_0_0, k0_pay25⟩])
      (pb_k0_t1 (F := F) 𝒱 c bd i arg2 harg2 arg3 harg3 arg4 harg4 arg5 harg5 arg6 harg6 arg7 harg7 arg8 harg8 arg9 harg9 arg1 v2 c0_i32_16 v32 X_arg3 X_arg4
        (arg7.view.writes (Elt F) h7 [⟨Rect.unit ![0, 0] ![1, 2048] inb_S1x2048_S1x2048_0_0, k0_pay23⟩])
        (arg8.view.writes (Elt F) h8 [⟨Rect.unit ![0, 0] ![1, 2048] inb_S1x2048_S1x2048_0_0, k0_pay24⟩])
        (arg9.view.writes (Elt F) h9 [⟨Rect.unit ![0, 0] ![256, 2048] inb_S256x2048_S256x2048_0_0, k0_pay25⟩])
        n).2.2)
      = (loopSt i v2 (arg3.view.read (Elt F) X_arg3) (arg4.view.read (Elt F) X_arg4) n).ac :=
  pb_read 𝒱 c bd i arg2 harg2 arg3 harg3 arg4 harg4 arg5 harg5 arg6 harg6 arg7 harg7 arg8 harg8 arg9 harg9 arg1 v2 c0_i32_16 v32 X_arg3 X_arg4 _ _ _
    (read_whole_store (S := S1x2048) _ _ zz2 _ _ []) (read_whole_store (S := S1x2048) _ _ zz2 _ _ []) (read_whole_store (S := S256x2048) _ _ zz2 _ _ []) n

end

/-- The last matmuls and the output store: the state divided through and sent through each head's value projection. -/
def outOf (s : St F) (x3 : Vec F S8x64x256 .bf16) : FVec F S256x512 .bf16 :=
  k0_pay1 (k0_pay42 s.ac s.sm)
    (k0_pay43 s.ac s.sm (View.ld x3 (Rect.unit (s := S8x64x256) ![0, 0, 0] S1x64x256.size inb_S8x64x256_S1x64x256_0_0_0)))
    (k0_pay44 s.ac s.sm (View.ld x3 (Rect.unit (s := S8x64x256) ![1, 0, 0] S1x64x256.size inb_S8x64x256_S1x64x256_1_0_0)))
    (k0_pay45 s.ac s.sm (View.ld x3 (Rect.unit (s := S8x64x256) ![2, 0, 0] S1x64x256.size inb_S8x64x256_S1x64x256_2_0_0)))
    (k0_pay46 s.ac s.sm (View.ld x3 (Rect.unit (s := S8x64x256) ![3, 0, 0] S1x64x256.size inb_S8x64x256_S1x64x256_3_0_0)))
    (k0_pay47 s.ac s.sm (View.ld x3 (Rect.unit (s := S8x64x256) ![4, 0, 0] S1x64x256.size inb_S8x64x256_S1x64x256_4_0_0)))
    (View.ld x3 (Rect.unit (s := S8x64x256) ![5, 0, 0] S1x64x256.size inb_S8x64x256_S1x64x256_5_0_0))
    (View.ld x3 (Rect.unit (s := S8x64x256) ![6, 0, 0] S1x64x256.size inb_S8x64x256_S1x64x256_6_0_0))
    (View.ld x3 (Rect.unit (s := S8x64x256) ![7, 0, 0] S1x64x256.size inb_S8x64x256_S1x64x256_7_0_0))

theorem zz4 : (![0, 0, 0, 0] : Fin 4 → Nat) = fun _ => 0 := funext fun a => by fin_cases a <;> rfl

theorem rws1 (v : View sig .tc .vmem S1x2048 .f32) (f : v.ty.Contents (Elt F)) (w : FVec F S1x2048 .f32)
    (L : List (View.Piece (Elt F) S1x2048 .f32)) :
    v.read (Elt F) (v.writes (Elt F) f ((⟨Rect.unit ![0, 0] ![1, 2048] inb_S1x2048_S1x2048_0_0, w⟩ : View.Piece (Elt F) S1x2048 .f32) :: L)) = w :=
  read_whole_store (S := S1x2048) v f zz2 _ w L

theorem rws256 (v : View sig .tc .vmem S256x2048 .f32) (f : v.ty.Contents (Elt F)) (w : FVec F S256x2048 .f32)
    (L : List (View.Piece (Elt F) S256x2048 .f32)) :
    v.read (Elt F) (v.writes (Elt F) f ((⟨Rect.unit ![0, 0] ![256, 2048] inb_S256x2048_S256x2048_0_0, w⟩ : View.Piece (Elt F) S256x2048 .f32) :: L)) = w :=
  read_whole_store (S := S256x2048) v f zz2 _ w L

theorem ldw1 (X : Vec F S1x2048 .f32) : View.ld X (Rect.unit (s := S1x2048) ![0, 0] ![1, 2048] inb_S1x2048_S1x2048_0_0) = X :=
  ld_unit2 X zz2 _

theorem ldw256 (X : Vec F S256x2048 .f32) : View.ld X (Rect.unit (s := S256x2048) ![0, 0] ![256, 2048] inb_S256x2048_S256x2048_0_0) = X :=
  ld_unit2 X zz2 _

theorem ldw4 (X : Vec F S1x8x256x384 .bf16) : View.ld X (Rect.unit (s := S1x8x256x384) ![0, 0, 0, 0] ![1, 8, 256, 384] inb_S1x8x256x384_S1x8x256x384_0_0_0_0) = X :=
  ld_unit2 X zz4 _

end Cert.KernelIdeal.Value
end
-- ==== Proof.Softmax.lean ====
/-
  The arithmetic of the online softmax on extended reals, for one column: a running maximum, a running sum and a running
  weighted sum over the first `n` keys, one step over `T` more keys, and what the quotient at the end is.
-/
module

public import Idealize.ShloMosaic.Lib.Pointwise

@[expose] public section
noncomputable section
namespace Cert.Softmax
open Idealize.ShloMosaic

/-- The weight of a key with score `x` against the maximum `M`. -/
def wt (x : EReal) (M : ℝ) : ℝ := (Ideal.exp (x - M)).toReal

theorem exp_coe (r : ℝ) : Ideal.exp (r : EReal) = ((Real.exp r : ℝ) : EReal) := rfl
theorem exp_bot : Ideal.exp ⊥ = 0 := rfl

theorem coe_sum {ι : Type} (K : Finset ι) (f : ι → ℝ) : ((∑ k ∈ K, f k : ℝ) : EReal) = ∑ k ∈ K, (f k : EReal) := by
  classical
  induction K using Finset.induction_on with
  | empty => simp
  | insert a K h ih => rw [Finset.sum_insert h, Finset.sum_insert h, EReal.coe_add, ih]

theorem wt_bot (M : ℝ) : wt ⊥ M = 0 := by
  rw [wt, EReal.bot_sub, exp_bot, EReal.toReal_zero]

theorem wt_coe (r M : ℝ) : wt r M = Real.exp (r - M) := by
  rw [wt, ← EReal.coe_sub, exp_coe, EReal.toReal_coe]

theorem exp_sub (x : EReal) (hx : x ≠ ⊤) (M : ℝ) : Ideal.exp (x - M) = ((wt x M : ℝ) : EReal) := by
  induction x with
  | bot => rw [wt_bot, EReal.bot_sub, exp_bot, EReal.coe_zero]
  | top => exact absurd rfl hx
  | coe r => rw [wt_coe, ← EReal.coe_sub, exp_coe]

theorem wt_shift (x : EReal) (hx : x ≠ ⊤) (M M' : ℝ) : wt x M' = Real.exp (M - M') * wt x M := by
  induction x with
  | bot => rw [wt_bot, wt_bot, mul_zero]
  | top => exact absurd rfl hx
  | coe r => rw [wt_coe, wt_coe, ← Real.exp_add]; congr 1; ring

theorem wt_nonneg (x : EReal) (hx : x ≠ ⊤) (M : ℝ) : 0 ≤ wt x M := by
  induction x with
  | bot => rw [wt_bot]
  | top => exact absurd rfl hx
  | coe r => rw [wt_coe]; exact (Real.exp_pos _).le

theorem wt_pos (x : EReal) (hx : x ≠ ⊤) (hb : x ≠ ⊥) (M : ℝ) : 0 < wt x M := by
  induction x with
  | bot => exact absurd rfl hb
  | top => exact absurd rfl hx
  | coe r => rw [wt_coe]; exact Real.exp_pos _

/-- `Ideal.div` of reals, the denominator not zero. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- A fold of maxima is below `⊤` where all its terms are. -/
theorem fold_ne_top {ι : Type} (K : Finset ι) (f : ι → EReal) (hf : ∀ k, f k ≠ ⊤) : K.fold max ⊥ f ≠ ⊤ := by
  classical
  induction K using Finset.induction_on with
  | empty => simp
  | insert a K h ih =>
    rw [Finset.fold_insert h]
    rcases max_choice (f a) (K.fold max ⊥ f) with e | e <;> rw [e]
    · exact hf a
    · exact ih

theorem le_fold {ι : Type} (K : Finset ι) (f : ι → EReal) {k : ι} (hk : k ∈ K) : f k ≤ K.fold max ⊥ f := by
  rw [Finset.le_fold_max]; exact Or.inr ⟨k, hk, le_rfl⟩

/-- The maximum of a state and of scores of which one is a real number is a real number. -/
theorem max_real {ι : Type} [Fintype ι] (m : EReal) (hm : m ≠ ⊤) (f : ι → EReal) (hf : ∀ k, f k ≠ ⊤) (k : ι) (hk : f k ≠ ⊥) :
    ∃ M : ℝ, max m (Finset.univ.fold max ⊥ f) = (M : EReal) := by
  have h1 : max m (Finset.univ.fold max ⊥ f) ≠ ⊤ := by
    rcases max_choice m (Finset.univ.fold max ⊥ f) with e | e <;> rw [e]
    · exact hm
    · exact fold_ne_top _ _ hf
  have h2 : max m (Finset.univ.fold max ⊥ f) ≠ ⊥ := fun e =>
    hk (le_bot_iff.mp (e ▸ le_max_of_le_right (le_fold Finset.univ f (Finset.mem_univ k))))
  exact ⟨_, (EReal.coe_toReal h1 h2).symm⟩

/-- What the maximum, the sum and the weighted sum hold after the first `n` keys: their starting values, or the two sums
    against some real maximum. -/
def Holds (n : ℕ) (S : ℕ → EReal) (V : ℕ → ℝ) (m l a : EReal) : Prop :=
  (n = 0 ∧ m = ⊥ ∧ l = 0 ∧ a = 0) ∨
    ∃ M : ℝ, m = M ∧ l = ((∑ k ∈ Finset.range n, wt (S k) M : ℝ) : EReal)
      ∧ a = ((∑ k ∈ Finset.range n, V k * wt (S k) M : ℝ) : EReal)

/-- One step over `T` more keys, of which one is not masked. -/
theorem Holds.step {n : ℕ} (T : ℕ) {S : ℕ → EReal} {V : ℕ → ℝ} {m l a : EReal} (h : Holds n S V m l a) (hS : ∀ k, S k ≠ ⊤)
    (k₀ : Fin T) (hk₀ : S (n + k₀.val) ≠ ⊥) {m' l' a' : EReal}
    (hm : m' = max m (Finset.univ.fold max ⊥ fun x : Fin T => S (n + x.val)))
    (hl : l' = Ideal.exp (m - m') * l + ∑ x : Fin T, Ideal.exp (S (n + x.val) - m'))
    (ha : a' = Ideal.exp (m - m') * a + ∑ x : Fin T, (V (n + x.val) : EReal) * Ideal.exp (S (n + x.val) - m')) :
    Holds (n + T) S V m' l' a' := by
  have hmt : m ≠ ⊤ := by
    rcases h with ⟨_, e, _⟩ | ⟨M, e, _⟩ <;> rw [e]
    · exact bot_ne_top
    · exact EReal.coe_ne_top M
  obtain ⟨M', hM'⟩ := max_real m hmt (fun x : Fin T => S (n + x.val)) (fun x => hS _) k₀ hk₀
  rw [hM'] at hm
  subst hm
  refine Or.inr ⟨M', rfl, ?_, ?_⟩
  · rw [hl, Finset.sum_range_add, Finset.sum_range (fun x => wt (S (n + x)) M'), EReal.coe_add, coe_sum Finset.univ]
    congr 1
    · rcases h with ⟨e0, e, el, _⟩ | ⟨M, e, el, _⟩
      · subst e0; rw [el, mul_zero, Finset.range_zero, Finset.sum_empty, EReal.coe_zero]
      · rw [e, el, exp_sub _ (EReal.coe_ne_top M), ← EReal.coe_mul, wt_coe, Finset.mul_sum]
        exact congrArg _ (Finset.sum_congr rfl fun k _ => (wt_shift _ (hS k) M M').symm)
    · exact Finset.sum_congr rfl fun x _ => exp_sub _ (hS _) M'
  · rw [ha, Finset.sum_range_add, Finset.sum_range (fun x => V (n + x) * wt (S (n + x)) M'), EReal.coe_add, coe_sum Finset.univ]
    congr 1
    · rcases h with ⟨e0, e, _, el⟩ | ⟨M, e, _, el⟩
      · subst e0; rw [el, mul_zero, Finset.range_zero, Finset.sum_empty, EReal.coe_zero]
      · rw [e, el, exp_sub _ (EReal.coe_ne_top M), ← EReal.coe_mul, wt_coe, Finset.mul_sum]
        exact congrArg _ (Finset.sum_congr rfl fun k _ => by rw [wt_shift _ (hS k) M M']; ring)
    · exact Finset.sum_congr rfl fun x _ => by rw [exp_sub _ (hS _) M', EReal.coe_mul]

/-- The quotient at the end is the softmax-weighted sum over all `N` keys, where those past the first `n` are masked. -/
theorem Holds.final {n N : ℕ} {S : ℕ → EReal} {V : ℕ → ℝ} {m l a : EReal} (h : Holds n S V m l a) (hS : ∀ k, S k ≠ ⊤)
    (hnN : n ≤ N) (hmask : ∀ k, n ≤ k → S k = ⊥) (k₀ : ℕ) (hk₀n : k₀ < n) (hk₀ : S k₀ ≠ ⊥) {M : EReal}
    (hM : M = max ⊥ (Finset.univ.fold max ⊥ fun x : Fin N => S x.val)) :
    Ideal.div a l = ∑ k : Fin N, (V k.val : EReal) *
      Ideal.div (Ideal.exp (S k.val - M)) (∑ x : Fin N, Ideal.exp (S x.val - M)) := by
  obtain ⟨M', hM'⟩ := max_real ⊥ bot_ne_top (fun x : Fin N => S x.val) (fun x => hS _) ⟨k₀, by omega⟩ hk₀
  rw [hM'] at hM
  subst hM
  rcases h with ⟨e0, _⟩ | ⟨M, e, el, ea⟩
  · omega
  have pos : ∀ (r : ℝ), 0 < ∑ k ∈ Finset.range n, wt (S k) r := fun r =>
    Finset.sum_pos' (fun k _ => wt_nonneg _ (hS k) r) ⟨k₀, Finset.mem_range.mpr hk₀n, wt_pos _ (hS _) hk₀ r⟩
  have cut : ∀ (f : ℕ → ℝ), (∀ k, n ≤ k → f k = 0) → ∑ k : Fin N, f k.val = ∑ k ∈ Finset.range n, f k := fun f hf => by
    rw [← Finset.sum_range f]
    exact (Finset.sum_subset (Finset.range_mono hnN) fun k _ hk => hf k (by simpa using hk)).symm
  have z : ∀ k, n ≤ k → wt (S k) M' = 0 := fun k hk => by rw [hmask k hk, wt_bot]
  have hL : ∑ x : Fin N, Ideal.exp (S x.val - M') = ((∑ k ∈ Finset.range n, wt (S k) M' : ℝ) : EReal) := by
    rw [← cut (fun k => wt (S k) M') z, coe_sum]
    exact Finset.sum_congr rfl fun x _ => exp_sub _ (hS _) M'
  rw [hL, ea, el, div_coe _ _ (pos M).ne']
  have : ∑ k : Fin N, (V k.val : EReal) * Ideal.div (Ideal.exp (S k.val - M')) ((∑ k ∈ Finset.range n, wt (S k) M' : ℝ) : EReal)
      = ((∑ k ∈ Finset.range n, V k * (wt (S k) M' / ∑ k ∈ Finset.range n, wt (S k) M') : ℝ) : EReal) := by
    rw [← cut (fun k => V k * (wt (S k) M' / ∑ k ∈ Finset.range n, wt (S k) M')) (fun k hk => by rw [z k hk, zero_div, mul_zero]),
      coe_sum Finset.univ]
    exact Finset.sum_congr rfl fun x _ => by rw [exp_sub _ (hS _) M', div_coe _ _ (pos M').ne', EReal.coe_mul]
  rw [this]
  refine congrArg _ ?_
  have e1 : ∑ k ∈ Finset.range n, wt (S k) M' = Real.exp (M - M') * ∑ k ∈ Finset.range n, wt (S k) M := by
    rw [Finset.mul_sum]; exact Finset.sum_congr rfl fun k _ => wt_shift _ (hS k) M M'
  have e2 : ∑ k ∈ Finset.range n, V k * (wt (S k) M' / ∑ k ∈ Finset.range n, wt (S k) M')
      = (∑ k ∈ Finset.range n, V k * wt (S k) M') / ∑ k ∈ Finset.range n, wt (S k) M' := by
    rw [Finset.sum_div]; exact Finset.sum_congr rfl fun k _ => by rw [mul_div_assoc]
  have e3 : ∑ k ∈ Finset.range n, V k * wt (S k) M' = Real.exp (M - M') * ∑ k ∈ Finset.range n, V k * wt (S k) M := by
    rw [Finset.mul_sum]; exact Finset.sum_congr rfl fun k _ => by rw [wt_shift _ (hS k) M M']; ring
  rw [e2, e3, e1, mul_div_mul_left _ _ (Real.exp_pos _).ne']

end Cert.Softmax
end
-- ==== Proof.Steps.lean ====
/-
  The three steps of the kernel on extended reals, read in one column and one channel: each is a step of the online softmax.
-/
module

public import proofs.«01_k».proof.Proof.LoopValue
public import proofs.«01_k».proof.Proof.Softmax

@[expose] public section
set_option maxRecDepth 16384
noncomputable section
namespace Cert.KernelIdeal.Value
open Cert.KernelIdeal Cert.KernelIdeal.Gen Idealize.ShloMosaic Idealize.ShloMosaic.TcCoe Idealize.SL.Sem Cert.Softmax

theorem neg_inf : Ideal.ofBits .f32 0xFF800000#32 = ⊥ := by simp [Ideal.ofBits, Ideal.ieee]

/-- The factor of the scores is a real number. -/
theorem scale_real : ∃ r : ℝ, Ideal.ofBits .f32 0x3DD105EC#32 = (r : EReal) := by
  simp only [Ideal.ofBits, Ideal.ieee]
  rw [if_neg (by decide), if_neg (by decide)]
  exact ⟨_, rfl⟩

section Pair
variable (v2 : FVec Ideal S2048x384 .bf16) (kt : Vec Ideal S512x384 .bf16) (m l : Vec Ideal S1x2048 .f32) (a : Vec Ideal S256x2048 .f32)
  (c0 c1 : Vec Ideal S1x1x256x256 .bf16) (j : Fin 2048)

theorem pair_score (x : Fin 512) : k0_pay2 v2 kt (ix2 x j)
    = (∑ d : Fin 384, kt (ix2 x d) * v2 (ix2 j d)) * Ideal.ofBits .f32 0x3DD105EC#32 := by
  pointwise [k0_pay2]

theorem pair_max : k0_pay3 v2 kt m (ix2 0 j)
    = max (m (ix2 0 j)) (Finset.univ.fold max ⊥ fun x : Fin 512 => k0_pay2 v2 kt (ix2 x j)) := by
  rw [← neg_inf]
  pointwise [k0_pay3]

theorem pair_alpha : k0_pay4 v2 kt m (ix2 0 j) = Ideal.exp (m (ix2 0 j) - k0_pay3 v2 kt m (ix2 0 j)) := by
  pointwise [k0_pay4]

theorem pair_p (x : Fin 512) : k0_pay5 v2 kt m (ix2 x j) = Ideal.exp (k0_pay2 v2 kt (ix2 x j) - k0_pay3 v2 kt m (ix2 0 j)) := by
  pointwise [k0_pay5]

theorem pair_sm : k0_pay6 v2 kt m l (ix2 0 j)
    = k0_pay4 v2 kt m (ix2 0 j) * l (ix2 0 j) + ∑ x : Fin 512, k0_pay5 v2 kt m (ix2 x j) := by
  pointwise [k0_pay6]

theorem pair_ac (c : Fin 256) : k0_pay26 (k0_pay4 v2 kt m) (k0_pay7 v2 kt m) (k0_pay8 v2 kt m c0) c1 a (ix2 c j)
    = k0_pay4 v2 kt m (ix2 0 j) * a (ix2 c j)
      + (∑ x : Fin 256, c0 (ix4 0 0 c x) * k0_pay5 v2 kt m (ix2 ⟨x.val, by omega⟩ j)
        + ∑ x : Fin 256, c1 (ix4 0 0 c x) * k0_pay5 v2 kt m (ix2 ⟨256 + x.val, by omega⟩ j)) := by
  pointwise [k0_pay26, k0_pay8, k0_pay7]

theorem pair_mx : k0_pay27 (k0_pay3 v2 kt m) = k0_pay3 v2 kt m := by
  unfold k0_pay27; exact shapeCast_self _ _

end Pair

/-- The step over two key tiles is a step of the online softmax over 512 keys. -/
theorem pairStep_holds {v2 : FVec Ideal S2048x384 .bf16} {kt : Vec Ideal S512x384 .bf16} {c0 c1 : Vec Ideal S1x1x256x256 .bf16}
    {s : St Ideal} {j : Fin 2048} {c : Fin 256} {n : ℕ} {S : ℕ → EReal} {V : ℕ → ℝ}
    (h : Holds n S V (s.mx (ix2 0 j)) (s.sm (ix2 0 j)) (s.ac (ix2 c j))) (hS : ∀ k, S k ≠ ⊤)
    (hb : S n ≠ ⊥)
    (hs : ∀ x : Fin 512, (∑ d : Fin 384, kt (ix2 x d) * v2 (ix2 j d)) * Ideal.ofBits .f32 0x3DD105EC#32 = S (n + x.val))
    (h0 : ∀ x : Fin 256, c0 (ix4 0 0 c x) = ((V (n + x.val) : ℝ) : EReal))
    (h1 : ∀ x : Fin 256, c1 (ix4 0 0 c x) = ((V (n + (256 + x.val)) : ℝ) : EReal)) :
    Holds (n + 512) S V ((pairStep v2 kt c0 c1 s).mx (ix2 0 j)) ((pairStep v2 kt c0 c1 s).sm (ix2 0 j))
      ((pairStep v2 kt c0 c1 s).ac (ix2 c j)) := by
  have e : ∀ x : Fin 512, k0_pay2 v2 kt (ix2 x j) = S (n + x.val) := fun x => (pair_score v2 kt j x).trans (hs x)
  have em : (pairStep v2 kt c0 c1 s).mx (ix2 0 j) = k0_pay3 v2 kt s.mx (ix2 0 j) := by
    show k0_pay27 (k0_pay3 v2 kt s.mx) (ix2 0 j) = _
    rw [pair_mx]
  have ep : ∀ x : Fin 512, k0_pay5 v2 kt s.mx (ix2 x j) = Ideal.exp (S (n + x.val) - (pairStep v2 kt c0 c1 s).mx (ix2 0 j)) :=
    fun x => by rw [em, ← e x]; exact pair_p v2 kt s.mx j x
  refine Holds.step 512 h hS (0 : Fin 512) hb ?_ ?_ ?_
  · rw [em]
    refine (pair_max v2 kt s.mx j).trans ?_
    simp only [e]
  · refine (pair_sm v2 kt s.mx s.sm j).trans ?_
    simp only [ep]
    rw [em, pair_alpha]
  · refine (pair_ac v2 kt s.mx s.ac c0 c1 j c).trans ?_
    simp only [ep, h0, h1]
    rw [em, pair_alpha]
    refine congrArg _ ?_
    exact (Fin.sum_univ_two_halves 256 256 rfl
      (fun x : Fin 512 => (V (n + x.val) : EReal) * Ideal.exp (S (n + x.val) - k0_pay3 v2 kt s.mx (ix2 0 j)))).symm

section One
variable (v2 : FVec Ideal S2048x384 .bf16) (kt : Vec Ideal S256x384 .bf16) (m l : Vec Ideal S1x2048 .f32) (a : Vec Ideal S256x2048 .f32)
  (c0 : Vec Ideal S1x1x256x256 .bf16) (j : Fin 2048)

theorem one_score (x : Fin 256) : k0_pay16 v2 kt (ix2 x j)
    = (∑ d : Fin 384, kt (ix2 x d) * v2 (ix2 j d)) * Ideal.ofBits .f32 0x3DD105EC#32 := by
  pointwise [k0_pay16]

theorem one_max : k0_pay17 v2 kt m (ix2 0 j)
    = max (m (ix2 0 j)) (Finset.univ.fold max ⊥ fun x : Fin 256 => k0_pay16 v2 kt (ix2 x j)) := by
  rw [← neg_inf]
  pointwise [k0_pay17]

theorem one_alpha : k0_pay18 v2 kt m (ix2 0 j) = Ideal.exp (m (ix2 0 j) - k0_pay17 v2 kt m (ix2 0 j)) := by
  pointwise [k0_pay18]

theorem one_p (x : Fin 256) : k0_pay19 v2 kt m (ix2 x j) = Ideal.exp (k0_pay16 v2 kt (ix2 x j) - k0_pay17 v2 kt m (ix2 0 j)) := by
  pointwise [k0_pay19]

theorem one_sm : k0_pay30 (k0_pay20 v2 kt m l) (k0_pay21 v2 kt m) (ix2 0 j)
    = k0_pay18 v2 kt m (ix2 0 j) * l (ix2 0 j) + ∑ x : Fin 256, k0_pay19 v2 kt m (ix2 x j) := by
  pointwise [k0_pay30, k0_pay20, k0_pay21]

theorem one_ac (c : Fin 256) : k0_pay31 (k0_pay18 v2 kt m) (k0_pay19 v2 kt m) c0 a (ix2 c j)
    = k0_pay18 v2 kt m (ix2 0 j) * a (ix2 c j) + ∑ x : Fin 256, c0 (ix4 0 0 c x) * k0_pay19 v2 kt m (ix2 x j) := by
  pointwise [k0_pay31]

theorem one_mx : k0_pay32 (k0_pay17 v2 kt m) = k0_pay17 v2 kt m := by
  unfold k0_pay32; exact shapeCast_self _ _

end One

/-- The step over one key tile is a step of the online softmax over 256 keys. -/
theorem oneStep_holds {v2 : FVec Ideal S2048x384 .bf16} {kt : Vec Ideal S256x384 .bf16} {c0 : Vec Ideal S1x1x256x256 .bf16}
    {s : St Ideal} {j : Fin 2048} {c : Fin 256} {n : ℕ} {S : ℕ → EReal} {V : ℕ → ℝ}
    (h : Holds n S V (s.mx (ix2 0 j)) (s.sm (ix2 0 j)) (s.ac (ix2 c j))) (hS : ∀ k, S k ≠ ⊤)
    (hb : S n ≠ ⊥)
    (hs : ∀ x : Fin 256, (∑ d : Fin 384, kt (ix2 x d) * v2 (ix2 j d)) * Ideal.ofBits .f32 0x3DD105EC#32 = S (n + x.val))
    (h0 : ∀ x : Fin 256, c0 (ix4 0 0 c x) = ((V (n + x.val) : ℝ) : EReal)) :
    Holds (n + 256) S V ((oneStep v2 kt c0 s).mx (ix2 0 j)) ((oneStep v2 kt c0 s).sm (ix2 0 j))
      ((oneStep v2 kt c0 s).ac (ix2 c j)) := by
  have e : ∀ x : Fin 256, k0_pay16 v2 kt (ix2 x j) = S (n + x.val) := fun x => (one_score v2 kt j x).trans (hs x)
  have em : (oneStep v2 kt c0 s).mx (ix2 0 j) = k0_pay17 v2 kt s.mx (ix2 0 j) := by
    show k0_pay32 (k0_pay17 v2 kt s.mx) (ix2 0 j) = _
    rw [one_mx]
  have ep : ∀ x : Fin 256, k0_pay19 v2 kt s.mx (ix2 x j) = Ideal.exp (S (n + x.val) - (oneStep v2 kt c0 s).mx (ix2 0 j)) :=
    fun x => by rw [em, ← e x]; exact one_p v2 kt s.mx j x
  refine Holds.step 256 h hS (0 : Fin 256) hb ?_ ?_ ?_
  · rw [em]
    refine (one_max v2 kt s.mx j).trans ?_
    simp only [e]
  · refine (one_sm v2 kt s.mx s.sm j).trans ?_
    simp only [ep]
    rw [em, one_alpha]
  · refine (one_ac v2 kt s.mx s.ac c0 j c).trans ?_
    simp only [ep, h0]
    rw [em, one_alpha]

section Diag
variable (v2 : FVec Ideal S2048x384 .bf16) (mask : IVec S256x2048 1) (kt : Vec Ideal S256x384 .bf16) (m l : Vec Ideal S1x2048 .f32)
  (a : Vec Ideal S256x2048 .f32) (c0 : Vec Ideal S1x1x256x256 .bf16) (j : Fin 2048)

theorem diag_score (x : Fin 256) : k0_pay34 v2 mask kt (ix2 x j)
    = Scalar.select (mask (ix2 x j)) ((∑ d : Fin 384, kt (ix2 x d) * v2 (ix2 j d)) * Ideal.ofBits .f32 0x3DD105EC#32) (⊥ : EReal) := by
  rw [← neg_inf]
  pointwise [k0_pay34]

theorem diag_max : k0_pay35 v2 mask kt m (ix2 0 j)
    = max (m (ix2 0 j)) (Finset.univ.fold max ⊥ fun x : Fin 256 => k0_pay34 v2 mask kt (ix2 x j)) := by
  rw [← neg_inf]
  pointwise [k0_pay35]

theorem diag_alpha : k0_pay36 v2 mask kt m (ix2 0 j) = Ideal.exp (m (ix2 0 j) - k0_pay35 v2 mask kt m (ix2 0 j)) := by
  pointwise [k0_pay36]

theorem diag_p (x : Fin 256) : k0_pay37 v2 mask kt m (ix2 x j)
    = Ideal.exp (k0_pay34 v2 mask kt (ix2 x j) - k0_pay35 v2 mask kt m (ix2 0 j)) := by
  pointwise [k0_pay37]

theorem diag_sm : k0_pay38 v2 mask kt m l (ix2 0 j)
    = k0_pay36 v2 mask kt m (ix2 0 j) * l (ix2 0 j) + ∑ x : Fin 256, k0_pay37 v2 mask kt m (ix2 x j) := by
  pointwise [k0_pay38]

theorem diag_ac (c : Fin 256) : k0_pay40 (k0_pay39 v2 mask kt m c0 a) (ix2 c j)
    = k0_pay36 v2 mask kt m (ix2 0 j) * a (ix2 c j) + ∑ x : Fin 256, c0 (ix4 0 0 c x) * k0_pay37 v2 mask kt m (ix2 x j) := by
  pointwise [k0_pay40, k0_pay39]

theorem diag_mx : k0_pay41 (k0_pay35 v2 mask kt m) = k0_pay35 v2 mask kt m := by
  unfold k0_pay41; exact shapeCast_self _ _

end Diag

/-- The mask of the query tile's own keys: a key counts when it is not after the column's query. -/
theorem mask_apply (x : Fin 256) (j : Fin 2048) : k0_pay33 (ix2 x j) = BitVec.ofBool (decide (x.val ≤ j.val % 256)) := by
  pointwise [k0_pay33]
  have h1 : ∀ j : Fin 2048, (Scalar.select
        (IntOp.andi
          (IntOp.xori
            (IntOp.cmpi CmpIPredicate.slt
              (IntOp.remsi ArithUnit.vector (BitVec.ofNat 32 ↑j)
                (Scalar.select (Scalar.cmpi CmpIPredicate.eq 256#32 0#32) 1#32 256#32))
              0#32)
            (Scalar.cmpi CmpIPredicate.slt (Scalar.select (Scalar.cmpi CmpIPredicate.eq 256#32 0#32) 1#32 256#32) 0#32))
          (IntOp.cmpi CmpIPredicate.ne
            (IntOp.remsi ArithUnit.vector (BitVec.ofNat 32 ↑j)
              (Scalar.select (Scalar.cmpi CmpIPredicate.eq 256#32 0#32) 1#32 256#32))
            0#32))
        (IntOp.addi
          (IntOp.remsi ArithUnit.vector (BitVec.ofNat 32 ↑j)
            (Scalar.select (Scalar.cmpi CmpIPredicate.eq 256#32 0#32) 1#32 256#32))
          (Scalar.select (Scalar.cmpi CmpIPredicate.eq 256#32 0#32) 1#32 256#32))
        (IntOp.remsi ArithUnit.vector (BitVec.ofNat 32 ↑j)
          (Scalar.select (Scalar.cmpi CmpIPredicate.eq 256#32 0#32) 1#32 256#32))) = BitVec.ofNat 32 (j.val % 256) := by
    decide +kernel
  rw [h1]
  have h2 : ∀ x y : Fin 256, IntOp.cmpi CmpIPredicate.sle (BitVec.ofNat 32 x.val) (BitVec.ofNat 32 y.val) = BitVec.ofBool (decide (x.val ≤ y.val)) := by
    decide +kernel
  exact h2 x ⟨j.val % 256, Nat.mod_lt _ (by norm_num)⟩

/-- The masked step is a step of the online softmax over 256 keys, the masked scores being `⊥`. -/
theorem diagStep_holds {v2 : FVec Ideal S2048x384 .bf16} {kt : Vec Ideal S256x384 .bf16} {c0 : Vec Ideal S1x1x256x256 .bf16}
    {s : St Ideal} {j : Fin 2048} {c : Fin 256} {n : ℕ} {S : ℕ → EReal} {V : ℕ → ℝ}
    (h : Holds n S V (s.mx (ix2 0 j)) (s.sm (ix2 0 j)) (s.ac (ix2 c j))) (hS : ∀ k, S k ≠ ⊤)
    (hb : S n ≠ ⊥)
    (hs : ∀ x : Fin 256, x.val ≤ j.val % 256 →
      (∑ d : Fin 384, kt (ix2 x d) * v2 (ix2 j d)) * Ideal.ofBits .f32 0x3DD105EC#32 = S (n + x.val))
    (hm : ∀ x : Fin 256, j.val % 256 < x.val → S (n + x.val) = ⊥)
    (h0 : ∀ x : Fin 256, c0 (ix4 0 0 c x) = ((V (n + x.val) : ℝ) : EReal)) :
    Holds (n + 256) S V ((diagStep v2 kt c0 s).mx (ix2 0 j)) ((diagStep v2 kt c0 s).sm (ix2 0 j))
      ((diagStep v2 kt c0 s).ac (ix2 c j)) := by
  have e : ∀ x : Fin 256, k0_pay34 v2 k0_pay33 kt (ix2 x j) = S (n + x.val) := fun x => by
    refine (diag_score v2 k0_pay33 kt j x).trans ?_
    rw [mask_apply]
    by_cases hx : x.val ≤ j.val % 256
    · rw [decide_eq_true hx, ← hs x hx]; rfl
    · rw [decide_eq_false hx, hm x (by omega)]; rfl
  have em : (diagStep v2 kt c0 s).mx (ix2 0 j) = k0_pay35 v2 k0_pay33 kt s.mx (ix2 0 j) := by
    show k0_pay41 (k0_pay35 v2 k0_pay33 kt s.mx) (ix2 0 j) = _
    rw [diag_mx]
  have ep : ∀ x : Fin 256, k0_pay37 v2 k0_pay33 kt s.mx (ix2 x j) = Ideal.exp (S (n + x.val) - (diagStep v2 kt c0 s).mx (ix2 0 j)) :=
    fun x => by rw [em, ← e x]; exact diag_p v2 k0_pay33 kt s.mx j x
  refine Holds.step 256 h hS (0 : Fin 256) hb ?_ ?_ ?_
  · rw [em]
    refine (diag_max v2 k0_pay33 kt s.mx j).trans ?_
    simp only [e]
  · refine (diag_sm v2 k0_pay33 kt s.mx s.sm j).trans ?_
    simp only [ep]
    rw [em, diag_alpha]
  · refine (diag_ac v2 k0_pay33 kt s.mx s.ac c0 j c).trans ?_
    simp only [ep, h0]
    rw [em, diag_alpha]

theorem st0_mx (j : Fin 2048) : (st0 (F := Ideal)).mx (ix2 0 j) = (⊥ : EReal) := by
  rw [← neg_inf]
  show k0_pay23 (F := Ideal) (ix2 0 j) = _
  pointwise [k0_pay23]

theorem st0_sm (j : Fin 2048) : (st0 (F := Ideal)).sm (ix2 0 j) = (0 : EReal) := by
  show k0_pay24 (F := Ideal) (ix2 0 j) = _
  pointwise [k0_pay24]

theorem st0_ac (c : Fin 256) (j : Fin 2048) : (st0 (F := Ideal)).ac (ix2 c j) = (0 : EReal) := by
  show k0_pay25 (F := Ideal) (ix2 c j) = _
  pointwise [k0_pay25]

end Cert.KernelIdeal.Value
end
-- ==== Proof.Scan.lean ====
/-
  The kernel's keys at a grid point, tile after tile: the loop, the odd tile, the tile of the queries themselves.
-/
module

public import proofs.«01_k».proof.Proof.Steps

@[expose] public section
set_option maxRecDepth 16384
noncomputable section
namespace Cert.KernelIdeal.Value
open Cert.KernelIdeal Cert.KernelIdeal.Gen Idealize.ShloMosaic Idealize.ShloMosaic.TcCoe Idealize.SL.Sem Cert.Softmax

theorem trips_eq : ∀ t : Fin grid0.N, (k0_t1_loop (grid0.coords t)).trips = t.val % 8 / 2 := by decide +kernel

theorem off1_eq : ∀ t : Fin grid0.N, ∀ k : Fin (k0_t1_loop (grid0.coords t)).trips,
    k0_off1 (grid0.coords t) k = ![512 * k.val, 0] := by decide +kernel

theorem off2_eq : ∀ t : Fin grid0.N, ∀ k : Fin (k0_t1_loop (grid0.coords t)).trips,
    k0_off2 (grid0.coords t) k 0#32 = ![0, 2 * k.val, 0, 0] ∧ k0_off2 (grid0.coords t) k 1#32 = ![0, 2 * k.val + 1, 0, 0] := by
  decide +kernel

theorem off5_eq : ∀ t : Fin grid0.N, k0_off5 (grid0.coords t) = ![512 * (t.val % 8 / 2), 0] := by decide +kernel

theorem off6_eq : ∀ t : Fin grid0.N, k0_off6 (grid0.coords t) = ![0, 2 * (t.val % 8 / 2), 0, 0] := by decide +kernel

theorem off7_eq : ∀ t : Fin grid0.N, k0_off7 (grid0.coords t) = ![256 * (t.val % 8), 0] := by decide +kernel

theorem off8_eq : ∀ t : Fin grid0.N, k0_off8 (grid0.coords t) = ![0, t.val % 8, 0, 0] := by decide +kernel

/-- A load of 512 keys. -/
theorem ld_k512 (x1 : Vec Ideal S2048x384 .bf16) {off : Fin 2 → ℕ} {a : ℕ} (h : off = ![a, 0])
    (inb : ∀ b, off b + S512x384.size b ≤ S2048x384.size b) (x : Fin 512) (d : Fin 384) (hx : a + x.val < 2048) :
    View.ld x1 (Rect.unit (s := S2048x384) off S512x384.size inb) (ix2 x d) = x1 (ix2 ⟨a + x.val, hx⟩ d) := by
  subst h
  pointwise

/-- A load of 256 keys. -/
theorem ld_k256 (x1 : Vec Ideal S2048x384 .bf16) {off : Fin 2 → ℕ} {a : ℕ} (h : off = ![a, 0])
    (inb : ∀ b, off b + S256x384.size b ≤ S2048x384.size b) (x : Fin 256) (d : Fin 384) (hx : a + x.val < 2048) :
    View.ld x1 (Rect.unit (s := S2048x384) off S256x384.size inb) (ix2 x d) = x1 (ix2 ⟨a + x.val, hx⟩ d) := by
  subst h
  pointwise

/-- A load of the values of 256 keys. -/
theorem ld_v256 (x2 : Vec Ideal S1x8x256x256 .bf16) {off : Fin 4 → ℕ} {a : ℕ} (h : off = ![0, a, 0, 0])
    (inb : ∀ b, off b + S1x1x256x256.size b ≤ S1x8x256x256.size b) (c x : Fin 256) (ha : a < 8) :
    View.ld x2 (Rect.unit (s := S1x8x256x256) off S1x1x256x256.size inb) (ix4 0 0 c x) = x2 (ix4 0 ⟨a, ha⟩ c x) := by
  subst h
  pointwise

theorem tN (t : Fin grid0.N) : t.val < 64 := by have := t.isLt; have : grid0.N = 64 := by decide +kernel
                                                omega

section
variable (t : Fin grid0.N) (v2 : FVec Ideal S2048x384 .bf16) (x1 : Vec Ideal S2048x384 .bf16) (x2 : Vec Ideal S1x8x256x256 .bf16)
  (j : Fin 2048) (c : Fin 256) (S : ℕ → EReal) (V : ℕ → ℝ)

/-- The scores `S` and the values `V` of a column are what the kernel's blocks hold: real up to the query, `⊥` after it. -/
structure Reads : Prop where
  top : ∀ k, S k ≠ ⊤
  bot : ∀ k, k ≤ 256 * (t.val % 8) + j.val % 256 → S k ≠ ⊥
  mask : ∀ k, 256 * (t.val % 8) + j.val % 256 < k → S k = ⊥
  score : ∀ k : Fin 2048, k.val ≤ 256 * (t.val % 8) + j.val % 256 →
    (∑ d : Fin 384, x1 (ix2 k d) * v2 (ix2 j d)) * Ideal.ofBits .f32 0x3DD105EC#32 = S k.val
  val : ∀ g : Fin 8, ∀ r : Fin 256, x2 (ix4 0 g c r) = ((V (256 * g.val + r.val) : ℝ) : EReal)

variable {t v2 x1 x2 j c S V}

theorem loop_holds (R : Reads t v2 x1 x2 j c S V) : ∀ n : ℕ, n ≤ t.val % 8 / 2 →
    Holds (512 * n) S V ((loopSt (grid0.coords t) v2 x1 x2 n).mx (ix2 0 j)) ((loopSt (grid0.coords t) v2 x1 x2 n).sm (ix2 0 j))
      ((loopSt (grid0.coords t) v2 x1 x2 n).ac (ix2 c j))
  | 0, _ => Or.inl ⟨rfl, st0_mx j, st0_sm j, st0_ac c j⟩
  | n + 1, hn => by
    have ih := loop_holds R n (by omega)
    have ht := trips_eq t
    have h : n < (k0_t1_loop (grid0.coords t)).trips := by omega
    rw [loopSt, dif_pos h, show 512 * (n + 1) = 512 * n + 512 by omega]
    refine pairStep_holds ih R.top (R.bot _ (by omega)) (fun x => ?_) (fun x => ?_) (fun x => ?_)
    · have hx : 512 * n + x.val < 2048 := by omega
      rw [← R.score ⟨512 * n + x.val, hx⟩ (by show 512 * n + x.val ≤ _; omega)]
      refine congrArg (· * _) (Finset.sum_congr rfl fun d _ => congrArg (· * _) ?_)
      exact ld_k512 x1 (off1_eq t ⟨n, h⟩) _ x d hx
    · refine (ld_v256 x2 (off2_eq t ⟨n, h⟩).1 _ c x (by show 2 * n < 8; omega)).trans ((R.val _ x).trans ?_)
      rw [show 256 * (2 * n) + x.val = 512 * n + x.val by omega]
    · refine (ld_v256 x2 (off2_eq t ⟨n, h⟩).2 _ c x (by show 2 * n + 1 < 8; omega)).trans ((R.val _ x).trans ?_)
      rw [show 256 * (2 * n + 1) + x.val = 512 * n + (256 + x.val) by omega]

theorem odd_holds (R : Reads t v2 x1 x2 j c S V) (ho : t.val % 2 = 1) {s : St Ideal}
    (h : Holds (512 * (t.val % 8 / 2)) S V (s.mx (ix2 0 j)) (s.sm (ix2 0 j)) (s.ac (ix2 c j))) (inb5) (inb6) :
    let s' := oneStep v2 (View.ld x1 (Rect.unit (s := S2048x384) (k0_off5 (grid0.coords t)) S256x384.size inb5))
      (View.ld x2 (Rect.unit (s := S1x8x256x256) (k0_off6 (grid0.coords t)) S1x1x256x256.size inb6)) s
    Holds (256 * (t.val % 8)) S V (s'.mx (ix2 0 j)) (s'.sm (ix2 0 j)) (s'.ac (ix2 c j)) := by
  intro s'
  rw [show 256 * (t.val % 8) = 512 * (t.val % 8 / 2) + 256 by omega]
  refine oneStep_holds h R.top (R.bot _ (by omega)) (fun x => ?_) (fun x => ?_)
  · have hx : 512 * (t.val % 8 / 2) + x.val < 2048 := by omega
    rw [← R.score ⟨512 * (t.val % 8 / 2) + x.val, hx⟩ (by show 512 * (t.val % 8 / 2) + x.val ≤ _; omega)]
    refine congrArg (· * _) (Finset.sum_congr rfl fun d _ => congrArg (· * _) ?_)
    exact ld_k256 x1 (off5_eq t) _ x d hx
  · refine (ld_v256 x2 (off6_eq t) _ c x (by omega)).trans ((R.val _ x).trans ?_)
    rw [show 256 * (2 * (t.val % 8 / 2)) + x.val = 512 * (t.val % 8 / 2) + x.val by omega]

theorem own_holds (R : Reads t v2 x1 x2 j c S V) {s : St Ideal}
    (h : Holds (256 * (t.val % 8)) S V (s.mx (ix2 0 j)) (s.sm (ix2 0 j)) (s.ac (ix2 c j))) (inb7) (inb8) :
    let s' := diagStep v2 (View.ld x1 (Rect.unit (s := S2048x384) (k0_off7 (grid0.coords t)) S256x384.size inb7))
      (View.ld x2 (Rect.unit (s := S1x8x256x256) (k0_off8 (grid0.coords t)) S1x1x256x256.size inb8)) s
    Holds (256 * (t.val % 8) + 256) S V (s'.mx (ix2 0 j)) (s'.sm (ix2 0 j)) (s'.ac (ix2 c j)) := by
  intro s'
  refine diagStep_holds h R.top (R.bot _ (by omega)) (fun x hq => ?_) (fun x hq => R.mask _ (by omega)) (fun x => ?_)
  · have hx : 256 * (t.val % 8) + x.val < 2048 := by omega
    rw [← R.score ⟨256 * (t.val % 8) + x.val, hx⟩ (by show 256 * (t.val % 8) + x.val ≤ _; omega)]
    refine congrArg (· * _) (Finset.sum_congr rfl fun d _ => congrArg (· * _) ?_)
    exact ld_k256 x1 (off7_eq t) _ x d hx
  · exact (ld_v256 x2 (off8_eq t) _ c x (by omega)).trans (R.val _ x)

/-- The quotient of a column after its last tile: the softmax of the scores over all keys, weighing the values. -/
theorem quotient (R : Reads t v2 x1 x2 j c S V) {m l a : EReal} (h : Holds (256 * (t.val % 8) + 256) S V m l a) :
    Ideal.div a l = ∑ k : Fin 2048, (V k.val : EReal) *
      Ideal.div (Ideal.exp (S k.val - max ⊥ (Finset.univ.fold max ⊥ fun x : Fin 2048 => S x.val)))
        (∑ x : Fin 2048, Ideal.exp (S x.val - max ⊥ (Finset.univ.fold max ⊥ fun x : Fin 2048 => S x.val))) :=
  h.final R.top (by omega) (fun k hk => R.mask k (by omega)) (256 * (t.val % 8)) (by omega) (R.bot _ (by omega)) rfl

end

end Cert.KernelIdeal.Value
end
-- ==== Proof.OutOf.lean ====
/-
  The last part of the kernel's body: the accumulator over the sum, projected head by head, at an index of the output block.
-/
module

public import proofs.«01_k».proof.Proof.LoopValue
public import Idealize.ShloMosaic.Lib.Pointwise

@[expose] public section
set_option maxRecDepth 16384
noncomputable section
namespace Cert.KernelIdeal.Value
open Cert.KernelIdeal Cert.KernelIdeal.Gen Idealize.ShloMosaic Idealize.ShloMosaic.TcCoe Idealize.SL.Sem

/-- Row `r`, column `v` of head `h` of the output block: the head's projection of the quotients of its column. -/
theorem outOf_apply (s : St Ideal) (x3 : Vec Ideal S8x64x256 .bf16) (r : Fin 256) (n : Fin 512) (h : Fin 8) (v : Fin 64)
    (hn : n.val = h.val * 64 + v.val) :
    outOf s x3 (ix2 r n) = ∑ x : Fin 256, x3 (ix3 h v x) *
      Ideal.div (s.ac (ix2 x ⟨h.val * 256 + r.val, by omega⟩)) (s.sm (ix2 0 ⟨h.val * 256 + r.val, by omega⟩)) := by
  have key : ∀ (h' : Fin 8) (v' : Fin 64) (j : Fin 2048), h'.val = h.val → v'.val = v.val → j.val = h.val * 256 + r.val →
      (∑ x : Fin 256, x3 (ix3 h' v' x) * Ideal.div (s.ac (ix2 x j)) (s.sm (ix2 0 j)))
        = ∑ x : Fin 256, x3 (ix3 h v x) *
          Ideal.div (s.ac (ix2 x ⟨h.val * 256 + r.val, by omega⟩)) (s.sm (ix2 0 ⟨h.val * 256 + r.val, by omega⟩)) := by
    intro h' v' j e1 e2 e3
    obtain rfl := Fin.ext e1
    obtain rfl := Fin.ext e2
    have hb : h'.val * 256 + r.val < 2048 := by have := h'.isLt; have := r.isLt; omega
    have e : j = ⟨h'.val * 256 + r.val, hb⟩ := Fin.ext e3
    clear e3
    subst e
    rfl
  generalize (∑ x : Fin 256, x3 (ix3 h v x) *
      Ideal.div (s.ac (ix2 x ⟨h.val * 256 + r.val, by omega⟩)) (s.sm (ix2 0 ⟨h.val * 256 + r.val, by omega⟩))) = R at key ⊢
  unfold outOf
  unfold_payloads
  pointwise
  have hh := h.isLt
  have hv := v.isLt
  by_cases g0 : n.val < 64
  · rw [dif_pos g0]; exact key 0 _ _ (by show 0 = _; omega) (by show n.val = _; omega) (by show r.val = _; omega)
  rw [dif_neg g0]
  by_cases g1 : n.val - 64 < 64
  · rw [dif_pos g1]; exact key 1 _ _ (by show 1 = _; omega) (by show n.val - 64 = _; omega) (by show 256 + r.val = _; omega)
  rw [dif_neg g1]
  by_cases g2 : n.val - 64 - 64 < 64
  · rw [dif_pos g2]; exact key 2 _ _ (by show 2 = _; omega) (by show n.val - 64 - 64 = _; omega) (by show 512 + r.val = _; omega)
  rw [dif_neg g2]
  by_cases g3 : n.val - 64 - 64 - 64 < 64
  · rw [dif_pos g3]; exact key 3 _ _ (by show 3 = _; omega) (by show n.val - 64 - 64 - 64 = _; omega) (by show 768 + r.val = _; omega)
  rw [dif_neg g3]
  by_cases g4 : n.val - 64 - 64 - 64 - 64 < 64
  · rw [dif_pos g4]; exact key 4 _ _ (by show 4 = _; omega) (by show n.val - 64 - 64 - 64 - 64 = _; omega) (by show 1024 + r.val = _; omega)
  rw [dif_neg g4]
  by_cases g5 : n.val - 64 - 64 - 64 - 64 - 64 < 64
  · rw [dif_pos g5]; exact key 5 _ _ (by show 5 = _; omega) (by show n.val - 64 - 64 - 64 - 64 - 64 = _; omega) (by show 1280 + r.val = _; omega)
  rw [dif_neg g5]
  by_cases g6 : n.val - 64 - 64 - 64 - 64 - 64 - 64 < 64
  · rw [dif_pos g6]; exact key 6 _ _ (by show 6 = _; omega) (by show n.val - 64 - 64 - 64 - 64 - 64 - 64 = _; omega) (by show 1536 + r.val = _; omega)
  rw [dif_neg g6]
  exact key 7 _ _ (by show 7 = _; omega) (by show n.val - 64 - 64 - 64 - 64 - 64 - 64 - 64 = _; omega) (by show 1792 + r.val = _; omega)

end Cert.KernelIdeal.Value
end
-- ==== Proof.RefValue.lean ====
/-
  The reference's result at an index: the scores, the softmax over the keys, the weighted sum of the latent values, and the
  projection of each head.
-/
module

public import proofs.«01_k».proof.Proof.Gen.ReferenceIdeal.Run
public import Idealize.ShloMosaic.Lib.Pointwise
public import Idealize.ShloMosaic.Lib.WordCmp

@[expose] public section
set_option maxRecDepth 16384
noncomputable section
namespace Cert.ReferenceIdeal.Value
open Cert.ReferenceIdeal Cert.ReferenceIdeal.Gen Idealize.ShloMosaic Idealize.ShloMosaic.TcCoe Idealize.SL.Sem Idealize.ShloMosaic.WordCmp

/-- A maximum over the last axis of four, from a starting value. -/
theorem reduce_max {n0 n1 n2 n3 : ℕ} (x : FVec Ideal ⟨4, ![n0, n1, n2, n3]⟩ .f32) (init : FVec Ideal S_ .f32)
    (h : (⟨4, ![n0, n1, n2, n3]⟩ : Shape).ReducesTo [3] ⟨3, ![n0, n1, n2]⟩) (hu : 0 < S_.numel) (a : Fin n0) (b : Fin n1) (q : Fin n2) :
    Host.reduce (FloatOps.maximumf (F := Ideal) (φ := .f32)) x init h hu (ix3 a b q)
      = Finset.univ.fold (max : EReal → EReal → EReal) (init (Shape.Idx.first hu)) fun k : Fin n3 => x (ix4 a b q k) := by
  rw [Host.reduce_eq_fold]
  exact Shape.ReducesTo.fold_fiber_r4_a3 h (ix3 a b q) (max : EReal → EReal → EReal) _ x

theorem max_apply {S : Shape} (x y : FVec Ideal S .f32) (i : S.Idx) : maximumf x y i = max (x i) (y i) := rfl

theorem const_apply {S : Shape} (w : BitVec 32) (i : S.Idx) : constant (F := Ideal) S .f32 w i = Ideal.ofBits .f32 w := rfl

theorem splat_apply {S : Shape} (h : S_.BroadcastsInDim S ![]) (w : BitVec 32) (i : S.Idx) :
    broadcastInDim S ![] h (constant (F := Ideal) S_ .f32 w) i = Ideal.ofBits .f32 w := rfl

section
variable (A0 : FVec Ideal S8x2048x8x256 .f32) (A1 : FVec Ideal S8x2048x8x32 .f32) (A2 : FVec Ideal S8x2048x256 .f32)
  (A3 : FVec Ideal S8x2048x32 .f32) (A4 : FVec Ideal S256x8x64 .f32)

/-- The masked scores. -/
def scoreR : FVec Ideal S8x8x2048x2048 .f32 :=
  select (broadcastInDim S8x8x2048x2048 ![2, 3] bcast_S2048x2048_S8x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (mulf (addf (transpose S8x8x2048x2048 [0, 3, 2, 1] (Host.dotGeneral dot_S8x2048x256_S8x2048x8x256_S8x2048x2048x8_2_3_1_12_0_0 none A2 A0) transposes_S8x2048x2048x8_S8x8x2048x2048_0_3_2_1) (transpose S8x8x2048x2048 [0, 3, 2, 1] (Host.dotGeneral dot_S8x2048x32_S8x2048x8x32_S8x2048x2048x8_2_3_1_12_0_0 none A3 A1) transposes_S8x2048x2048x8_S8x8x2048x2048_0_3_2_1)) (broadcastInDim S8x8x2048x2048 ![] bcast_S_S8x8x2048x2048 (constant S_ .f32 0x3DD105EC#32))) (broadcastInDim S8x8x2048x2048 ![] bcast_S_S8x8x2048x2048 (id (constant S_ .f32 0xFF800000#32)))

/-- The greatest score of a query. -/
def maxR (s : FVec Ideal S8x8x2048x2048 .f32) : FVec Ideal S8x8x2048 .f32 :=
  maximumf (broadcastInDim S8x8x2048 ![] bcast_S_S8x8x2048 (constant S_ .f32 0xFF800000#32)) (Host.reduce FloatOps.maximumf s (constant S_ .f32 0xFF800000#32) reducesTo_S8x8x2048x2048_S8x8x2048_d3 h_S_)

/-- The exponentials of the scores less the greatest. -/
def expR (s : FVec Ideal S8x8x2048x2048 .f32) : FVec Ideal S8x8x2048x2048 .f32 :=
  Host.exp (subf s (broadcastInDim S8x8x2048x2048 ![0, 1, 2, 3] bcast_S8x8x2048x1_S8x8x2048x2048_0_1_2_3 (broadcastInDim S8x8x2048x1 ![0, 1, 2] bcast_S8x8x2048_S8x8x2048x1_0_1_2 (maxR s))))

/-- The softmax of the scores. -/
def probR (s : FVec Ideal S8x8x2048x2048 .f32) : FVec Ideal S8x8x2048x2048 .f32 :=
  Host.divf (expR s) (broadcastInDim S8x8x2048x2048 ![0, 1, 2, 3] bcast_S8x8x2048x1_S8x8x2048x2048_0_1_2_3 (broadcastInDim S8x8x2048x1 ![0, 1, 2] bcast_S8x8x2048_S8x8x2048x1_0_1_2 (Host.reduceAdd (expR s) (constant S_ .f32 0x00000000#32) reducesTo_S8x8x2048x2048_S8x8x2048_d3 h_S_)))

/-- The weighted sum of the latent values. -/
def latR (p : FVec Ideal S8x8x2048x2048 .f32) : FVec Ideal S8x2048x8x256 .f32 :=
  transpose S8x2048x8x256 [0, 3, 2, 1] (Host.dotGeneral dot_S8x2048x256_S8x8x2048x2048_S8x256x8x2048_1_3_2_12_0_0 none A2 p) transposes_S8x256x8x2048_S8x2048x8x256_0_3_2_1

/-- The projection of each head. -/
def outR (o : FVec Ideal S8x2048x8x256 .f32) : FVec Ideal S16384x512 .bf16 :=
  truncf .bf16 (shapeCast S16384x512 (transpose S8x2048x8x64 [2, 3, 0, 1] (Host.dotGeneral dot_S256x8x64_S8x2048x8x256_S8x64x8x2048_0_3_2_01_1_2 none A4 o) transposes_S8x64x8x2048_S8x2048x8x64_2_3_0_1) shapeCasts_S8x2048x8x64_S16384x512) bitsLt_bf16_f32

theorem scoreR_apply (b h : Fin 8) (q k : Fin 2048) : scoreR A0 A1 A2 A3 (ix4 b h q k)
    = if k.val ≤ q.val then ((∑ d : Fin 256, A2 (ix3 b k d) * A0 (ix4 b q h d)) + ∑ d : Fin 32, A3 (ix3 b k d) * A1 (ix4 b q h d))
        * Ideal.ofBits .f32 0x3DD105EC#32 else Ideal.ofBits .f32 0xFF800000#32 := by
  pointwise [scoreR]
  rw [cmpi_sle_ofNat (by have := k.isLt; norm_num; omega) (by have := q.isLt; norm_num; omega)]
  by_cases hk : k.val ≤ q.val
  · rw [if_pos hk, decide_eq_true hk]; rfl
  · rw [if_neg hk, decide_eq_false hk]; rfl

theorem maxR_apply (s : FVec Ideal S8x8x2048x2048 .f32) (b h : Fin 8) (q : Fin 2048) : maxR s (ix3 b h q)
    = max (Ideal.ofBits .f32 0xFF800000#32)
        (Finset.univ.fold (max : EReal → EReal → EReal) (Ideal.ofBits .f32 0xFF800000#32) fun k : Fin 2048 => s (ix4 b h q k)) := by
  unfold maxR
  rw [max_apply, splat_apply, reduce_max]
  rw [const_apply]

theorem expR_apply (s : FVec Ideal S8x8x2048x2048 .f32) (b h : Fin 8) (q k : Fin 2048) : expR s (ix4 b h q k)
    = Ideal.exp (s (ix4 b h q k) - maxR s (ix3 b h q)) := by
  pointwise [expR]

theorem probR_apply (s : FVec Ideal S8x8x2048x2048 .f32) (b h : Fin 8) (q k : Fin 2048) : probR s (ix4 b h q k)
    = Ideal.div (expR s (ix4 b h q k)) (∑ x : Fin 2048, expR s (ix4 b h q x)) := by
  pointwise [probR]

theorem latR_apply (p : FVec Ideal S8x8x2048x2048 .f32) (b h : Fin 8) (q : Fin 2048) (d : Fin 256) : latR A2 p (ix4 b q h d)
    = ∑ k : Fin 2048, A2 (ix3 b k d) * p (ix4 b h q k) := by
  pointwise [latR]

theorem outR_apply (o : FVec Ideal S8x2048x8x256 .f32) (b h : Fin 8) (q : Fin 2048) (v : Fin 64) :
    outR A4 o (ix2 ⟨b.val * 2048 + q.val, by omega⟩ ⟨h.val * 64 + v.val, by omega⟩)
    = ∑ d : Fin 256, A4 (ix3 d h v) * o (ix4 b q h d) := by
  pointwise [outR]

end

theorem res_eq (m : (ℓ : Loc nD τ sig) → Buf (Elt Ideal) ℓ) (c : Dev nD) : res_main_v30 m c
    = outR (m ((c.tc : Thread nD τ).loc main_arg4)) (latR (m ((c.tc : Thread nD τ).loc main_arg2))
        (probR (scoreR (m ((c.tc : Thread nD τ).loc main_arg0)) (m ((c.tc : Thread nD τ).loc main_arg1))
          (m ((c.tc : Thread nD τ).loc main_arg2)) (m ((c.tc : Thread nD τ).loc main_arg3))))) := by
  unfold res_main_v30 outR latR probR expR maxR scoreR
  rfl

end Cert.ReferenceIdeal.Value
end
-- ==== Proof.Tie.lean ====
/-
  The kernel's blocks hold the reference's scores and values, so a query tile's block is the reference's result.
-/
module

public import proofs.«01_k».proof.Proof.Blocks
public import proofs.«01_k».proof.Proof.Scan
public import proofs.«01_k».proof.Proof.OutOf
public import proofs.«01_k».proof.Proof.RefValue

@[expose] public section
set_option maxRecDepth 16384
noncomputable section
namespace Cert.KernelIdeal.Value
open Cert.KernelIdeal Cert.KernelIdeal.Gen Idealize.ShloMosaic Idealize.ShloMosaic.TcCoe Idealize.SL.Sem Cert.Softmax
open Cert.ReferenceIdeal.Value

/-- A product of two vectors of 384 lanes, both 256 latent lanes, 32 rotary lanes and 96 zeros. -/
theorem lanes_sum (f f' : Fin 256 → EReal) (g g' : Fin 32 → EReal) :
    (∑ d : Fin 384, (if h : d.val < 256 then f ⟨d.val, h⟩ else if h : d.val - 256 < 32 then g ⟨d.val - 256, h⟩ else (0 : EReal))
        * (if h : d.val < 256 then f' ⟨d.val, h⟩ else if h : d.val - 256 < 32 then g' ⟨d.val - 256, h⟩ else (0 : EReal)))
      = (∑ d : Fin 256, f d * f' d) + ∑ d : Fin 32, g d * g' d := by
  rw [Fin.sum_univ_two_halves 256 128 rfl]
  refine congrArg₂ (· + ·) (Finset.sum_congr rfl fun d _ => ?_) ?_
  · rw [dif_pos d.isLt, dif_pos d.isLt]
  · rw [Fin.sum_univ_two_halves 32 96 rfl, Finset.sum_eq_zero (s := (Finset.univ : Finset (Fin 96))), add_zero]
    · refine Finset.sum_congr rfl fun d _ => ?_
      have h1 : ¬ 256 + d.val < 256 := by omega
      have h2 : 256 + d.val - 256 < 32 := by have := d.isLt; omega
      have h3 : (⟨256 + d.val - 256, h2⟩ : Fin 32) = d := Fin.ext (by show 256 + d.val - 256 = d.val; omega)
      rw [dif_neg h1, dif_neg h1, dif_pos h2, dif_pos h2, h3]
    · intro d _
      have h1 : ¬ 256 + (32 + d.val) < 256 := by omega
      have h2 : ¬ 256 + (32 + d.val) - 256 < 32 := by omega
      rw [dif_neg h1, dif_neg h1, dif_neg h2, dif_neg h2, mul_zero]

/-- A sum of real numbers is real. -/
theorem real_sum {ι : Type} [Fintype ι] (f : ι → EReal) (h : ∀ i, ∃ r : ℝ, f i = (r : EReal)) : ∃ r : ℝ, ∑ i, f i = (r : EReal) := by
  choose g hg using h
  exact ⟨∑ i, g i, by rw [coe_sum Finset.univ]; exact Finset.sum_congr rfl fun i _ => hg i⟩

theorem real_mul {a b : EReal} (ha : ∃ r : ℝ, a = (r : EReal)) (hb : ∃ r : ℝ, b = (r : EReal)) : ∃ r : ℝ, a * b = (r : EReal) := by
  obtain ⟨x, rfl⟩ := ha
  obtain ⟨y, rfl⟩ := hb
  exact ⟨x * y, (EReal.coe_mul x y).symm⟩

theorem real_add {a b : EReal} (ha : ∃ r : ℝ, a = (r : EReal)) (hb : ∃ r : ℝ, b = (r : EReal)) : ∃ r : ℝ, a + b = (r : EReal) := by
  obtain ⟨x, rfl⟩ := ha
  obtain ⟨y, rfl⟩ := hb
  exact ⟨x + y, (EReal.coe_add x y).symm⟩

/-- The scores of a query, by the key's number; `⊥` past the last key. -/
def Sof (s : FVec Ideal Cert.ReferenceIdeal.S8x8x2048x2048 .f32) (b h : Fin 8) (q : Fin 2048) (k : ℕ) : EReal :=
  if hk : k < 2048 then s (ix4 b h q ⟨k, hk⟩) else ⊥

theorem Sof_val (s : FVec Ideal Cert.ReferenceIdeal.S8x8x2048x2048 .f32) (b h : Fin 8) (q k : Fin 2048) : Sof s b h q k.val = s (ix4 b h q k) :=
  dif_pos k.isLt

/-- A latent coordinate of the values, by the key's number. -/
def Vof (a : FVec Ideal S8x2048x256 .f32) (b : Fin 8) (d : Fin 256) (k : ℕ) : ℝ :=
  if hk : k < 2048 then (a (ix3 b ⟨k, hk⟩ d)).toReal else 0

theorem Vof_val (a : FVec Ideal S8x2048x256 .f32) (ha : ∀ i, ∃ r : ℝ, a i = (r : EReal)) (b : Fin 8) (d : Fin 256) (k : Fin 2048) :
    ((Vof a b d k.val : ℝ) : EReal) = a (ix3 b k d) := by
  obtain ⟨r, hr⟩ := ha (ix3 b k d)
  rw [Vof, dif_pos k.isLt, hr]
  rfl

theorem pay22_apply (x0 : Vec Ideal S1x8x256x384 .bf16) (h : Fin 8) (r : Fin 256) (d : Fin 384) :
    k0_pay22 x0 (ix2 ⟨h.val * 256 + r.val, by omega⟩ d) = x0 (ix4 0 h r d) := by
  pointwise [k0_pay22]

variable (m : (ℓ : Loc nD τ sig) → Buf (Elt Ideal) ℓ) (c : Dev nD)

abbrev A0 : FVec Ideal S8x2048x8x256 .f32 := m ((c.tc : Thread nD τ).loc main_arg0)
abbrev A1 : FVec Ideal S8x2048x8x32 .f32 := m ((c.tc : Thread nD τ).loc main_arg1)
abbrev A2 : FVec Ideal S8x2048x256 .f32 := m ((c.tc : Thread nD τ).loc main_arg2)
abbrev A3 : FVec Ideal S8x2048x32 .f32 := m ((c.tc : Thread nD τ).loc main_arg3)
abbrev A4 : FVec Ideal S256x8x64 .f32 := m ((c.tc : Thread nD τ).loc main_arg4)

/-- The staged keys and the staged queries. -/
abbrev kArr : FVec Ideal S16384x384 .bf16 := V m c main_v7
abbrev qArr : FVec Ideal S8x8x2048x384 .bf16 := V m c main_v3

/-- The reference's scores of the kernel's arguments. -/
abbrev sc : FVec Ideal Cert.ReferenceIdeal.S8x8x2048x2048 .f32 := scoreR (A0 m c) (A1 m c) (A2 m c) (A3 m c)

/-- The queries and the keys are real at every index. -/
structure Real4 : Prop where
  h0 : ∀ i, ∃ r : ℝ, A0 m c i = (r : EReal)
  h1 : ∀ i, ∃ r : ℝ, A1 m c i = (r : EReal)
  h2 : ∀ i, ∃ r : ℝ, A2 m c i = (r : EReal)
  h3 : ∀ i, ∃ r : ℝ, A3 m c i = (r : EReal)

/-- The row of the result's arrays that a tile's row is. -/
abbrev qrow (t : Fin cfg0.N) (r : Fin 256) : Fin 2048 := ⟨t.val % 8 * 256 + r.val, by omega⟩

abbrev bat (t : Fin cfg0.N) : Fin 8 := ⟨t.val / 8, t8 t⟩

variable {m c}

theorem sc_low (b h : Fin 8) (q k : Fin 2048) (hk : k.val ≤ q.val) : sc m c (ix4 b h q k)
    = ((∑ d : Fin 256, A2 m c (ix3 b k d) * A0 m c (ix4 b q h d)) + ∑ d : Fin 32, A3 m c (ix3 b k d) * A1 m c (ix4 b q h d))
        * Ideal.ofBits .f32 0x3DD105EC#32 := by
  exact (scoreR_apply _ _ _ _ b h q k).trans (if_pos hk)

theorem sc_high (b h : Fin 8) (q k : Fin 2048) (hk : q.val < k.val) : sc m c (ix4 b h q k) = (⊥ : EReal) := by
  exact ((scoreR_apply _ _ _ _ b h q k).trans (if_neg (by omega))).trans neg_inf

theorem sc_real (R : Real4 m c) (b h : Fin 8) (q k : Fin 2048) (hk : k.val ≤ q.val) : ∃ r : ℝ, sc m c (ix4 b h q k) = (r : EReal) := by
  rw [sc_low b h q k hk]
  exact real_mul (real_add (real_sum _ fun d => real_mul (R.h2 _) (R.h0 _)) (real_sum _ fun d => real_mul (R.h3 _) (R.h1 _))) scale_real

/-- The kernel's product of a staged key and a staged query is the reference's sum of the latent and the rotary product. -/
theorem kq_sum (b h : Fin 8) (q k : Fin 2048) :
    (∑ d : Fin 384, kArr m c (ix2 ⟨b.val * 2048 + k.val, by omega⟩ d)
        * qArr m c (ix4 b h q d))
      = (∑ d : Fin 256, A2 m c (ix3 b k d) * A0 m c (ix4 b q h d)) + ∑ d : Fin 32, A3 m c (ix3 b k d) * A1 m c (ix4 b q h d) := by
  refine (Finset.sum_congr rfl fun d _ => congrArg₂ (fun x y : EReal => x * y) (arr_k m c b k d) (arr_q m c b h q d)).trans ?_
  exact lanes_sum (fun d => A2 m c (ix3 b k d)) (fun d => A0 m c (ix4 b q h d)) (fun d => A3 m c (ix3 b k d)) (fun d => A1 m c (ix4 b q h d))

theorem reads (R : Real4 m c) (t : Fin cfg0.N) (h : Fin 8) (r : Fin 256) (d : Fin 256) :
    Reads t (k0_pay22 (iblk m c 0 t)) (iblk m c 1 t) (iblk m c 2 t) ⟨h.val * 256 + r.val, by omega⟩ d
      (Sof (sc m c) (bat t) h (qrow t r)) (Vof (A2 m c) (bat t) d) where
  top k := by
    by_cases hk : k < 2048
    · rw [Sof, dif_pos hk]
      by_cases hq : k ≤ (qrow t r).val
      · obtain ⟨x, hx⟩ := sc_real R (bat t) h (qrow t r) ⟨k, hk⟩ hq
        rw [hx]
        exact EReal.coe_ne_top x
      · rw [sc_high (bat t) h (qrow t r) ⟨k, hk⟩ (by show (qrow t r).val < k; omega)]
        exact bot_ne_top
    · rw [Sof, dif_neg hk]
      exact bot_ne_top
  bot k hq := by
    have hq' : k ≤ (qrow t r).val := by show k ≤ t.val % 8 * 256 + r.val; have : (h.val * 256 + r.val) % 256 = r.val := by omega
                                        simp only [this] at hq; omega
    have hk : k < 2048 := by have := (qrow t r).isLt; omega
    obtain ⟨x, hx⟩ := sc_real R (bat t) h (qrow t r) ⟨k, hk⟩ hq'
    rw [Sof, dif_pos hk, hx]
    exact EReal.coe_ne_bot x
  mask k hq := by
    have hq' : (qrow t r).val < k := by show t.val % 8 * 256 + r.val < k; have : (h.val * 256 + r.val) % 256 = r.val := by omega
                                        simp only [this] at hq; omega
    by_cases hk : k < 2048
    · rw [Sof, dif_pos hk]
      exact sc_high (bat t) h (qrow t r) ⟨k, hk⟩ hq'
    · rw [Sof, dif_neg hk]
  score k hq := by
    have hq' : k.val ≤ (qrow t r).val := by show k.val ≤ t.val % 8 * 256 + r.val; have : (h.val * 256 + r.val) % 256 = r.val := by omega
                                            simp only [this] at hq; omega
    rw [Sof_val, sc_low _ _ _ _ hq', ← kq_sum]
    refine congrArg (· * _) (Finset.sum_congr rfl fun x _ => congrArg₂ (· * ·) (blk_k m c t k x) ?_)
    exact (pay22_apply _ h r x).trans (blk_q m c t h r x)
  val g x := by
    have hg : 256 * g.val + x.val < 2048 := by omega
    rw [Vof_val (A2 m c) R.h2 (bat t) d ⟨256 * g.val + x.val, hg⟩]
    refine (blk_v m c t g d x).trans (congrArg (fun k => A2 m c (ix3 (bat t) k d)) (Fin.ext ?_))
    show g.val * 256 + x.val = 256 * g.val + x.val
    omega

/-- The reference's result of the kernel's arguments. -/
abbrev result (m : (ℓ : Loc nD τ sig) → Buf (Elt Ideal) ℓ) (c : Dev nD) : FVec Ideal S16384x512 .bf16 :=
  outR (A4 m c) (latR (A2 m c) (probR (sc m c)))

/-- A state in which every column has seen its keys leaves the reference's rows. -/
theorem tile_eq (R : Real4 m c) (t : Fin cfg0.N) (s : St Ideal)
    (hs : ∀ (h : Fin 8) (r d : Fin 256), Holds (256 * (t.val % 8) + 256) (Sof (sc m c) (bat t) h (qrow t r)) (Vof (A2 m c) (bat t) d)
      (s.mx (ix2 0 ⟨h.val * 256 + r.val, by omega⟩)) (s.sm (ix2 0 ⟨h.val * 256 + r.val, by omega⟩)) (s.ac (ix2 d ⟨h.val * 256 + r.val, by omega⟩)))
    (r : Fin 256) (h : Fin 8) (v : Fin 64) :
    outOf s (iblk m c 3 t) (ix2 r ⟨h.val * 64 + v.val, by omega⟩)
      = result m c (ix2 ⟨(bat t).val * 2048 + (qrow t r).val, by omega⟩ ⟨h.val * 64 + v.val, by omega⟩) := by
  rw [outOf_apply s _ r ⟨h.val * 64 + v.val, by omega⟩ h v rfl]
  refine Eq.trans ?_ (outR_apply (A4 m c) (latR (A2 m c) (probR (sc m c))) (bat t) h (qrow t r) v).symm
  refine Finset.sum_congr rfl fun d _ => congrArg₂ (· * ·) (blk_w m c t h v d) ?_
  rw [quotient (reads R t h r d) (hs h r d), latR_apply]
  refine Finset.sum_congr rfl fun k _ => ?_
  rw [Vof_val (A2 m c) R.h2, probR_apply]
  simp only [expR_apply, maxR_apply, neg_inf, Sof_val]

end Cert.KernelIdeal.Value
end
-- ==== Proof.PointA.lean ====
/- What the kernel leaves at a grid point of an even query tile, over the state its inner loop ends in. -/
module

public import proofs.«01_k».proof.Proof.LoopValue
public import Idealize.ShloMosaic.Lib.Pipeline.ValueKit

@[expose] public section
set_option maxRecDepth 16384
noncomputable section
namespace Cert.KernelIdeal.Value
open Cert.KernelIdeal Cert.KernelIdeal.Gen Idealize.ShloMosaic Idealize.ShloMosaic.TcCoe Idealize.SL.Sem
variable {F : FTy → Type} [FloatOps F]

set_option maxHeartbeats 4000000 in
/-- What an even query tile's point leaves in the output buffer. -/
theorem out_A (c : Dev nD) (i : grid0.Coords) (arg2 : Memref sig .tc .vmem S1x8x256x384 .bf16) (harg2 : arg2.IsWhole) (arg3 : Memref sig .tc .vmem S2048x384 .bf16) (harg3 : arg3.IsWhole) (arg4 : Memref sig .tc .vmem S1x8x256x256 .bf16) (harg4 : arg4.IsWhole) (arg5 : Memref sig .tc .vmem S8x64x256 .bf16) (harg5 : arg5.IsWhole) (arg6 : Memref sig .tc .vmem S256x512 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S256x2048 .f32) (harg9 : arg9.IsWhole) (hc0 : ¬cond0_0 i)
    (x0 : Vec F S1x8x256x384 .bf16) (x1 : Vec F S2048x384 .bf16) (x2 : Vec F S1x8x256x256 .bf16) (x3 : Vec F S8x64x256 .bf16) :
  out0_A_4 c i arg2 harg2 arg3 harg3 arg4 harg4 arg5 harg5 arg6 harg6 arg7 harg7 arg8 harg8 arg9 harg9 hc0 x0 x1 x2 x3
    = outOf (diagStep (k0_pay22 x0) (View.ld x1 (Rect.unit (s := S2048x384) (k0_off7 i) S256x384.size (k0_off7_inb i)))
        (View.ld x2 (Rect.unit (s := S1x8x256x256) (k0_off8 i) S1x1x256x256.size (k0_off8_inb i)))
        (loopSt i (k0_pay22 x0) x1 x2 (k0_t1_loop i).trips)) x3 := by
  show _ = outOf (diagStep (k0_pay22 x0) (View.ld x1 (Rect.unit (s := S2048x384) (k0_off7 i) S256x384.size (k0_off7_inb i)))
        (View.ld x2 (Rect.unit (s := S1x8x256x256) (k0_off8 i) S1x1x256x256.size (k0_off8_inb i)))
        (loopSt i (k0_pay22 x0) x1 x2 (Scf.trips (k0_t1_loop i).lb (k0_t1_loop i).ub (k0_t1_loop i).st))) x3
  unfold out0_A_4
  unfold kernelRun0_A
  dsimp only
  refine (read_whole_store (S := S256x512) _ _ zz2 _ _ []).trans ?_
  sl_unfold_words
  rw [show Scf.trips (k0_t2_loop i).lb (k0_t2_loop i).ub (k0_t2_loop i).st = 0 from trips2 i]
  generalize Scf.trips (k0_t1_loop i).lb (k0_t1_loop i).ub (k0_t1_loop i).st = T
  simp  only [pb2_none, List.nil_append, readCov_ld, View.readAt_eq_ld, rws1, rws256, ldw1, ldw256, ldw4, View.writes_append,
    harg2.read_unread, harg3.read_unread, harg4.read_unread, harg5.read_unread, loop_read]
  rfl

end Cert.KernelIdeal.Value
end
-- ==== Proof.PointB.lean ====
/- What the kernel leaves at a grid point of an odd query tile, over the state its inner loop ends in. -/
module

public import proofs.«01_k».proof.Proof.LoopValue
public import Idealize.ShloMosaic.Lib.Pipeline.ValueKit

@[expose] public section
set_option maxRecDepth 16384
noncomputable section
namespace Cert.KernelIdeal.Value
open Cert.KernelIdeal Cert.KernelIdeal.Gen Idealize.ShloMosaic Idealize.ShloMosaic.TcCoe Idealize.SL.Sem
variable {F : FTy → Type} [FloatOps F]

set_option maxHeartbeats 4000000 in
/-- What an odd query tile's point leaves in the output buffer. -/
theorem out_B (c : Dev nD) (i : grid0.Coords) (arg2 : Memref sig .tc .vmem S1x8x256x384 .bf16) (harg2 : arg2.IsWhole) (arg3 : Memref sig .tc .vmem S2048x384 .bf16) (harg3 : arg3.IsWhole) (arg4 : Memref sig .tc .vmem S1x8x256x256 .bf16) (harg4 : arg4.IsWhole) (arg5 : Memref sig .tc .vmem S8x64x256 .bf16) (harg5 : arg5.IsWhole) (arg6 : Memref sig .tc .vmem S256x512 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S256x2048 .f32) (harg9 : arg9.IsWhole) (hc0 : cond0_0 i)
    (x0 : Vec F S1x8x256x384 .bf16) (x1 : Vec F S2048x384 .bf16) (x2 : Vec F S1x8x256x256 .bf16) (x3 : Vec F S8x64x256 .bf16) :
  out0_B_4 c i arg2 harg2 arg3 harg3 arg4 harg4 arg5 harg5 arg6 harg6 arg7 harg7 arg8 harg8 arg9 harg9 hc0 x0 x1 x2 x3
    = outOf (diagStep (k0_pay22 x0) (View.ld x1 (Rect.unit (s := S2048x384) (k0_off7 i) S256x384.size (k0_off7_inb i)))
        (View.ld x2 (Rect.unit (s := S1x8x256x256) (k0_off8 i) S1x1x256x256.size (k0_off8_inb i)))
        (oneStep (k0_pay22 x0) (View.ld x1 (Rect.unit (s := S2048x384) (k0_off5 i) S256x384.size (k0_off5_inb i hc0)))
          (View.ld x2 (Rect.unit (s := S1x8x256x256) (k0_off6 i) S1x1x256x256.size (k0_off6_inb i hc0)))
          (loopSt i (k0_pay22 x0) x1 x2 (k0_t1_loop i).trips))) x3 := by
  show _ = outOf (diagStep (k0_pay22 x0) (View.ld x1 (Rect.unit (s := S2048x384) (k0_off7 i) S256x384.size (k0_off7_inb i)))
        (View.ld x2 (Rect.unit (s := S1x8x256x256) (k0_off8 i) S1x1x256x256.size (k0_off8_inb i)))
        (oneStep (k0_pay22 x0) (View.ld x1 (Rect.unit (s := S2048x384) (k0_off5 i) S256x384.size (k0_off5_inb i hc0)))
          (View.ld x2 (Rect.unit (s := S1x8x256x256) (k0_off6 i) S1x1x256x256.size (k0_off6_inb i hc0)))
          (loopSt i (k0_pay22 x0) x1 x2 (Scf.trips (k0_t1_loop i).lb (k0_t1_loop i).ub (k0_t1_loop i).st)))) x3
  unfold out0_B_4
  unfold kernelRun0_B
  dsimp only
  refine (read_whole_store (S := S256x512) _ _ zz2 _ _ []).trans ?_
  sl_unfold_words
  rw [show Scf.trips (k0_t2_loop i).lb (k0_t2_loop i).ub (k0_t2_loop i).st = 0 from trips2 i]
  generalize Scf.trips (k0_t1_loop i).lb (k0_t1_loop i).ub (k0_t1_loop i).st = T
  simp  only [pb2_none, List.nil_append, readCov_ld, View.readAt_eq_ld, rws1, rws256, ldw1, ldw256, ldw4, View.writes_append,
    harg2.read_unread, harg3.read_unread, harg4.read_unread, harg5.read_unread, loop_read]
  rfl

end Cert.KernelIdeal.Value
end
-- ==== Proof.Result.lean ====
/-
  The kernel's result array is the reference's result of its arguments.
-/
module

public import proofs.«01_k».proof.Proof.Tie
public import proofs.«01_k».proof.Proof.PointA
public import proofs.«01_k».proof.Proof.PointB

@[expose] public section
set_option maxRecDepth 16384
noncomputable section
namespace Cert.KernelIdeal.Value
open Cert.KernelIdeal Cert.KernelIdeal.Gen Idealize.ShloMosaic Idealize.ShloMosaic.TcCoe Idealize.SL.Sem Cert.Softmax
open Cert.ReferenceIdeal.Value

variable {m : (ℓ : Loc nD τ sig) → Buf (Elt Ideal) ℓ} {c : Dev nD}

/-- The loop of a query tile has seen the even number of key tiles before it. -/
theorem loop_end (R : Real4 m c) (t : Fin cfg0.N) (h : Fin 8) (r d : Fin 256) :
    let s := loopSt (grid0.coords t) (k0_pay22 (iblk m c 0 t)) (iblk m c 1 t) (iblk m c 2 t) (k0_t1_loop (grid0.coords t)).trips
    Holds (512 * (t.val % 8 / 2)) (Sof (sc m c) (bat t) h (qrow t r)) (Vof (A2 m c) (bat t) d)
      (s.mx (ix2 0 ⟨h.val * 256 + r.val, by omega⟩)) (s.sm (ix2 0 ⟨h.val * 256 + r.val, by omega⟩)) (s.ac (ix2 d ⟨h.val * 256 + r.val, by omega⟩)) := by
  intro s
  have e := trips_eq t
  have := loop_holds (reads R t h r d) (t.val % 8 / 2) le_rfl
  simp only [← e] at this ⊢
  exact this

/-- What a grid point leaves, at an even query tile and at an odd one. -/
theorem point_eq (R : Real4 m c) (t : Fin cfg0.N) (r : Fin 256) (h : Fin 8) (v : Fin 64) :
    (outsAt0 m c t.val t.isLt : Vec Ideal S256x512 .bf16) (ix2 r ⟨h.val * 64 + v.val, by omega⟩)
      = result m c (ix2 ⟨(bat t).val * 2048 + (qrow t r).val, by omega⟩ ⟨h.val * 64 + v.val, by omega⟩) := by
  by_cases h0 : t.val % 2 = 1
  · rw [outsAt0_B m c t h0, out_B]
    exact tile_eq R t _ (fun h r d => own_holds (reads R t h r d) (odd_holds (reads R t h r d) h0 (loop_end R t h r d) _ _) _ _) r h v
  · rw [outsAt0_A m c t h0, out_A]
    refine tile_eq R t _ (fun h r d => own_holds (reads R t h r d) ?_ _ _) r h v
    have := loop_end R t h r d
    rwa [show 512 * (t.val % 8 / 2) = 256 * (t.val % 8) by omega] at this

/-- The array after the run. -/
theorem arr_eq (R : Real4 m c) : (dats m 0 c).arrAt 4 cfg0.N = result m c := by
  refine (dats m 0 c).arrAt_eq_of_covers 4 _ (by decide +kernel) fun t _ y => ?_
  blk_simp [idx t]
  rw [after0_4]
  have hr : (y 0).val < 256 := (y 0).isLt
  have hn : (y 1).val < 512 := (y 1).isLt
  have e1 : y = ix2 ⟨(y 0).val, hr⟩ ⟨(y 1).val / 64 * 64 + (y 1).val % 64, by omega⟩ := by
    blk_ext
  have e2 : (win0_4.blk t).view.emb y = ix2 ⟨(bat t).val * 2048 + (qrow t ⟨(y 0).val, hr⟩).val, by omega⟩
      ⟨(y 1).val / 64 * 64 + (y 1).val % 64, by omega⟩ := by
    blk_ext [idx t]
  rw [e2]
  exact (congrArg _ e1).trans (point_eq R t ⟨(y 0).val, hr⟩ ⟨(y 1).val / 64, by omega⟩ ⟨(y 1).val % 64, by omega⟩)

end Cert.KernelIdeal.Value
end
-- ==== Proof.Pre.lean ====
/-
  What the precondition says: every entry of the queries and of the keys is a real number.
-/
module

public import proofs.«01_k».proof.Defs
public import Idealize.ShloMosaic.PureOps

@[expose] public section
set_option maxRecDepth 16384
noncomputable section
namespace Cert.Finite
open Idealize.ShloMosaic Idealize.ShloMosaic.TcCoe

theorem inf_bits : Ideal.ofBits .f32 0x7F800000#32 = ⊤ := by simp [Ideal.ofBits, Ideal.ieee]

/-- An entry whose absolute value compares below infinity is a real number. -/
theorem real_of_abs {S : Shape} (x : FVec Ideal S .f32) (h : Cert.Pre_finite.S_.BroadcastsInDim S ![]) (i : S.Idx)
    (e : cmpf .olt (Host.absf x) (broadcastInDim S ![] h (constant (F := Ideal) Cert.Pre_finite.S_ .f32 0x7F800000#32)) i = 1#1) :
    ∃ r : ℝ, x i = (r : EReal) := by
  have e' : BitVec.ofBool (decide (max (x i) (-x i) < Ideal.ofBits .f32 0x7F800000#32)) = 1#1 := e
  have lt : max (x i) (-x i) < (⊤ : EReal) := by
    rw [inf_bits] at e'
    by_contra hn
    rw [decide_eq_false hn] at e'
    exact absurd e' (by decide)
  have h1 : x i ≠ ⊤ := fun hx => by rw [hx] at lt; simp at lt
  have h2 : x i ≠ ⊥ := fun hx => by rw [hx] at lt; simp at lt
  exact ⟨(x i).toReal, (EReal.coe_toReal h1 h2).symm⟩

theorem facts : Cert.Pre_finite.Facts := by
  constructor <;> decide

/-- The four arrays the precondition speaks of are real at every index. -/
theorem real_args [Cert.Pre_finite.Facts] (A0 : FVec Ideal Cert.Pre_finite.S8x2048x8x256 .f32) (A1 : FVec Ideal Cert.Pre_finite.S8x2048x8x32 .f32)
    (A2 : FVec Ideal Cert.Pre_finite.S8x2048x256 .f32) (A3 : FVec Ideal Cert.Pre_finite.S8x2048x32 .f32) (A4 : FVec Ideal Cert.Pre_finite.S256x8x64 .f32)
    (h : (Cert.Pre_finite.fn A0 A1 A2 A3 A4).1 = (fun _ => 1#1) ∧ (Cert.Pre_finite.fn A0 A1 A2 A3 A4).2.1 = (fun _ => 1#1)
      ∧ (Cert.Pre_finite.fn A0 A1 A2 A3 A4).2.2.1 = (fun _ => 1#1) ∧ (Cert.Pre_finite.fn A0 A1 A2 A3 A4).2.2.2 = (fun _ => 1#1)) :
    (∀ i, ∃ r : ℝ, A0 i = (r : EReal)) ∧ (∀ i, ∃ r : ℝ, A1 i = (r : EReal)) ∧ (∀ i, ∃ r : ℝ, A2 i = (r : EReal))
      ∧ ∀ i, ∃ r : ℝ, A3 i = (r : EReal) :=
  ⟨fun i => real_of_abs A0 _ i (congrFun h.1 i), fun i => real_of_abs A1 _ i (congrFun h.2.1 i),
    fun i => real_of_abs A2 _ i (congrFun h.2.2.1 i), fun i => real_of_abs A3 _ i (congrFun h.2.2.2 i)⟩

end Cert.Finite
end
-- ==== Proof.Algebraic.lean ====
/-
  The value claim: at exact arithmetic, from finite queries and keys, the kernel's result is the reference's.
-/
module

public import proofs.«01_k».proof.Defs
public import proofs.«01_k».proof.Proof.Result
public import proofs.«01_k».proof.Proof.Pre
public import Idealize.ShloMosaic.Lib.Quiescent

@[expose] public section
set_option maxRecDepth 16384
noncomputable section
namespace Cert.Attention
open Idealize.ShloMosaic Idealize.ShloMosaic.TcCoe Idealize.SL.Sem

/-- The reference ends with its arguments unchanged; it declares no semaphore. -/
theorem reference_quiet : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem reference_quiet_finite [Cert.Pre_finite.Facts] : Cert.quiescent_ReferenceIdeal_pre_finite := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem algebraic [Cert.Pre_finite.Facts] : Cert.algebraic_KernelIdeal_ReferenceIdeal_pre_finite := by
  intro m ρ m' ρ' hpre hagree
  refine ⟨fun c => Cert.KernelIdeal.Value.result m c, ?_, ?_⟩
  · refine (θ_run _ _ _).mono (fun _ h c => ⟨(h c).1.trans ?_, (h c).2⟩) (Cert.KernelIdeal.Value.run_blocks (F := Ideal) m ρ)
    obtain ⟨h0, h1, h2, h3⟩ := Cert.Finite.real_args _ _ _ _ _ (hpre c)
    exact Cert.KernelIdeal.Value.arr_eq ⟨h0, h1, h2, h3⟩
  · refine (θ_run _ _ _).mono (fun _ h c => ⟨(h c).1.trans ?_, (h c).2⟩) (Cert.ReferenceIdeal.Value.run (F := Ideal) m' ρ')
    obtain ⟨h0, h1, h2, h3, h4⟩ := hagree c
    rw [Cert.ReferenceIdeal.Value.res_eq, h0, h1, h2, h3, h4]

end Cert.Attention
end
-- ==== Proof.TailBlocks.lean ====
/-
  What the tail kernel's windows hold at a grid point, in the arrays the program is given.
-/
module

public import proofs.«01_k».proof.Proof.Gen.TailIdeal.Value
public import Idealize.ShloMosaic.Lib.Pipeline.ValueKit
public import Idealize.ShloMosaic.Lib.Pointwise

@[expose] public section
set_option maxRecDepth 16384
noncomputable section
namespace Cert.TailIdeal.Value
open Cert.TailIdeal Cert.TailIdeal.Gen Idealize.ShloMosaic Idealize.ShloMosaic.TcCoe Idealize.SL.Sem
open Idealize.ShloMosaic.Pipeline (Dat)

abbrev B0 (m : (ℓ : Loc nD τ sig) → Buf (Elt Ideal) ℓ) (c : Dev nD) : FVec Ideal S8x2048x1024 .f32 := m ((c.tc : Thread nD τ).loc main_arg0)
abbrev B1 (m : (ℓ : Loc nD τ sig) → Buf (Elt Ideal) ℓ) (c : Dev nD) : FVec Ideal S16384x512 .bf16 := m ((c.tc : Thread nD τ).loc main_arg1)
abbrev B2 (m : (ℓ : Loc nD τ sig) → Buf (Elt Ideal) ℓ) (c : Dev nD) : FVec Ideal S16384x512 .bf16 := m ((c.tc : Thread nD τ).loc main_arg2)
abbrev B3 (m : (ℓ : Loc nD τ sig) → Buf (Elt Ideal) ℓ) (c : Dev nD) : FVec Ideal S16384x1024 .f32 := m ((c.tc : Thread nD τ).loc main_arg3)
abbrev B4 (m : (ℓ : Loc nD τ sig) → Buf (Elt Ideal) ℓ) (c : Dev nD) : FVec Ideal S16384x1024 .f32 := m ((c.tc : Thread nD τ).loc main_arg4)
abbrev B5 (m : (ℓ : Loc nD τ sig) → Buf (Elt Ideal) ℓ) (c : Dev nD) : FVec Ideal S512x1024 .f32 := m ((c.tc : Thread nD τ).loc main_arg5)
abbrev B6 (m : (ℓ : Loc nD τ sig) → Buf (Elt Ideal) ℓ) (c : Dev nD) : FVec Ideal S512x1024 .f32 := m ((c.tc : Thread nD τ).loc main_arg6)
abbrev B7 (m : (ℓ : Loc nD τ sig) → Buf (Elt Ideal) ℓ) (c : Dev nD) : FVec Ideal S1024x1024 .f32 := m ((c.tc : Thread nD τ).loc main_arg7)
abbrev B8 (m : (ℓ : Loc nD τ sig) → Buf (Elt Ideal) ℓ) (c : Dev nD) : FVec Ideal S1024 .f32 := m ((c.tc : Thread nD τ).loc main_arg8)
abbrev B9 (m : (ℓ : Loc nD τ sig) → Buf (Elt Ideal) ℓ) (c : Dev nD) : FVec Ideal S1024x5632 .f32 := m ((c.tc : Thread nD τ).loc main_arg9)
abbrev B10 (m : (ℓ : Loc nD τ sig) → Buf (Elt Ideal) ℓ) (c : Dev nD) : FVec Ideal S3x5632 .f32 := m ((c.tc : Thread nD τ).loc main_arg10)
abbrev B11 (m : (ℓ : Loc nD τ sig) → Buf (Elt Ideal) ℓ) (c : Dev nD) : FVec Ideal S5632 .f32 := m ((c.tc : Thread nD τ).loc main_arg11)
abbrev B12 (m : (ℓ : Loc nD τ sig) → Buf (Elt Ideal) ℓ) (c : Dev nD) : FVec Ideal S2816x1024 .f32 := m ((c.tc : Thread nD τ).loc main_arg12)
abbrev B13 (m : (ℓ : Loc nD τ sig) → Buf (Elt Ideal) ℓ) (c : Dev nD) : FVec Ideal S1024 .f32 := m ((c.tc : Thread nD τ).loc main_arg13)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![t.val, 0]
    ∧ win0_15.index t = ![t.val / 8, 0, 0] :=
  (by decide +kernel : ∀ t : Fin grid0.N, _)

theorem t64 (t : Fin cfg0.N) : t.val < 64 := by have := t.isLt; have : cfg0.N = 64 := N_0; omega

theorem t8 (t : Fin cfg0.N) : t.val / 8 < 8 := by have := t64 t; omega

/-- The batch of a grid point. -/
abbrev bat (t : Fin cfg0.N) : Fin 8 := ⟨t.val / 8, t8 t⟩

/-- A row of the tile of a grid point, in its sequence. -/
abbrev qrow (t : Fin cfg0.N) (p : Fin 256) : Fin 2048 := ⟨t.val % 8 * 256 + p.val, by omega⟩

theorem blk_x (c : Dev nD) (t : Fin cfg0.N) (p : Fin 256) (j : Fin 1024) :
    (iblk m c 0 t : Vec Ideal S256x1024 .f32) (ix2 p j) = B0 m c (ix3 (bat t) (qrow t p) j) := by
  blk_simp [iblk, idx t]
  entry_read
  pointwise
  blk_ext [idx t]

theorem blk_oa (c : Dev nD) (t : Fin cfg0.N) (p : Fin 256) (j : Fin 512) :
    (iblk m c 1 t : Vec Ideal S256x512 .bf16) (ix2 p j) = B1 m c (ix2 (⟨(bat t).val * 2048 + (qrow t p).val, by omega⟩ : Fin 16384) j) := by
  blk_simp [iblk, idx t]
  entry_read
  blk_ext [idx t]

theorem blk_ob (c : Dev nD) (t : Fin cfg0.N) (p : Fin 256) (j : Fin 512) :
    (iblk m c 2 t : Vec Ideal S256x512 .bf16) (ix2 p j) = B2 m c (ix2 (⟨(bat t).val * 2048 + (qrow t p).val, by omega⟩ : Fin 16384) j) := by
  blk_simp [iblk, idx t]
  entry_read
  blk_ext [idx t]

theorem blk_ga (c : Dev nD) (t : Fin cfg0.N) (p : Fin 256) (j : Fin 1024) :
    (iblk m c 3 t : Vec Ideal S256x1024 .f32) (ix2 p j) = B3 m c (ix2 (⟨(bat t).val * 2048 + (qrow t p).val, by omega⟩ : Fin 16384) j) := by
  blk_simp [iblk, idx t]
  entry_read
  blk_ext [idx t]

theorem blk_gb (c : Dev nD) (t : Fin cfg0.N) (p : Fin 256) (j : Fin 1024) :
    (iblk m c 4 t : Vec Ideal S256x1024 .f32) (ix2 p j) = B4 m c (ix2 (⟨(bat t).val * 2048 + (qrow t p).val, by omega⟩ : Fin 16384) j) := by
  blk_simp [iblk, idx t]
  entry_read
  blk_ext [idx t]

theorem blk_wa (c : Dev nD) (t : Fin cfg0.N) (i : Fin 512) (j : Fin 1024) :
    (iblk m c 5 t : Vec Ideal S512x1024 .bf16) (ix2 i j) = B5 m c (ix2 i j) := by
  blk_simp [iblk, idx t]
  entry_read
  pointwise
  blk_ext [idx t]

theorem blk_wb (c : Dev nD) (t : Fin cfg0.N) (i : Fin 512) (j : Fin 1024) :
    (iblk m c 6 t : Vec Ideal S512x1024 .bf16) (ix2 i j) = B6 m c (ix2 i j) := by
  blk_simp [iblk, idx t]
  entry_read
  pointwise
  blk_ext [idx t]

theorem blk_wo (c : Dev nD) (t : Fin cfg0.N) (i j : Fin 1024) :
    (iblk m c 7 t : Vec Ideal S1024x1024 .bf16) (ix2 i j) = B7 m c (ix2 i j) := by
  blk_simp [iblk, idx t]
  entry_read
  pointwise
  blk_ext [idx t]

theorem blk_gffn (c : Dev nD) (t : Fin cfg0.N) (j : Fin 1024) :
    (iblk m c 8 t : Vec Ideal S1x1024 .f32) (ix2 0 j) = B8 m c (ix1 j) := by
  blk_simp [iblk, idx t]
  entry_read
  pointwise
  blk_ext [idx t]

theorem blk_wup (c : Dev nD) (t : Fin cfg0.N) (i : Fin 1024) (j : Fin 5632) :
    (iblk m c 9 t : Vec Ideal S1024x5632 .bf16) (ix2 i j) = B9 m c (ix2 i j) := by
  blk_simp [iblk, idx t]
  entry_read
  pointwise
  blk_ext [idx t]

theorem blk_cw (c : Dev nD) (t : Fin cfg0.N) (i : Fin 3) (j : Fin 5632) :
    (iblk m c 10 t : Vec Ideal S3x5632 .f32) (ix2 i j) = B10 m c (ix2 i j) := by
  blk_simp [iblk, idx t]
  entry_read
  blk_ext [idx t]

theorem blk_cb (c : Dev nD) (t : Fin cfg0.N) (j : Fin 5632) :
    (iblk m c 11 t : Vec Ideal S1x5632 .f32) (ix2 0 j) = B11 m c (ix1 j) := by
  blk_simp [iblk, idx t]
  entry_read
  pointwise
  blk_ext [idx t]

theorem blk_wd (c : Dev nD) (t : Fin cfg0.N) (i : Fin 2816) (j : Fin 1024) :
    (iblk m c 12 t : Vec Ideal S2816x1024 .bf16) (ix2 i j) = B12 m c (ix2 i j) := by
  blk_simp [iblk, idx t]
  entry_read
  pointwise
  blk_ext [idx t]

theorem blk_gfin (c : Dev nD) (t : Fin cfg0.N) (j : Fin 1024) :
    (iblk m c 13 t : Vec Ideal S1x1024 .f32) (ix2 0 j) = B13 m c (ix1 j) := by
  blk_simp [iblk, idx t]
  entry_read
  pointwise
  blk_ext [idx t]

end Cert.TailIdeal.Value
end
-- ==== Proof.TailPay.lean ====
/-
  The tail kernel's payloads come several times over, once for each quarter of the feed-forward's columns: the same
  functions under other names.
-/
module

public import proofs.«01_k».proof.Proof.Gen.TailIdeal.Skeleton
public import Idealize.ShloMosaic.Lib.Pointwise

@[expose] public section
set_option maxRecDepth 16384
noncomputable section
namespace Cert.TailIdeal.Value
open Cert.TailIdeal Cert.TailIdeal.Gen Idealize.ShloMosaic Idealize.ShloMosaic.TcCoe Idealize.SL.Sem
variable {F : FTy → Type} [FloatOps F]

/-- Whether the tile is the first of its sequence. -/
def bit (i : grid0.Coords) : BitVec 1 :=
  Scalar.cmpi .eq (Scalar.select (Scalar.andi (Scalar.xori (Scalar.cmpi .slt (Scalar.remsi (BitVec.ofNat 32 (i 0).val) 8#32) 0#32) 0#1) (Scalar.cmpi .ne (Scalar.remsi (BitVec.ofNat 32 (i 0).val) 8#32) 0#32)) (Scalar.addi (Scalar.remsi (BitVec.ofNat 32 (i 0).val) 8#32) 8#32) (Scalar.remsi (BitVec.ofNat 32 (i 0).val) 8#32)) 0#32

theorem bit_eq (i : grid0.Coords) : Scalar.cmpi .eq (Scalar.select (Scalar.andi (Scalar.xori (Scalar.cmpi .slt (Scalar.remsi (BitVec.ofNat 32 (i 0).val) 8#32) 0#32) 0#1) (Scalar.cmpi .ne (Scalar.remsi (BitVec.ofNat 32 (i 0).val) 8#32) 0#32)) (Scalar.addi (Scalar.remsi (BitVec.ofNat 32 (i 0).val) 8#32) 8#32) (Scalar.remsi (BitVec.ofNat 32 (i 0).val) 8#32)) 0#32 = bit i := rfl

theorem pay5 (h : FVec F S256x1024 .bf16) (w : Vec F S1024x1408 .bf16) : k0_pay5 h w = k0_pay11 h w := rfl
theorem pay17 (h : FVec F S256x1024 .bf16) (w : Vec F S1024x1408 .bf16) : k0_pay17 h w = k0_pay11 h w := rfl
theorem pay23 (h : FVec F S256x1024 .bf16) (w : Vec F S1024x1408 .bf16) : k0_pay23 h w = k0_pay11 h w := rfl
theorem pay6 (i : grid0.Coords) (v : Vec F S8x1408 .f32) : k0_pay6 (BitVec.ofNat 32 (i 0).val) v = k0_pay12 (bit i) v := rfl
theorem pay18 (f : BitVec 1) (v : Vec F S8x1408 .f32) : k0_pay18 f v = k0_pay12 f v := rfl
theorem pay24 (f : BitVec 1) (v : Vec F S8x1408 .f32) : k0_pay24 f v = k0_pay12 f v := rfl
theorem pay8 (h : FVec F S256x1024 .bf16) (w : Vec F S1024x1408 .bf16) : k0_pay8 h w = k0_pay14 (k0_pay11 h w) := rfl
theorem pay20 (u : FVec F S256x1408 .f32) : k0_pay20 u = k0_pay14 u := rfl
theorem pay26 (h : FVec F S256x1024 .bf16) (w : Vec F S1024x1408 .bf16) : k0_pay26 h w = k0_pay14 (k0_pay11 h w) := rfl
theorem pay9 (u : FVec F S256x1408 .f32) : k0_pay9 u = k0_pay15 u := rfl
theorem pay21 (u : FVec F S256x1408 .f32) : k0_pay21 u = k0_pay15 u := rfl
theorem pay27 (h : FVec F S256x1024 .bf16) (w : Vec F S1024x1408 .bf16) : k0_pay27 h w = k0_pay15 (k0_pay11 h w) := rfl
theorem pay22 (u u1 u2 : Vec F S256x1408 .f32) (cb c0 c1 c2 : Vec F S1x1408 .f32) : k0_pay22 u u1 u2 cb c0 c1 c2 = k0_pay10 u u1 u2 cb c0 c1 c2 := rfl
theorem pay7 (h : FVec F S256x1024 .bf16) (w : Vec F S1024x1408 .bf16) : k0_pay7 h w = k0_pay11 h w := shapeCast_id _ _
theorem pay13 (h : FVec F S256x1024 .bf16) (w : Vec F S1024x1408 .bf16) : k0_pay13 h w = k0_pay11 h w := shapeCast_id _ _
theorem pay25 (h : FVec F S256x1024 .bf16) (w : Vec F S1024x1408 .bf16) : k0_pay25 h w = k0_pay11 h w := shapeCast_id _ _
theorem pay19 (u : FVec F S256x1408 .f32) : k0_pay19 u = u := shapeCast_id _ _

end Cert.TailIdeal.Value
end
-- ==== Proof.TailDefs.lean ====
/-
  What one grid point of the tail kernel stores: its rows of the output, the last rows of the convolution's input, and the
  carry it leaves for the next point.
-/
module

public import proofs.«01_k».proof.Proof.Gen.TailIdeal.Frame
public import proofs.«01_k».proof.Proof.TailPay
public import Idealize.ShloMosaic.Lib.Pipeline.ValueKit

@[expose] public section
set_option maxRecDepth 16384
noncomputable section
namespace Cert.TailIdeal.Value
open Cert.TailIdeal Cert.TailIdeal.Gen Idealize.ShloMosaic Idealize.ShloMosaic.TcCoe Idealize.SL.Sem
variable {F : FTy → Type} [FloatOps F]

theorem z2 : (![0, 0] : Fin 2 → Nat) = fun _ => 0 := funext fun a => by fin_cases a <;> rfl

/-- A load through the whole of a buffer. -/
theorem ldz {S : Shape} {e : EltTy} (X : S.Idx → Elt F e) {off : Fin S.rank → Nat} (h : off = fun _ => 0) (inb : ∀ a, off a + S.size a ≤ S.size a) :
    View.ld X (Rect.unit off S.size inb) = X := View.ld_unit_zero h inb X

theorem ldz256x512 {e : EltTy} (X : S256x512.Idx → Elt F e) : View.ld X (Rect.unit (s := S256x512) ![0, 0] ![256, 512] inb_S256x512_S256x512_0_0) = X := ldz X z2 _
theorem ldz512x1024 {e : EltTy} (X : S512x1024.Idx → Elt F e) : View.ld X (Rect.unit (s := S512x1024) ![0, 0] ![512, 1024] inb_S512x1024_S512x1024_0_0) = X := ldz X z2 _
theorem ldz256x1024 {e : EltTy} (X : S256x1024.Idx → Elt F e) : View.ld X (Rect.unit (s := S256x1024) ![0, 0] ![256, 1024] inb_S256x1024_S256x1024_0_0) = X := ldz X z2 _
theorem ldz1024x1024 {e : EltTy} (X : S1024x1024.Idx → Elt F e) : View.ld X (Rect.unit (s := S1024x1024) ![0, 0] ![1024, 1024] inb_S1024x1024_S1024x1024_0_0) = X := ldz X z2 _
theorem ldz1x1024 {e : EltTy} (X : S1x1024.Idx → Elt F e) : View.ld X (Rect.unit (s := S1x1024) ![0, 0] ![1, 1024] inb_S1x1024_S1x1024_0_0) = X := ldz X z2 _

/-- A buffer read back after a store over the whole of it. -/
theorem rwz {S : Shape} {e : EltTy} {sp : Space} (v : View sig .tc sp S e) {off : Fin S.rank → Nat} (h : off = fun _ => 0)
    (inb : ∀ a, off a + S.size a ≤ S.size a) (w : S.Idx → Elt F e) (L : List (View.Piece (Elt F) S e)) :
    v.read (Elt F) (v.writes (Elt F) v.junk ((⟨Rect.unit off S.size inb, w⟩ : View.Piece (Elt F) S e) :: L)) = w := by
  rw [View.read_writes_junk_eq_canon, View.canon_cons_unit_zero h]

/-- The rows of a chunk with the eight rows before them. -/
def ueK (h : Vec F S8x1408 .f32) (u : Vec F S256x1408 .f32) : Vec F S264x1408 .f32 :=
  View.canon [⟨Rect.unit (s := S264x1408) ![8, 0] ![256, 1408] inb_S264x1408_S256x1408_8_0, u⟩, ⟨Rect.unit (s := S264x1408) ![0, 0] ![8, 1408] inb_S264x1408_S8x1408_0_0, h⟩]

/-- The rows one before. -/
def u1K (h : Vec F S8x1408 .f32) (u : Vec F S256x1408 .f32) : Vec F S256x1408 .f32 :=
  View.ld (ueK h u) (Rect.unit (s := S264x1408) ![7, 0] ![256, 1408] inb_S264x1408_S256x1408_7_0)

/-- The rows two before. -/
def u2K (h : Vec F S8x1408 .f32) (u : Vec F S256x1408 .f32) : Vec F S256x1408 .f32 :=
  View.ld (ueK h u) (Rect.unit (s := S264x1408) ![6, 0] ![256, 1408] inb_S264x1408_S256x1408_6_0)

theorem canon_two {S : Shape} {e : EltTy} (r1 r0 : Rect S) (u : r1.shape.Idx → Elt F e) (h : r0.shape.Idx → Elt F e) (L L' : List (View.Piece (Elt F) S e)) (y : S.Idx)
    (hy : y ∈ r1.set ∨ y ∈ r0.set) :
    View.canon ((⟨r1, u⟩ : View.Piece (Elt F) S e) :: ⟨r0, h⟩ :: L) y = View.canon ((⟨r1, u⟩ : View.Piece (Elt F) S e) :: ⟨r0, h⟩ :: L') y := by
  by_cases h1 : y ∈ r1.set
  · obtain ⟨x, rfl⟩ : ∃ x, r1.emb x = y := r1.exists_idx_of_mem h1
    rw [View.canon_cons_emb, View.canon_cons_emb]
  · obtain ⟨x, rfl⟩ : ∃ x, r0.emb x = y := r0.exists_idx_of_mem (hy.resolve_left h1)
    rw [View.canon_cons_of_not_mem (⟨r1, u⟩ : View.Piece (Elt F) S e) (⟨r0, h⟩ :: L) h1,
      View.canon_cons_of_not_mem (⟨r1, u⟩ : View.Piece (Elt F) S e) (⟨r0, h⟩ :: L') h1, View.canon_cons_emb, View.canon_cons_emb]

theorem cov264 (y : S264x1408.Idx) : y ∈ (Rect.unit (s := S264x1408) ![8, 0] ![256, 1408] inb_S264x1408_S256x1408_8_0).set
    ∨ y ∈ (Rect.unit (s := S264x1408) ![0, 0] ![8, 1408] inb_S264x1408_S8x1408_0_0).set := by
  have b0 : (y 0 : ℕ) < 264 := (y 0).isLt
  have b1 : (y 1 : ℕ) < 1408 := (y 1).isLt
  rw [Rect.mem_set_unit, Rect.mem_set_unit]
  by_cases h : 8 ≤ (y 0 : ℕ)
  · refine Or.inl (Fin.forall_fin_two.mpr ⟨⟨h, ?_⟩, ⟨Nat.zero_le _, ?_⟩⟩)
    · show (y 0 : ℕ) < 8 + 256
      omega
    · show (y 1 : ℕ) < 0 + 1408
      omega
  · refine Or.inr (Fin.forall_fin_two.mpr ⟨⟨Nat.zero_le _, ?_⟩, ⟨Nat.zero_le _, ?_⟩⟩)
    · show (y 0 : ℕ) < 0 + 8
      omega
    · show (y 1 : ℕ) < 0 + 1408
      omega

/-- Any earlier writes of that buffer are overwritten. -/
theorem canon_ue (h : Vec F S8x1408 .f32) (u : Vec F S256x1408 .f32) (L : List (View.Piece (Elt F) S264x1408 .f32)) :
    View.canon ((⟨Rect.unit (s := S264x1408) ![8, 0] ![256, 1408] inb_S264x1408_S256x1408_8_0, u⟩ : View.Piece (Elt F) S264x1408 .f32) :: ⟨Rect.unit (s := S264x1408) ![0, 0] ![8, 1408] inb_S264x1408_S8x1408_0_0, h⟩ :: L) = ueK h u :=
  funext fun y => canon_two _ _ _ _ _ _ y (cov264 y)

theorem rd_ue {sp : Space} (v : View sig .tc sp S264x1408 .f32) (h : Vec F S8x1408 .f32) (u : Vec F S256x1408 .f32)
    (L : List (View.Piece (Elt F) S264x1408 .f32)) (r : Rect S264x1408) :
    v.readCov ((⟨Rect.unit (s := S264x1408) ![8, 0] ![256, 1408] inb_S264x1408_S256x1408_8_0, u⟩ : View.Piece (Elt F) S264x1408 .f32) :: ⟨Rect.unit (s := S264x1408) ![0, 0] ![8, 1408] inb_S264x1408_S8x1408_0_0, h⟩ :: L) r.toLoadRect = View.ld (ueK h u) r := by
  rw [View.readCov_eq_canon', canon_ue]

/-- A chunk of the carry is not touched by a store into another. -/
theorem rd_skip {sp : Space} (v : View sig .tc sp S8x5632 .f32) (c c' : ℕ) (inb : ∀ a, (![0, c] : Fin 2 → ℕ) a + S8x1408.size a ≤ S8x5632.size a)
    (inb' : ∀ a, (![0, c'] : Fin 2 → ℕ) a + S8x1408.size a ≤ S8x5632.size a) (hc : c + 1408 ≤ c' ∨ c' + 1408 ≤ c)
    (w : Vec F S8x1408 .f32) (L : List (View.Piece (Elt F) S8x5632 .f32)) :
    v.readCov ((⟨Rect.unit (s := S8x5632) ![0, c'] ![8, 1408] inb', w⟩ : View.Piece (Elt F) S8x5632 .f32) :: L) (Rect.unit (s := S8x5632) ![0, c] ![8, 1408] inb).toLoadRect
      = v.readCov L (Rect.unit (s := S8x5632) ![0, c] ![8, 1408] inb).toLoadRect :=
  View.readCov_cons_of_disjoint v _ L _ (by
    exact Rect.unit_disjoint (s := S8x5632) (inb := inb') (inb' := inb) 1 hc.symm)

theorem sk_2816_0 {sp : Space} (v : View sig .tc sp S8x5632 .f32) (w : Vec F S8x1408 .f32) (L : List (View.Piece (Elt F) S8x5632 .f32)) :
    v.readCov ((⟨(Rect.unit (s := S8x5632) ![0, 0] ![8, 1408] inb_S8x5632_S8x1408_0_0), w⟩ : View.Piece (Elt F) S8x5632 .f32) :: L) (Rect.unit (s := S8x5632) ![0, 2816] ![8, 1408] inb_S8x5632_S8x1408_0_2816).toLoadRect
      = v.readCov L (Rect.unit (s := S8x5632) ![0, 2816] ![8, 1408] inb_S8x5632_S8x1408_0_2816).toLoadRect := rd_skip v 2816 0 _ _ (by decide) w L

theorem sk_1408_2816 {sp : Space} (v : View sig .tc sp S8x5632 .f32) (w : Vec F S8x1408 .f32) (L : List (View.Piece (Elt F) S8x5632 .f32)) :
    v.readCov ((⟨(Rect.unit (s := S8x5632) ![0, 2816] ![8, 1408] inb_S8x5632_S8x1408_0_2816), w⟩ : View.Piece (Elt F) S8x5632 .f32) :: L) (Rect.unit (s := S8x5632) ![0, 1408] ![8, 1408] inb_S8x5632_S8x1408_0_1408).toLoadRect
      = v.readCov L (Rect.unit (s := S8x5632) ![0, 1408] ![8, 1408] inb_S8x5632_S8x1408_0_1408).toLoadRect := rd_skip v 1408 2816 _ _ (by decide) w L

theorem sk_1408_0 {sp : Space} (v : View sig .tc sp S8x5632 .f32) (w : Vec F S8x1408 .f32) (L : List (View.Piece (Elt F) S8x5632 .f32)) :
    v.readCov ((⟨(Rect.unit (s := S8x5632) ![0, 0] ![8, 1408] inb_S8x5632_S8x1408_0_0), w⟩ : View.Piece (Elt F) S8x5632 .f32) :: L) (Rect.unit (s := S8x5632) ![0, 1408] ![8, 1408] inb_S8x5632_S8x1408_0_1408).toLoadRect
      = v.readCov L (Rect.unit (s := S8x5632) ![0, 1408] ![8, 1408] inb_S8x5632_S8x1408_0_1408).toLoadRect := rd_skip v 1408 0 _ _ (by decide) w L

theorem sk_4224_1408 {sp : Space} (v : View sig .tc sp S8x5632 .f32) (w : Vec F S8x1408 .f32) (L : List (View.Piece (Elt F) S8x5632 .f32)) :
    v.readCov ((⟨(Rect.unit (s := S8x5632) ![0, 1408] ![8, 1408] inb_S8x5632_S8x1408_0_1408), w⟩ : View.Piece (Elt F) S8x5632 .f32) :: L) (Rect.unit (s := S8x5632) ![0, 4224] ![8, 1408] inb_S8x5632_S8x1408_0_4224).toLoadRect
      = v.readCov L (Rect.unit (s := S8x5632) ![0, 4224] ![8, 1408] inb_S8x5632_S8x1408_0_4224).toLoadRect := rd_skip v 4224 1408 _ _ (by decide) w L

theorem sk_4224_2816 {sp : Space} (v : View sig .tc sp S8x5632 .f32) (w : Vec F S8x1408 .f32) (L : List (View.Piece (Elt F) S8x5632 .f32)) :
    v.readCov ((⟨(Rect.unit (s := S8x5632) ![0, 2816] ![8, 1408] inb_S8x5632_S8x1408_0_2816), w⟩ : View.Piece (Elt F) S8x5632 .f32) :: L) (Rect.unit (s := S8x5632) ![0, 4224] ![8, 1408] inb_S8x5632_S8x1408_0_4224).toLoadRect
      = v.readCov L (Rect.unit (s := S8x5632) ![0, 4224] ![8, 1408] inb_S8x5632_S8x1408_0_4224).toLoadRect := rd_skip v 4224 2816 _ _ (by decide) w L

theorem sk_4224_0 {sp : Space} (v : View sig .tc sp S8x5632 .f32) (w : Vec F S8x1408 .f32) (L : List (View.Piece (Elt F) S8x5632 .f32)) :
    v.readCov ((⟨(Rect.unit (s := S8x5632) ![0, 0] ![8, 1408] inb_S8x5632_S8x1408_0_0), w⟩ : View.Piece (Elt F) S8x5632 .f32) :: L) (Rect.unit (s := S8x5632) ![0, 4224] ![8, 1408] inb_S8x5632_S8x1408_0_4224).toLoadRect
      = v.readCov L (Rect.unit (s := S8x5632) ![0, 4224] ![8, 1408] inb_S8x5632_S8x1408_0_4224).toLoadRect := rd_skip v 4224 0 _ _ (by decide) w L

theorem rd_all {sp : Space} (v : View sig .tc sp S8x5632 .f32) (w : Vec F S8x5632 .f32) (r : Rect S8x5632) (L : List (View.Piece (Elt F) S8x5632 .f32)) :
    v.readCov ((⟨Rect.unit (s := S8x5632) ![0, 0] ![8, 5632] inb_S8x5632_S8x5632_0_0, w⟩ : View.Piece (Elt F) S8x5632 .f32) :: L) r.toLoadRect = View.ld w r := by
  rw [View.readCov_eq_canon', View.canon_cons_unit_zero z2]

section
/-- A chunk of the up projection. -/
def uK (x9 : Vec F S1024x5632 .bf16) (hn : FVec F S256x1024 .bf16) (c : ℕ) (inb : ∀ a, (![0, c] : Fin 2 → ℕ) a + S1024x1408.size a ≤ S1024x5632.size a) : FVec F S256x1408 .f32 :=
  k0_pay11 hn (View.ld x9 (Rect.unit (s := S1024x5632) ![0, c] ![1024, 1408] inb))

/-- A chunk of the eight rows before the tile. -/
def hK (f : BitVec 1) (H : Vec F S8x5632 .f32) (c : ℕ) (inb : ∀ a, (![0, c] : Fin 2 → ℕ) a + S8x1408.size a ≤ S8x5632.size a) : FVec F S8x1408 .f32 :=
  k0_pay12 f (View.ld H (Rect.unit (s := S8x5632) ![0, c] ![8, 1408] inb))

/-- The convolution's rows at column 0: the chunk, and the eight rows before it. -/
abbrev u0 (x9 : Vec F S1024x5632 .bf16) (hn : FVec F S256x1024 .bf16) : FVec F S256x1408 .f32 := uK x9 hn 0 inb_S1024x5632_S1024x1408_0_0
abbrev h0 (f : BitVec 1) (H : Vec F S8x5632 .f32) : FVec F S8x1408 .f32 := hK f H 0 inb_S8x5632_S8x1408_0_0

/-- The convolution's rows at column 2816: the chunk, and the eight rows before it. -/
abbrev u2816 (x9 : Vec F S1024x5632 .bf16) (hn : FVec F S256x1024 .bf16) : FVec F S256x1408 .f32 := uK x9 hn 2816 inb_S1024x5632_S1024x1408_0_2816
abbrev h2816 (f : BitVec 1) (H : Vec F S8x5632 .f32) : FVec F S8x1408 .f32 := hK f H 2816 inb_S8x5632_S8x1408_0_2816

/-- The convolution's rows at column 1408: the chunk, and the eight rows before it. -/
abbrev u1408 (x9 : Vec F S1024x5632 .bf16) (hn : FVec F S256x1024 .bf16) : FVec F S256x1408 .f32 := uK x9 hn 1408 inb_S1024x5632_S1024x1408_0_1408
abbrev h1408 (f : BitVec 1) (H : Vec F S8x5632 .f32) : FVec F S8x1408 .f32 := hK f H 1408 inb_S8x5632_S8x1408_0_1408

/-- The convolution's rows at column 4224: the chunk, and the eight rows before it. -/
abbrev u4224 (x9 : Vec F S1024x5632 .bf16) (hn : FVec F S256x1024 .bf16) : FVec F S256x1408 .f32 := uK x9 hn 4224 inb_S1024x5632_S1024x1408_0_4224
abbrev h4224 (f : BitVec 1) (H : Vec F S8x5632 .f32) : FVec F S8x1408 .f32 := hK f H 4224 inb_S8x5632_S8x1408_0_4224

/-- The tile's output rows, from its residual, its normed residual and the carry. -/
def yC (f : BitVec 1) (H : Vec F S8x5632 .f32) (x1v : FVec F S256x1024 .f32) (hn : FVec F S256x1024 .bf16) (x9 : Vec F S1024x5632 .bf16) (x10 : Vec F S3x5632 .f32) (x11 : Vec F S1x5632 .f32) (x12 : Vec F S2816x1024 .bf16) (x13 : Vec F S1x1024 .f32) : FVec F S256x1024 .f32 :=
  k0_pay1 (k0_pay16 x1v (k0_pay10 (u0 x9 hn) (u1K (h0 f H) (u0 x9 hn)) (u2K (h0 f H) (u0 x9 hn)) (View.ld x11 (Rect.unit (s := S1x5632) ![0, 0] ![1, 1408] inb_S1x5632_S1x1408_0_0)) (View.ld x10 (Rect.unit (s := S3x5632) ![0, 0] ![1, 1408] inb_S3x5632_S1x1408_0_0)) (View.ld x10 (Rect.unit (s := S3x5632) ![1, 0] ![1, 1408] inb_S3x5632_S1x1408_1_0)) (View.ld x10 (Rect.unit (s := S3x5632) ![2, 0] ![1, 1408] inb_S3x5632_S1x1408_2_0))) (u2816 x9 hn) (u1K (h2816 f H) (u2816 x9 hn)) (u2K (h2816 f H) (u2816 x9 hn)) (View.ld x11 (Rect.unit (s := S1x5632) ![0, 2816] ![1, 1408] inb_S1x5632_S1x1408_0_2816)) (View.ld x10 (Rect.unit (s := S3x5632) ![0, 2816] ![1, 1408] inb_S3x5632_S1x1408_0_2816)) (View.ld x10 (Rect.unit (s := S3x5632) ![1, 2816] ![1, 1408] inb_S3x5632_S1x1408_1_2816)) (View.ld x10 (Rect.unit (s := S3x5632) ![2, 2816] ![1, 1408] inb_S3x5632_S1x1408_2_2816)) (View.ld x12 (Rect.unit (s := S2816x1024) ![0, 0] ![1408, 1024] inb_S2816x1024_S1408x1024_0_0))) (k0_pay10 (u1408 x9 hn) (u1K (h1408 f H) (u1408 x9 hn)) (u2K (h1408 f H) (u1408 x9 hn)) (View.ld x11 (Rect.unit (s := S1x5632) ![0, 1408] ![1, 1408] inb_S1x5632_S1x1408_0_1408)) (View.ld x10 (Rect.unit (s := S3x5632) ![0, 1408] ![1, 1408] inb_S3x5632_S1x1408_0_1408)) (View.ld x10 (Rect.unit (s := S3x5632) ![1, 1408] ![1, 1408] inb_S3x5632_S1x1408_1_1408)) (View.ld x10 (Rect.unit (s := S3x5632) ![2, 1408] ![1, 1408] inb_S3x5632_S1x1408_2_1408))) (u4224 x9 hn) (k0_pay28 (u2K (h4224 f H) (u4224 x9 hn)) (View.ld x11 (Rect.unit (s := S1x5632) ![0, 4224] ![1, 1408] inb_S1x5632_S1x1408_0_4224)) (View.ld x10 (Rect.unit (s := S3x5632) ![0, 4224] ![1, 1408] inb_S3x5632_S1x1408_0_4224))) (k0_pay29 (u1K (h4224 f H) (u4224 x9 hn)) (View.ld x10 (Rect.unit (s := S3x5632) ![1, 4224] ![1, 1408] inb_S3x5632_S1x1408_1_4224))) (View.ld x10 (Rect.unit (s := S3x5632) ![2, 4224] ![1, 1408] inb_S3x5632_S1x1408_2_4224)) (View.ld x12 (Rect.unit (s := S2816x1024) ![1408, 0] ![1408, 1024] inb_S2816x1024_S1408x1024_1408_0)) x13

/-- The tile's output rows. -/
def yK (f : BitVec 1) (H : Vec F S8x5632 .f32) (x0 : Vec F S256x1024 .f32) (x1 : Vec F S256x512 .bf16) (x2 : Vec F S256x512 .bf16) (x3 : Vec F S256x1024 .f32) (x4 : Vec F S256x1024 .f32) (x5 : Vec F S512x1024 .bf16) (x6 : Vec F S512x1024 .bf16) (x7 : Vec F S1024x1024 .bf16) (x8 : Vec F S1x1024 .f32) (x9 : Vec F S1024x5632 .bf16) (x10 : Vec F S3x5632 .f32) (x11 : Vec F S1x5632 .f32) (x12 : Vec F S2816x1024 .bf16) (x13 : Vec F S1x1024 .f32) : FVec F S256x1024 .f32 :=
  yC f H (k0_pay2 x1 x5 x2 x6 x3 x4 x0 x7) (k0_pay3 x1 x5 x2 x6 x3 x4 x0 x7 x8) x9 x10 x11 x12 x13

/-- The last two rows of the tile's convolution input. -/
def cK (x9 : Vec F S1024x5632 .bf16) (hn : FVec F S256x1024 .bf16) : Vec F S1x2x5632 .f32 :=
  View.canon [⟨Rect.unit (s := S1x2x5632) ![0, 0, 4224] ![1, 2, 1408] inb_S1x2x5632_S1x2x1408_0_0_4224, k0_pay15 (u4224 x9 hn)⟩, ⟨Rect.unit (s := S1x2x5632) ![0, 0, 1408] ![1, 2, 1408] inb_S1x2x5632_S1x2x1408_0_0_1408, k0_pay15 (u1408 x9 hn)⟩, ⟨Rect.unit (s := S1x2x5632) ![0, 0, 2816] ![1, 2, 1408] inb_S1x2x5632_S1x2x1408_0_0_2816, k0_pay15 (u2816 x9 hn)⟩, ⟨Rect.unit (s := S1x2x5632) ![0, 0, 0] ![1, 2, 1408] inb_S1x2x5632_S1x2x1408_0_0_0, k0_pay15 (u0 x9 hn)⟩]

/-- The last eight rows, left for the next tile. -/
def sK (x9 : Vec F S1024x5632 .bf16) (hn : FVec F S256x1024 .bf16) (L : List (View.Piece (Elt F) S8x5632 .f32)) : Vec F S8x5632 .f32 :=
  View.canon ((⟨Rect.unit (s := S8x5632) ![0, 4224] ![8, 1408] inb_S8x5632_S8x1408_0_4224, k0_pay14 (u4224 x9 hn)⟩ : View.Piece (Elt F) S8x5632 .f32) :: (⟨Rect.unit (s := S8x5632) ![0, 1408] ![8, 1408] inb_S8x5632_S8x1408_0_1408, k0_pay14 (u1408 x9 hn)⟩ : View.Piece (Elt F) S8x5632 .f32) :: (⟨Rect.unit (s := S8x5632) ![0, 2816] ![8, 1408] inb_S8x5632_S8x1408_0_2816, k0_pay14 (u2816 x9 hn)⟩ : View.Piece (Elt F) S8x5632 .f32) :: (⟨Rect.unit (s := S8x5632) ![0, 0] ![8, 1408] inb_S8x5632_S8x1408_0_0, k0_pay14 (u0 x9 hn)⟩ : View.Piece (Elt F) S8x5632 .f32) :: L)
end

end Cert.TailIdeal.Value
end
-- ==== Proof.TailMath.lean ====
/-
  The merge of the two branches, the feed-forward with its causal convolution, and the last norm, of one row, in the
  extended reals: what both the kernel's tiles and the reference's arrays are read as.
-/
module

public import Idealize.ShloMosaic.Lib.Pointwise

@[expose] public section
set_option maxRecDepth 16384
noncomputable section
namespace Cert.TailMath
open Idealize.ShloMosaic

/-- The residual row: the layer's input plus the projected, gated sum of the two branches. -/
def merge (x ga gb : Fin 1024 → EReal) (oa ob : Fin 512 → EReal) (wa wb : Fin 512 → Fin 1024 → EReal)
    (wo : Fin 1024 → Fin 1024 → EReal) (j : Fin 1024) : EReal :=
  x j + ∑ k : Fin 1024, (ga k * (∑ i : Fin 512, oa i * wa i k) + gb k * (∑ i : Fin 512, ob i * wb i k)) * wo k j

/-- The root-mean-square norm of a row. -/
def rms (x g : Fin 1024 → EReal) (j : Fin 1024) : EReal :=
  x j * Ideal.rsqrt (Ideal.div (∑ k : Fin 1024, x k * x k) (Ideal.ofBits .f32 0x44800000#32) + Ideal.ofBits .f32 0x358637BD#32) * g j

/-- The up projection of a row. -/
def up (h : Fin 1024 → EReal) (w : Fin 1024 → EReal) : EReal := ∑ k : Fin 1024, h k * w k

/-- The three taps of the convolution. -/
def conv (cb c0 c1 c2 u2 u1 u0 : EReal) : EReal := cb + c0 * u2 + c1 * u1 + c2 * u0

/-- The gated activation. -/
def act (a b : EReal) : EReal := a * Ideal.logistic a * b

/-- The down projection, added to the residual. -/
def down (x : Fin 1024 → EReal) (a : Fin 2816 → EReal) (w : Fin 2816 → Fin 1024 → EReal) (j : Fin 1024) : EReal :=
  x j + ∑ k : Fin 2816, a k * w k j

end Cert.TailMath
end
-- ==== Proof.TailVal.lean ====
/-
  The tail kernel's payloads, read at a row of a tile.
-/
module

public import proofs.«01_k».proof.Proof.Gen.TailIdeal.Skeleton
public import proofs.«01_k».proof.Proof.TailMath
public import Idealize.ShloMosaic.Lib.Pointwise

@[expose] public section
set_option maxRecDepth 16384
noncomputable section
namespace Cert.TailIdeal.Value
open Cert.TailIdeal Cert.TailIdeal.Gen Idealize.ShloMosaic Idealize.ShloMosaic.TcCoe Idealize.SL.Sem Cert.TailMath

/-- The residual, from the tile's rows and the weights. -/
theorem x1_apply (oa : Vec Ideal S256x512 .bf16) (wa : Vec Ideal S512x1024 .bf16) (ob : Vec Ideal S256x512 .bf16) (wb : Vec Ideal S512x1024 .bf16)
    (ga gb x : Vec Ideal S256x1024 .f32) (wo : Vec Ideal S1024x1024 .bf16) (p : Fin 256) (j : Fin 1024) :
    k0_pay2 oa wa ob wb ga gb x wo (ix2 p j)
      = merge (fun j => x (ix2 p j)) (fun j => ga (ix2 p j)) (fun j => gb (ix2 p j)) (fun i => oa (ix2 p i)) (fun i => ob (ix2 p i))
        (fun i j => wa (ix2 i j)) (fun i j => wb (ix2 i j)) (fun i j => wo (ix2 i j)) j := by
  pointwise [k0_pay2, merge]

/-- The normed residual. -/
theorem hn_apply (oa : Vec Ideal S256x512 .bf16) (wa : Vec Ideal S512x1024 .bf16) (ob : Vec Ideal S256x512 .bf16) (wb : Vec Ideal S512x1024 .bf16)
    (ga gb x : Vec Ideal S256x1024 .f32) (wo : Vec Ideal S1024x1024 .bf16) (g : Vec Ideal S1x1024 .f32) (p : Fin 256) (j : Fin 1024) :
    k0_pay3 oa wa ob wb ga gb x wo g (ix2 p j)
      = rms (fun j => k0_pay2 oa wa ob wb ga gb x wo (ix2 p j)) (fun j => g (ix2 0 j)) j := by
  unfold k0_pay3
  generalize k0_pay2 oa wa ob wb ga gb x wo = v
  pointwise [rms]

/-- One chunk of the up projection. -/
theorem u_apply (h : FVec Ideal S256x1024 .bf16) (w : Vec Ideal S1024x1408 .bf16) (p : Fin 256) (j : Fin 1408) :
    k0_pay11 h w (ix2 p j) = up (fun k => h (ix2 p k)) (fun k => w (ix2 k j)) := by
  pointwise [k0_pay11, up]

/-- The rows before the tile: zero at a sequence's first tile. -/
theorem hist_apply (f : BitVec 1) (v : Vec Ideal S8x1408 .f32) (r : Fin 8) (j : Fin 1408) :
    k0_pay12 f v (ix2 r j) = if f = 1#1 then 0 else v (ix2 r j) := by
  by_cases hf : f = 1#1
  · subst hf
    rw [if_pos rfl]
    pointwise [k0_pay12]
  · obtain rfl : f = 0#1 := by
      have := f.isLt
      apply BitVec.eq_of_toNat_eq
      have h1 : f.toNat ≠ 1 := fun h => hf (BitVec.eq_of_toNat_eq h)
      show f.toNat = 0
      omega
    rw [if_neg hf]
    pointwise [k0_pay12]

/-- The convolution of one chunk. -/
theorem conv_apply (u u1 u2 : Vec Ideal S256x1408 .f32) (cb c0 c1 c2 : Vec Ideal S1x1408 .f32) (p : Fin 256) (j : Fin 1408) :
    k0_pay10 u u1 u2 cb c0 c1 c2 (ix2 p j)
      = conv (cb (ix2 0 j)) (c0 (ix2 0 j)) (c1 (ix2 0 j)) (c2 (ix2 0 j)) (u2 (ix2 p j)) (u1 (ix2 p j)) (u (ix2 p j)) := by
  pointwise [k0_pay10, conv]

/-- The first half of the down projection, added to the residual. -/
theorem acc_apply (x1 : FVec Ideal S256x1024 .f32) (a : FVec Ideal S256x1408 .f32) (u u1 u2 : Vec Ideal S256x1408 .f32) (cb c0 c1 c2 : Vec Ideal S1x1408 .f32)
    (wd : Vec Ideal S1408x1024 .bf16) (p : Fin 256) (j : Fin 1024) :
    k0_pay16 x1 a u u1 u2 cb c0 c1 c2 wd (ix2 p j)
      = x1 (ix2 p j) + ∑ k : Fin 1408, act (a (ix2 p k)) (conv (cb (ix2 0 k)) (c0 (ix2 0 k)) (c1 (ix2 0 k)) (c2 (ix2 0 k)) (u2 (ix2 p k)) (u1 (ix2 p k)) (u (ix2 p k)))
          * wd (ix2 k j) := by
  pointwise [k0_pay16, conv, act]

/-- The second half, and the last norm. -/
theorem y_apply (x1 : FVec Ideal S256x1024 .f32) (a : FVec Ideal S256x1408 .f32) (u u1 u2 : Vec Ideal S256x1408 .f32) (cb c0 c1 c2 : Vec Ideal S1x1408 .f32)
    (wd : Vec Ideal S1408x1024 .bf16) (g : Vec Ideal S1x1024 .f32) (p : Fin 256) (j : Fin 1024) :
    k0_pay1 x1 a u (k0_pay28 u2 cb c0) (k0_pay29 u1 c1) c2 wd g (ix2 p j)
      = rms (fun j => k0_pay16 x1 a u u1 u2 cb c0 c1 c2 wd (ix2 p j)) (fun j => g (ix2 0 j)) j := by
  simp only [acc_apply]
  pointwise [k0_pay1, k0_pay28, k0_pay29, rms, conv, act]

/-- The last eight rows of a chunk. -/
theorem last8_apply (u : FVec Ideal S256x1408 .f32) (r : Fin 8) (j : Fin 1408) :
    k0_pay14 u (ix2 r j) = u (ix2 ⟨248 + r.val, by omega⟩ j) := by
  pointwise [k0_pay14]

/-- The last two rows of a chunk. -/
theorem last2_apply (u : FVec Ideal S256x1408 .f32) (r : Fin 2) (j : Fin 1408) :
    k0_pay15 u (ix3 0 r j) = u (ix2 ⟨254 + r.val, by omega⟩ j) := by
  pointwise [k0_pay15]

/-- The carry a call starts from. -/
theorem zero8_apply (r : Fin 8) (j : Fin 5632) : k0_pay4 (F := Ideal) (ix2 r j) = 0 := by
  pointwise [k0_pay4]

end Cert.TailIdeal.Value
end
-- ==== Proof.TailRow.lean ====
/-
  What a grid point of the tail kernel stores, read at a row: over the residual and the normed residual of the tile.
-/
module

public import proofs.«01_k».proof.Proof.TailDefs
public import proofs.«01_k».proof.Proof.TailVal

@[expose] public section
set_option maxRecDepth 16384
noncomputable section
namespace Cert.TailIdeal.Value
open Cert.TailIdeal Cert.TailIdeal.Gen Idealize.ShloMosaic Idealize.ShloMosaic.TcCoe Idealize.SL.Sem Cert.TailMath

/-- A load of a block of a matrix, read at an index. -/
theorem ld2 {e : EltTy} {A B : ℕ} {a b : ℕ} (X : (⟨2, ![A, B]⟩ : Shape).Idx → Elt Ideal e) (o0 o1 : ℕ)
    (inb : ∀ k, (![o0, o1] : Fin 2 → ℕ) k + (![a, b] : Fin 2 → ℕ) k ≤ (⟨2, ![A, B]⟩ : Shape).size k) (i : Fin a) (j : Fin b)
    (hi : o0 + i.val < A) (hj : o1 + j.val < B) :
    View.ld X (Rect.unit (s := ⟨2, ![A, B]⟩) ![o0, o1] ![a, b] inb) (ix2 i j) = X (ix2 ⟨o0 + i.val, hi⟩ ⟨o1 + j.val, hj⟩) :=
  View.ld_unit_apply_of X _ _ inb _ _ (Fin.forall_fin_two.mpr ⟨rfl, rfl⟩)

theorem uK_apply (x9 : Vec Ideal S1024x5632 .bf16) (hn : FVec Ideal S256x1024 .bf16) (c : ℕ)
    (inb : ∀ a, (![0, c] : Fin 2 → ℕ) a + S1024x1408.size a ≤ S1024x5632.size a) (p : Fin 256) (j : Fin 1408) (k : Fin 5632) (hk : k.val = c + j.val) :
    uK x9 hn c inb (ix2 p j) = up (fun i => hn (ix2 p i)) (fun i => x9 (ix2 i k)) := by
  unfold uK
  rw [u_apply]
  unfold up
  refine Finset.sum_congr rfl fun i _ => congrArg (hn (ix2 p i) * ·) ?_
  refine View.ld_unit_apply_of x9 _ _ inb _ _ (Fin.forall_fin_two.mpr ⟨?_, ?_⟩)
  · show i.val = 0 + i.val
    omega
  · exact hk

theorem hK_apply (f : BitVec 1) (H : Vec Ideal S8x5632 .f32) (c : ℕ) (inb : ∀ a, (![0, c] : Fin 2 → ℕ) a + S8x1408.size a ≤ S8x5632.size a)
    (r : Fin 8) (j : Fin 1408) (k : Fin 5632) (hk : k.val = c + j.val) :
    hK f H c inb (ix2 r j) = if f = 1#1 then 0 else H (ix2 r k) := by
  unfold hK
  rw [hist_apply]
  refine congrArg (fun z : EReal => if f = 1#1 then 0 else z) ?_
  refine View.ld_unit_apply_of H _ _ inb _ _ (Fin.forall_fin_two.mpr ⟨?_, ?_⟩)
  · show r.val = 0 + r.val
    omega
  · exact hk

theorem ueK_apply (h : Vec Ideal S8x1408 .f32) (u : Vec Ideal S256x1408 .f32) (q : Fin 264) (j : Fin 1408) :
    ueK h u (ix2 q j) = if hq : q.val < 8 then h (ix2 ⟨q.val, hq⟩ j) else u (ix2 ⟨q.val - 8, by omega⟩ j) := by
  unfold ueK
  canon_tiles x hx using ((cov264 (ix2 q j)).elim (fun w => ⟨_, List.Mem.head _, w⟩) (fun w => ⟨_, List.Mem.tail _ (List.Mem.head _), w⟩))
  · obtain ⟨q', j', rfl⟩ : ∃ (q' : Fin 256) (j' : Fin 1408), x = ix2 q' j' := ⟨x 0, x 1, funext (Fin.forall_fin_two.mpr ⟨rfl, rfl⟩)⟩
    have e0 : q.val = 8 + q'.val := by assumption
    have e1 : j.val = 0 + j'.val := by first | assumption | (rw [Nat.zero_add]; assumption)
    rw [dif_neg (by omega)]
    exact congrArg u (congrArg₂ ix2 (Fin.ext (by show q'.val = q.val - 8; omega)) (Fin.ext (by omega)))
  · obtain ⟨q', j', rfl⟩ : ∃ (q' : Fin 8) (j' : Fin 1408), x = ix2 q' j' := ⟨x 0, x 1, funext (Fin.forall_fin_two.mpr ⟨rfl, rfl⟩)⟩
    have e0 : q.val = 0 + q'.val := by first | assumption | (rw [Nat.zero_add]; assumption)
    have e1 : j.val = 0 + j'.val := by first | assumption | (rw [Nat.zero_add]; assumption)
    rw [dif_pos (by omega)]
    exact congrArg h (congrArg₂ ix2 (Fin.ext (by show q'.val = q.val; omega)) (Fin.ext (by omega)))

theorem u1K_apply (h : Vec Ideal S8x1408 .f32) (u : Vec Ideal S256x1408 .f32) (p : Fin 256) (j : Fin 1408) :
    u1K h u (ix2 p j) = if hp : p.val < 1 then h (ix2 ⟨p.val + 7, by omega⟩ j) else u (ix2 ⟨p.val - 1, by omega⟩ j) := by
  unfold u1K
  refine (View.ld_unit_apply_of (ueK h u) _ _ _ _ (ix2 ⟨p.val + 7, by omega⟩ j) (Fin.forall_fin_two.mpr ⟨?_, ?_⟩)).trans ?_
  · show p.val + 7 = 7 + p.val
    omega
  · show j.val = 0 + j.val
    omega
  rw [ueK_apply]
  by_cases hp : p.val < 1
  · rw [dif_pos hp, dif_pos (by show p.val + 7 < 8; omega)]
  · rw [dif_neg hp, dif_neg (by show ¬ p.val + 7 < 8; omega)]
    exact congrArg u (congrArg (fun q => ix2 q j) (Fin.ext (by show p.val + 7 - 8 = p.val - 1; omega)))

theorem u2K_apply (h : Vec Ideal S8x1408 .f32) (u : Vec Ideal S256x1408 .f32) (p : Fin 256) (j : Fin 1408) :
    u2K h u (ix2 p j) = if hp : p.val < 2 then h (ix2 ⟨p.val + 6, by omega⟩ j) else u (ix2 ⟨p.val - 2, by omega⟩ j) := by
  unfold u2K
  refine (View.ld_unit_apply_of (ueK h u) _ _ _ _ (ix2 ⟨p.val + 6, by omega⟩ j) (Fin.forall_fin_two.mpr ⟨?_, ?_⟩)).trans ?_
  · show p.val + 6 = 6 + p.val
    omega
  · show j.val = 0 + j.val
    omega
  rw [ueK_apply]
  by_cases hp : p.val < 2
  · rw [dif_pos hp, dif_pos (by show p.val + 6 < 8; omega)]
  · rw [dif_neg hp, dif_neg (by show ¬ p.val + 6 < 8; omega)]
    exact congrArg u (congrArg (fun q => ix2 q j) (Fin.ext (by show p.val + 6 - 8 = p.val - 2; omega)))

/-- Pieces that cover an index decide the value there, whatever was stored before them. -/
theorem canon_append {S : Shape} {e : EltTy} (L : List (View.Piece (Elt Ideal) S e)) (y : S.Idx) :
    ∀ P : List (View.Piece (Elt Ideal) S e), (∃ p ∈ P, y ∈ p.1.set) → View.canon (P ++ L) y = View.canon P y
  | [], h => by obtain ⟨_, hm, _⟩ := h; exact absurd hm List.not_mem_nil
  | p :: P, h => by
    by_cases hy : y ∈ p.1.set
    · obtain ⟨r, w⟩ := p
      obtain ⟨x, rfl⟩ : ∃ x, r.emb x = y := r.exists_idx_of_mem hy
      rw [List.cons_append, View.canon_cons_emb, View.canon_cons_emb]
    · rw [List.cons_append, View.canon_cons_of_not_mem p _ hy, View.canon_cons_of_not_mem p _ hy]
      refine canon_append L y P ?_
      obtain ⟨q, hm, hq⟩ := h
      rcases List.mem_cons.mp hm with rfl | hm
      · exact absurd hq hy
      · exact ⟨q, hm, hq⟩

theorem up_cong (hn : FVec Ideal S256x1024 .bf16) (x9 : Vec Ideal S1024x5632 .bf16) {p p' : Fin 256} (e : p = p') (k : Fin 5632) :
    up (fun i => hn (ix2 p i)) (fun i => x9 (ix2 i k)) = up (fun i => hn (ix2 p' i)) (fun i => x9 (ix2 i k)) := by rw [e]

theorem s_piece (x9 : Vec Ideal S1024x5632 .bf16) (hn : FVec Ideal S256x1024 .bf16) (c : ℕ)
    (inb : ∀ a, (![0, c] : Fin 2 → ℕ) a + S1024x1408.size a ≤ S1024x5632.size a) (r : Fin 8) (k : Fin 5632) (x : S8x1408.Idx)
    (h0 : r.val = (x 0).val) (h1 : k.val = c + (x 1).val) :
    k0_pay14 (uK x9 hn c inb) x = up (fun i => hn (ix2 ⟨248 + r.val, by omega⟩ i)) (fun i => x9 (ix2 i k)) := by
  obtain ⟨r', j, rfl⟩ : ∃ (r' : Fin 8) (j : Fin 1408), x = ix2 r' j := ⟨x 0, x 1, funext (Fin.forall_fin_two.mpr ⟨rfl, rfl⟩)⟩
  obtain rfl : r = r' := Fin.ext h0
  rw [last8_apply, uK_apply x9 hn c inb _ j k h1]

theorem c_piece (x9 : Vec Ideal S1024x5632 .bf16) (hn : FVec Ideal S256x1024 .bf16) (c : ℕ)
    (inb : ∀ a, (![0, c] : Fin 2 → ℕ) a + S1024x1408.size a ≤ S1024x5632.size a) (r : Fin 2) (k : Fin 5632) (x : S1x2x1408.Idx)
    (h0 : r.val = (x 1).val) (h1 : k.val = c + (x 2).val) :
    k0_pay15 (uK x9 hn c inb) x = up (fun i => hn (ix2 ⟨254 + r.val, by omega⟩ i)) (fun i => x9 (ix2 i k)) := by
  obtain ⟨r', j, rfl⟩ : ∃ (r' : Fin 2) (j : Fin 1408), x = ix3 0 r' j := ⟨x 1, x 2, funext fun a => by
    fin_cases a
    · exact Fin.ext (by have := (x 0).isLt; show (x 0).val = 0; exact Nat.lt_one_iff.mp this)
    · rfl
    · rfl⟩
  obtain rfl : r = r' := Fin.ext h0
  rw [last2_apply, uK_apply x9 hn c inb _ j k h1]

theorem sK_apply (x9 : Vec Ideal S1024x5632 .bf16) (hn : FVec Ideal S256x1024 .bf16) (L : List (View.Piece (Elt Ideal) S8x5632 .f32)) (r : Fin 8) (k : Fin 5632) :
    sK x9 hn L (ix2 r k) = up (fun i => hn (ix2 ⟨248 + r.val, by omega⟩ i)) (fun i => x9 (ix2 i k)) := by
  unfold sK
  refine (canon_append L _ [_, _, _, _] (View.cover_of_tiled_head _ _ _ (by rfl) _)).trans ?_
  canon_tiles x h
  all_goals exact s_piece x9 hn _ _ r k x (by assumption) (by first | assumption | (rw [Nat.zero_add]; assumption))

theorem cK_apply (x9 : Vec Ideal S1024x5632 .bf16) (hn : FVec Ideal S256x1024 .bf16) (r : Fin 2) (k : Fin 5632) :
    cK x9 hn (ix3 0 r k) = up (fun i => hn (ix2 ⟨254 + r.val, by omega⟩ i)) (fun i => x9 (ix2 i k)) := by
  unfold cK
  canon_tiles x h
  all_goals exact c_piece x9 hn _ _ r k x (by assumption) (by first | assumption | (rw [Nat.zero_add]; assumption))

end Cert.TailIdeal.Value
end
-- ==== Proof.TailRef.lean ====
/-
  The reference of the layer's tail, at an index.
-/
module

public import proofs.«01_k».proof.Proof.Gen.TailReferenceIdeal.Run
public import proofs.«01_k».proof.Proof.TailMath
public import Idealize.ShloMosaic.Lib.Pointwise
public import Idealize.ShloMosaic.Lib.IdealHost

@[expose] public section
set_option maxRecDepth 16384
noncomputable section
namespace Cert.TailReferenceIdeal.Value
open Cert.TailReferenceIdeal Cert.TailReferenceIdeal.Gen Idealize.ShloMosaic Idealize.ShloMosaic.TcCoe Idealize.SL.Sem

section
variable (A0 : FVec Ideal S8x2048x1024 .f32) (A1 A2 : FVec Ideal S16384x512 .bf16) (A3 A4 : FVec Ideal S16384x1024 .f32)
  (A5 A6 : FVec Ideal S512x1024 .f32) (A7 : FVec Ideal S1024x1024 .f32) (A8 : FVec Ideal S1024 .f32)
  (A9 : FVec Ideal S1024x5632 .f32) (A10 : FVec Ideal S3x5632 .f32) (A11 : FVec Ideal S5632 .f32)
  (A12 : FVec Ideal S2816x1024 .f32) (A13 : FVec Ideal S1024 .f32)

/-- The residual after the two branches are merged. -/
def x1R : FVec Ideal S8x2048x1024 .f32 :=
  addf A0 (Host.dotGeneral dot_S8x2048x1024_S1024x1024_S8x2048x1024_2_0_01_1_n_n none (addf (mulf (shapeCast _ A3 shapeCasts_S16384x1024_S8x2048x1024) (Host.dotGeneral dot_S8x2048x512_S512x1024_S8x2048x1024_2_0_01_1_n_n none (extf .f32 (shapeCast _ A1 shapeCasts_S16384x512_S8x2048x512) bitsLt_bf16_f32) A5)) (mulf (shapeCast _ A4 shapeCasts_S16384x1024_S8x2048x1024) (Host.dotGeneral dot_S8x2048x512_S512x1024_S8x2048x1024_2_0_01_1_n_n none (extf .f32 (shapeCast _ A2 shapeCasts_S16384x512_S8x2048x512) bitsLt_bf16_f32) A6))) A7)

/-- The root-mean-square norm along the last axis. -/
def rmsR (x : FVec Ideal S8x2048x1024 .f32) (g : FVec Ideal S1024 .f32) : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))

/-- The up projection. -/
def uR (h : FVec Ideal S8x2048x1024 .f32) : FVec Ideal S8x2048x5632 .f32 :=
  Host.dotGeneral dot_S8x2048x1024_S1024x5632_S8x2048x5632_2_0_01_1_n_n none h A9

/-- Two rows of zeros before the rows of `u`. -/
def ueR (u : FVec Ideal S8x2048x5632 .f32) : FVec Ideal S8x2050x5632 .f32 :=
  concatenate S8x2050x5632 1 [⟨S8x2x5632, (broadcastInDim S8x2x5632 ![] bcast_S_S8x2x5632 (constant S_ .f32 0x00000000#32))⟩, ⟨S8x2048x5632, u⟩] concatenates_S8x2x5632_S8x2048x5632_S8x2050x5632_d1

/-- The convolution. -/
def cR (ue : FVec Ideal S8x2050x5632 .f32) : FVec Ideal S8x2048x5632 .f32 :=
  addf (addf (addf (broadcastInDim S8x2048x5632 ![0, 1, 2] bcast_S1x1x5632_S8x2048x5632_0_1_2 (broadcastInDim S1x1x5632 ![2] bcast_S5632_S1x1x5632_2 A11))
    (mulf (broadcastInDim S8x2048x5632 ![0, 1, 2] bcast_S1x1x5632_S8x2048x5632_0_1_2 (broadcastInDim S1x1x5632 ![2] bcast_S5632_S1x1x5632_2 (shapeCast _ (extractStridedSlice S1x5632 ![0, 0] A10 slices_S3x5632_S1x5632_0_0) shapeCasts_S1x5632_S5632))) (extractStridedSlice S8x2048x5632 ![0, 0, 0] ue slices_S8x2050x5632_S8x2048x5632_0_0_0)))
    (mulf (broadcastInDim S8x2048x5632 ![0, 1, 2] bcast_S1x1x5632_S8x2048x5632_0_1_2 (broadcastInDim S1x1x5632 ![2] bcast_S5632_S1x1x5632_2 (shapeCast _ (extractStridedSlice S1x5632 ![1, 0] A10 slices_S3x5632_S1x5632_1_0) shapeCasts_S1x5632_S5632))) (extractStridedSlice S8x2048x5632 ![0, 1, 0] ue slices_S8x2050x5632_S8x2048x5632_0_1_0)))
    (mulf (broadcastInDim S8x2048x5632 ![0, 1, 2] bcast_S1x1x5632_S8x2048x5632_0_1_2 (broadcastInDim S1x1x5632 ![2] bcast_S5632_S1x1x5632_2 (shapeCast _ (extractStridedSlice S1x5632 ![2, 0] A10 slices_S3x5632_S1x5632_2_0) shapeCasts_S1x5632_S5632))) (extractStridedSlice S8x2048x5632 ![0, 2, 0] ue slices_S8x2050x5632_S8x2048x5632_0_2_0))

/-- The gated activation. -/
def actR (c : FVec Ideal S8x2048x5632 .f32) : FVec Ideal S8x2048x2816 .f32 :=
  mulf (mulf (extractStridedSlice S8x2048x2816 ![0, 0, 0] c slices_S8x2048x5632_S8x2048x2816_0_0_0) (Host.divf (broadcastInDim S8x2048x2816 ![] bcast_S_S8x2048x2816 (constant S_ .f32 0x3F800000#32)) (addf (broadcastInDim S8x2048x2816 ![] bcast_S_S8x2048x2816 (constant S_ .f32 0x3F800000#32)) (Host.exp (Host.negf (extractStridedSlice S8x2048x2816 ![0, 0, 0] c slices_S8x2048x5632_S8x2048x2816_0_0_0)))))) (extractStridedSlice S8x2048x2816 ![0, 0, 2816] c slices_S8x2048x5632_S8x2048x2816_0_0_2816)

/-- The down projection added to the residual. -/
def downR (x : FVec Ideal S8x2048x1024 .f32) (a : FVec Ideal S8x2048x2816 .f32) : FVec Ideal S8x2048x1024 .f32 :=
  addf x (Host.dotGeneral dot_S8x2048x2816_S2816x1024_S8x2048x1024_2_0_01_1_n_n none a A12)

open Cert.TailMath

theorem x1R_apply (b : Fin 8) (q : Fin 2048) (j : Fin 1024) : x1R A0 A1 A2 A3 A4 A5 A6 A7 (ix3 b q j)
    = merge (fun j => A0 (ix3 b q j)) (fun j => A3 (ix2 (⟨b.val * 2048 + q.val, by omega⟩ : Fin 16384) j)) (fun j => A4 (ix2 (⟨b.val * 2048 + q.val, by omega⟩ : Fin 16384) j)) (fun i => A1 (ix2 (⟨b.val * 2048 + q.val, by omega⟩ : Fin 16384) i)) (fun i => A2 (ix2 (⟨b.val * 2048 + q.val, by omega⟩ : Fin 16384) i))
        (fun i j => A5 (ix2 i j)) (fun i j => A6 (ix2 i j)) (fun i j => A7 (ix2 i j)) j := by
  pointwise [x1R, merge]

theorem rmsR_apply (x : FVec Ideal S8x2048x1024 .f32) (g : FVec Ideal S1024 .f32) (b : Fin 8) (q : Fin 2048) (j : Fin 1024) :
    rmsR x g (ix3 b q j) = rms (fun j => x (ix3 b q j)) (fun j => g (ix1 j)) j := by
  pointwise [rmsR, rms]

theorem uR_apply (h : FVec Ideal S8x2048x1024 .f32) (b : Fin 8) (q : Fin 2048) (j : Fin 5632) :
    uR A9 h (ix3 b q j) = up (fun k => h (ix3 b q k)) (fun k => A9 (ix2 k j)) := by
  pointwise [uR, up]

theorem ueR_apply (u : FVec Ideal S8x2048x5632 .f32) (b : Fin 8) (q : Fin 2050) (j : Fin 5632) :
    ueR u (ix3 b q j) = if h : q.val < 2 then 0 else u (ix3 b ⟨q.val - 2, by omega⟩ j) := by
  pointwise [ueR]

theorem cR_apply (ue : FVec Ideal S8x2050x5632 .f32) (b : Fin 8) (q : Fin 2048) (j : Fin 5632) :
    cR A10 A11 ue (ix3 b q j) = conv (A11 (ix1 j)) (A10 (ix2 0 j)) (A10 (ix2 1 j)) (A10 (ix2 2 j))
      (ue (ix3 b ⟨q.val, by omega⟩ j)) (ue (ix3 b ⟨1 + q.val, by omega⟩ j)) (ue (ix3 b ⟨2 + q.val, by omega⟩ j)) := by
  pointwise [cR, conv]

theorem actR_apply (c : FVec Ideal S8x2048x5632 .f32) (b : Fin 8) (q : Fin 2048) (j : Fin 2816) :
    actR c (ix3 b q j) = act (c (ix3 b q ⟨j.val, by omega⟩)) (c (ix3 b q ⟨2816 + j.val, by omega⟩)) := by
  pointwise [actR, act, Ideal.logistic]

theorem downR_apply (x : FVec Ideal S8x2048x1024 .f32) (a : FVec Ideal S8x2048x2816 .f32) (b : Fin 8) (q : Fin 2048) (j : Fin 1024) :
    downR A12 x a (ix3 b q j) = down (fun j => x (ix3 b q j)) (fun k => a (ix3 b q k)) (fun k j => A12 (ix2 k j)) j := by
  pointwise [downR, down]

/-- The convolution's input, from the arguments. -/
def ueOf : FVec Ideal S8x2050x5632 .f32 := ueR (uR A9 (rmsR (x1R A0 A1 A2 A3 A4 A5 A6 A7) A8))

/-- The rows left for the next call. -/
def histOf : FVec Ideal S8x2x5632 .f32 := extractStridedSlice S8x2x5632 ![0, 2048, 0] (ueOf A0 A1 A2 A3 A4 A5 A6 A7 A8 A9) slices_S8x2050x5632_S8x2x5632_0_2048_0

/-- The layer's output rows. -/
def yOf : FVec Ideal S16384x1024 .f32 :=
  shapeCast _ (rmsR (downR A12 (x1R A0 A1 A2 A3 A4 A5 A6 A7) (actR (cR A10 A11 (ueOf A0 A1 A2 A3 A4 A5 A6 A7 A8 A9)))) A13) shapeCasts_S8x2048x1024_S16384x1024

theorem histOf_apply (b : Fin 8) (q : Fin 2) (j : Fin 5632) : histOf A0 A1 A2 A3 A4 A5 A6 A7 A8 A9 (ix3 b q j)
    = ueOf A0 A1 A2 A3 A4 A5 A6 A7 A8 A9 (ix3 b ⟨2048 + q.val, by omega⟩ j) := by
  pointwise [histOf]

theorem yOf_apply (b : Fin 8) (q : Fin 2048) (j : Fin 1024) : yOf A0 A1 A2 A3 A4 A5 A6 A7 A8 A9 A10 A11 A12 A13 (ix2 ⟨b.val * 2048 + q.val, by omega⟩ j)
    = rmsR (downR A12 (x1R A0 A1 A2 A3 A4 A5 A6 A7) (actR (cR A10 A11 (ueOf A0 A1 A2 A3 A4 A5 A6 A7 A8 A9)))) A13 (ix3 b q j) := by
  pointwise [yOf]
end

theorem v12_eq (m : (ℓ : Loc nD τ sig) → Buf (Elt Ideal) ℓ) (c : Dev nD) : res_main_v12 (StableHlo.launchContents m c)
    = x1R (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

theorem v28_eq (m : (ℓ : Loc nD τ sig) → Buf (Elt Ideal) ℓ) (c : Dev nD) : res_main_v28 (StableHlo.launchContents m c)
    = ueOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold res_main_v28
  rw [v12_eq]
  rfl

theorem v51_eq (m : (ℓ : Loc nD τ sig) → Buf (Elt Ideal) ℓ) (c : Dev nD) : res_main_v51 (StableHlo.launchContents m c)
    = cR (m ((c.tc : Thread nD τ).loc main_arg10)) (m ((c.tc : Thread nD τ).loc main_arg11)) (ueOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := by
  unfold res_main_v51
  rw [v28_eq]
  rfl

theorem v57_eq (m : (ℓ : Loc nD τ sig) → Buf (Elt Ideal) ℓ) (c : Dev nD) : res_main_v57 (StableHlo.launchContents m c)
    = downR (m ((c.tc : Thread nD τ).loc main_arg12)) (x1R (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (actR (cR (m ((c.tc : Thread nD τ).loc main_arg10)) (m ((c.tc : Thread nD τ).loc main_arg11)) (ueOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))))) := by
  unfold res_main_v57 res_main_v52
  rw [v12_eq, v51_eq]
  rfl

/-- The reference's run: both results, as the functions above of the arguments, which it keeps. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v71) = yOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v72) = histOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run _ _ _).mono (fun r h c => ⟨(h c).1.trans ?_, (h c).2.1.trans ?_, (h c).2.2⟩) (run m ρ)
  · rw [v57_eq]
    rfl
  · rw [v28_eq]
    rfl

end Cert.TailReferenceIdeal.Value
end
-- ==== Proof.TailTie.lean ====
/-
  A tile of the tail kernel is the reference's rows: the residual, the norm, the up projection, the rows carried from
  the tile before, the convolution and the output.
-/
module

public import proofs.«01_k».proof.Proof.TailBlocks
public import proofs.«01_k».proof.Proof.TailRow
public import proofs.«01_k».proof.Proof.TailRef

@[expose] public section
set_option maxRecDepth 16384
noncomputable section
namespace Cert.TailIdeal.Value
open Cert.TailIdeal Cert.TailIdeal.Gen Idealize.ShloMosaic Idealize.ShloMosaic.TcCoe Idealize.SL.Sem Cert.TailMath
open Cert.TailReferenceIdeal.Value

variable (m : (ℓ : Loc nD τ sig) → Buf (Elt Ideal) ℓ) (c : Dev nD)

/-- The residual, the normed residual, the convolution's input and the convolution, over all rows. -/
abbrev X1 : FVec Ideal S8x2048x1024 .f32 := x1R (B0 m c) (B1 m c) (B2 m c) (B3 m c) (B4 m c) (B5 m c) (B6 m c) (B7 m c)
abbrev HR : FVec Ideal S8x2048x1024 .f32 := rmsR (X1 m c) (B8 m c)
abbrev UR : FVec Ideal Cert.TailReferenceIdeal.S8x2048x5632 .f32 := uR (B9 m c) (HR m c)
abbrev UE : FVec Ideal Cert.TailReferenceIdeal.S8x2050x5632 .f32 := ueR (UR m c)
abbrev CR : FVec Ideal Cert.TailReferenceIdeal.S8x2048x5632 .f32 := cR (B10 m c) (B11 m c) (UE m c)

/-- The residual and the normed residual of a tile. -/
abbrev x1T (t : Fin cfg0.N) : FVec Ideal S256x1024 .f32 :=
  k0_pay2 (iblk m c 1 t) (iblk m c 5 t) (iblk m c 2 t) (iblk m c 6 t) (iblk m c 3 t) (iblk m c 4 t) (iblk m c 0 t) (iblk m c 7 t)
abbrev hnT (t : Fin cfg0.N) : FVec Ideal S256x1024 .bf16 :=
  k0_pay3 (iblk m c 1 t) (iblk m c 5 t) (iblk m c 2 t) (iblk m c 6 t) (iblk m c 3 t) (iblk m c 4 t) (iblk m c 0 t) (iblk m c 7 t) (iblk m c 8 t)

theorem x1T_eq (t : Fin cfg0.N) (p : Fin 256) (j : Fin 1024) : x1T m c t (ix2 p j) = X1 m c (ix3 (bat t) (qrow t p) j) := by
  refine (x1_apply _ _ _ _ _ _ _ _ p j).trans (Eq.trans ?_ (x1R_apply _ _ _ _ _ _ _ _ (bat t) (qrow t p) j).symm)
  simp only [blk_x m c t, blk_oa m c t, blk_ob m c t, blk_ga m c t, blk_gb m c t, blk_wa m c t, blk_wb m c t, blk_wo m c t]

theorem hnT_eq (t : Fin cfg0.N) (p : Fin 256) (j : Fin 1024) : hnT m c t (ix2 p j) = HR m c (ix3 (bat t) (qrow t p) j) := by
  refine (hn_apply _ _ _ _ _ _ _ _ _ p j).trans (Eq.trans ?_ (rmsR_apply _ _ (bat t) (qrow t p) j).symm)
  exact congrArg₂ (fun f g => rms f g j) (funext fun i => x1T_eq m c t p i) (funext fun i => blk_gffn m c t i)

theorem up_eq (t : Fin cfg0.N) (p : Fin 256) (k : Fin 5632) :
    up (fun i => hnT m c t (ix2 p i)) (fun i => (iblk m c 9 t : Vec Ideal S1024x5632 .bf16) (ix2 i k)) = UR m c (ix3 (bat t) (qrow t p) k) := by
  refine Eq.trans ?_ (uR_apply _ _ (bat t) (qrow t p) k).symm
  exact congrArg₂ up (funext fun i => hnT_eq m c t p i) (funext fun i => blk_wup m c t i k)

/-- The rows of the convolution's input after the two zeros are the up projection's. -/
theorem UE_shift (b : Fin 8) (q : Fin 2048) (e : Fin 2050) (he : e.val = 2 + q.val) (k : Fin 5632) : UE m c (ix3 b e k) = UR m c (ix3 b q k) := by
  refine (ueR_apply _ b e k).trans ?_
  rw [dif_neg (by omega)]
  exact congrArg (fun q => UR m c (ix3 b q k)) (Fin.ext (by show e.val - 2 = q.val; omega))

theorem UE_zero (b : Fin 8) (e : Fin 2050) (he : e.val < 2) (k : Fin 5632) : UE m c (ix3 b e k) = 0 := by
  exact (ueR_apply _ b e k).trans (dif_pos he)

theorem bit_iff : ∀ t : Fin cfg0.N, bit (grid0.coords t) = 1#1 ↔ t.val % 8 = 0 :=
  (by decide +kernel : ∀ t : Fin grid0.N, _)

/-- The last rows of the tile before hold the convolution's input there, or the tile is its sequence's first. -/
def Hist (t : Fin cfg0.N) (H : Vec Ideal S8x5632 .f32) : Prop :=
  ∀ (r : Fin 8) (h6 : 6 ≤ r.val) (k : Fin 5632), (if bit (grid0.coords t) = 1#1 then (0 : EReal) else H (ix2 r k))
    = UE m c (ix3 (bat t) ⟨t.val % 8 * 256 + (r.val - 6), by omega⟩ k)

section Tile
variable {m c} {t : Fin cfg0.N} {H : Vec Ideal S8x5632 .f32} (hH : Hist m c t H)

theorem uT (o : ℕ) (inb : ∀ a, (![0, o] : Fin 2 → ℕ) a + S1024x1408.size a ≤ S1024x5632.size a) (p : Fin 256) (j : Fin 1408) (k : Fin 5632) (hk : k.val = o + j.val) :
    uK (iblk m c 9 t) (hnT m c t) o inb (ix2 p j) = UE m c (ix3 (bat t) ⟨2 + (qrow t p).val, by omega⟩ k) := by
  rw [uK_apply _ _ _ _ _ _ k hk, up_eq m c t]
  exact (UE_shift m c _ _ _ rfl k).symm

include hH in
theorem u1T (o : ℕ) (inb : ∀ a, (![0, o] : Fin 2 → ℕ) a + S1024x1408.size a ≤ S1024x5632.size a) (inb' : ∀ a, (![0, o] : Fin 2 → ℕ) a + S8x1408.size a ≤ S8x5632.size a)
    (p : Fin 256) (j : Fin 1408) (k : Fin 5632) (hk : k.val = o + j.val) :
    u1K (hK (bit (grid0.coords t)) H o inb') (uK (iblk m c 9 t) (hnT m c t) o inb) (ix2 p j) = UE m c (ix3 (bat t) ⟨1 + (qrow t p).val, by omega⟩ k) := by
  rw [u1K_apply]
  split_ifs with hp
  · rw [hK_apply _ _ _ _ _ _ k hk, hH _ (by show 6 ≤ p.val + 7; omega)]
    exact congrArg (fun q => UE m c (ix3 (bat t) q k)) (Fin.ext (by show t.val % 8 * 256 + (p.val + 7 - 6) = 1 + (t.val % 8 * 256 + p.val); omega))
  · rw [uT o inb _ j k hk]
    exact congrArg (fun q => UE m c (ix3 (bat t) q k)) (Fin.ext (by show 2 + (t.val % 8 * 256 + (p.val - 1)) = 1 + (t.val % 8 * 256 + p.val); omega))

include hH in
theorem u2T (o : ℕ) (inb : ∀ a, (![0, o] : Fin 2 → ℕ) a + S1024x1408.size a ≤ S1024x5632.size a) (inb' : ∀ a, (![0, o] : Fin 2 → ℕ) a + S8x1408.size a ≤ S8x5632.size a)
    (p : Fin 256) (j : Fin 1408) (k : Fin 5632) (hk : k.val = o + j.val) :
    u2K (hK (bit (grid0.coords t)) H o inb') (uK (iblk m c 9 t) (hnT m c t) o inb) (ix2 p j) = UE m c (ix3 (bat t) ⟨(qrow t p).val, by omega⟩ k) := by
  rw [u2K_apply]
  split_ifs with hp
  · rw [hK_apply _ _ _ _ _ _ k hk, hH _ (by show 6 ≤ p.val + 6; omega)]
    exact congrArg (fun q => UE m c (ix3 (bat t) q k)) (Fin.ext (by show t.val % 8 * 256 + (p.val + 6 - 6) = t.val % 8 * 256 + p.val; omega))
  · rw [uT o inb _ j k hk]
    exact congrArg (fun q => UE m c (ix3 (bat t) q k)) (Fin.ext (by show 2 + (t.val % 8 * 256 + (p.val - 2)) = t.val % 8 * 256 + p.val; omega))

theorem cwT (i o : ℕ) (inb : ∀ a, (![i, o] : Fin 2 → ℕ) a + (![1, 1408] : Fin 2 → ℕ) a ≤ S3x5632.size a) (j : Fin 1408) (i' : Fin 3) (k : Fin 5632) (hi : i'.val = i) (hk : k.val = o + j.val) :
    View.ld (iblk m c 10 t : Vec Ideal S3x5632 .f32) (Rect.unit (s := S3x5632) ![i, o] ![1, 1408] inb) (ix2 0 j) = B10 m c (ix2 i' k) :=
by
  refine (View.ld_unit_apply_of _ _ _ inb _ (ix2 i' k) (Fin.forall_fin_two.mpr ⟨?_, ?_⟩)).trans (blk_cw m c t i' k)
  · exact hi
  · exact hk

theorem cbT (o : ℕ) (inb : ∀ a, (![0, o] : Fin 2 → ℕ) a + (![1, 1408] : Fin 2 → ℕ) a ≤ S1x5632.size a) (j : Fin 1408) (k : Fin 5632) (hk : k.val = o + j.val) :
    View.ld (iblk m c 11 t : Vec Ideal S1x5632 .f32) (Rect.unit (s := S1x5632) ![0, o] ![1, 1408] inb) (ix2 0 j) = B11 m c (ix1 k) :=
by
  refine (View.ld_unit_apply_of _ _ _ inb _ (ix2 0 k) (Fin.forall_fin_two.mpr ⟨?_, ?_⟩)).trans (blk_cb m c t k)
  · rfl
  · exact hk

theorem wdT (o : ℕ) (inb : ∀ a, (![o, 0] : Fin 2 → ℕ) a + (![1408, 1024] : Fin 2 → ℕ) a ≤ S2816x1024.size a) (i : Fin 1408) (j : Fin 1024) (k : Fin 2816) (hk : k.val = o + i.val) :
    View.ld (iblk m c 12 t : Vec Ideal S2816x1024 .bf16) (Rect.unit (s := S2816x1024) ![o, 0] ![1408, 1024] inb) (ix2 i j) = B12 m c (ix2 k j) :=
by
  refine (View.ld_unit_apply_of _ _ _ inb _ (ix2 k j) (Fin.forall_fin_two.mpr ⟨?_, ?_⟩)).trans (blk_wd m c t k j)
  · exact hk
  · show j.val = 0 + j.val
    omega

include hH in
/-- A column of the convolution, in the chunk that holds it. -/
theorem cT (o : ℕ) (inb : ∀ a, (![0, o] : Fin 2 → ℕ) a + S1024x1408.size a ≤ S1024x5632.size a) (inb' : ∀ a, (![0, o] : Fin 2 → ℕ) a + S8x1408.size a ≤ S8x5632.size a)
    (ib : ∀ a, (![0, o] : Fin 2 → ℕ) a + (![1, 1408] : Fin 2 → ℕ) a ≤ S1x5632.size a)
    (i0 : ∀ a, (![0, o] : Fin 2 → ℕ) a + (![1, 1408] : Fin 2 → ℕ) a ≤ S3x5632.size a) (i1 : ∀ a, (![1, o] : Fin 2 → ℕ) a + (![1, 1408] : Fin 2 → ℕ) a ≤ S3x5632.size a)
    (i2 : ∀ a, (![2, o] : Fin 2 → ℕ) a + (![1, 1408] : Fin 2 → ℕ) a ≤ S3x5632.size a)
    (p : Fin 256) (j : Fin 1408) (k : Fin 5632) (hk : k.val = o + j.val) :
    conv (View.ld (iblk m c 11 t : Vec Ideal S1x5632 .f32) (Rect.unit (s := S1x5632) ![0, o] ![1, 1408] ib) (ix2 0 j))
      (View.ld (iblk m c 10 t : Vec Ideal S3x5632 .f32) (Rect.unit (s := S3x5632) ![0, o] ![1, 1408] i0) (ix2 0 j))
      (View.ld (iblk m c 10 t : Vec Ideal S3x5632 .f32) (Rect.unit (s := S3x5632) ![1, o] ![1, 1408] i1) (ix2 0 j))
      (View.ld (iblk m c 10 t : Vec Ideal S3x5632 .f32) (Rect.unit (s := S3x5632) ![2, o] ![1, 1408] i2) (ix2 0 j))
      (u2K (hK (bit (grid0.coords t)) H o inb') (uK (iblk m c 9 t) (hnT m c t) o inb) (ix2 p j))
      (u1K (hK (bit (grid0.coords t)) H o inb') (uK (iblk m c 9 t) (hnT m c t) o inb) (ix2 p j))
      (uK (iblk m c 9 t) (hnT m c t) o inb (ix2 p j))
    = CR m c (ix3 (bat t) (qrow t p) k) := by
  rw [cbT o ib j k hk, cwT 0 o i0 j 0 k rfl hk, cwT 1 o i1 j 1 k rfl hk, cwT 2 o i2 j 2 k rfl hk,
    u2T hH o inb inb' p j k hk, u1T hH o inb inb' p j k hk, uT o inb p j k hk]
  exact (cR_apply _ _ _ (bat t) (qrow t p) k).symm

include hH in
/-- The output rows of a tile. -/
theorem yT (p : Fin 256) (j : Fin 1024) :
    yK (bit (grid0.coords t)) H (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (ix2 p j)
    = rmsR (downR (B12 m c) (X1 m c) (actR (CR m c))) (B13 m c) (ix3 (bat t) (qrow t p) j) := by
  unfold yK yC
  rw [y_apply]
  refine Eq.trans ?_ (rmsR_apply _ _ (bat t) (qrow t p) j).symm
  refine congrArg₂ (fun f g => rms f g j) (funext fun j => ?_) (funext fun i => blk_gfin m c t i)
  rw [acc_apply, acc_apply]
  refine Eq.trans ?_ (downR_apply _ _ _ (bat t) (qrow t p) j).symm
  unfold down
  refine Eq.trans ?_ (congrArg (fun z => X1 m c (ix3 (bat t) (qrow t p) j) + z) (Fin.sum_univ_two_halves 1408 1408 (rfl : 1408 + 1408 = 2816) (fun k : Fin 2816 => actR (CR m c) (ix3 (bat t) (qrow t p) k) * B12 m c (ix2 k j))).symm)
  beta_reduce
  refine Eq.trans ?_ (add_assoc _ _ _)
  refine congrArg₂ (· + ·) (congrArg₂ (· + ·) (x1T_eq m c t p j) (Finset.sum_congr rfl fun k _ => ?_)) (Finset.sum_congr rfl fun k _ => ?_)
  · rw [conv_apply, cT hH 0 _ _ _ _ _ _ p k ⟨k.val, by omega⟩ (Nat.zero_add _).symm,
      cT hH 2816 _ _ _ _ _ _ p k ⟨2816 + k.val, by omega⟩ rfl, wdT 0 _ k j ⟨k.val, by omega⟩ (Nat.zero_add _).symm]
    exact congrArg (· * _) (actR_apply (CR m c) (bat t) (qrow t p) ⟨k.val, by omega⟩).symm
  · rw [conv_apply, cT hH 1408 _ _ _ _ _ _ p k ⟨1408 + k.val, by omega⟩ rfl,
      cT hH 4224 _ _ _ _ _ _ p k ⟨2816 + (1408 + k.val), by omega⟩ (by show 2816 + (1408 + k.val) = 4224 + k.val; omega), wdT 1408 _ k j ⟨1408 + k.val, by omega⟩ rfl]
    exact congrArg (· * _) (actR_apply (CR m c) (bat t) (qrow t p) ⟨1408 + k.val, by omega⟩).symm
end Tile

end Cert.TailIdeal.Value
end
-- ==== Proof.TailPointA.lean ====
/-
  The tail kernel's first grid point: what it stores, as the functions of its inputs.
-/
module

public import proofs.«01_k».proof.Proof.TailDefs

@[expose] public section
set_option maxRecDepth 16384
noncomputable section
namespace Cert.TailIdeal.Value
open Cert.TailIdeal Cert.TailIdeal.Gen Idealize.ShloMosaic Idealize.ShloMosaic.TcCoe Idealize.SL.Sem
variable {F : FTy → Type} [FloatOps F]

set_option maxHeartbeats 4000000 in
theorem out0_A_14_eq (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x5632 .bf16) (harg10 : arg10.IsWhole) (arg11 : Memref sig .tc .vmem S3x5632 .f32) (harg11 : arg11.IsWhole) (arg12 : Memref sig .tc .vmem S1x5632 .f32) (harg12 : arg12.IsWhole) (arg13 : Memref sig .tc .vmem S2816x1024 .bf16) (harg13 : arg13.IsWhole) (arg14 : Memref sig .tc .vmem S1x1024 .f32) (harg14 : arg14.IsWhole) (arg15 : Memref sig .tc .vmem S256x1024 .f32) (harg15 : arg15.IsWhole) (arg16 : Memref sig .tc .vmem S1x2x5632 .f32) (harg16 : arg16.IsWhole) (arg17 : Memref sig .tc .vmem S264x1408 .f32) (harg17 : arg17.IsWhole) (arg18 : Memref sig .tc .vmem S8x5632 .f32) (harg18 : arg18.IsWhole) (hc0 : cond0_0 i)
    (x0 : Vec F S256x1024 .f32) (x1 : Vec F S256x512 .bf16) (x2 : Vec F S256x512 .bf16) (x3 : Vec F S256x1024 .f32) (x4 : Vec F S256x1024 .f32) (x5 : Vec F S512x1024 .bf16) (x6 : Vec F S512x1024 .bf16) (x7 : Vec F S1024x1024 .bf16) (x8 : Vec F S1x1024 .f32) (x9 : Vec F S1024x5632 .bf16) (x10 : Vec F S3x5632 .f32) (x11 : Vec F S1x5632 .f32) (x12 : Vec F S2816x1024 .bf16) (x13 : Vec F S1x1024 .f32) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 = yK (bit i) k0_pay4 x0 x1 x2 x3 x4 x5 x6 x7 x8 x9 x10 x11 x12 x13 := by
  unfold out0_A_14 kernelRun0_A
  dsimp only
  refine (rwz _ z2 _ _ _).trans ?_
  sl_unfold_words
  simp only [ldz256x512, ldz512x1024, ldz256x1024, ldz1024x1024, ldz1x1024, pay5, pay17, pay23, pay7, pay13, pay25, pay19, rd_ue, sk_2816_0, sk_1408_2816, sk_1408_0, sk_4224_1408, sk_4224_2816, sk_4224_0, rd_all, pay6, pay18, pay24, pay8, pay20, pay26, pay9, pay21, pay27, pay22, bit_eq, View.readAt_eq_ld, View.readCov_cons_toLoadRect, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg18.read_unread]
  rfl

set_option maxHeartbeats 4000000 in
theorem out0_A_15_eq (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x5632 .bf16) (harg10 : arg10.IsWhole) (arg11 : Memref sig .tc .vmem S3x5632 .f32) (harg11 : arg11.IsWhole) (arg12 : Memref sig .tc .vmem S1x5632 .f32) (harg12 : arg12.IsWhole) (arg13 : Memref sig .tc .vmem S2816x1024 .bf16) (harg13 : arg13.IsWhole) (arg14 : Memref sig .tc .vmem S1x1024 .f32) (harg14 : arg14.IsWhole) (arg15 : Memref sig .tc .vmem S256x1024 .f32) (harg15 : arg15.IsWhole) (arg16 : Memref sig .tc .vmem S1x2x5632 .f32) (harg16 : arg16.IsWhole) (arg17 : Memref sig .tc .vmem S264x1408 .f32) (harg17 : arg17.IsWhole) (arg18 : Memref sig .tc .vmem S8x5632 .f32) (harg18 : arg18.IsWhole) (hc0 : cond0_0 i)
    (x0 : Vec F S256x1024 .f32) (x1 : Vec F S256x512 .bf16) (x2 : Vec F S256x512 .bf16) (x3 : Vec F S256x1024 .f32) (x4 : Vec F S256x1024 .f32) (x5 : Vec F S512x1024 .bf16) (x6 : Vec F S512x1024 .bf16) (x7 : Vec F S1024x1024 .bf16) (x8 : Vec F S1x1024 .f32) (x9 : Vec F S1024x5632 .bf16) (x10 : Vec F S3x5632 .f32) (x11 : Vec F S1x5632 .f32) (x12 : Vec F S2816x1024 .bf16) (x13 : Vec F S1x1024 .f32) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 = cK x9 (k0_pay3 x1 x5 x2 x6 x3 x4 x0 x7 x8) := by
  unfold out0_A_15 kernelRun0_A
  dsimp only
  rw [View.read_writes_junk_eq_canon]
  sl_unfold_words
  simp only [ldz256x512, ldz512x1024, ldz256x1024, ldz1024x1024, ldz1x1024, pay5, pay17, pay23, pay7, pay13, pay25, pay19, rd_ue, sk_2816_0, sk_1408_2816, sk_1408_0, sk_4224_1408, sk_4224_2816, sk_4224_0, rd_all, pay6, pay18, pay24, pay8, pay20, pay26, pay9, pay21, pay27, pay22, bit_eq, View.readAt_eq_ld, View.readCov_cons_toLoadRect, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg18.read_unread]
  rfl

set_option maxHeartbeats 4000000 in
theorem sout0_A_1_eq (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x5632 .bf16) (harg10 : arg10.IsWhole) (arg11 : Memref sig .tc .vmem S3x5632 .f32) (harg11 : arg11.IsWhole) (arg12 : Memref sig .tc .vmem S1x5632 .f32) (harg12 : arg12.IsWhole) (arg13 : Memref sig .tc .vmem S2816x1024 .bf16) (harg13 : arg13.IsWhole) (arg14 : Memref sig .tc .vmem S1x1024 .f32) (harg14 : arg14.IsWhole) (arg15 : Memref sig .tc .vmem S256x1024 .f32) (harg15 : arg15.IsWhole) (arg16 : Memref sig .tc .vmem S1x2x5632 .f32) (harg16 : arg16.IsWhole) (arg17 : Memref sig .tc .vmem S264x1408 .f32) (harg17 : arg17.IsWhole) (arg18 : Memref sig .tc .vmem S8x5632 .f32) (harg18 : arg18.IsWhole) (hc0 : cond0_0 i)
    (x0 : Vec F S256x1024 .f32) (x1 : Vec F S256x512 .bf16) (x2 : Vec F S256x512 .bf16) (x3 : Vec F S256x1024 .f32) (x4 : Vec F S256x1024 .f32) (x5 : Vec F S512x1024 .bf16) (x6 : Vec F S512x1024 .bf16) (x7 : Vec F S1024x1024 .bf16) (x8 : Vec F S1x1024 .f32) (x9 : Vec F S1024x5632 .bf16) (x10 : Vec F S3x5632 .f32) (x11 : Vec F S1x5632 .f32) (x12 : Vec F S2816x1024 .bf16) (x13 : Vec F S1x1024 .f32) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 = sK x9 (k0_pay3 x1 x5 x2 x6 x3 x4 x0 x7 x8) [⟨Rect.unit (s := S8x5632) ![0, 0] ![8, 5632] inb_S8x5632_S8x5632_0_0, k0_pay4⟩] := by
  unfold sout0_A_1 kernelRun0_A
  dsimp only
  rw [View.read_writes_junk_eq_canon]
  sl_unfold_words
  simp only [ldz256x512, ldz512x1024, ldz256x1024, ldz1024x1024, ldz1x1024, pay5, pay17, pay23, pay7, pay13, pay25, pay19, rd_ue, sk_2816_0, sk_1408_2816, sk_1408_0, sk_4224_1408, sk_4224_2816, sk_4224_0, rd_all, pay6, pay18, pay24, pay8, pay20, pay26, pay9, pay21, pay27, pay22, bit_eq, View.readAt_eq_ld, View.readCov_cons_toLoadRect, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg18.read_unread]
  rfl

end Cert.TailIdeal.Value
end
-- ==== Proof.TailPointB.lean ====
/-
  The tail kernel's later grid points: what they store, as the functions of their inputs and the carry.
-/
module

public import proofs.«01_k».proof.Proof.TailDefs

@[expose] public section
set_option maxRecDepth 16384
noncomputable section
namespace Cert.TailIdeal.Value
open Cert.TailIdeal Cert.TailIdeal.Gen Idealize.ShloMosaic Idealize.ShloMosaic.TcCoe Idealize.SL.Sem
variable {F : FTy → Type} [FloatOps F]

set_option maxHeartbeats 4000000 in
theorem out0_B_14_eq (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x5632 .bf16) (harg10 : arg10.IsWhole) (arg11 : Memref sig .tc .vmem S3x5632 .f32) (harg11 : arg11.IsWhole) (arg12 : Memref sig .tc .vmem S1x5632 .f32) (harg12 : arg12.IsWhole) (arg13 : Memref sig .tc .vmem S2816x1024 .bf16) (harg13 : arg13.IsWhole) (arg14 : Memref sig .tc .vmem S1x1024 .f32) (harg14 : arg14.IsWhole) (arg15 : Memref sig .tc .vmem S256x1024 .f32) (harg15 : arg15.IsWhole) (arg16 : Memref sig .tc .vmem S1x2x5632 .f32) (harg16 : arg16.IsWhole) (arg17 : Memref sig .tc .vmem S264x1408 .f32) (harg17 : arg17.IsWhole) (arg18 : Memref sig .tc .vmem S8x5632 .f32) (harg18 : arg18.IsWhole) (hc0 : ¬cond0_0 i)
    (x0 : Vec F S256x1024 .f32) (x1 : Vec F S256x512 .bf16) (x2 : Vec F S256x512 .bf16) (x3 : Vec F S256x1024 .f32) (x4 : Vec F S256x1024 .f32) (x5 : Vec F S512x1024 .bf16) (x6 : Vec F S512x1024 .bf16) (x7 : Vec F S1024x1024 .bf16) (x8 : Vec F S1x1024 .f32) (x9 : Vec F S1024x5632 .bf16) (x10 : Vec F S3x5632 .f32) (x11 : Vec F S1x5632 .f32) (x12 : Vec F S2816x1024 .bf16) (x13 : Vec F S1x1024 .f32) (xs1 : Vec F S8x5632 .f32) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 xs1 = yK (bit i) xs1 x0 x1 x2 x3 x4 x5 x6 x7 x8 x9 x10 x11 x12 x13 := by
  unfold out0_B_14 kernelRun0_B
  dsimp only
  refine (rwz _ z2 _ _ _).trans ?_
  sl_unfold_words
  simp only [ldz256x512, ldz512x1024, ldz256x1024, ldz1024x1024, ldz1x1024, pay5, pay17, pay23, pay7, pay13, pay25, pay19, rd_ue, sk_2816_0, sk_1408_2816, sk_1408_0, sk_4224_1408, sk_4224_2816, sk_4224_0, rd_all, pay6, pay18, pay24, pay8, pay20, pay26, pay9, pay21, pay27, pay22, bit_eq, View.readAt_eq_ld, View.readCov_cons_toLoadRect, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg18.read_unread]
  rfl

set_option maxHeartbeats 4000000 in
theorem out0_B_15_eq (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x5632 .bf16) (harg10 : arg10.IsWhole) (arg11 : Memref sig .tc .vmem S3x5632 .f32) (harg11 : arg11.IsWhole) (arg12 : Memref sig .tc .vmem S1x5632 .f32) (harg12 : arg12.IsWhole) (arg13 : Memref sig .tc .vmem S2816x1024 .bf16) (harg13 : arg13.IsWhole) (arg14 : Memref sig .tc .vmem S1x1024 .f32) (harg14 : arg14.IsWhole) (arg15 : Memref sig .tc .vmem S256x1024 .f32) (harg15 : arg15.IsWhole) (arg16 : Memref sig .tc .vmem S1x2x5632 .f32) (harg16 : arg16.IsWhole) (arg17 : Memref sig .tc .vmem S264x1408 .f32) (harg17 : arg17.IsWhole) (arg18 : Memref sig .tc .vmem S8x5632 .f32) (harg18 : arg18.IsWhole) (hc0 : ¬cond0_0 i)
    (x0 : Vec F S256x1024 .f32) (x1 : Vec F S256x512 .bf16) (x2 : Vec F S256x512 .bf16) (x3 : Vec F S256x1024 .f32) (x4 : Vec F S256x1024 .f32) (x5 : Vec F S512x1024 .bf16) (x6 : Vec F S512x1024 .bf16) (x7 : Vec F S1024x1024 .bf16) (x8 : Vec F S1x1024 .f32) (x9 : Vec F S1024x5632 .bf16) (x10 : Vec F S3x5632 .f32) (x11 : Vec F S1x5632 .f32) (x12 : Vec F S2816x1024 .bf16) (x13 : Vec F S1x1024 .f32) (xs1 : Vec F S8x5632 .f32) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 xs1 = cK x9 (k0_pay3 x1 x5 x2 x6 x3 x4 x0 x7 x8) := by
  unfold out0_B_15 kernelRun0_B
  dsimp only
  rw [View.read_writes_junk_eq_canon]
  sl_unfold_words
  simp only [ldz256x512, ldz512x1024, ldz256x1024, ldz1024x1024, ldz1x1024, pay5, pay17, pay23, pay7, pay13, pay25, pay19, rd_ue, sk_2816_0, sk_1408_2816, sk_1408_0, sk_4224_1408, sk_4224_2816, sk_4224_0, rd_all, pay6, pay18, pay24, pay8, pay20, pay26, pay9, pay21, pay27, pay22, bit_eq, View.readAt_eq_ld, View.readCov_cons_toLoadRect, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg18.read_unread]
  rfl

set_option maxHeartbeats 4000000 in
theorem sout0_B_1_eq (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x5632 .bf16) (harg10 : arg10.IsWhole) (arg11 : Memref sig .tc .vmem S3x5632 .f32) (harg11 : arg11.IsWhole) (arg12 : Memref sig .tc .vmem S1x5632 .f32) (harg12 : arg12.IsWhole) (arg13 : Memref sig .tc .vmem S2816x1024 .bf16) (harg13 : arg13.IsWhole) (arg14 : Memref sig .tc .vmem S1x1024 .f32) (harg14 : arg14.IsWhole) (arg15 : Memref sig .tc .vmem S256x1024 .f32) (harg15 : arg15.IsWhole) (arg16 : Memref sig .tc .vmem S1x2x5632 .f32) (harg16 : arg16.IsWhole) (arg17 : Memref sig .tc .vmem S264x1408 .f32) (harg17 : arg17.IsWhole) (arg18 : Memref sig .tc .vmem S8x5632 .f32) (harg18 : arg18.IsWhole) (hc0 : ¬cond0_0 i)
    (x0 : Vec F S256x1024 .f32) (x1 : Vec F S256x512 .bf16) (x2 : Vec F S256x512 .bf16) (x3 : Vec F S256x1024 .f32) (x4 : Vec F S256x1024 .f32) (x5 : Vec F S512x1024 .bf16) (x6 : Vec F S512x1024 .bf16) (x7 : Vec F S1024x1024 .bf16) (x8 : Vec F S1x1024 .f32) (x9 : Vec F S1024x5632 .bf16) (x10 : Vec F S3x5632 .f32) (x11 : Vec F S1x5632 .f32) (x12 : Vec F S2816x1024 .bf16) (x13 : Vec F S1x1024 .f32) (xs1 : Vec F S8x5632 .f32) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 xs1 = sK x9 (k0_pay3 x1 x5 x2 x6 x3 x4 x0 x7 x8) [] := by
  unfold sout0_B_1 kernelRun0_B
  dsimp only
  rw [View.read_writes_junk_eq_canon]
  sl_unfold_words
  simp only [ldz256x512, ldz512x1024, ldz256x1024, ldz1024x1024, ldz1x1024, pay5, pay17, pay23, pay7, pay13, pay25, pay19, rd_ue, sk_2816_0, sk_1408_2816, sk_1408_0, sk_4224_1408, sk_4224_2816, sk_4224_0, rd_all, pay6, pay18, pay24, pay8, pay20, pay26, pay9, pay21, pay27, pay22, bit_eq, View.readAt_eq_ld, View.readCov_cons_toLoadRect, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg18.read_unread]
  rfl

end Cert.TailIdeal.Value
end
-- ==== Proof.TailResult.lean ====
/-
  The tail kernel's result arrays are the reference's results of its arguments.
-/
module

public import proofs.«01_k».proof.Proof.TailTie
public import proofs.«01_k».proof.Proof.TailPointA
public import proofs.«01_k».proof.Proof.TailPointB

@[expose] public section
set_option maxRecDepth 16384
noncomputable section
namespace Cert.TailIdeal.Value
open Cert.TailIdeal Cert.TailIdeal.Gen Idealize.ShloMosaic Idealize.ShloMosaic.TcCoe Idealize.SL.Sem Cert.TailMath
open Cert.TailReferenceIdeal.Value

variable (m : (ℓ : Loc nD τ sig) → Buf (Elt Ideal) ℓ) (c : Dev nD)

/-- The two results of the arguments. -/
def resY : FVec Ideal S16384x1024 .f32 :=
  yOf (B0 m c) (B1 m c) (B2 m c) (B3 m c) (B4 m c) (B5 m c) (B6 m c) (B7 m c) (B8 m c) (B9 m c) (B10 m c) (B11 m c) (B12 m c) (B13 m c)
def resH : FVec Ideal S8x2x5632 .f32 :=
  histOf (B0 m c) (B1 m c) (B2 m c) (B3 m c) (B4 m c) (B5 m c) (B6 m c) (B7 m c) (B8 m c) (B9 m c)

theorem resY_apply (b : Fin 8) (q : Fin 2048) (j : Fin 1024) : resY m c (ix2 ⟨b.val * 2048 + q.val, by omega⟩ j)
    = rmsR (downR (B12 m c) (X1 m c) (actR (CR m c))) (B13 m c) (ix3 b q j) :=
  yOf_apply _ _ _ _ _ _ _ _ _ _ _ _ _ _ b q j

theorem resH_apply (b : Fin 8) (r : Fin 2) (k : Fin 5632) : resH m c (ix3 b r k) = UE m c (ix3 b ⟨2048 + r.val, by omega⟩ k) :=
  histOf_apply _ _ _ _ _ _ _ _ _ _ b r k

/-- The rows a tile leaves for the next one are its last eight. -/
theorem carry_eq (t : Fin cfg0.N) (r : Fin 8) (k : Fin 5632) :
    ((outsAt0 m c t.val t.isLt).2.2 : Vec Ideal S8x5632 .f32) (ix2 r k) = UR m c (ix3 (bat t) (qrow t ⟨248 + r.val, by omega⟩) k) := by
  by_cases h0 : t.val % 64 = 0
  · rw [outsAt0_A m c t h0]
    dsimp only
    rw [sout0_A_1_eq, sK_apply, up_eq]
  · rw [outsAt0_B m c t h0]
    dsimp only
    rw [sout0_B_1_eq, sK_apply, up_eq]

/-- The first point finds zeros, and its tile is the first of its sequence. -/
theorem hist_first (t : Fin cfg0.N) (h : t.val % 8 = 0) (H : Vec Ideal S8x5632 .f32) : Hist m c t H := by
  intro r h6 k
  rw [if_pos ((bit_iff t).mpr h), UE_zero]
  show t.val % 8 * 256 + (r.val - 6) < 2
  omega

/-- A later point finds what the point before left. -/
theorem hist_next (t s : Fin cfg0.N) (hs : t.val = s.val + 1) : Hist m c t (outsAt0 m c s.val s.isLt).2.2 := by
  by_cases h : t.val % 8 = 0
  · exact hist_first m c t h _
  · intro r h6 k
    rw [if_neg (fun e => h ((bit_iff t).mp e)), carry_eq]
    have hb : bat t = bat s := Fin.ext (by show t.val / 8 = s.val / 8; omega)
    rw [hb]
    refine (UE_shift m c _ _ _ ?_ k).symm
    show t.val % 8 * 256 + (r.val - 6) = 2 + (s.val % 8 * 256 + (248 + r.val))
    omega

theorem y_point (t : Fin cfg0.N) (p : Fin 256) (j : Fin 1024) :
    ((outsAt0 m c t.val t.isLt).1 : Vec Ideal S256x1024 .f32) (ix2 p j) = resY m c (ix2 ⟨(bat t).val * 2048 + (qrow t p).val, by omega⟩ j) := by
  rw [resY_apply]
  by_cases h0 : t.val % 64 = 0
  · rw [outsAt0_A m c t h0]
    dsimp only
    rw [out0_A_14_eq]
    exact yT (hist_first m c t (by omega) _) p j
  · rw [outsAt0_B m c t h0]
    dsimp only
    rw [out0_B_14_eq]
    exact yT (hist_next m c t ⟨t.val - 1, Nat.lt_of_le_of_lt (Nat.sub_le _ _) t.isLt⟩ (by show t.val = t.val - 1 + 1; omega)) p j

theorem h_point (t : Fin cfg0.N) (r : Fin 2) (k : Fin 5632) :
    ((outsAt0 m c t.val t.isLt).2.1 : Vec Ideal S1x2x5632 .f32) (ix3 0 r k) = UR m c (ix3 (bat t) (qrow t ⟨254 + r.val, by omega⟩) k) := by
  by_cases h0 : t.val % 64 = 0
  · rw [outsAt0_A m c t h0]
    dsimp only
    rw [out0_A_15_eq, cK_apply, up_eq]
  · rw [outsAt0_B m c t h0]
    dsimp only
    rw [out0_B_15_eq, cK_apply, up_eq]

/-- The output rows after the run. -/
theorem arrY : (dats m 0 c).arrAt 14 cfg0.N = resY m c := by
  refine (dats m 0 c).arrAt_eq_of_covers 14 _ (by decide +kernel) fun t _ y => ?_
  blk_simp [idx t]
  rw [after0_14]
  have hr : (y 0).val < 256 := (y 0).isLt
  have hn : (y 1).val < 1024 := (y 1).isLt
  have e1 : y = ix2 ⟨(y 0).val, hr⟩ ⟨(y 1).val, hn⟩ := by
    blk_ext
  have e2 : (win0_14.blk t).view.emb y = ix2 ⟨(bat t).val * 2048 + (qrow t ⟨(y 0).val, hr⟩).val, by omega⟩ ⟨(y 1).val, hn⟩ := by
    blk_ext [idx t]
  rw [e2]
  exact (congrArg _ e1).trans (y_point m c t ⟨(y 0).val, hr⟩ ⟨(y 1).val, hn⟩)

/-- The rows left for the next call, after the run. -/
theorem arrH : (dats m 0 c).arrAt 15 cfg0.N = resH m c := by
  refine (dats m 0 c).arrAt_eq_of_covers 15 _ (by decide +kernel) fun t hf y => ?_
  have h7 : t.val % 8 = 7 := (flush0_15 t).mp hf
  blk_simp [idx t]
  rw [after0_15]
  have h1 : (y 1).val < 2 := (y 1).isLt
  have h2 : (y 2).val < 5632 := (y 2).isLt
  have e1 : y = ix3 0 ⟨(y 1).val, h1⟩ ⟨(y 2).val, h2⟩ := by
    blk_ext
  have e2 : (win0_15.blk t).view.emb y = ix3 (bat t) ⟨(y 1).val, h1⟩ ⟨(y 2).val, h2⟩ := by
    blk_ext [idx t]
  rw [e2, resH_apply]
  refine ((congrArg _ e1).trans (h_point m c t ⟨(y 1).val, h1⟩ ⟨(y 2).val, h2⟩)).trans (UE_shift m c _ _ _ ?_ _).symm
  show 2048 + (y 1).val = 2 + (t.val % 8 * 256 + (254 + (y 1).val))
  omega

end Cert.TailIdeal.Value
end
-- ==== Proof.TailAlgebraic.lean ====
/-
  The value claim of the tail: at exact arithmetic, both results of the kernel are the reference's.
-/
module

public import proofs.«01_k».proof.Defs
public import proofs.«01_k».proof.Proof.TailResult
public import Idealize.ShloMosaic.Lib.Quiescent

@[expose] public section
set_option maxRecDepth 16384
noncomputable section
namespace Cert.LayerTail
open Idealize.ShloMosaic Idealize.ShloMosaic.TcCoe Idealize.SL.Sem

/-- The reference ends with its arguments unchanged; it declares no semaphore. -/
theorem reference_quiet : Cert.quiescent_TailReferenceIdeal := fun m ρ _ =>
  (θ_run Cert.TailReferenceIdeal.defs _ _).mono (fun r h => ⟨fun c => (h c).2.2,
      Idealize.ShloMosaic.sem_eq_zero_of_no_sems (by decide) r.2⟩)
    (Cert.TailReferenceIdeal.Value.run (F := Ideal) m ρ)

theorem algebraic : Cert.algebraic_TailIdeal_TailReferenceIdeal := by
  intro m ρ m' ρ' _ hagree
  refine ⟨fun c => Cert.TailIdeal.Value.resY m c, fun c => Cert.TailIdeal.Value.resH m c, ?_, ?_⟩
  · refine (θ_run _ _ _).mono (fun _ h c => ⟨(h c).1.trans ?_, (h c).2.1.trans ?_, (h c).2.2⟩) (Cert.TailIdeal.Value.run_blocks (F := Ideal) m ρ)
    · exact Cert.TailIdeal.Value.arrY m c
    · exact Cert.TailIdeal.Value.arrH m c
  · refine (θ_run _ _ _).mono (fun _ h c => ⟨(h c).1.trans ?_, (h c).2.1.trans ?_, (h c).2.2⟩) (Cert.TailReferenceIdeal.Value.run_ref m' ρ')
    all_goals
      obtain ⟨h0, h1, h2, h3, h4, h5, h6, h7, h8, h9, h10, h11, h12, h13⟩ := hagree c
    · rw [h0, h1, h2, h3, h4, h5, h6, h7, h8, h9, h10, h11, h12, h13]
      rfl
    · rw [h0, h1, h2, h3, h4, h5, h6, h7, h8, h9]
      rfl

end Cert.LayerTail
end
-- ==== Proof.ProjPoint.lean ====
/-
  What the projection kernel stores at a grid point, as the functions of its inputs.
-/
module

public import proofs.«01_k».proof.Proof.Gen.ProjIdeal.Frame
public import Idealize.ShloMosaic.Lib.Pipeline.ValueKit

@[expose] public section
set_option maxRecDepth 16384
noncomputable section
namespace Cert.ProjIdeal.Value
open Cert.ProjIdeal Cert.ProjIdeal.Gen Idealize.ShloMosaic Idealize.ShloMosaic.TcCoe Idealize.SL.Sem
variable {F : FTy → Type} [FloatOps F]

theorem zz : (![0, 0] : Fin 2 → Nat) = fun _ => 0 := funext fun a => by fin_cases a <;> rfl
theorem zzz : (![0, 0, 0] : Fin 3 → Nat) = fun _ => 0 := funext fun a => by fin_cases a <;> rfl

/-- The normed rows of the tile. -/
abbrev hnK (x0 : Vec F S256x1024 .f32) (x1 : Vec F S1x1024 .f32) : FVec F S256x1024 .bf16 := k0_pay2 x0 x1

/-- The tile's keys, values and positional part, columns first. -/
abbrev ytK (x0 : Vec F S256x1024 .f32) (x1 : Vec F S1x1024 .f32) (x3 : Vec F S1056x1024 .bf16) : FVec F S1056x256 .f32 := k0_pay52 (k0_pay2 x0 x1) x3

/-- The pieces the block-attention keys of a tile are stored in. -/
def ktL (hn : FVec F S256x1024 .bf16) (w : Vec F S1056x1024 .bf16) (T : Vec F S16x256 .f32) : List (View.Piece (Elt F) S1x512x256 .f32) :=
  [⟨(Rect.unit (s := S1x512x256) ![0, 464, 0] ![1, 48, 256] inb_S1x512x256_S1x48x256_0_464_0), k0_pay95 (k0_pay52 hn w)⟩,
    ⟨(Rect.unit (s := S1x512x256) ![0, 456, 0] ![1, 8, 256] inb_S1x512x256_S1x8x256_0_456_0), k0_pay94 (k0_pay54 T) (k0_pay55 T) (k0_pay91 (k0_pay52 hn w)) (k0_pay92 (k0_pay52 hn w))⟩,
    ⟨(Rect.unit (s := S1x512x256) ![0, 448, 0] ![1, 8, 256] inb_S1x512x256_S1x8x256_0_448_0), k0_pay93 (k0_pay54 T) (k0_pay55 T) (k0_pay91 (k0_pay52 hn w)) (k0_pay92 (k0_pay52 hn w))⟩,
    ⟨(Rect.unit (s := S1x512x256) ![0, 400, 0] ![1, 48, 256] inb_S1x512x256_S1x48x256_0_400_0), k0_pay90 (k0_pay52 hn w)⟩,
    ⟨(Rect.unit (s := S1x512x256) ![0, 392, 0] ![1, 8, 256] inb_S1x512x256_S1x8x256_0_392_0), k0_pay89 (k0_pay52 hn w) (k0_pay54 T) (k0_pay55 T)⟩,
    ⟨(Rect.unit (s := S1x512x256) ![0, 384, 0] ![1, 8, 256] inb_S1x512x256_S1x8x256_0_384_0), k0_pay88 (k0_pay52 hn w) (k0_pay54 T) (k0_pay55 T)⟩,
    ⟨(Rect.unit (s := S1x512x256) ![0, 336, 0] ![1, 48, 256] inb_S1x512x256_S1x48x256_0_336_0), k0_pay85 (k0_pay52 hn w)⟩,
    ⟨(Rect.unit (s := S1x512x256) ![0, 328, 0] ![1, 8, 256] inb_S1x512x256_S1x8x256_0_328_0), k0_pay84 (k0_pay54 T) (k0_pay55 T) (k0_pay81 (k0_pay52 hn w)) (k0_pay82 (k0_pay52 hn w))⟩,
    ⟨(Rect.unit (s := S1x512x256) ![0, 320, 0] ![1, 8, 256] inb_S1x512x256_S1x8x256_0_320_0), k0_pay83 (k0_pay54 T) (k0_pay55 T) (k0_pay81 (k0_pay52 hn w)) (k0_pay82 (k0_pay52 hn w))⟩,
    ⟨(Rect.unit (s := S1x512x256) ![0, 272, 0] ![1, 48, 256] inb_S1x512x256_S1x48x256_0_272_0), k0_pay80 (k0_pay52 hn w)⟩,
    ⟨(Rect.unit (s := S1x512x256) ![0, 264, 0] ![1, 8, 256] inb_S1x512x256_S1x8x256_0_264_0), k0_pay79 (k0_pay52 hn w) (k0_pay54 T) (k0_pay55 T)⟩,
    ⟨(Rect.unit (s := S1x512x256) ![0, 256, 0] ![1, 8, 256] inb_S1x512x256_S1x8x256_0_256_0), k0_pay78 (k0_pay52 hn w) (k0_pay54 T) (k0_pay55 T)⟩,
    ⟨(Rect.unit (s := S1x512x256) ![0, 208, 0] ![1, 48, 256] inb_S1x512x256_S1x48x256_0_208_0), k0_pay75 (k0_pay52 hn w)⟩,
    ⟨(Rect.unit (s := S1x512x256) ![0, 200, 0] ![1, 8, 256] inb_S1x512x256_S1x8x256_0_200_0), k0_pay74 (k0_pay54 T) (k0_pay55 T) (k0_pay71 (k0_pay52 hn w)) (k0_pay72 (k0_pay52 hn w))⟩,
    ⟨(Rect.unit (s := S1x512x256) ![0, 192, 0] ![1, 8, 256] inb_S1x512x256_S1x8x256_0_192_0), k0_pay73 (k0_pay54 T) (k0_pay55 T) (k0_pay71 (k0_pay52 hn w)) (k0_pay72 (k0_pay52 hn w))⟩,
    ⟨(Rect.unit (s := S1x512x256) ![0, 144, 0] ![1, 48, 256] inb_S1x512x256_S1x48x256_0_144_0), k0_pay70 (k0_pay52 hn w)⟩,
    ⟨(Rect.unit (s := S1x512x256) ![0, 136, 0] ![1, 8, 256] inb_S1x512x256_S1x8x256_0_136_0), k0_pay69 (k0_pay52 hn w) (k0_pay54 T) (k0_pay55 T)⟩,
    ⟨(Rect.unit (s := S1x512x256) ![0, 128, 0] ![1, 8, 256] inb_S1x512x256_S1x8x256_0_128_0), k0_pay68 (k0_pay52 hn w) (k0_pay54 T) (k0_pay55 T)⟩,
    ⟨(Rect.unit (s := S1x512x256) ![0, 80, 0] ![1, 48, 256] inb_S1x512x256_S1x48x256_0_80_0), k0_pay65 (k0_pay52 hn w)⟩,
    ⟨(Rect.unit (s := S1x512x256) ![0, 72, 0] ![1, 8, 256] inb_S1x512x256_S1x8x256_0_72_0), k0_pay64 (k0_pay54 T) (k0_pay55 T) (k0_pay61 hn w) (k0_pay62 hn w)⟩,
    ⟨(Rect.unit (s := S1x512x256) ![0, 64, 0] ![1, 8, 256] inb_S1x512x256_S1x8x256_0_64_0), k0_pay63 (k0_pay54 T) (k0_pay55 T) (k0_pay61 hn w) (k0_pay62 hn w)⟩,
    ⟨(Rect.unit (s := S1x512x256) ![0, 16, 0] ![1, 48, 256] inb_S1x512x256_S1x48x256_0_16_0), k0_pay60 hn w⟩,
    ⟨(Rect.unit (s := S1x512x256) ![0, 8, 0] ![1, 8, 256] inb_S1x512x256_S1x8x256_0_8_0), k0_pay59 hn w T⟩,
    ⟨(Rect.unit (s := S1x512x256) ![0, 0, 0] ![1, 8, 256] inb_S1x512x256_S1x8x256_0_0_0), k0_pay58 hn w T⟩]

theorem ldx {e : EltTy} (X : S256x1024.Idx → Elt F e) : View.ld X (Rect.unit (s := S256x1024) ![0, 0] ![256, 1024] inb_S256x1024_S256x1024_0_0) = X := View.ld_unit_zero zz _ X
theorem ldg {e : EltTy} (X : S1x1024.Idx → Elt F e) : View.ld X (Rect.unit (s := S1x1024) ![0, 0] ![1, 1024] inb_S1x1024_S1x1024_0_0) = X := View.ld_unit_zero zz _ X
theorem ldwt {e : EltTy} (X : S1056x1024.Idx → Elt F e) : View.ld X (Rect.unit (s := S1056x1024) ![0, 0] ![1056, 1024] inb_S1056x1024_S1056x1024_0_0) = X := View.ld_unit_zero zz _ X
theorem ldgkv {e : EltTy} (X : S1x256.Idx → Elt F e) : View.ld X (Rect.unit (s := S1x256) ![0, 0] ![1, 256] inb_S1x256_S1x256_0_0) = X := View.ld_unit_zero zz _ X
theorem ldt10 {e : EltTy} (X : S16x256.Idx → Elt F e) : View.ld X (Rect.unit (s := S16x256) ![0, 0] ![16, 256] inb_S16x256_S16x256_0_0) = X := View.ld_unit_zero zz _ X
theorem ldt11 {e : EltTy} (X : S32x256.Idx → Elt F e) : View.ld X (Rect.unit (s := S32x256) ![0, 0] ![32, 256] inb_S32x256_S32x256_0_0) = X := View.ld_unit_zero zz _ X

set_option maxHeartbeats 4000000 in
theorem out0_A_12_eq (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3456 .bf16) (harg3 : arg3.IsWhole) (arg4 : Memref sig .tc .vmem S1056x1024 .bf16) (harg4 : arg4.IsWhole) (arg5 : Memref sig .tc .vmem S1x512 .f32) (harg5 : arg5.IsWhole) (arg6 : Memref sig .tc .vmem S512x768 .bf16) (harg6 : arg6.IsWhole) (arg7 : Memref sig .tc .vmem S1x256 .f32) (harg7 : arg7.IsWhole) (arg8 : Memref sig .tc .vmem S4x128x512 .bf16) (harg8 : arg8.IsWhole) (arg9 : Memref sig .tc .vmem S256x384 .f32) (harg9 : arg9.IsWhole) (arg10 : Memref sig .tc .vmem S256x384 .f32) (harg10 : arg10.IsWhole) (arg11 : Memref sig .tc .vmem S16x256 .f32) (harg11 : arg11.IsWhole) (arg12 : Memref sig .tc .vmem S32x256 .f32) (harg12 : arg12.IsWhole) (arg13 : Memref sig .tc .vmem S256x256 .f32) (harg13 : arg13.IsWhole) (arg14 : Memref sig .tc .vmem S256x384 .bf16) (harg14 : arg14.IsWhole) (arg15 : Memref sig .tc .vmem S1x1x256x256 .bf16) (harg15 : arg15.IsWhole) (arg16 : Memref sig .tc .vmem S1x32x256 .f32) (harg16 : arg16.IsWhole) (arg17 : Memref sig .tc .vmem S1x512x256 .f32) (harg17 : arg17.IsWhole) (arg18 : Memref sig .tc .vmem S1x512x256 .f32) (harg18 : arg18.IsWhole) (arg19 : Memref sig .tc .vmem S256x512 .bf16) (harg19 : arg19.IsWhole) (arg20 : Memref sig .tc .vmem S1x8x256x384 .bf16) (harg20 : arg20.IsWhole) (arg21 : Memref sig .tc .vmem S256x1024 .f32) (harg21 : arg21.IsWhole) (arg22 : Memref sig .tc .vmem S256x1024 .f32) (harg22 : arg22.IsWhole)
    (x0 : Vec F S256x1024 .f32) (x1 : Vec F S1x1024 .f32) (x2 : Vec F S1024x3456 .bf16) (x3 : Vec F S1056x1024 .bf16) (x4 : Vec F S1x512 .f32) (x5 : Vec F S512x768 .bf16) (x6 : Vec F S1x256 .f32) (x7 : Vec F S4x128x512 .bf16) (x8 : Vec F S256x384 .f32) (x9 : Vec F S256x384 .f32) (x10 : Vec F S16x256 .f32) (x11 : Vec F S32x256 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 = k0_pay9 (k0_pay4 x0 x1 (View.ld x2 (Rect.unit (s := S1024x3456) ![0, 512] ![1024, 256] inb_S1024x3456_S1024x256_0_512))) x6 := by
  unfold out0_A_12 kernelRun0_A
  dsimp only
  rw [View.read_writes_junk_eq_canon, View.canon_cons_unit_zero zz]
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, ldg, ldwt, ldgkv, ldt10, ldt11, ldx]

set_option maxHeartbeats 4000000 in
theorem out0_A_15_eq (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3456 .bf16) (harg3 : arg3.IsWhole) (arg4 : Memref sig .tc .vmem S1056x1024 .bf16) (harg4 : arg4.IsWhole) (arg5 : Memref sig .tc .vmem S1x512 .f32) (harg5 : arg5.IsWhole) (arg6 : Memref sig .tc .vmem S512x768 .bf16) (harg6 : arg6.IsWhole) (arg7 : Memref sig .tc .vmem S1x256 .f32) (harg7 : arg7.IsWhole) (arg8 : Memref sig .tc .vmem S4x128x512 .bf16) (harg8 : arg8.IsWhole) (arg9 : Memref sig .tc .vmem S256x384 .f32) (harg9 : arg9.IsWhole) (arg10 : Memref sig .tc .vmem S256x384 .f32) (harg10 : arg10.IsWhole) (arg11 : Memref sig .tc .vmem S16x256 .f32) (harg11 : arg11.IsWhole) (arg12 : Memref sig .tc .vmem S32x256 .f32) (harg12 : arg12.IsWhole) (arg13 : Memref sig .tc .vmem S256x256 .f32) (harg13 : arg13.IsWhole) (arg14 : Memref sig .tc .vmem S256x384 .bf16) (harg14 : arg14.IsWhole) (arg15 : Memref sig .tc .vmem S1x1x256x256 .bf16) (harg15 : arg15.IsWhole) (arg16 : Memref sig .tc .vmem S1x32x256 .f32) (harg16 : arg16.IsWhole) (arg17 : Memref sig .tc .vmem S1x512x256 .f32) (harg17 : arg17.IsWhole) (arg18 : Memref sig .tc .vmem S1x512x256 .f32) (harg18 : arg18.IsWhole) (arg19 : Memref sig .tc .vmem S256x512 .bf16) (harg19 : arg19.IsWhole) (arg20 : Memref sig .tc .vmem S1x8x256x384 .bf16) (harg20 : arg20.IsWhole) (arg21 : Memref sig .tc .vmem S256x1024 .f32) (harg21 : arg21.IsWhole) (arg22 : Memref sig .tc .vmem S256x1024 .f32) (harg22 : arg22.IsWhole)
    (x0 : Vec F S256x1024 .f32) (x1 : Vec F S1x1024 .f32) (x2 : Vec F S1024x3456 .bf16) (x3 : Vec F S1056x1024 .bf16) (x4 : Vec F S1x512 .f32) (x5 : Vec F S512x768 .bf16) (x6 : Vec F S1x256 .f32) (x7 : Vec F S4x128x512 .bf16) (x8 : Vec F S256x384 .f32) (x9 : Vec F S256x384 .f32) (x10 : Vec F S16x256 .f32) (x11 : Vec F S32x256 .f32) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 = k0_pay1 (k0_pay99 x11) (k0_pay100 (ytK x0 x1 x3)) (k0_pay102 (ytK x0 x1 x3) x11) (k0_pay103 (ytK x0 x1 x3) x11) := by
  unfold out0_A_15 kernelRun0_A
  dsimp only
  rw [View.read_writes_junk_eq_canon, View.canon_cons_unit_zero zzz]
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, ldg, ldwt, ldgkv, ldt10, ldt11, ldx]

set_option maxHeartbeats 4000000 in
theorem out0_A_17_eq (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3456 .bf16) (harg3 : arg3.IsWhole) (arg4 : Memref sig .tc .vmem S1056x1024 .bf16) (harg4 : arg4.IsWhole) (arg5 : Memref sig .tc .vmem S1x512 .f32) (harg5 : arg5.IsWhole) (arg6 : Memref sig .tc .vmem S512x768 .bf16) (harg6 : arg6.IsWhole) (arg7 : Memref sig .tc .vmem S1x256 .f32) (harg7 : arg7.IsWhole) (arg8 : Memref sig .tc .vmem S4x128x512 .bf16) (harg8 : arg8.IsWhole) (arg9 : Memref sig .tc .vmem S256x384 .f32) (harg9 : arg9.IsWhole) (arg10 : Memref sig .tc .vmem S256x384 .f32) (harg10 : arg10.IsWhole) (arg11 : Memref sig .tc .vmem S16x256 .f32) (harg11 : arg11.IsWhole) (arg12 : Memref sig .tc .vmem S32x256 .f32) (harg12 : arg12.IsWhole) (arg13 : Memref sig .tc .vmem S256x256 .f32) (harg13 : arg13.IsWhole) (arg14 : Memref sig .tc .vmem S256x384 .bf16) (harg14 : arg14.IsWhole) (arg15 : Memref sig .tc .vmem S1x1x256x256 .bf16) (harg15 : arg15.IsWhole) (arg16 : Memref sig .tc .vmem S1x32x256 .f32) (harg16 : arg16.IsWhole) (arg17 : Memref sig .tc .vmem S1x512x256 .f32) (harg17 : arg17.IsWhole) (arg18 : Memref sig .tc .vmem S1x512x256 .f32) (harg18 : arg18.IsWhole) (arg19 : Memref sig .tc .vmem S256x512 .bf16) (harg19 : arg19.IsWhole) (arg20 : Memref sig .tc .vmem S1x8x256x384 .bf16) (harg20 : arg20.IsWhole) (arg21 : Memref sig .tc .vmem S256x1024 .f32) (harg21 : arg21.IsWhole) (arg22 : Memref sig .tc .vmem S256x1024 .f32) (harg22 : arg22.IsWhole)
    (x0 : Vec F S256x1024 .f32) (x1 : Vec F S1x1024 .f32) (x2 : Vec F S1024x3456 .bf16) (x3 : Vec F S1056x1024 .bf16) (x4 : Vec F S1x512 .f32) (x5 : Vec F S512x768 .bf16) (x6 : Vec F S1x256 .f32) (x7 : Vec F S4x128x512 .bf16) (x8 : Vec F S256x384 .f32) (x9 : Vec F S256x384 .f32) (x10 : Vec F S16x256 .f32) (x11 : Vec F S32x256 .f32) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 = k0_pay96 (ytK x0 x1 x3) := by
  unfold out0_A_17 kernelRun0_A
  dsimp only
  rw [View.read_writes_junk_eq_canon, View.canon_cons_unit_zero zzz]
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, ldg, ldwt, ldgkv, ldt10, ldt11, ldx]

set_option maxHeartbeats 4000000 in
theorem out0_A_20_eq (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3456 .bf16) (harg3 : arg3.IsWhole) (arg4 : Memref sig .tc .vmem S1056x1024 .bf16) (harg4 : arg4.IsWhole) (arg5 : Memref sig .tc .vmem S1x512 .f32) (harg5 : arg5.IsWhole) (arg6 : Memref sig .tc .vmem S512x768 .bf16) (harg6 : arg6.IsWhole) (arg7 : Memref sig .tc .vmem S1x256 .f32) (harg7 : arg7.IsWhole) (arg8 : Memref sig .tc .vmem S4x128x512 .bf16) (harg8 : arg8.IsWhole) (arg9 : Memref sig .tc .vmem S256x384 .f32) (harg9 : arg9.IsWhole) (arg10 : Memref sig .tc .vmem S256x384 .f32) (harg10 : arg10.IsWhole) (arg11 : Memref sig .tc .vmem S16x256 .f32) (harg11 : arg11.IsWhole) (arg12 : Memref sig .tc .vmem S32x256 .f32) (harg12 : arg12.IsWhole) (arg13 : Memref sig .tc .vmem S256x256 .f32) (harg13 : arg13.IsWhole) (arg14 : Memref sig .tc .vmem S256x384 .bf16) (harg14 : arg14.IsWhole) (arg15 : Memref sig .tc .vmem S1x1x256x256 .bf16) (harg15 : arg15.IsWhole) (arg16 : Memref sig .tc .vmem S1x32x256 .f32) (harg16 : arg16.IsWhole) (arg17 : Memref sig .tc .vmem S1x512x256 .f32) (harg17 : arg17.IsWhole) (arg18 : Memref sig .tc .vmem S1x512x256 .f32) (harg18 : arg18.IsWhole) (arg19 : Memref sig .tc .vmem S256x512 .bf16) (harg19 : arg19.IsWhole) (arg20 : Memref sig .tc .vmem S1x8x256x384 .bf16) (harg20 : arg20.IsWhole) (arg21 : Memref sig .tc .vmem S256x1024 .f32) (harg21 : arg21.IsWhole) (arg22 : Memref sig .tc .vmem S256x1024 .f32) (harg22 : arg22.IsWhole)
    (x0 : Vec F S256x1024 .f32) (x1 : Vec F S1x1024 .f32) (x2 : Vec F S1024x3456 .bf16) (x3 : Vec F S1056x1024 .bf16) (x4 : Vec F S1x512 .f32) (x5 : Vec F S512x768 .bf16) (x6 : Vec F S1x256 .f32) (x7 : Vec F S4x128x512 .bf16) (x8 : Vec F S256x384 .f32) (x9 : Vec F S256x384 .f32) (x10 : Vec F S16x256 .f32) (x11 : Vec F S32x256 .f32) :
    out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 = k0_pay7 x0 x1 (View.ld x2 (Rect.unit (s := S1024x3456) ![0, 1408] ![1024, 1024] inb_S1024x3456_S1024x1024_0_1408)) := by
  unfold out0_A_20 kernelRun0_A
  dsimp only
  rw [View.read_writes_junk_eq_canon, View.canon_cons_unit_zero zz]
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, ldg, ldwt, ldgkv, ldt10, ldt11, ldx]

set_option maxHeartbeats 4000000 in
theorem out0_A_21_eq (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3456 .bf16) (harg3 : arg3.IsWhole) (arg4 : Memref sig .tc .vmem S1056x1024 .bf16) (harg4 : arg4.IsWhole) (arg5 : Memref sig .tc .vmem S1x512 .f32) (harg5 : arg5.IsWhole) (arg6 : Memref sig .tc .vmem S512x768 .bf16) (harg6 : arg6.IsWhole) (arg7 : Memref sig .tc .vmem S1x256 .f32) (harg7 : arg7.IsWhole) (arg8 : Memref sig .tc .vmem S4x128x512 .bf16) (harg8 : arg8.IsWhole) (arg9 : Memref sig .tc .vmem S256x384 .f32) (harg9 : arg9.IsWhole) (arg10 : Memref sig .tc .vmem S256x384 .f32) (harg10 : arg10.IsWhole) (arg11 : Memref sig .tc .vmem S16x256 .f32) (harg11 : arg11.IsWhole) (arg12 : Memref sig .tc .vmem S32x256 .f32) (harg12 : arg12.IsWhole) (arg13 : Memref sig .tc .vmem S256x256 .f32) (harg13 : arg13.IsWhole) (arg14 : Memref sig .tc .vmem S256x384 .bf16) (harg14 : arg14.IsWhole) (arg15 : Memref sig .tc .vmem S1x1x256x256 .bf16) (harg15 : arg15.IsWhole) (arg16 : Memref sig .tc .vmem S1x32x256 .f32) (harg16 : arg16.IsWhole) (arg17 : Memref sig .tc .vmem S1x512x256 .f32) (harg17 : arg17.IsWhole) (arg18 : Memref sig .tc .vmem S1x512x256 .f32) (harg18 : arg18.IsWhole) (arg19 : Memref sig .tc .vmem S256x512 .bf16) (harg19 : arg19.IsWhole) (arg20 : Memref sig .tc .vmem S1x8x256x384 .bf16) (harg20 : arg20.IsWhole) (arg21 : Memref sig .tc .vmem S256x1024 .f32) (harg21 : arg21.IsWhole) (arg22 : Memref sig .tc .vmem S256x1024 .f32) (harg22 : arg22.IsWhole)
    (x0 : Vec F S256x1024 .f32) (x1 : Vec F S1x1024 .f32) (x2 : Vec F S1024x3456 .bf16) (x3 : Vec F S1056x1024 .bf16) (x4 : Vec F S1x512 .f32) (x5 : Vec F S512x768 .bf16) (x6 : Vec F S1x256 .f32) (x7 : Vec F S4x128x512 .bf16) (x8 : Vec F S256x384 .f32) (x9 : Vec F S256x384 .f32) (x10 : Vec F S16x256 .f32) (x11 : Vec F S32x256 .f32) :
    out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 = k0_pay8 (hnK x0 x1) (View.ld x2 (Rect.unit (s := S1024x3456) ![0, 2432] ![1024, 1024] inb_S1024x3456_S1024x1024_0_2432)) := by
  unfold out0_A_21 kernelRun0_A
  dsimp only
  rw [View.read_writes_junk_eq_canon, View.canon_cons_unit_zero zz]
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, ldg, ldwt, ldgkv, ldt10, ldt11, ldx]

set_option maxHeartbeats 4000000 in
theorem out0_A_16_eq (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3456 .bf16) (harg3 : arg3.IsWhole) (arg4 : Memref sig .tc .vmem S1056x1024 .bf16) (harg4 : arg4.IsWhole) (arg5 : Memref sig .tc .vmem S1x512 .f32) (harg5 : arg5.IsWhole) (arg6 : Memref sig .tc .vmem S512x768 .bf16) (harg6 : arg6.IsWhole) (arg7 : Memref sig .tc .vmem S1x256 .f32) (harg7 : arg7.IsWhole) (arg8 : Memref sig .tc .vmem S4x128x512 .bf16) (harg8 : arg8.IsWhole) (arg9 : Memref sig .tc .vmem S256x384 .f32) (harg9 : arg9.IsWhole) (arg10 : Memref sig .tc .vmem S256x384 .f32) (harg10 : arg10.IsWhole) (arg11 : Memref sig .tc .vmem S16x256 .f32) (harg11 : arg11.IsWhole) (arg12 : Memref sig .tc .vmem S32x256 .f32) (harg12 : arg12.IsWhole) (arg13 : Memref sig .tc .vmem S256x256 .f32) (harg13 : arg13.IsWhole) (arg14 : Memref sig .tc .vmem S256x384 .bf16) (harg14 : arg14.IsWhole) (arg15 : Memref sig .tc .vmem S1x1x256x256 .bf16) (harg15 : arg15.IsWhole) (arg16 : Memref sig .tc .vmem S1x32x256 .f32) (harg16 : arg16.IsWhole) (arg17 : Memref sig .tc .vmem S1x512x256 .f32) (harg17 : arg17.IsWhole) (arg18 : Memref sig .tc .vmem S1x512x256 .f32) (harg18 : arg18.IsWhole) (arg19 : Memref sig .tc .vmem S256x512 .bf16) (harg19 : arg19.IsWhole) (arg20 : Memref sig .tc .vmem S1x8x256x384 .bf16) (harg20 : arg20.IsWhole) (arg21 : Memref sig .tc .vmem S256x1024 .f32) (harg21 : arg21.IsWhole) (arg22 : Memref sig .tc .vmem S256x1024 .f32) (harg22 : arg22.IsWhole)
    (x0 : Vec F S256x1024 .f32) (x1 : Vec F S1x1024 .f32) (x2 : Vec F S1024x3456 .bf16) (x3 : Vec F S1056x1024 .bf16) (x4 : Vec F S1x512 .f32) (x5 : Vec F S512x768 .bf16) (x6 : Vec F S1x256 .f32) (x7 : Vec F S4x128x512 .bf16) (x8 : Vec F S256x384 .f32) (x9 : Vec F S256x384 .f32) (x10 : Vec F S16x256 .f32) (x11 : Vec F S32x256 .f32) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 = View.canon (ktL (hnK x0 x1) x3 x10) := by
  unfold out0_A_16 kernelRun0_A
  dsimp only
  rw [View.read_writes_junk_eq_canon]
  unfold ktL
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, ldg, ldwt, ldgkv, ldt10, ldt11, ldx]

end Cert.ProjIdeal.Value
end
-- ==== Proof.ProjMath.lean ====
/-
  The projection of one row, in the extended reals: what both the kernel's tiles and the reference's arrays are read as.
-/
module

public import proofs.«01_k».proof.Proof.TailMath

@[expose] public section
set_option maxRecDepth 16384
noncomputable section
namespace Cert.ProjMath
open Idealize.ShloMosaic

/-- A column of the input projection of the normed row. -/
def col (x g w : Fin 1024 → EReal) : EReal := ∑ k : Fin 1024, Cert.TailMath.rms x g k * w k

/-- The root-mean-square norm of a row of the key and value latents. -/
def rmsL (x g : Fin 256 → EReal) (j : Fin 256) : EReal :=
  x j * Ideal.rsqrt (Ideal.div (∑ k : Fin 256, x k * x k) (Ideal.ofBits .f32 0x43800000#32) + Ideal.ofBits .f32 0x358637BD#32) * g j

end Cert.ProjMath
end
-- ==== Proof.ProjVal.lean ====
/-
  The projection kernel's payloads, read at a row or a column of a tile.
-/
module

public import proofs.«01_k».proof.Proof.Gen.ProjIdeal.Frame
public import Idealize.ShloMosaic.Lib.Pipeline.ValueKit
public import proofs.«01_k».proof.Proof.ProjPoint
public import proofs.«01_k».proof.Proof.ProjMath
public import Idealize.ShloMosaic.Lib.Pointwise

@[expose] public section
set_option maxRecDepth 16384
noncomputable section
namespace Cert.ProjIdeal.Value
open Cert.ProjIdeal Cert.ProjIdeal.Gen Idealize.ShloMosaic Idealize.ShloMosaic.TcCoe Idealize.SL.Sem
open Cert.TailMath Cert.ProjMath

/-- The normed rows. -/
theorem hn_apply (x : Vec Ideal S256x1024 .f32) (g : Vec Ideal S1x1024 .f32) (p : Fin 256) (k : Fin 1024) :
    k0_pay2 x g (ix2 p k) = rms (fun j => x (ix2 p j)) (fun j => g (ix2 0 j)) k := by
  pointwise [k0_pay2, rms]

/-- The key and value latents before their norm. -/
theorem lat_apply (x : Vec Ideal S256x1024 .f32) (g : Vec Ideal S1x1024 .f32) (w : Vec Ideal S1024x256 .bf16) (p j : Fin 256) :
    k0_pay4 x g w (ix2 p j) = col (fun j => x (ix2 p j)) (fun j => g (ix2 0 j)) (fun k => w (ix2 k j)) := by
  unfold col
  simp only [← hn_apply]
  pointwise [k0_pay4]

/-- The normed latents. -/
theorem ckv_apply (y : FVec Ideal S256x256 .f32) (g : Vec Ideal S1x256 .f32) (p j : Fin 256) :
    k0_pay9 y g (ix2 p j) = rmsL (fun j => y (ix2 p j)) (fun j => g (ix2 0 j)) j := by
  pointwise [k0_pay9, rmsL]

/-- The two gates. -/
theorem ga_apply (x : Vec Ideal S256x1024 .f32) (g : Vec Ideal S1x1024 .f32) (w : Vec Ideal S1024x1024 .bf16) (p : Fin 256) (j : Fin 1024) :
    k0_pay7 x g w (ix2 p j) = Ideal.logistic (col (fun j => x (ix2 p j)) (fun j => g (ix2 0 j)) (fun k => w (ix2 k j))) := by
  unfold col
  simp only [← hn_apply]
  pointwise [k0_pay7]

theorem gb_apply (x : Vec Ideal S256x1024 .f32) (g : Vec Ideal S1x1024 .f32) (w : Vec Ideal S1024x1024 .bf16) (p : Fin 256) (j : Fin 1024) :
    k0_pay8 (k0_pay2 x g) w (ix2 p j) = Ideal.logistic (col (fun j => x (ix2 p j)) (fun j => g (ix2 0 j)) (fun k => w (ix2 k j))) := by
  unfold col
  simp only [← hn_apply]
  pointwise [k0_pay8]

/-- The columns-first product. -/
theorem yt_apply (x : Vec Ideal S256x1024 .f32) (g : Vec Ideal S1x1024 .f32) (w : Vec Ideal S1056x1024 .bf16) (r : Fin 1056) (p : Fin 256) :
    k0_pay52 (k0_pay2 x g) w (ix2 r p) = col (fun j => x (ix2 p j)) (fun j => g (ix2 0 j)) (fun k => w (ix2 r k)) := by
  unfold col
  simp only [← hn_apply]
  have e : k0_pay52 (k0_pay2 x g) w (ix2 r p) = ∑ k : Fin 1024, w (ix2 r k) * k0_pay2 x g (ix2 p k) := by
    pointwise [k0_pay52]
  rw [e]
  exact Finset.sum_congr rfl fun k _ => mul_comm _ _

/-- The values. -/
theorem vt_apply (Y : FVec Ideal S1056x256 .f32) (r : Fin 512) (p : Fin 256) :
    k0_pay96 Y (ix3 0 r p) = Y (ix2 ⟨512 + r.val, by omega⟩ p) := by
  pointwise [k0_pay96]

/-- The two halves of the positional keys. -/
theorem kr_lo (Y : FVec Ideal S1056x256 .f32) (T : Vec Ideal S32x256 .f32) (i : Fin 16) (p : Fin 256) :
    k0_pay1 (k0_pay99 T) (k0_pay100 Y) (k0_pay102 Y T) (k0_pay103 Y T) (ix3 0 (⟨i.val, by omega⟩ : Fin 32) p)
      = Y (ix2 ⟨1024 + i.val, by omega⟩ p) * T (ix2 ⟨i.val, by omega⟩ p) - Y (ix2 ⟨1040 + i.val, by omega⟩ p) * T (ix2 ⟨16 + i.val, by omega⟩ p) := by
  pointwise [k0_pay1, k0_pay99, k0_pay100, k0_pay102, k0_pay103, k0_pay101, k0_pay98, k0_pay97]

theorem kr_hi (Y : FVec Ideal S1056x256 .f32) (T : Vec Ideal S32x256 .f32) (i : Fin 16) (p : Fin 256) :
    k0_pay1 (k0_pay99 T) (k0_pay100 Y) (k0_pay102 Y T) (k0_pay103 Y T) (ix3 0 (⟨16 + i.val, by omega⟩ : Fin 32) p)
      = Y (ix2 ⟨1040 + i.val, by omega⟩ p) * T (ix2 ⟨i.val, by omega⟩ p) + Y (ix2 ⟨1024 + i.val, by omega⟩ p) * T (ix2 ⟨16 + i.val, by omega⟩ p) := by
  pointwise [k0_pay1, k0_pay99, k0_pay100, k0_pay102, k0_pay103, k0_pay101, k0_pay98, k0_pay97]

/-- A column of the block-attention keys: the first sixteen of every sixty-four are rotated. -/
def ktV (Y : FVec Ideal S1056x256 .f32) (T : Vec Ideal S16x256 .f32) (r : Fin 512) (p : Fin 256) : EReal :=
  if h1 : r.val % 64 < 8 then
    Y (ix2 ⟨r.val, by omega⟩ p) * T (ix2 ⟨r.val % 64, by omega⟩ p) - Y (ix2 ⟨r.val + 8, by omega⟩ p) * T (ix2 ⟨r.val % 64 + 8, by omega⟩ p)
  else if h2 : r.val % 64 < 16 then
    Y (ix2 ⟨r.val, by omega⟩ p) * T (ix2 ⟨r.val % 64 - 8, by omega⟩ p) + Y (ix2 ⟨r.val - 8, by omega⟩ p) * T (ix2 ⟨r.val % 64, by omega⟩ p)
  else Y (ix2 ⟨r.val, by omega⟩ p)

theorem at2 {m n : ℕ} (X : (Shape.mk 2 ![m, n]).Idx → EReal) {a b : Fin m} (p : Fin n) (h : a.val = b.val) : X (ix2 a p) = X (ix2 b p) :=
  congrArg (fun a => X (ix2 a p)) (Fin.ext h)

theorem ktV_lo (Y : FVec Ideal S1056x256 .f32) (T : Vec Ideal S16x256 .f32) (r : Fin 512) (p : Fin 256) (o : ℕ) (ho : o % 64 = 0) (i : Fin 8) (h : r.val = o + i.val)
    (a b : Fin 1056) (ha : a.val = o + i.val) (hb : b.val = o + 8 + i.val) (c d : Fin 16) (hc : c.val = i.val) (hd : d.val = 8 + i.val) :
    ktV Y T r p = Y (ix2 a p) * T (ix2 c p) - Y (ix2 b p) * T (ix2 d p) := by
  have hi := i.isLt
  unfold ktV
  rw [dif_pos (by omega)]
  exact congrArg₂ (· - ·) (congrArg₂ (· * ·) (at2 Y p (by show r.val = a.val; omega)) (at2 T p (by show r.val % 64 = c.val; omega)))
    (congrArg₂ (· * ·) (at2 Y p (by show r.val + 8 = b.val; omega)) (at2 T p (by show r.val % 64 + 8 = d.val; omega)))

theorem ktV_mid (Y : FVec Ideal S1056x256 .f32) (T : Vec Ideal S16x256 .f32) (r : Fin 512) (p : Fin 256) (o : ℕ) (ho : o % 64 = 0) (i : Fin 8) (h : r.val = o + 8 + i.val)
    (a b : Fin 1056) (ha : a.val = o + i.val) (hb : b.val = o + 8 + i.val) (c d : Fin 16) (hc : c.val = i.val) (hd : d.val = 8 + i.val) :
    ktV Y T r p = Y (ix2 b p) * T (ix2 c p) + Y (ix2 a p) * T (ix2 d p) := by
  have hi := i.isLt
  unfold ktV
  rw [dif_neg (by omega), dif_pos (by omega)]
  exact congrArg₂ (· + ·) (congrArg₂ (· * ·) (at2 Y p (by show r.val = b.val; omega)) (at2 T p (by show r.val % 64 - 8 = c.val; omega)))
    (congrArg₂ (· * ·) (at2 Y p (by show r.val - 8 = a.val; omega)) (at2 T p (by show r.val % 64 = d.val; omega)))

theorem ktV_hi (Y : FVec Ideal S1056x256 .f32) (T : Vec Ideal S16x256 .f32) (r : Fin 512) (p : Fin 256) (o : ℕ) (ho : o % 64 = 0) (i : Fin 48) (h : r.val = o + 16 + i.val)
    (a : Fin 1056) (ha : a.val = o + 16 + i.val) : ktV Y T r p = Y (ix2 a p) := by
  have hi := i.isLt
  unfold ktV
  rw [dif_neg (by omega), dif_neg (by omega)]
  exact at2 Y p (by show r.val = a.val; omega)

theorem kt0 (hn : FVec Ideal S256x1024 .bf16) (w : Vec Ideal S1056x1024 .bf16) (T : Vec Ideal S16x256 .f32) (i : Fin 8) (p : Fin 256) :
    k0_pay58 hn w T (ix3 0 i p) = k0_pay52 hn w (ix2 ⟨i.val, by omega⟩ p) * T (ix2 ⟨i.val, by omega⟩ p) - k0_pay52 hn w (ix2 ⟨8 + i.val, by omega⟩ p) * T (ix2 ⟨8 + i.val, by omega⟩ p) := by
  pointwise [k0_pay58, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt1 (hn : FVec Ideal S256x1024 .bf16) (w : Vec Ideal S1056x1024 .bf16) (T : Vec Ideal S16x256 .f32) (i : Fin 8) (p : Fin 256) :
    k0_pay59 hn w T (ix3 0 i p) = k0_pay52 hn w (ix2 ⟨8 + i.val, by omega⟩ p) * T (ix2 ⟨i.val, by omega⟩ p) + k0_pay52 hn w (ix2 ⟨i.val, by omega⟩ p) * T (ix2 ⟨8 + i.val, by omega⟩ p) := by
  pointwise [k0_pay59, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt2 (hn : FVec Ideal S256x1024 .bf16) (w : Vec Ideal S1056x1024 .bf16) (T : Vec Ideal S16x256 .f32) (i : Fin 48) (p : Fin 256) :
    k0_pay60 hn w (ix3 0 i p) = k0_pay52 hn w (ix2 ⟨16 + i.val, by omega⟩ p) := by
  pointwise [k0_pay60, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt3 (hn : FVec Ideal S256x1024 .bf16) (w : Vec Ideal S1056x1024 .bf16) (T : Vec Ideal S16x256 .f32) (i : Fin 8) (p : Fin 256) :
    k0_pay63 (k0_pay54 T) (k0_pay55 T) (k0_pay61 hn w) (k0_pay62 hn w) (ix3 0 i p) = k0_pay52 hn w (ix2 ⟨64 + i.val, by omega⟩ p) * T (ix2 ⟨i.val, by omega⟩ p) - k0_pay52 hn w (ix2 ⟨72 + i.val, by omega⟩ p) * T (ix2 ⟨8 + i.val, by omega⟩ p) := by
  pointwise [k0_pay63, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt4 (hn : FVec Ideal S256x1024 .bf16) (w : Vec Ideal S1056x1024 .bf16) (T : Vec Ideal S16x256 .f32) (i : Fin 8) (p : Fin 256) :
    k0_pay64 (k0_pay54 T) (k0_pay55 T) (k0_pay61 hn w) (k0_pay62 hn w) (ix3 0 i p) = k0_pay52 hn w (ix2 ⟨72 + i.val, by omega⟩ p) * T (ix2 ⟨i.val, by omega⟩ p) + k0_pay52 hn w (ix2 ⟨64 + i.val, by omega⟩ p) * T (ix2 ⟨8 + i.val, by omega⟩ p) := by
  pointwise [k0_pay64, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt5 (hn : FVec Ideal S256x1024 .bf16) (w : Vec Ideal S1056x1024 .bf16) (T : Vec Ideal S16x256 .f32) (i : Fin 48) (p : Fin 256) :
    k0_pay65 (k0_pay52 hn w) (ix3 0 i p) = k0_pay52 hn w (ix2 ⟨80 + i.val, by omega⟩ p) := by
  pointwise [k0_pay65, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt6 (hn : FVec Ideal S256x1024 .bf16) (w : Vec Ideal S1056x1024 .bf16) (T : Vec Ideal S16x256 .f32) (i : Fin 8) (p : Fin 256) :
    k0_pay68 (k0_pay52 hn w) (k0_pay54 T) (k0_pay55 T) (ix3 0 i p) = k0_pay52 hn w (ix2 ⟨128 + i.val, by omega⟩ p) * T (ix2 ⟨i.val, by omega⟩ p) - k0_pay52 hn w (ix2 ⟨136 + i.val, by omega⟩ p) * T (ix2 ⟨8 + i.val, by omega⟩ p) := by
  pointwise [k0_pay68, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt7 (hn : FVec Ideal S256x1024 .bf16) (w : Vec Ideal S1056x1024 .bf16) (T : Vec Ideal S16x256 .f32) (i : Fin 8) (p : Fin 256) :
    k0_pay69 (k0_pay52 hn w) (k0_pay54 T) (k0_pay55 T) (ix3 0 i p) = k0_pay52 hn w (ix2 ⟨136 + i.val, by omega⟩ p) * T (ix2 ⟨i.val, by omega⟩ p) + k0_pay52 hn w (ix2 ⟨128 + i.val, by omega⟩ p) * T (ix2 ⟨8 + i.val, by omega⟩ p) := by
  pointwise [k0_pay69, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt8 (hn : FVec Ideal S256x1024 .bf16) (w : Vec Ideal S1056x1024 .bf16) (T : Vec Ideal S16x256 .f32) (i : Fin 48) (p : Fin 256) :
    k0_pay70 (k0_pay52 hn w) (ix3 0 i p) = k0_pay52 hn w (ix2 ⟨144 + i.val, by omega⟩ p) := by
  pointwise [k0_pay70, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt9 (hn : FVec Ideal S256x1024 .bf16) (w : Vec Ideal S1056x1024 .bf16) (T : Vec Ideal S16x256 .f32) (i : Fin 8) (p : Fin 256) :
    k0_pay73 (k0_pay54 T) (k0_pay55 T) (k0_pay71 (k0_pay52 hn w)) (k0_pay72 (k0_pay52 hn w)) (ix3 0 i p) = k0_pay52 hn w (ix2 ⟨192 + i.val, by omega⟩ p) * T (ix2 ⟨i.val, by omega⟩ p) - k0_pay52 hn w (ix2 ⟨200 + i.val, by omega⟩ p) * T (ix2 ⟨8 + i.val, by omega⟩ p) := by
  pointwise [k0_pay73, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt10 (hn : FVec Ideal S256x1024 .bf16) (w : Vec Ideal S1056x1024 .bf16) (T : Vec Ideal S16x256 .f32) (i : Fin 8) (p : Fin 256) :
    k0_pay74 (k0_pay54 T) (k0_pay55 T) (k0_pay71 (k0_pay52 hn w)) (k0_pay72 (k0_pay52 hn w)) (ix3 0 i p) = k0_pay52 hn w (ix2 ⟨200 + i.val, by omega⟩ p) * T (ix2 ⟨i.val, by omega⟩ p) + k0_pay52 hn w (ix2 ⟨192 + i.val, by omega⟩ p) * T (ix2 ⟨8 + i.val, by omega⟩ p) := by
  pointwise [k0_pay74, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt11 (hn : FVec Ideal S256x1024 .bf16) (w : Vec Ideal S1056x1024 .bf16) (T : Vec Ideal S16x256 .f32) (i : Fin 48) (p : Fin 256) :
    k0_pay75 (k0_pay52 hn w) (ix3 0 i p) = k0_pay52 hn w (ix2 ⟨208 + i.val, by omega⟩ p) := by
  pointwise [k0_pay75, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt12 (hn : FVec Ideal S256x1024 .bf16) (w : Vec Ideal S1056x1024 .bf16) (T : Vec Ideal S16x256 .f32) (i : Fin 8) (p : Fin 256) :
    k0_pay78 (k0_pay52 hn w) (k0_pay54 T) (k0_pay55 T) (ix3 0 i p) = k0_pay52 hn w (ix2 ⟨256 + i.val, by omega⟩ p) * T (ix2 ⟨i.val, by omega⟩ p) - k0_pay52 hn w (ix2 ⟨264 + i.val, by omega⟩ p) * T (ix2 ⟨8 + i.val, by omega⟩ p) := by
  pointwise [k0_pay78, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt13 (hn : FVec Ideal S256x1024 .bf16) (w : Vec Ideal S1056x1024 .bf16) (T : Vec Ideal S16x256 .f32) (i : Fin 8) (p : Fin 256) :
    k0_pay79 (k0_pay52 hn w) (k0_pay54 T) (k0_pay55 T) (ix3 0 i p) = k0_pay52 hn w (ix2 ⟨264 + i.val, by omega⟩ p) * T (ix2 ⟨i.val, by omega⟩ p) + k0_pay52 hn w (ix2 ⟨256 + i.val, by omega⟩ p) * T (ix2 ⟨8 + i.val, by omega⟩ p) := by
  pointwise [k0_pay79, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt14 (hn : FVec Ideal S256x1024 .bf16) (w : Vec Ideal S1056x1024 .bf16) (T : Vec Ideal S16x256 .f32) (i : Fin 48) (p : Fin 256) :
    k0_pay80 (k0_pay52 hn w) (ix3 0 i p) = k0_pay52 hn w (ix2 ⟨272 + i.val, by omega⟩ p) := by
  pointwise [k0_pay80, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt15 (hn : FVec Ideal S256x1024 .bf16) (w : Vec Ideal S1056x1024 .bf16) (T : Vec Ideal S16x256 .f32) (i : Fin 8) (p : Fin 256) :
    k0_pay83 (k0_pay54 T) (k0_pay55 T) (k0_pay81 (k0_pay52 hn w)) (k0_pay82 (k0_pay52 hn w)) (ix3 0 i p) = k0_pay52 hn w (ix2 ⟨320 + i.val, by omega⟩ p) * T (ix2 ⟨i.val, by omega⟩ p) - k0_pay52 hn w (ix2 ⟨328 + i.val, by omega⟩ p) * T (ix2 ⟨8 + i.val, by omega⟩ p) := by
  pointwise [k0_pay83, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt16 (hn : FVec Ideal S256x1024 .bf16) (w : Vec Ideal S1056x1024 .bf16) (T : Vec Ideal S16x256 .f32) (i : Fin 8) (p : Fin 256) :
    k0_pay84 (k0_pay54 T) (k0_pay55 T) (k0_pay81 (k0_pay52 hn w)) (k0_pay82 (k0_pay52 hn w)) (ix3 0 i p) = k0_pay52 hn w (ix2 ⟨328 + i.val, by omega⟩ p) * T (ix2 ⟨i.val, by omega⟩ p) + k0_pay52 hn w (ix2 ⟨320 + i.val, by omega⟩ p) * T (ix2 ⟨8 + i.val, by omega⟩ p) := by
  pointwise [k0_pay84, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt17 (hn : FVec Ideal S256x1024 .bf16) (w : Vec Ideal S1056x1024 .bf16) (T : Vec Ideal S16x256 .f32) (i : Fin 48) (p : Fin 256) :
    k0_pay85 (k0_pay52 hn w) (ix3 0 i p) = k0_pay52 hn w (ix2 ⟨336 + i.val, by omega⟩ p) := by
  pointwise [k0_pay85, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt18 (hn : FVec Ideal S256x1024 .bf16) (w : Vec Ideal S1056x1024 .bf16) (T : Vec Ideal S16x256 .f32) (i : Fin 8) (p : Fin 256) :
    k0_pay88 (k0_pay52 hn w) (k0_pay54 T) (k0_pay55 T) (ix3 0 i p) = k0_pay52 hn w (ix2 ⟨384 + i.val, by omega⟩ p) * T (ix2 ⟨i.val, by omega⟩ p) - k0_pay52 hn w (ix2 ⟨392 + i.val, by omega⟩ p) * T (ix2 ⟨8 + i.val, by omega⟩ p) := by
  pointwise [k0_pay88, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt19 (hn : FVec Ideal S256x1024 .bf16) (w : Vec Ideal S1056x1024 .bf16) (T : Vec Ideal S16x256 .f32) (i : Fin 8) (p : Fin 256) :
    k0_pay89 (k0_pay52 hn w) (k0_pay54 T) (k0_pay55 T) (ix3 0 i p) = k0_pay52 hn w (ix2 ⟨392 + i.val, by omega⟩ p) * T (ix2 ⟨i.val, by omega⟩ p) + k0_pay52 hn w (ix2 ⟨384 + i.val, by omega⟩ p) * T (ix2 ⟨8 + i.val, by omega⟩ p) := by
  pointwise [k0_pay89, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt20 (hn : FVec Ideal S256x1024 .bf16) (w : Vec Ideal S1056x1024 .bf16) (T : Vec Ideal S16x256 .f32) (i : Fin 48) (p : Fin 256) :
    k0_pay90 (k0_pay52 hn w) (ix3 0 i p) = k0_pay52 hn w (ix2 ⟨400 + i.val, by omega⟩ p) := by
  pointwise [k0_pay90, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt21 (hn : FVec Ideal S256x1024 .bf16) (w : Vec Ideal S1056x1024 .bf16) (T : Vec Ideal S16x256 .f32) (i : Fin 8) (p : Fin 256) :
    k0_pay93 (k0_pay54 T) (k0_pay55 T) (k0_pay91 (k0_pay52 hn w)) (k0_pay92 (k0_pay52 hn w)) (ix3 0 i p) = k0_pay52 hn w (ix2 ⟨448 + i.val, by omega⟩ p) * T (ix2 ⟨i.val, by omega⟩ p) - k0_pay52 hn w (ix2 ⟨456 + i.val, by omega⟩ p) * T (ix2 ⟨8 + i.val, by omega⟩ p) := by
  pointwise [k0_pay93, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt22 (hn : FVec Ideal S256x1024 .bf16) (w : Vec Ideal S1056x1024 .bf16) (T : Vec Ideal S16x256 .f32) (i : Fin 8) (p : Fin 256) :
    k0_pay94 (k0_pay54 T) (k0_pay55 T) (k0_pay91 (k0_pay52 hn w)) (k0_pay92 (k0_pay52 hn w)) (ix3 0 i p) = k0_pay52 hn w (ix2 ⟨456 + i.val, by omega⟩ p) * T (ix2 ⟨i.val, by omega⟩ p) + k0_pay52 hn w (ix2 ⟨448 + i.val, by omega⟩ p) * T (ix2 ⟨8 + i.val, by omega⟩ p) := by
  pointwise [k0_pay94, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt23 (hn : FVec Ideal S256x1024 .bf16) (w : Vec Ideal S1056x1024 .bf16) (T : Vec Ideal S16x256 .f32) (i : Fin 48) (p : Fin 256) :
    k0_pay95 (k0_pay52 hn w) (ix3 0 i p) = k0_pay52 hn w (ix2 ⟨464 + i.val, by omega⟩ p) := by
  pointwise [k0_pay95, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem ix3_eta {n : ℕ} (x : (Shape.mk 3 ![1, n, 256]).Idx) : x = ix3 (0 : Fin 1) (x 1) (x 2) := funext fun a => by
  fin_cases a
  · exact Fin.ext (by have := (x 0).isLt; show (x 0).val = 0; exact Nat.lt_one_iff.mp this)
  · rfl
  · rfl

theorem ktL_cover (hn : FVec Ideal S256x1024 .bf16) (w : Vec Ideal S1056x1024 .bf16) (T : Vec Ideal S16x256 .f32) (y : S1x512x256.Idx) :
    ∃ pc ∈ ktL hn w T, y ∈ pc.1.set :=
  View.cover_of_tiledBy (ktL hn w T) ![1, 8, 256] (by sl_kernel_rfl) y

/-- The block-attention keys of a tile. -/
theorem kt_apply (hn : FVec Ideal S256x1024 .bf16) (w : Vec Ideal S1056x1024 .bf16) (T : Vec Ideal S16x256 .f32) (r : Fin 512) (p : Fin 256) :
    View.canon (ktL hn w T) (ix3 0 r p) = ktV (k0_pay52 hn w) T r p := by
  have hc := ktL_cover hn w T (ix3 0 r p)
  unfold ktL at hc ⊢
  canon_tiles x hx using hc
  · obtain ⟨i, p', rfl⟩ : ∃ (i : Fin 48) (p' : Fin 256), x = ix3 0 i p' := ⟨x 1, x 2, ix3_eta x⟩
    have e1 : r.val = 464 + i.val := by first | assumption | (rw [Nat.zero_add]; assumption)
    obtain rfl : p = p' := Fin.ext (by first | assumption | (rw [← Nat.zero_add p'.val]; assumption))
    exact (kt23 hn w T i p).trans (ktV_hi _ _ r p 448 rfl i (by omega) ⟨464 + i.val, by omega⟩ (by first | rfl | omega | exact (Nat.zero_add _).symm)).symm
  · obtain ⟨i, p', rfl⟩ : ∃ (i : Fin 8) (p' : Fin 256), x = ix3 0 i p' := ⟨x 1, x 2, ix3_eta x⟩
    have e1 : r.val = 456 + i.val := by first | assumption | (rw [Nat.zero_add]; assumption)
    obtain rfl : p = p' := Fin.ext (by first | assumption | (rw [← Nat.zero_add p'.val]; assumption))
    exact (kt22 hn w T i p).trans (ktV_mid _ _ r p 448 rfl i (by omega) ⟨448 + i.val, by omega⟩ ⟨456 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm
  · obtain ⟨i, p', rfl⟩ : ∃ (i : Fin 8) (p' : Fin 256), x = ix3 0 i p' := ⟨x 1, x 2, ix3_eta x⟩
    have e1 : r.val = 448 + i.val := by first | assumption | (rw [Nat.zero_add]; assumption)
    obtain rfl : p = p' := Fin.ext (by first | assumption | (rw [← Nat.zero_add p'.val]; assumption))
    exact (kt21 hn w T i p).trans (ktV_lo _ _ r p 448 rfl i (by omega) ⟨448 + i.val, by omega⟩ ⟨456 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm
  · obtain ⟨i, p', rfl⟩ : ∃ (i : Fin 48) (p' : Fin 256), x = ix3 0 i p' := ⟨x 1, x 2, ix3_eta x⟩
    have e1 : r.val = 400 + i.val := by first | assumption | (rw [Nat.zero_add]; assumption)
    obtain rfl : p = p' := Fin.ext (by first | assumption | (rw [← Nat.zero_add p'.val]; assumption))
    exact (kt20 hn w T i p).trans (ktV_hi _ _ r p 384 rfl i (by omega) ⟨400 + i.val, by omega⟩ (by first | rfl | omega | exact (Nat.zero_add _).symm)).symm
  · obtain ⟨i, p', rfl⟩ : ∃ (i : Fin 8) (p' : Fin 256), x = ix3 0 i p' := ⟨x 1, x 2, ix3_eta x⟩
    have e1 : r.val = 392 + i.val := by first | assumption | (rw [Nat.zero_add]; assumption)
    obtain rfl : p = p' := Fin.ext (by first | assumption | (rw [← Nat.zero_add p'.val]; assumption))
    exact (kt19 hn w T i p).trans (ktV_mid _ _ r p 384 rfl i (by omega) ⟨384 + i.val, by omega⟩ ⟨392 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm
  · obtain ⟨i, p', rfl⟩ : ∃ (i : Fin 8) (p' : Fin 256), x = ix3 0 i p' := ⟨x 1, x 2, ix3_eta x⟩
    have e1 : r.val = 384 + i.val := by first | assumption | (rw [Nat.zero_add]; assumption)
    obtain rfl : p = p' := Fin.ext (by first | assumption | (rw [← Nat.zero_add p'.val]; assumption))
    exact (kt18 hn w T i p).trans (ktV_lo _ _ r p 384 rfl i (by omega) ⟨384 + i.val, by omega⟩ ⟨392 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm
  · obtain ⟨i, p', rfl⟩ : ∃ (i : Fin 48) (p' : Fin 256), x = ix3 0 i p' := ⟨x 1, x 2, ix3_eta x⟩
    have e1 : r.val = 336 + i.val := by first | assumption | (rw [Nat.zero_add]; assumption)
    obtain rfl : p = p' := Fin.ext (by first | assumption | (rw [← Nat.zero_add p'.val]; assumption))
    exact (kt17 hn w T i p).trans (ktV_hi _ _ r p 320 rfl i (by omega) ⟨336 + i.val, by omega⟩ (by first | rfl | omega | exact (Nat.zero_add _).symm)).symm
  · obtain ⟨i, p', rfl⟩ : ∃ (i : Fin 8) (p' : Fin 256), x = ix3 0 i p' := ⟨x 1, x 2, ix3_eta x⟩
    have e1 : r.val = 328 + i.val := by first | assumption | (rw [Nat.zero_add]; assumption)
    obtain rfl : p = p' := Fin.ext (by first | assumption | (rw [← Nat.zero_add p'.val]; assumption))
    exact (kt16 hn w T i p).trans (ktV_mid _ _ r p 320 rfl i (by omega) ⟨320 + i.val, by omega⟩ ⟨328 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm
  · obtain ⟨i, p', rfl⟩ : ∃ (i : Fin 8) (p' : Fin 256), x = ix3 0 i p' := ⟨x 1, x 2, ix3_eta x⟩
    have e1 : r.val = 320 + i.val := by first | assumption | (rw [Nat.zero_add]; assumption)
    obtain rfl : p = p' := Fin.ext (by first | assumption | (rw [← Nat.zero_add p'.val]; assumption))
    exact (kt15 hn w T i p).trans (ktV_lo _ _ r p 320 rfl i (by omega) ⟨320 + i.val, by omega⟩ ⟨328 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm
  · obtain ⟨i, p', rfl⟩ : ∃ (i : Fin 48) (p' : Fin 256), x = ix3 0 i p' := ⟨x 1, x 2, ix3_eta x⟩
    have e1 : r.val = 272 + i.val := by first | assumption | (rw [Nat.zero_add]; assumption)
    obtain rfl : p = p' := Fin.ext (by first | assumption | (rw [← Nat.zero_add p'.val]; assumption))
    exact (kt14 hn w T i p).trans (ktV_hi _ _ r p 256 rfl i (by omega) ⟨272 + i.val, by omega⟩ (by first | rfl | omega | exact (Nat.zero_add _).symm)).symm
  · obtain ⟨i, p', rfl⟩ : ∃ (i : Fin 8) (p' : Fin 256), x = ix3 0 i p' := ⟨x 1, x 2, ix3_eta x⟩
    have e1 : r.val = 264 + i.val := by first | assumption | (rw [Nat.zero_add]; assumption)
    obtain rfl : p = p' := Fin.ext (by first | assumption | (rw [← Nat.zero_add p'.val]; assumption))
    exact (kt13 hn w T i p).trans (ktV_mid _ _ r p 256 rfl i (by omega) ⟨256 + i.val, by omega⟩ ⟨264 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm
  · obtain ⟨i, p', rfl⟩ : ∃ (i : Fin 8) (p' : Fin 256), x = ix3 0 i p' := ⟨x 1, x 2, ix3_eta x⟩
    have e1 : r.val = 256 + i.val := by first | assumption | (rw [Nat.zero_add]; assumption)
    obtain rfl : p = p' := Fin.ext (by first | assumption | (rw [← Nat.zero_add p'.val]; assumption))
    exact (kt12 hn w T i p).trans (ktV_lo _ _ r p 256 rfl i (by omega) ⟨256 + i.val, by omega⟩ ⟨264 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm
  · obtain ⟨i, p', rfl⟩ : ∃ (i : Fin 48) (p' : Fin 256), x = ix3 0 i p' := ⟨x 1, x 2, ix3_eta x⟩
    have e1 : r.val = 208 + i.val := by first | assumption | (rw [Nat.zero_add]; assumption)
    obtain rfl : p = p' := Fin.ext (by first | assumption | (rw [← Nat.zero_add p'.val]; assumption))
    exact (kt11 hn w T i p).trans (ktV_hi _ _ r p 192 rfl i (by omega) ⟨208 + i.val, by omega⟩ (by first | rfl | omega | exact (Nat.zero_add _).symm)).symm
  · obtain ⟨i, p', rfl⟩ : ∃ (i : Fin 8) (p' : Fin 256), x = ix3 0 i p' := ⟨x 1, x 2, ix3_eta x⟩
    have e1 : r.val = 200 + i.val := by first | assumption | (rw [Nat.zero_add]; assumption)
    obtain rfl : p = p' := Fin.ext (by first | assumption | (rw [← Nat.zero_add p'.val]; assumption))
    exact (kt10 hn w T i p).trans (ktV_mid _ _ r p 192 rfl i (by omega) ⟨192 + i.val, by omega⟩ ⟨200 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm
  · obtain ⟨i, p', rfl⟩ : ∃ (i : Fin 8) (p' : Fin 256), x = ix3 0 i p' := ⟨x 1, x 2, ix3_eta x⟩
    have e1 : r.val = 192 + i.val := by first | assumption | (rw [Nat.zero_add]; assumption)
    obtain rfl : p = p' := Fin.ext (by first | assumption | (rw [← Nat.zero_add p'.val]; assumption))
    exact (kt9 hn w T i p).trans (ktV_lo _ _ r p 192 rfl i (by omega) ⟨192 + i.val, by omega⟩ ⟨200 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm
  · obtain ⟨i, p', rfl⟩ : ∃ (i : Fin 48) (p' : Fin 256), x = ix3 0 i p' := ⟨x 1, x 2, ix3_eta x⟩
    have e1 : r.val = 144 + i.val := by first | assumption | (rw [Nat.zero_add]; assumption)
    obtain rfl : p = p' := Fin.ext (by first | assumption | (rw [← Nat.zero_add p'.val]; assumption))
    exact (kt8 hn w T i p).trans (ktV_hi _ _ r p 128 rfl i (by omega) ⟨144 + i.val, by omega⟩ (by first | rfl | omega | exact (Nat.zero_add _).symm)).symm
  · obtain ⟨i, p', rfl⟩ : ∃ (i : Fin 8) (p' : Fin 256), x = ix3 0 i p' := ⟨x 1, x 2, ix3_eta x⟩
    have e1 : r.val = 136 + i.val := by first | assumption | (rw [Nat.zero_add]; assumption)
    obtain rfl : p = p' := Fin.ext (by first | assumption | (rw [← Nat.zero_add p'.val]; assumption))
    exact (kt7 hn w T i p).trans (ktV_mid _ _ r p 128 rfl i (by omega) ⟨128 + i.val, by omega⟩ ⟨136 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm
  · obtain ⟨i, p', rfl⟩ : ∃ (i : Fin 8) (p' : Fin 256), x = ix3 0 i p' := ⟨x 1, x 2, ix3_eta x⟩
    have e1 : r.val = 128 + i.val := by first | assumption | (rw [Nat.zero_add]; assumption)
    obtain rfl : p = p' := Fin.ext (by first | assumption | (rw [← Nat.zero_add p'.val]; assumption))
    exact (kt6 hn w T i p).trans (ktV_lo _ _ r p 128 rfl i (by omega) ⟨128 + i.val, by omega⟩ ⟨136 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm
  · obtain ⟨i, p', rfl⟩ : ∃ (i : Fin 48) (p' : Fin 256), x = ix3 0 i p' := ⟨x 1, x 2, ix3_eta x⟩
    have e1 : r.val = 80 + i.val := by first | assumption | (rw [Nat.zero_add]; assumption)
    obtain rfl : p = p' := Fin.ext (by first | assumption | (rw [← Nat.zero_add p'.val]; assumption))
    exact (kt5 hn w T i p).trans (ktV_hi _ _ r p 64 rfl i (by omega) ⟨80 + i.val, by omega⟩ (by first | rfl | omega | exact (Nat.zero_add _).symm)).symm
  · obtain ⟨i, p', rfl⟩ : ∃ (i : Fin 8) (p' : Fin 256), x = ix3 0 i p' := ⟨x 1, x 2, ix3_eta x⟩
    have e1 : r.val = 72 + i.val := by first | assumption | (rw [Nat.zero_add]; assumption)
    obtain rfl : p = p' := Fin.ext (by first | assumption | (rw [← Nat.zero_add p'.val]; assumption))
    exact (kt4 hn w T i p).trans (ktV_mid _ _ r p 64 rfl i (by omega) ⟨64 + i.val, by omega⟩ ⟨72 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm
  · obtain ⟨i, p', rfl⟩ : ∃ (i : Fin 8) (p' : Fin 256), x = ix3 0 i p' := ⟨x 1, x 2, ix3_eta x⟩
    have e1 : r.val = 64 + i.val := by first | assumption | (rw [Nat.zero_add]; assumption)
    obtain rfl : p = p' := Fin.ext (by first | assumption | (rw [← Nat.zero_add p'.val]; assumption))
    exact (kt3 hn w T i p).trans (ktV_lo _ _ r p 64 rfl i (by omega) ⟨64 + i.val, by omega⟩ ⟨72 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm
  · obtain ⟨i, p', rfl⟩ : ∃ (i : Fin 48) (p' : Fin 256), x = ix3 0 i p' := ⟨x 1, x 2, ix3_eta x⟩
    have e1 : r.val = 16 + i.val := by first | assumption | (rw [Nat.zero_add]; assumption)
    obtain rfl : p = p' := Fin.ext (by first | assumption | (rw [← Nat.zero_add p'.val]; assumption))
    exact (kt2 hn w T i p).trans (ktV_hi _ _ r p 0 rfl i (by omega) ⟨16 + i.val, by omega⟩ (by first | rfl | omega | exact (Nat.zero_add _).symm)).symm
  · obtain ⟨i, p', rfl⟩ : ∃ (i : Fin 8) (p' : Fin 256), x = ix3 0 i p' := ⟨x 1, x 2, ix3_eta x⟩
    have e1 : r.val = 8 + i.val := by first | assumption | (rw [Nat.zero_add]; assumption)
    obtain rfl : p = p' := Fin.ext (by first | assumption | (rw [← Nat.zero_add p'.val]; assumption))
    exact (kt1 hn w T i p).trans (ktV_mid _ _ r p 0 rfl i (by omega) ⟨i.val, by omega⟩ ⟨8 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm
  · obtain ⟨i, p', rfl⟩ : ∃ (i : Fin 8) (p' : Fin 256), x = ix3 0 i p' := ⟨x 1, x 2, ix3_eta x⟩
    have e1 : r.val = 0 + i.val := by first | assumption | (rw [Nat.zero_add]; assumption)
    obtain rfl : p = p' := Fin.ext (by first | assumption | (rw [← Nat.zero_add p'.val]; assumption))
    exact (kt0 hn w T i p).trans (ktV_lo _ _ r p 0 rfl i (by omega) ⟨i.val, by omega⟩ ⟨8 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm

end Cert.ProjIdeal.Value
end
-- ==== Proof.ProjRef.lean ====
/-
  The reference of the layer's projection, at an index.
-/
module

public import proofs.«01_k».proof.Proof.Gen.ProjReferenceIdeal.Run
public import proofs.«01_k».proof.Proof.ProjMath
public import Idealize.ShloMosaic.Lib.Pointwise
public import Idealize.ShloMosaic.Lib.IdealHost

@[expose] public section
set_option maxRecDepth 16384
noncomputable section
namespace Cert.ProjReferenceIdeal.Value
open Cert.ProjReferenceIdeal Cert.ProjReferenceIdeal.Gen Idealize.ShloMosaic Idealize.ShloMosaic.TcCoe Idealize.SL.Sem

/-- The input projection of the normed rows. -/
def zR (A0 : FVec Ideal S8x2048x1024 .f32) (A1 : FVec Ideal S1024 .f32) (A2 : FVec Ideal S1024x4384 .f32) : FVec Ideal S8x2048x4384 .f32 :=
  Host.dotGeneral dot_S8x2048x1024_S1024x4384_S8x2048x4384_2_0_01_1_n_n none (mulf (mulf A0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf A0 A0) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 A1))) A2

/-- The cosines of the positional key part. -/
def cosR : FVec Ideal S2048x16 .f32 :=
  Host.cos (mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 (Host.divf (broadcastInDim S16 ![] bcast_S_S16 (constant S_ .f32 0x3F800000#32)) (Host.powf (broadcastInDim S16 ![] bcast_S_S16 (constant S_ .f32 0x461C4000#32)) (mulf (sitofp .f32 (iotaInDim S16 32 0)) (broadcastInDim S16 ![] bcast_S_S16 (constant S_ .f32 0x3D800000#32))))))))

/-- The sines of the positional key part. -/
def sinR : FVec Ideal S2048x16 .f32 :=
  Host.sin (mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 (Host.divf (broadcastInDim S16 ![] bcast_S_S16 (constant S_ .f32 0x3F800000#32)) (Host.powf (broadcastInDim S16 ![] bcast_S_S16 (constant S_ .f32 0x461C4000#32)) (mulf (sitofp .f32 (iotaInDim S16 32 0)) (broadcastInDim S16 ![] bcast_S_S16 (constant S_ .f32 0x3D800000#32))))))))

/-- The cosines of the block-attention keys. -/
def cosM : FVec Ideal S2048x8 .f32 :=
  Host.cos (mulf (broadcastInDim S2048x8 ![0, 1] bcast_S2048x1_S2048x8_0_1 (broadcastInDim S2048x1 ![0] bcast_S2048_S2048x1_0 (sitofp .f32 (iotaInDim S2048 32 0)))) (broadcastInDim S2048x8 ![0, 1] bcast_S1x8_S2048x8_0_1 (broadcastInDim S1x8 ![1] bcast_S8_S1x8_1 (Host.divf (broadcastInDim S8 ![] bcast_S_S8 (constant S_ .f32 0x3F800000#32)) (Host.powf (broadcastInDim S8 ![] bcast_S_S8 (constant S_ .f32 0x48F42400#32)) (mulf (sitofp .f32 (iotaInDim S8 32 0)) (broadcastInDim S8 ![] bcast_S_S8 (constant S_ .f32 0x3E000000#32))))))))

/-- The sines of the block-attention keys. -/
def sinM : FVec Ideal S2048x8 .f32 :=
  Host.sin (mulf (broadcastInDim S2048x8 ![0, 1] bcast_S2048x1_S2048x8_0_1 (broadcastInDim S2048x1 ![0] bcast_S2048_S2048x1_0 (sitofp .f32 (iotaInDim S2048 32 0)))) (broadcastInDim S2048x8 ![0, 1] bcast_S1x8_S2048x8_0_1 (broadcastInDim S1x8 ![1] bcast_S8_S1x8_1 (Host.divf (broadcastInDim S8 ![] bcast_S_S8 (constant S_ .f32 0x3F800000#32)) (Host.powf (broadcastInDim S8 ![] bcast_S_S8 (constant S_ .f32 0x48F42400#32)) (mulf (sitofp .f32 (iotaInDim S8 32 0)) (broadcastInDim S8 ![] bcast_S_S8 (constant S_ .f32 0x3E000000#32))))))))

variable (z : FVec Ideal S8x2048x4384 .f32)

/-- The normed latents. -/
def ckvR (A5 : FVec Ideal S256 .f32) : FVec Ideal S16384x256 .f32 :=
  shapeCast _ (mulf (mulf (extractStridedSlice S8x2048x256 ![0, 0, 512] z slices_S8x2048x4384_S8x2048x256_0_0_512) (broadcastInDim S8x2048x256 ![0, 1, 2] bcast_S8x2048x1_S8x2048x256_0_1_2 (Host.rsqrt (addf (Host.divf (broadcastInDim S8x2048x1 ![0, 1] bcast_S8x2048_S8x2048x1_0_1 (Host.reduceAdd (mulf (extractStridedSlice S8x2048x256 ![0, 0, 512] z slices_S8x2048x4384_S8x2048x256_0_0_512) (extractStridedSlice S8x2048x256 ![0, 0, 512] z slices_S8x2048x4384_S8x2048x256_0_0_512)) (constant S_ .f32 0x00000000#32) reducesTo_S8x2048x256_S8x2048_d2 h_S_)) (broadcastInDim S8x2048x1 ![] bcast_S_S8x2048x1 (constant S_ .f32 0x43800000#32))) (broadcastInDim S8x2048x1 ![] bcast_S_S8x2048x1 (constant S_ .f32 0x358637BD#32)))))) (broadcastInDim S8x2048x256 ![0, 1, 2] bcast_S1x1x256_S8x2048x256_0_1_2 (broadcastInDim S1x1x256 ![2] bcast_S256_S1x1x256_2 A5))) shapeCasts_S8x2048x256_S16384x256

/-- The rotated positional keys, columns first. -/
def krtR : FVec Ideal S8x32x2048 .f32 :=
  transpose S8x32x2048 [0, 2, 1] (shapeCast _ (concatenate S8x2048x1x32 3 [⟨S8x2048x1x16, (subf (mulf (extractStridedSlice S8x2048x1x16 ![0, 0, 0, 0] (broadcastInDim S8x2048x1x32 ![0, 1, 3] bcast_S8x2048x32_S8x2048x1x32_0_1_3 (extractStridedSlice S8x2048x32 ![0, 0, 768] z slices_S8x2048x4384_S8x2048x32_0_0_768)) slices_S8x2048x1x32_S8x2048x1x16_0_0_0_0) (broadcastInDim S8x2048x1x16 ![0, 1, 2, 3] bcast_S1x2048x1x16_S8x2048x1x16_0_1_2_3 (broadcastInDim S1x2048x1x16 ![1, 2, 3] bcast_S2048x1x16_S1x2048x1x16_1_2_3 (broadcastInDim S2048x1x16 ![0, 2] bcast_S2048x16_S2048x1x16_0_2 cosR)))) (mulf (extractStridedSlice S8x2048x1x16 ![0, 0, 0, 16] (broadcastInDim S8x2048x1x32 ![0, 1, 3] bcast_S8x2048x32_S8x2048x1x32_0_1_3 (extractStridedSlice S8x2048x32 ![0, 0, 768] z slices_S8x2048x4384_S8x2048x32_0_0_768)) slices_S8x2048x1x32_S8x2048x1x16_0_0_0_16) (broadcastInDim S8x2048x1x16 ![0, 1, 2, 3] bcast_S1x2048x1x16_S8x2048x1x16_0_1_2_3 (broadcastInDim S1x2048x1x16 ![1, 2, 3] bcast_S2048x1x16_S1x2048x1x16_1_2_3 (broadcastInDim S2048x1x16 ![0, 2] bcast_S2048x16_S2048x1x16_0_2 sinR)))))⟩, ⟨S8x2048x1x16, (addf (mulf (extractStridedSlice S8x2048x1x16 ![0, 0, 0, 16] (broadcastInDim S8x2048x1x32 ![0, 1, 3] bcast_S8x2048x32_S8x2048x1x32_0_1_3 (extractStridedSlice S8x2048x32 ![0, 0, 768] z slices_S8x2048x4384_S8x2048x32_0_0_768)) slices_S8x2048x1x32_S8x2048x1x16_0_0_0_16) (broadcastInDim S8x2048x1x16 ![0, 1, 2, 3] bcast_S1x2048x1x16_S8x2048x1x16_0_1_2_3 (broadcastInDim S1x2048x1x16 ![1, 2, 3] bcast_S2048x1x16_S1x2048x1x16_1_2_3 (broadcastInDim S2048x1x16 ![0, 2] bcast_S2048x16_S2048x1x16_0_2 cosR)))) (mulf (extractStridedSlice S8x2048x1x16 ![0, 0, 0, 0] (broadcastInDim S8x2048x1x32 ![0, 1, 3] bcast_S8x2048x32_S8x2048x1x32_0_1_3 (extractStridedSlice S8x2048x32 ![0, 0, 768] z slices_S8x2048x4384_S8x2048x32_0_0_768)) slices_S8x2048x1x32_S8x2048x1x16_0_0_0_0) (broadcastInDim S8x2048x1x16 ![0, 1, 2, 3] bcast_S1x2048x1x16_S8x2048x1x16_0_1_2_3 (broadcastInDim S1x2048x1x16 ![1, 2, 3] bcast_S2048x1x16_S1x2048x1x16_1_2_3 (broadcastInDim S2048x1x16 ![0, 2] bcast_S2048x16_S2048x1x16_0_2 sinR)))))⟩] concatenates_S8x2048x1x16_S8x2048x1x16_S8x2048x1x32_d3) shapeCasts_S8x2048x1x32_S8x2048x32) transposes_S8x2048x32_S8x32x2048_0_2_1

/-- The block-attention keys before they are laid out columns first. -/
def kmR : FVec Ideal S8x2048x8x64 .f32 :=
  concatenate S8x2048x8x64 3 [⟨S8x2048x8x16, (concatenate S8x2048x8x16 3 [⟨S8x2048x8x8, (subf (mulf (extractStridedSlice S8x2048x8x8 ![0, 0, 0, 0] (extractStridedSlice S8x2048x8x16 ![0, 0, 0, 0] (shapeCast _ (extractStridedSlice S8x2048x512 ![0, 0, 1312] z slices_S8x2048x4384_S8x2048x512_0_0_1312) shapeCasts_S8x2048x512_S8x2048x8x64) slices_S8x2048x8x64_S8x2048x8x16_0_0_0_0) slices_S8x2048x8x16_S8x2048x8x8_0_0_0_0) (broadcastInDim S8x2048x8x8 ![0, 1, 2, 3] bcast_S1x2048x1x8_S8x2048x8x8_0_1_2_3 (broadcastInDim S1x2048x1x8 ![1, 2, 3] bcast_S2048x1x8_S1x2048x1x8_1_2_3 (broadcastInDim S2048x1x8 ![0, 2] bcast_S2048x8_S2048x1x8_0_2 cosM)))) (mulf (extractStridedSlice S8x2048x8x8 ![0, 0, 0, 8] (extractStridedSlice S8x2048x8x16 ![0, 0, 0, 0] (shapeCast _ (extractStridedSlice S8x2048x512 ![0, 0, 1312] z slices_S8x2048x4384_S8x2048x512_0_0_1312) shapeCasts_S8x2048x512_S8x2048x8x64) slices_S8x2048x8x64_S8x2048x8x16_0_0_0_0) slices_S8x2048x8x16_S8x2048x8x8_0_0_0_8) (broadcastInDim S8x2048x8x8 ![0, 1, 2, 3] bcast_S1x2048x1x8_S8x2048x8x8_0_1_2_3 (broadcastInDim S1x2048x1x8 ![1, 2, 3] bcast_S2048x1x8_S1x2048x1x8_1_2_3 (broadcastInDim S2048x1x8 ![0, 2] bcast_S2048x8_S2048x1x8_0_2 sinM)))))⟩, ⟨S8x2048x8x8, (addf (mulf (extractStridedSlice S8x2048x8x8 ![0, 0, 0, 8] (extractStridedSlice S8x2048x8x16 ![0, 0, 0, 0] (shapeCast _ (extractStridedSlice S8x2048x512 ![0, 0, 1312] z slices_S8x2048x4384_S8x2048x512_0_0_1312) shapeCasts_S8x2048x512_S8x2048x8x64) slices_S8x2048x8x64_S8x2048x8x16_0_0_0_0) slices_S8x2048x8x16_S8x2048x8x8_0_0_0_8) (broadcastInDim S8x2048x8x8 ![0, 1, 2, 3] bcast_S1x2048x1x8_S8x2048x8x8_0_1_2_3 (broadcastInDim S1x2048x1x8 ![1, 2, 3] bcast_S2048x1x8_S1x2048x1x8_1_2_3 (broadcastInDim S2048x1x8 ![0, 2] bcast_S2048x8_S2048x1x8_0_2 cosM)))) (mulf (extractStridedSlice S8x2048x8x8 ![0, 0, 0, 0] (extractStridedSlice S8x2048x8x16 ![0, 0, 0, 0] (shapeCast _ (extractStridedSlice S8x2048x512 ![0, 0, 1312] z slices_S8x2048x4384_S8x2048x512_0_0_1312) shapeCasts_S8x2048x512_S8x2048x8x64) slices_S8x2048x8x64_S8x2048x8x16_0_0_0_0) slices_S8x2048x8x16_S8x2048x8x8_0_0_0_0) (broadcastInDim S8x2048x8x8 ![0, 1, 2, 3] bcast_S1x2048x1x8_S8x2048x8x8_0_1_2_3 (broadcastInDim S1x2048x1x8 ![1, 2, 3] bcast_S2048x1x8_S1x2048x1x8_1_2_3 (broadcastInDim S2048x1x8 ![0, 2] bcast_S2048x8_S2048x1x8_0_2 sinM)))))⟩] concatenates_S8x2048x8x8_S8x2048x8x8_S8x2048x8x16_d3)⟩, ⟨S8x2048x8x48, (extractStridedSlice S8x2048x8x48 ![0, 0, 0, 16] (shapeCast _ (extractStridedSlice S8x2048x512 ![0, 0, 1312] z slices_S8x2048x4384_S8x2048x512_0_0_1312) shapeCasts_S8x2048x512_S8x2048x8x64) slices_S8x2048x8x64_S8x2048x8x48_0_0_0_16)⟩] concatenates_S8x2048x8x16_S8x2048x8x48_S8x2048x8x64_d3

/-- The block-attention keys, columns first. -/
def ktR : FVec Ideal S8x512x2048 .f32 :=
  shapeCast _ (transpose S8x8x64x2048 [0, 2, 3, 1] (kmR z) transposes_S8x2048x8x64_S8x8x64x2048_0_2_3_1) shapeCasts_S8x8x64x2048_S8x512x2048

/-- The block-attention values, columns first. -/
def vtR : FVec Ideal S8x512x2048 .f32 :=
  shapeCast _ (transpose S8x8x64x2048 [0, 2, 3, 1] (shapeCast _ (extractStridedSlice S8x2048x512 ![0, 0, 1824] z slices_S8x2048x4384_S8x2048x512_0_0_1824) shapeCasts_S8x2048x512_S8x2048x8x64) transposes_S8x2048x8x64_S8x8x64x2048_0_2_3_1) shapeCasts_S8x8x64x2048_S8x512x2048

/-- The two gates. -/
def gaR : FVec Ideal S16384x1024 .f32 :=
  shapeCast _ (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (extractStridedSlice S8x2048x1024 ![0, 0, 2336] z slices_S8x2048x4384_S8x2048x1024_0_0_2336))))) shapeCasts_S8x2048x1024_S16384x1024
def gbR : FVec Ideal S16384x1024 .f32 :=
  shapeCast _ (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (extractStridedSlice S8x2048x1024 ![0, 0, 3360] z slices_S8x2048x4384_S8x2048x1024_0_0_3360))))) shapeCasts_S8x2048x1024_S16384x1024

open Cert.TailMath Cert.ProjMath

theorem zR_apply (A0 : FVec Ideal S8x2048x1024 .f32) (A1 : FVec Ideal S1024 .f32) (A2 : FVec Ideal S1024x4384 .f32) (b : Fin 8) (q : Fin 2048) (n : Fin 4384) :
    zR A0 A1 A2 (ix3 b q n) = col (fun j => A0 (ix3 b q j)) (fun j => A1 (ix1 j)) (fun k => A2 (ix2 k n)) := by
  pointwise [zR, col, rms]

theorem ckvR_apply (A5 : FVec Ideal S256 .f32) (b : Fin 8) (q : Fin 2048) (j : Fin 256) :
    ckvR z A5 (ix2 (⟨b.val * 2048 + q.val, by omega⟩ : Fin 16384) j) = rmsL (fun j => z (ix3 b q ⟨512 + j.val, by omega⟩)) (fun j => A5 (ix1 j)) j := by
  pointwise [ckvR, rmsL]

theorem gaR_apply (b : Fin 8) (q : Fin 2048) (j : Fin 1024) :
    gaR z (ix2 (⟨b.val * 2048 + q.val, by omega⟩ : Fin 16384) j) = Ideal.logistic (z (ix3 b q ⟨2336 + j.val, by omega⟩)) := by
  pointwise [gaR, Ideal.logistic]

theorem gbR_apply (b : Fin 8) (q : Fin 2048) (j : Fin 1024) :
    gbR z (ix2 (⟨b.val * 2048 + q.val, by omega⟩ : Fin 16384) j) = Ideal.logistic (z (ix3 b q ⟨3360 + j.val, by omega⟩)) := by
  pointwise [gbR, Ideal.logistic]

theorem vtR_apply (b h : Fin 8) (d : Fin 64) (q : Fin 2048) :
    vtR z (ix3 b (⟨h.val * 64 + d.val, by omega⟩ : Fin 512) q) = z (ix3 b q ⟨1824 + (h.val * 64 + d.val), by omega⟩) := by
  pointwise [vtR]

theorem ktR_apply (b h : Fin 8) (d : Fin 64) (q : Fin 2048) :
    ktR z (ix3 b (⟨h.val * 64 + d.val, by omega⟩ : Fin 512) q) = kmR z (ix4 b q h d) := by
  pointwise [ktR]

theorem kmR_lo (b h : Fin 8) (i : Fin 8) (q : Fin 2048) :
    kmR z (ix4 b q h ⟨i.val, by omega⟩)
      = z (ix3 b q ⟨1312 + (h.val * 64 + i.val), by omega⟩) * cosM (ix2 q i) - z (ix3 b q ⟨1312 + (h.val * 64 + (8 + i.val)), by omega⟩) * sinM (ix2 q i) := by
  pointwise [kmR]
  rw [dif_pos (by omega)]

theorem kmR_mid (b h : Fin 8) (i : Fin 8) (q : Fin 2048) :
    kmR z (ix4 b q h ⟨8 + i.val, by omega⟩)
      = z (ix3 b q ⟨1312 + (h.val * 64 + (8 + i.val)), by omega⟩) * cosM (ix2 q i) + z (ix3 b q ⟨1312 + (h.val * 64 + i.val), by omega⟩) * sinM (ix2 q i) := by
  pointwise [kmR]
  rw [dif_pos (by omega)]

theorem kmR_hi (b h : Fin 8) (i : Fin 48) (q : Fin 2048) :
    kmR z (ix4 b q h ⟨16 + i.val, by omega⟩) = z (ix3 b q ⟨1312 + (h.val * 64 + (16 + i.val)), by omega⟩) := by
  pointwise [kmR]

theorem krtR_lo (b : Fin 8) (i : Fin 16) (q : Fin 2048) :
    krtR z (ix3 b (⟨i.val, by omega⟩ : Fin 32) q)
      = z (ix3 b q ⟨768 + i.val, by omega⟩) * cosR (ix2 q i) - z (ix3 b q ⟨768 + (16 + i.val), by omega⟩) * sinR (ix2 q i) := by
  pointwise [krtR]

theorem krtR_hi (b : Fin 8) (i : Fin 16) (q : Fin 2048) :
    krtR z (ix3 b (⟨16 + i.val, by omega⟩ : Fin 32) q)
      = z (ix3 b q ⟨768 + (16 + i.val), by omega⟩) * cosR (ix2 q i) + z (ix3 b q ⟨768 + i.val, by omega⟩) * sinR (ix2 q i) := by
  pointwise [krtR]

/-- The reference's run: its results, as the functions above of the arguments, which it keeps. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v111) = ckvR (zR (m ((c.tc : Thread nD τ).loc main_arg0)) (m ((c.tc : Thread nD τ).loc main_arg1)) (m ((c.tc : Thread nD τ).loc main_arg2))) (m ((c.tc : Thread nD τ).loc main_arg5))
      ∧ r.2.mem ((c.tc : Thread nD τ).loc main_v112) = krtR (zR (m ((c.tc : Thread nD τ).loc main_arg0)) (m ((c.tc : Thread nD τ).loc main_arg1)) (m ((c.tc : Thread nD τ).loc main_arg2)))
      ∧ r.2.mem ((c.tc : Thread nD τ).loc main_v114) = ktR (zR (m ((c.tc : Thread nD τ).loc main_arg0)) (m ((c.tc : Thread nD τ).loc main_arg1)) (m ((c.tc : Thread nD τ).loc main_arg2)))
      ∧ r.2.mem ((c.tc : Thread nD τ).loc main_v116) = vtR (zR (m ((c.tc : Thread nD τ).loc main_arg0)) (m ((c.tc : Thread nD τ).loc main_arg1)) (m ((c.tc : Thread nD τ).loc main_arg2)))
      ∧ r.2.mem ((c.tc : Thread nD τ).loc main_v123) = gaR (zR (m ((c.tc : Thread nD τ).loc main_arg0)) (m ((c.tc : Thread nD τ).loc main_arg1)) (m ((c.tc : Thread nD τ).loc main_arg2)))
      ∧ r.2.mem ((c.tc : Thread nD τ).loc main_v130) = gbR (zR (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (run m ρ)
  · rfl
  · unfold res_main_v112
    rfl
  · unfold res_main_v114
    rfl
  · rfl
  · rfl
  · rfl

end Cert.ProjReferenceIdeal.Value
end
-- ==== Proof.ProjBlocks.lean ====
/-
  What the projection kernel's windows hold at a grid point, in the arrays the program is given.
-/
module

public import proofs.«01_k».proof.Proof.Gen.ProjIdeal.Value
public import proofs.«01_k».proof.Proof.ProjRef
public import Idealize.ShloMosaic.Lib.Pipeline.ValueKit
public import Idealize.ShloMosaic.Lib.Pointwise
public import Idealize.ShloMosaic.Lib.StableHlo.RunRead

@[expose] public section
set_option maxRecDepth 16384
noncomputable section
namespace Cert.ProjIdeal.Value
open Cert.ProjIdeal Cert.ProjIdeal.Gen Idealize.ShloMosaic Idealize.ShloMosaic.TcCoe Idealize.SL.Sem
open Idealize.ShloMosaic.Pipeline (Dat)
open Cert.ProjReferenceIdeal.Value (cosR sinR cosM sinM)

abbrev D0 (m : (ℓ : Loc nD τ sig) → Buf (Elt Ideal) ℓ) (c : Dev nD) : FVec Ideal S8x2048x1024 .f32 := m ((c.tc : Thread nD τ).loc main_arg0)
abbrev D1 (m : (ℓ : Loc nD τ sig) → Buf (Elt Ideal) ℓ) (c : Dev nD) : FVec Ideal S1024 .f32 := m ((c.tc : Thread nD τ).loc main_arg1)
abbrev D2 (m : (ℓ : Loc nD τ sig) → Buf (Elt Ideal) ℓ) (c : Dev nD) : FVec Ideal S1024x4384 .f32 := m ((c.tc : Thread nD τ).loc main_arg2)
abbrev D5 (m : (ℓ : Loc nD τ sig) → Buf (Elt Ideal) ℓ) (c : Dev nD) : FVec Ideal S256 .f32 := m ((c.tc : Thread nD τ).loc main_arg5)

variable (m : (ℓ : Loc nD τ sig) → Buf (Elt Ideal) ℓ)

theorem idx : ∀ t : Fin cfg0.N, win0_0.index t = ![t.val, 0]
    ∧ win0_1.index t = ![0, 0]
    ∧ win0_2.index t = ![0, 0]
    ∧ win0_3.index t = ![0, 0]
    ∧ win0_6.index t = ![0, 0]
    ∧ win0_10.index t = ![0, t.val % 8]
    ∧ win0_11.index t = ![0, t.val % 8]
    ∧ win0_12.index t = ![t.val, 0]
    ∧ win0_15.index t = ![t.val / 8, 0, t.val % 8]
    ∧ win0_16.index t = ![t.val / 8, 0, t.val % 8]
    ∧ win0_17.index t = ![t.val / 8, 0, t.val % 8]
    ∧ win0_20.index t = ![t.val, 0]
    ∧ win0_21.index t = ![t.val, 0] :=
  (by decide +kernel : ∀ t : Fin grid0.N, _)

theorem t64 (t : Fin cfg0.N) : t.val < 64 := by have := t.isLt; have : cfg0.N = 64 := N_0; omega

theorem t8 (t : Fin cfg0.N) : t.val / 8 < 8 := by have := t64 t; omega

/-- The batch of a grid point. -/
abbrev bat (t : Fin cfg0.N) : Fin 8 := ⟨t.val / 8, t8 t⟩

/-- A row of the tile of a grid point, in its sequence. -/
abbrev qrow (t : Fin cfg0.N) (p : Fin 256) : Fin 2048 := ⟨t.val % 8 * 256 + p.val, by omega⟩

theorem cat2 {S S1 S2 : Shape} {d : Fin S.rank} {α : Type} {a a' : S1.Idx → α} {b b' : S2.Idx → α} (h) (h') (ea : a = a') (eb : b = b') :
    concatenate (α := α) S d [⟨S1, a⟩, ⟨S2, b⟩] h = concatenate S d [⟨S1, a'⟩, ⟨S2, b'⟩] h' := by
  subst ea eb; rfl

theorem cat3 {S S1 S2 S3 : Shape} {d : Fin S.rank} {α : Type} {a a' : S1.Idx → α} {b b' : S2.Idx → α} {e e' : S3.Idx → α} (h) (h') (ea : a = a') (eb : b = b') (ee : e = e') :
    concatenate (α := α) S d [⟨S1, a⟩, ⟨S2, b⟩, ⟨S3, e⟩] h = concatenate S d [⟨S1, a'⟩, ⟨S2, b'⟩, ⟨S3, e'⟩] h' := by
  subst ea eb ee; rfl

theorem cat4 {S S1 S2 S3 S4 : Shape} {d : Fin S.rank} {α : Type} {a a' : S1.Idx → α} {b b' : S2.Idx → α} {e e' : S3.Idx → α} {f f' : S4.Idx → α} (h) (h')
    (ea : a = a') (eb : b = b') (ee : e = e') (ef : f = f') :
    concatenate (α := α) S d [⟨S1, a⟩, ⟨S2, b⟩, ⟨S3, e⟩, ⟨S4, f⟩] h = concatenate S d [⟨S1, a'⟩, ⟨S2, b'⟩, ⟨S3, e'⟩, ⟨S4, f'⟩] h' := by
  subst ea eb ee ef; rfl

/-- The row weights. -/
theorem V_wrow (c : Dev nD) : ∃ Z : FVec Ideal S1024x128 .f32, (V m c main_v12 : FVec Ideal S1024x3456 .bf16) =
    truncf .bf16 (concatenate S1024x3456 1 [⟨S1024x768, extractStridedSlice S1024x768 ![0, 0] (D2 m c) slices_S1024x4384_S1024x768_0_0⟩,
      ⟨S1024x512, extractStridedSlice S1024x512 ![0, 800] (D2 m c) slices_S1024x4384_S1024x512_0_800⟩, ⟨S1024x128, Z⟩,
      ⟨S1024x2048, extractStridedSlice S1024x2048 ![0, 2336] (D2 m c) slices_S1024x4384_S1024x2048_0_2336⟩] concatenates_S1024x768_S1024x512_S1024x128_S1024x2048_S1024x3456_d1) bitsLt_bf16_f32 := by
  refine ⟨V m c main_v7, ?_⟩
  unfold V
  after_reads_simp
  refine congrArg (fun z => truncf .bf16 z bitsLt_bf16_f32) (cat4 _ _ ?_ ?_ ?_ ?_)
  all_goals
    after_reads_simp
  all_goals rfl

/-- The columns-first weights. -/
theorem V_wt (c : Dev nD) : (V m c main_v18 : FVec Ideal S1056x1024 .bf16) =
    truncf .bf16 (transpose S1056x1024 [1, 0] (concatenate S1024x1056 1 [⟨S1024x512, extractStridedSlice S1024x512 ![0, 1312] (D2 m c) slices_S1024x4384_S1024x512_0_1312⟩,
      ⟨S1024x512, extractStridedSlice S1024x512 ![0, 1824] (D2 m c) slices_S1024x4384_S1024x512_0_1824⟩,
      ⟨S1024x32, extractStridedSlice S1024x32 ![0, 768] (D2 m c) slices_S1024x4384_S1024x32_0_768⟩] concatenates_S1024x512_S1024x512_S1024x32_S1024x1056_d1) transposes_S1024x1056_S1056x1024_1_0) bitsLt_bf16_f32 := by
  unfold V
  after_reads_simp
  refine congrArg (fun z => truncf .bf16 (transpose S1056x1024 [1, 0] z transposes_S1024x1056_S1056x1024_1_0) bitsLt_bf16_f32) (cat3 _ _ ?_ ?_ ?_)
  all_goals
    after_reads_simp
  all_goals rfl

/-- The angles of the block-attention keys, columns first. -/
theorem V_tkt (c : Dev nD) : (V m c main_v139 : FVec Ideal S16x2048 .f32) =
    concatenate S16x2048 0 [⟨S8x2048, transpose S8x2048 [1, 0] cosM transposes_S2048x8_S8x2048_1_0⟩, ⟨S8x2048, transpose S8x2048 [1, 0] sinM transposes_S2048x8_S8x2048_1_0⟩] concatenates_S8x2048_S8x2048_S16x2048_d0 := by
  unfold V
  after_reads_simp
  refine cat2 _ _ ?_ ?_
  all_goals
    after_reads_simp
  all_goals rfl

/-- The angles of the positional keys, columns first. -/
theorem V_trt (c : Dev nD) : (V m c main_v142 : FVec Ideal S32x2048 .f32) =
    concatenate S32x2048 0 [⟨S16x2048, transpose S16x2048 [1, 0] cosR transposes_S2048x16_S16x2048_1_0⟩, ⟨S16x2048, transpose S16x2048 [1, 0] sinR transposes_S2048x16_S16x2048_1_0⟩] concatenates_S16x2048_S16x2048_S32x2048_d0 := by
  unfold V
  after_reads_simp
  refine cat2 _ _ ?_ ?_
  all_goals
    after_reads_simp
  all_goals rfl

theorem V_x (c : Dev nD) : (V m c main_v65 : FVec Ideal S16384x1024 .f32) = shapeCast _ (D0 m c) shapeCasts_S8x2048x1024_S16384x1024 := by
  unfold V
  after_reads_simp
  all_goals rfl

theorem V_g (c : Dev nD) : (V m c main_v62 : FVec Ideal S1x1024 .f32) = shapeCast _ (D1 m c) shapeCasts_S1024_S1x1024 := by
  unfold V
  after_reads_simp
  all_goals rfl

theorem V_gkv (c : Dev nD) : (V m c main_v64 : FVec Ideal S1x256 .f32) = shapeCast _ (D5 m c) shapeCasts_S256_S1x256 := by
  unfold V
  after_reads_simp
  all_goals rfl

set_option maxHeartbeats 2000000 in
theorem arr_x (c : Dev nD) (t : Fin cfg0.N) (p : Fin 256) (j : Fin 1024) :
    (V m c main_v65 : FVec Ideal S16384x1024 .f32) (ix2 (⟨(bat t).val * 2048 + (qrow t p).val, by omega⟩ : Fin 16384) j) = D0 m c (ix3 (bat t) (qrow t p) j) := by
  rw [V_x]
  pointwise
  exact congrArg₂ (fun b q => D0 m c (ix3 b q j)) (Fin.ext (by show (t.val / 8 * 2048 + (t.val % 8 * 256 + p.val)) / 2048 = t.val / 8; omega))
    (Fin.ext (by show (t.val / 8 * 2048 + (t.val % 8 * 256 + p.val)) % 2048 = t.val % 8 * 256 + p.val; omega))

set_option maxHeartbeats 2000000 in
theorem blk_x (c : Dev nD) (t : Fin cfg0.N) (p : Fin 256) (j : Fin 1024) :
    (iblk m c 0 t : Vec Ideal S256x1024 .f32) (ix2 p j) = D0 m c (ix3 (bat t) (qrow t p) j) := by
  have e : (win0_0.blk t).view.emb (ix2 p j) = ix2 (⟨(bat t).val * 2048 + (qrow t p).val, by omega⟩ : Fin 16384) j := by
    blk_ext [idx t]
  refine Eq.trans ?_ (arr_x m c t p j)
  blk_simp [iblk, idx t]
  exact congrArg (V m c main_v65 : FVec Ideal S16384x1024 .f32) e

set_option maxHeartbeats 2000000 in
theorem arr_g (c : Dev nD) (t : Fin cfg0.N) (j : Fin 1024) :
    (V m c main_v62 : FVec Ideal S1x1024 .f32) (ix2 0 j) = D1 m c (ix1 j) := by
  rw [V_g]
  pointwise

set_option maxHeartbeats 2000000 in
theorem blk_g (c : Dev nD) (t : Fin cfg0.N) (j : Fin 1024) :
    (iblk m c 1 t : Vec Ideal S1x1024 .f32) (ix2 0 j) = D1 m c (ix1 j) := by
  have e : (win0_1.blk t).view.emb (ix2 0 j) = ix2 0 j := by
    blk_ext [idx t]
  refine Eq.trans ?_ (arr_g m c t j)
  blk_simp [iblk, idx t]
  exact congrArg (V m c main_v62 : FVec Ideal S1x1024 .f32) e

set_option maxHeartbeats 2000000 in
theorem arr_gkv (c : Dev nD) (t : Fin cfg0.N) (j : Fin 256) :
    (V m c main_v64 : FVec Ideal S1x256 .f32) (ix2 0 j) = D5 m c (ix1 j) := by
  rw [V_gkv]
  pointwise

set_option maxHeartbeats 2000000 in
theorem blk_gkv (c : Dev nD) (t : Fin cfg0.N) (j : Fin 256) :
    (iblk m c 6 t : Vec Ideal S1x256 .f32) (ix2 0 j) = D5 m c (ix1 j) := by
  have e : (win0_6.blk t).view.emb (ix2 0 j) = ix2 0 j := by
    blk_ext [idx t]
  refine Eq.trans ?_ (arr_gkv m c t j)
  blk_simp [iblk, idx t]
  exact congrArg (V m c main_v64 : FVec Ideal S1x256 .f32) e

set_option maxHeartbeats 2000000 in
theorem arr_wkv (c : Dev nD) (t : Fin cfg0.N) (k : Fin 1024) (j : Fin 256) :
    (V m c main_v12 : FVec Ideal S1024x3456 .bf16) (ix2 k ⟨512 + j.val, by omega⟩) = D2 m c (ix2 k ⟨512 + j.val, by omega⟩) := by
  obtain ⟨Z, he⟩ := V_wrow m c
  rw [he]
  pointwise
  rw [dif_pos (by omega)]

set_option maxHeartbeats 2000000 in
theorem blk_wkv (c : Dev nD) (t : Fin cfg0.N) (k : Fin 1024) (j : Fin 256) :
    (iblk m c 2 t : Vec Ideal S1024x3456 .bf16) (ix2 k ⟨512 + j.val, by omega⟩) = D2 m c (ix2 k ⟨512 + j.val, by omega⟩) := by
  have e : (win0_2.blk t).view.emb (ix2 k ⟨512 + j.val, by omega⟩) = ix2 k ⟨512 + j.val, by omega⟩ := by
    blk_ext [idx t]
  refine Eq.trans ?_ (arr_wkv m c t k j)
  blk_simp [iblk, idx t]
  exact congrArg (V m c main_v12 : FVec Ideal S1024x3456 .bf16) e

set_option maxHeartbeats 2000000 in
theorem arr_wga (c : Dev nD) (t : Fin cfg0.N) (k : Fin 1024) (j : Fin 1024) :
    (V m c main_v12 : FVec Ideal S1024x3456 .bf16) (ix2 k ⟨1408 + j.val, by omega⟩) = D2 m c (ix2 k ⟨2336 + j.val, by omega⟩) := by
  obtain ⟨Z, he⟩ := V_wrow m c
  rw [he]
  pointwise
  rw [dif_neg (by omega), dif_neg (by omega), dif_neg (by omega)]
  exact congrArg (fun a => D2 m c (ix2 k a)) (Fin.ext (by show 2336 + (1408 + j.val - 768 - 512 - 128) = 2336 + j.val; omega))

set_option maxHeartbeats 2000000 in
theorem blk_wga (c : Dev nD) (t : Fin cfg0.N) (k : Fin 1024) (j : Fin 1024) :
    (iblk m c 2 t : Vec Ideal S1024x3456 .bf16) (ix2 k ⟨1408 + j.val, by omega⟩) = D2 m c (ix2 k ⟨2336 + j.val, by omega⟩) := by
  have e : (win0_2.blk t).view.emb (ix2 k ⟨1408 + j.val, by omega⟩) = ix2 k ⟨1408 + j.val, by omega⟩ := by
    blk_ext [idx t]
  refine Eq.trans ?_ (arr_wga m c t k j)
  blk_simp [iblk, idx t]
  exact congrArg (V m c main_v12 : FVec Ideal S1024x3456 .bf16) e

set_option maxHeartbeats 2000000 in
theorem arr_wgb (c : Dev nD) (t : Fin cfg0.N) (k : Fin 1024) (j : Fin 1024) :
    (V m c main_v12 : FVec Ideal S1024x3456 .bf16) (ix2 k ⟨2432 + j.val, by omega⟩) = D2 m c (ix2 k ⟨3360 + j.val, by omega⟩) := by
  obtain ⟨Z, he⟩ := V_wrow m c
  rw [he]
  pointwise
  rw [dif_neg (by omega), dif_neg (by omega), dif_neg (by omega)]
  exact congrArg (fun a => D2 m c (ix2 k a)) (Fin.ext (by show 2336 + (2432 + j.val - 768 - 512 - 128) = 3360 + j.val; omega))

set_option maxHeartbeats 2000000 in
theorem blk_wgb (c : Dev nD) (t : Fin cfg0.N) (k : Fin 1024) (j : Fin 1024) :
    (iblk m c 2 t : Vec Ideal S1024x3456 .bf16) (ix2 k ⟨2432 + j.val, by omega⟩) = D2 m c (ix2 k ⟨3360 + j.val, by omega⟩) := by
  have e : (win0_2.blk t).view.emb (ix2 k ⟨2432 + j.val, by omega⟩) = ix2 k ⟨2432 + j.val, by omega⟩ := by
    blk_ext [idx t]
  refine Eq.trans ?_ (arr_wgb m c t k j)
  blk_simp [iblk, idx t]
  exact congrArg (V m c main_v12 : FVec Ideal S1024x3456 .bf16) e

set_option maxHeartbeats 2000000 in
theorem arr_wk (c : Dev nD) (t : Fin cfg0.N) (r : Fin 512) (k : Fin 1024) :
    (V m c main_v18 : FVec Ideal S1056x1024 .bf16) (ix2 ⟨r.val, by omega⟩ k) = D2 m c (ix2 k ⟨1312 + r.val, by omega⟩) := by
  rw [V_wt]
  pointwise

set_option maxHeartbeats 2000000 in
theorem blk_wk (c : Dev nD) (t : Fin cfg0.N) (r : Fin 512) (k : Fin 1024) :
    (iblk m c 3 t : Vec Ideal S1056x1024 .bf16) (ix2 ⟨r.val, by omega⟩ k) = D2 m c (ix2 k ⟨1312 + r.val, by omega⟩) := by
  have e : (win0_3.blk t).view.emb (ix2 ⟨r.val, by omega⟩ k) = ix2 ⟨r.val, by omega⟩ k := by
    blk_ext [idx t]
  refine Eq.trans ?_ (arr_wk m c t r k)
  blk_simp [iblk, idx t]
  exact congrArg (V m c main_v18 : FVec Ideal S1056x1024 .bf16) e

set_option maxHeartbeats 2000000 in
theorem arr_wv (c : Dev nD) (t : Fin cfg0.N) (r : Fin 512) (k : Fin 1024) :
    (V m c main_v18 : FVec Ideal S1056x1024 .bf16) (ix2 ⟨512 + r.val, by omega⟩ k) = D2 m c (ix2 k ⟨1824 + r.val, by omega⟩) := by
  rw [V_wt]
  pointwise

set_option maxHeartbeats 2000000 in
theorem blk_wv (c : Dev nD) (t : Fin cfg0.N) (r : Fin 512) (k : Fin 1024) :
    (iblk m c 3 t : Vec Ideal S1056x1024 .bf16) (ix2 ⟨512 + r.val, by omega⟩ k) = D2 m c (ix2 k ⟨1824 + r.val, by omega⟩) := by
  have e : (win0_3.blk t).view.emb (ix2 ⟨512 + r.val, by omega⟩ k) = ix2 ⟨512 + r.val, by omega⟩ k := by
    blk_ext [idx t]
  refine Eq.trans ?_ (arr_wv m c t r k)
  blk_simp [iblk, idx t]
  exact congrArg (V m c main_v18 : FVec Ideal S1056x1024 .bf16) e

set_option maxHeartbeats 2000000 in
theorem arr_wr (c : Dev nD) (t : Fin cfg0.N) (r : Fin 32) (k : Fin 1024) :
    (V m c main_v18 : FVec Ideal S1056x1024 .bf16) (ix2 ⟨1024 + r.val, by omega⟩ k) = D2 m c (ix2 k ⟨768 + r.val, by omega⟩) := by
  rw [V_wt]
  pointwise
  rw [dif_neg (by omega), dif_neg (by omega)]
  exact congrArg (fun a => D2 m c (ix2 k a)) (Fin.ext (by show 768 + (1024 + r.val - 512 - 512) = 768 + r.val; omega))

set_option maxHeartbeats 2000000 in
theorem blk_wr (c : Dev nD) (t : Fin cfg0.N) (r : Fin 32) (k : Fin 1024) :
    (iblk m c 3 t : Vec Ideal S1056x1024 .bf16) (ix2 ⟨1024 + r.val, by omega⟩ k) = D2 m c (ix2 k ⟨768 + r.val, by omega⟩) := by
  have e : (win0_3.blk t).view.emb (ix2 ⟨1024 + r.val, by omega⟩ k) = ix2 ⟨1024 + r.val, by omega⟩ k := by
    blk_ext [idx t]
  refine Eq.trans ?_ (arr_wr m c t r k)
  blk_simp [iblk, idx t]
  exact congrArg (V m c main_v18 : FVec Ideal S1056x1024 .bf16) e

set_option maxHeartbeats 2000000 in
theorem arr_ck (c : Dev nD) (t : Fin cfg0.N) (i : Fin 8) (p : Fin 256) :
    (V m c main_v139 : FVec Ideal S16x2048 .f32) (ix2 ⟨i.val, by omega⟩ (qrow t p)) = cosM (ix2 (qrow t p) i) := by
  rw [V_tkt]
  pointwise

set_option maxHeartbeats 2000000 in
theorem blk_ck (c : Dev nD) (t : Fin cfg0.N) (i : Fin 8) (p : Fin 256) :
    (iblk m c 10 t : Vec Ideal S16x256 .f32) (ix2 ⟨i.val, by omega⟩ p) = cosM (ix2 (qrow t p) i) := by
  have e : (win0_10.blk t).view.emb (ix2 ⟨i.val, by omega⟩ p) = ix2 ⟨i.val, by omega⟩ (qrow t p) := by
    blk_ext [idx t]
  refine Eq.trans ?_ (arr_ck m c t i p)
  blk_simp [iblk, idx t]
  exact congrArg (V m c main_v139 : FVec Ideal S16x2048 .f32) e

set_option maxHeartbeats 2000000 in
theorem arr_sk (c : Dev nD) (t : Fin cfg0.N) (i : Fin 8) (p : Fin 256) :
    (V m c main_v139 : FVec Ideal S16x2048 .f32) (ix2 ⟨8 + i.val, by omega⟩ (qrow t p)) = sinM (ix2 (qrow t p) i) := by
  rw [V_tkt]
  pointwise

set_option maxHeartbeats 2000000 in
theorem blk_sk (c : Dev nD) (t : Fin cfg0.N) (i : Fin 8) (p : Fin 256) :
    (iblk m c 10 t : Vec Ideal S16x256 .f32) (ix2 ⟨8 + i.val, by omega⟩ p) = sinM (ix2 (qrow t p) i) := by
  have e : (win0_10.blk t).view.emb (ix2 ⟨8 + i.val, by omega⟩ p) = ix2 ⟨8 + i.val, by omega⟩ (qrow t p) := by
    blk_ext [idx t]
  refine Eq.trans ?_ (arr_sk m c t i p)
  blk_simp [iblk, idx t]
  exact congrArg (V m c main_v139 : FVec Ideal S16x2048 .f32) e

set_option maxHeartbeats 2000000 in
theorem arr_cr (c : Dev nD) (t : Fin cfg0.N) (i : Fin 16) (p : Fin 256) :
    (V m c main_v142 : FVec Ideal S32x2048 .f32) (ix2 ⟨i.val, by omega⟩ (qrow t p)) = cosR (ix2 (qrow t p) i) := by
  rw [V_trt]
  pointwise

set_option maxHeartbeats 2000000 in
theorem blk_cr (c : Dev nD) (t : Fin cfg0.N) (i : Fin 16) (p : Fin 256) :
    (iblk m c 11 t : Vec Ideal S32x256 .f32) (ix2 ⟨i.val, by omega⟩ p) = cosR (ix2 (qrow t p) i) := by
  have e : (win0_11.blk t).view.emb (ix2 ⟨i.val, by omega⟩ p) = ix2 ⟨i.val, by omega⟩ (qrow t p) := by
    blk_ext [idx t]
  refine Eq.trans ?_ (arr_cr m c t i p)
  blk_simp [iblk, idx t]
  exact congrArg (V m c main_v142 : FVec Ideal S32x2048 .f32) e

set_option maxHeartbeats 2000000 in
theorem arr_sr (c : Dev nD) (t : Fin cfg0.N) (i : Fin 16) (p : Fin 256) :
    (V m c main_v142 : FVec Ideal S32x2048 .f32) (ix2 ⟨16 + i.val, by omega⟩ (qrow t p)) = sinR (ix2 (qrow t p) i) := by
  rw [V_trt]
  pointwise

set_option maxHeartbeats 2000000 in
theorem blk_sr (c : Dev nD) (t : Fin cfg0.N) (i : Fin 16) (p : Fin 256) :
    (iblk m c 11 t : Vec Ideal S32x256 .f32) (ix2 ⟨16 + i.val, by omega⟩ p) = sinR (ix2 (qrow t p) i) := by
  have e : (win0_11.blk t).view.emb (ix2 ⟨16 + i.val, by omega⟩ p) = ix2 ⟨16 + i.val, by omega⟩ (qrow t p) := by
    blk_ext [idx t]
  refine Eq.trans ?_ (arr_sr m c t i p)
  blk_simp [iblk, idx t]
  exact congrArg (V m c main_v142 : FVec Ideal S32x2048 .f32) e

end Cert.ProjIdeal.Value
end
-- ==== Proof.ProjResult.lean ====
/-
  The projection kernel's result arrays are the reference's results of its arguments.
-/
module

public import proofs.«01_k».proof.Proof.ProjVal
public import proofs.«01_k».proof.Proof.ProjBlocks

@[expose] public section
set_option maxRecDepth 16384
noncomputable section
namespace Cert.ProjIdeal.Value
open Cert.ProjIdeal Cert.ProjIdeal.Gen Idealize.ShloMosaic Idealize.ShloMosaic.TcCoe Idealize.SL.Sem Cert.TailMath Cert.ProjMath
open Cert.ProjReferenceIdeal.Value

variable (m : (ℓ : Loc nD τ sig) → Buf (Elt Ideal) ℓ) (c : Dev nD)

/-- The projection of the arguments. -/
def Z : FVec Ideal Cert.ProjReferenceIdeal.S8x2048x4384 .f32 := zR (D0 m c) (D1 m c) (D2 m c)

/-- The six results of the arguments. -/
def resCkv : FVec Ideal S16384x256 .f32 := ckvR (Z m c) (D5 m c)
def resKrt : FVec Ideal S8x32x2048 .f32 := krtR (Z m c)
def resKt : FVec Ideal S8x512x2048 .f32 := ktR (Z m c)
def resVt : FVec Ideal S8x512x2048 .f32 := vtR (Z m c)
def resGa : FVec Ideal S16384x1024 .f32 := gaR (Z m c)
def resGb : FVec Ideal S16384x1024 .f32 := gbR (Z m c)

theorem col_eq (t : Fin cfg0.N) (p : Fin 256) (n : Fin 4384) (w : Fin 1024 → EReal) (hw : ∀ k, w k = D2 m c (ix2 k n)) :
    col (fun j => (iblk m c 0 t : Vec Ideal S256x1024 .f32) (ix2 p j)) (fun j => (iblk m c 1 t : Vec Ideal S1x1024 .f32) (ix2 0 j)) w
      = Z m c (ix3 (bat t) (qrow t p) n) := by
  refine Eq.trans ?_ (zR_apply (D0 m c) (D1 m c) (D2 m c) (bat t) (qrow t p) n).symm
  rw [funext (blk_x m c t p), funext (blk_g m c t), funext hw]

theorem ld_kv (X : Vec Ideal S1024x3456 .bf16) (k : Fin 1024) (j : Fin 256) :
    (View.ld X (Rect.unit (s := S1024x3456) ![0, 512] ![1024, 256] inb_S1024x3456_S1024x256_0_512) : Vec Ideal S1024x256 .bf16) (ix2 k j) = X (ix2 k ⟨512 + j.val, by omega⟩) :=
  View.ld_unit_apply_of X ![0, 512] ![1024, 256] inb_S1024x3456_S1024x256_0_512 (ix2 k j) _ (fun a => by
    fin_cases a
    · exact (Nat.zero_add _).symm
    · rfl)

theorem ld_ga (X : Vec Ideal S1024x3456 .bf16) (k : Fin 1024) (j : Fin 1024) :
    (View.ld X (Rect.unit (s := S1024x3456) ![0, 1408] ![1024, 1024] inb_S1024x3456_S1024x1024_0_1408) : Vec Ideal S1024x1024 .bf16) (ix2 k j) = X (ix2 k ⟨1408 + j.val, by omega⟩) :=
  View.ld_unit_apply_of X ![0, 1408] ![1024, 1024] inb_S1024x3456_S1024x1024_0_1408 (ix2 k j) _ (fun a => by
    fin_cases a
    · exact (Nat.zero_add _).symm
    · rfl)

theorem ld_gb (X : Vec Ideal S1024x3456 .bf16) (k : Fin 1024) (j : Fin 1024) :
    (View.ld X (Rect.unit (s := S1024x3456) ![0, 2432] ![1024, 1024] inb_S1024x3456_S1024x1024_0_2432) : Vec Ideal S1024x1024 .bf16) (ix2 k j) = X (ix2 k ⟨2432 + j.val, by omega⟩) :=
  View.ld_unit_apply_of X ![0, 2432] ![1024, 1024] inb_S1024x3456_S1024x1024_0_2432 (ix2 k j) _ (fun a => by
    fin_cases a
    · exact (Nat.zero_add _).symm
    · rfl)

/-- The columns-first product of a tile, at a grid point. -/
abbrev Yt (t : Fin cfg0.N) : FVec Ideal S1056x256 .f32 := k0_pay52 (k0_pay2 (iblk m c 0 t : Vec Ideal S256x1024 .f32) (iblk m c 1 t : Vec Ideal S1x1024 .f32)) (iblk m c 3 t : Vec Ideal S1056x1024 .bf16)

theorem yk (t : Fin cfg0.N) (r : Fin 512) (p : Fin 256) : Yt m c t (ix2 ⟨r.val, by omega⟩ p) = Z m c (ix3 (bat t) (qrow t p) ⟨1312 + r.val, by omega⟩) :=
  (yt_apply _ _ _ _ p).trans (col_eq m c t p _ _ fun k => blk_wk m c t r k)

theorem yv (t : Fin cfg0.N) (r : Fin 512) (p : Fin 256) : Yt m c t (ix2 ⟨512 + r.val, by omega⟩ p) = Z m c (ix3 (bat t) (qrow t p) ⟨1824 + r.val, by omega⟩) :=
  (yt_apply _ _ _ _ p).trans (col_eq m c t p _ _ fun k => blk_wv m c t r k)

theorem yr (t : Fin cfg0.N) (r : Fin 32) (p : Fin 256) : Yt m c t (ix2 ⟨1024 + r.val, by omega⟩ p) = Z m c (ix3 (bat t) (qrow t p) ⟨768 + r.val, by omega⟩) :=
  (yt_apply _ _ _ _ p).trans (col_eq m c t p _ _ fun k => blk_wr m c t r k)

theorem ckv_point (t : Fin cfg0.N) (p j : Fin 256) :
    ((outsAt0 m c t).1 : Vec Ideal S256x256 .f32) (ix2 p j) = resCkv m c (ix2 ⟨(bat t).val * 2048 + (qrow t p).val, by omega⟩ j) := by
  simp only [outsAt0]
  rw [out0_A_12_eq]
  refine (ckv_apply _ _ p j).trans (Eq.trans ?_ (ckvR_apply (Z m c) (D5 m c) (bat t) (qrow t p) j).symm)
  have e1 : ∀ j : Fin 256, k0_pay4 (iblk m c 0 t : Vec Ideal S256x1024 .f32) (iblk m c 1 t : Vec Ideal S1x1024 .f32)
      (View.ld (iblk m c 2 t : Vec Ideal S1024x3456 .bf16) (Rect.unit (s := S1024x3456) ![0, 512] ![1024, 256] inb_S1024x3456_S1024x256_0_512)) (ix2 p j)
      = Z m c (ix3 (bat t) (qrow t p) ⟨512 + j.val, by omega⟩) := fun j =>
    (lat_apply _ _ _ p j).trans (col_eq m c t p _ _ fun k => (ld_kv _ k j).trans (blk_wkv m c t k j))
  exact congrArg₂ (fun y g => rmsL y g j) (funext e1) (funext (blk_gkv m c t))

theorem ga_point (t : Fin cfg0.N) (p : Fin 256) (j : Fin 1024) :
    ((outsAt0 m c t).2.2.2.2.2.2.2.2.1 : Vec Ideal S256x1024 .f32) (ix2 p j) = resGa m c (ix2 ⟨(bat t).val * 2048 + (qrow t p).val, by omega⟩ j) := by
  simp only [outsAt0]
  rw [out0_A_20_eq]
  refine (ga_apply _ _ _ p j).trans (Eq.trans ?_ (gaR_apply (Z m c) (bat t) (qrow t p) j).symm)
  exact congrArg Ideal.logistic (col_eq m c t p _ _ fun k => (ld_ga _ k j).trans (blk_wga m c t k j))

theorem gb_point (t : Fin cfg0.N) (p : Fin 256) (j : Fin 1024) :
    ((outsAt0 m c t).2.2.2.2.2.2.2.2.2 : Vec Ideal S256x1024 .f32) (ix2 p j) = resGb m c (ix2 ⟨(bat t).val * 2048 + (qrow t p).val, by omega⟩ j) := by
  simp only [outsAt0]
  rw [out0_A_21_eq]
  refine (gb_apply _ _ _ p j).trans (Eq.trans ?_ (gbR_apply (Z m c) (bat t) (qrow t p) j).symm)
  exact congrArg Ideal.logistic (col_eq m c t p _ _ fun k => (ld_gb _ k j).trans (blk_wgb m c t k j))

theorem split64 (r : Fin 512) : ∃ (h : Fin 8) (d : Fin 64), r = ⟨h.val * 64 + d.val, by omega⟩ :=
  ⟨⟨r.val / 64, by omega⟩, ⟨r.val % 64, by omega⟩, Fin.ext (by show r.val = r.val / 64 * 64 + r.val % 64; omega)⟩

theorem vt_point (t : Fin cfg0.N) (r : Fin 512) (p : Fin 256) :
    ((outsAt0 m c t).2.2.2.2.2.1 : Vec Ideal S1x512x256 .f32) (ix3 0 r p) = resVt m c (ix3 (bat t) r (qrow t p)) := by
  simp only [outsAt0]
  rw [out0_A_17_eq]
  obtain ⟨h, d, rfl⟩ := split64 r
  exact (vt_apply _ _ p).trans ((yv m c t ⟨h.val * 64 + d.val, by omega⟩ p).trans (vtR_apply (Z m c) (bat t) h d (qrow t p)).symm)

theorem krt_point (t : Fin cfg0.N) (r : Fin 32) (p : Fin 256) :
    ((outsAt0 m c t).2.2.2.1 : Vec Ideal S1x32x256 .f32) (ix3 0 r p) = resKrt m c (ix3 (bat t) r (qrow t p)) := by
  simp only [outsAt0]
  rw [out0_A_15_eq]
  by_cases hr : r.val < 16
  · obtain ⟨i, rfl⟩ : ∃ i : Fin 16, r = ⟨i.val, lt_of_lt_of_le i.isLt (by decide)⟩ := ⟨⟨r.val, hr⟩, rfl⟩
    refine (kr_lo _ _ i p).trans (Eq.trans ?_ (krtR_lo (Z m c) (bat t) i (qrow t p)).symm)
    exact congrArg₂ (· - ·) (congrArg₂ (· * ·) (yr m c t ⟨i.val, by omega⟩ p) (blk_cr m c t i p))
      (congrArg₂ (· * ·) ((at2 _ p (by show 1040 + i.val = 1024 + (16 + i.val); omega)).trans (yr m c t ⟨16 + i.val, by omega⟩ p)) (blk_sr m c t i p))
  · obtain ⟨i, rfl⟩ : ∃ i : Fin 16, r = ⟨16 + i.val, lt_of_lt_of_le (Nat.add_lt_add_left i.isLt 16) (by decide)⟩ := ⟨⟨r.val - 16, by omega⟩, Fin.ext (by show r.val = 16 + (r.val - 16); omega)⟩
    refine (kr_hi _ _ i p).trans (Eq.trans ?_ (krtR_hi (Z m c) (bat t) i (qrow t p)).symm)
    exact congrArg₂ (· + ·) (congrArg₂ (· * ·) ((at2 _ p (by show 1040 + i.val = 1024 + (16 + i.val); omega)).trans (yr m c t ⟨16 + i.val, by omega⟩ p)) (blk_cr m c t i p))
      (congrArg₂ (· * ·) (yr m c t ⟨i.val, by omega⟩ p) (blk_sr m c t i p))

theorem kt_point (t : Fin cfg0.N) (r : Fin 512) (p : Fin 256) :
    ((outsAt0 m c t).2.2.2.2.1 : Vec Ideal S1x512x256 .f32) (ix3 0 r p) = resKt m c (ix3 (bat t) r (qrow t p)) := by
  simp only [outsAt0]
  rw [out0_A_16_eq]
  refine (kt_apply _ _ _ r p).trans ?_
  obtain ⟨h, d, rfl⟩ := split64 r
  refine Eq.trans ?_ (ktR_apply (Z m c) (bat t) h d (qrow t p)).symm
  by_cases h1 : d.val < 8
  · obtain ⟨i, rfl⟩ : ∃ i : Fin 8, d = ⟨i.val, lt_of_lt_of_le i.isLt (by decide)⟩ := ⟨⟨d.val, h1⟩, rfl⟩
    refine (ktV_lo _ _ _ p (h.val * 64) (by omega) i rfl ⟨h.val * 64 + i.val, by omega⟩ ⟨h.val * 64 + (8 + i.val), by omega⟩ rfl
      (by show h.val * 64 + (8 + i.val) = h.val * 64 + 8 + i.val; omega) ⟨i.val, by omega⟩ ⟨8 + i.val, by omega⟩ rfl rfl).trans (Eq.trans ?_ (kmR_lo (Z m c) (bat t) h i (qrow t p)).symm)
    exact congrArg₂ (· - ·) (congrArg₂ (· * ·) (yk m c t ⟨h.val * 64 + i.val, by omega⟩ p) (blk_ck m c t i p))
      (congrArg₂ (· * ·) (yk m c t ⟨h.val * 64 + (8 + i.val), by omega⟩ p) (blk_sk m c t i p))
  · by_cases h2 : d.val < 16
    · obtain ⟨i, rfl⟩ : ∃ i : Fin 8, d = ⟨8 + i.val, lt_of_lt_of_le (Nat.add_lt_add_left i.isLt 8) (by decide)⟩ := ⟨⟨d.val - 8, by omega⟩, Fin.ext (by show d.val = 8 + (d.val - 8); omega)⟩
      refine (ktV_mid _ _ _ p (h.val * 64) (by omega) i (by show h.val * 64 + (8 + i.val) = h.val * 64 + 8 + i.val; omega) ⟨h.val * 64 + i.val, by omega⟩ ⟨h.val * 64 + (8 + i.val), by omega⟩ rfl
        (by show h.val * 64 + (8 + i.val) = h.val * 64 + 8 + i.val; omega) ⟨i.val, by omega⟩ ⟨8 + i.val, by omega⟩ rfl rfl).trans (Eq.trans ?_ (kmR_mid (Z m c) (bat t) h i (qrow t p)).symm)
      exact congrArg₂ (· + ·) (congrArg₂ (· * ·) (yk m c t ⟨h.val * 64 + (8 + i.val), by omega⟩ p) (blk_ck m c t i p))
        (congrArg₂ (· * ·) (yk m c t ⟨h.val * 64 + i.val, by omega⟩ p) (blk_sk m c t i p))
    · obtain ⟨i, rfl⟩ : ∃ i : Fin 48, d = ⟨16 + i.val, lt_of_lt_of_le (Nat.add_lt_add_left i.isLt 16) (by decide)⟩ := ⟨⟨d.val - 16, by omega⟩, Fin.ext (by show d.val = 16 + (d.val - 16); omega)⟩
      refine (ktV_hi _ _ _ p (h.val * 64) (by omega) i (by show h.val * 64 + (16 + i.val) = h.val * 64 + 16 + i.val; omega) ⟨h.val * 64 + (16 + i.val), by omega⟩
        (by show h.val * 64 + (16 + i.val) = h.val * 64 + 16 + i.val; omega)).trans (Eq.trans ?_ (kmR_hi (Z m c) (bat t) h i (qrow t p)).symm)
      exact yk m c t ⟨h.val * 64 + (16 + i.val), by omega⟩ p

theorem arrCkv : (dats m 0 c).arrAt 12 cfg0.N = resCkv m c := by
  refine (dats m 0 c).arrAt_eq_of_covers 12 _ (by decide +kernel) fun t _ y => ?_
  blk_simp [idx t]
  rw [after0_12]
  have hr : (y 0).val < 256 := (y 0).isLt
  have hn : (y 1).val < 256 := (y 1).isLt
  have e1 : y = ix2 ⟨(y 0).val, hr⟩ ⟨(y 1).val, hn⟩ := by
    blk_ext
  have e2 : (win0_12.blk t).view.emb y = ix2 ⟨(bat t).val * 2048 + (qrow t ⟨(y 0).val, hr⟩).val, by omega⟩ ⟨(y 1).val, hn⟩ := by
    blk_ext [idx t]
  rw [e2]
  exact (congrArg _ e1).trans (ckv_point m c t ⟨(y 0).val, hr⟩ ⟨(y 1).val, hn⟩)

theorem arrGa : (dats m 0 c).arrAt 20 cfg0.N = resGa m c := by
  refine (dats m 0 c).arrAt_eq_of_covers 20 _ (by decide +kernel) fun t _ y => ?_
  blk_simp [idx t]
  rw [after0_20]
  have hr : (y 0).val < 256 := (y 0).isLt
  have hn : (y 1).val < 1024 := (y 1).isLt
  have e1 : y = ix2 ⟨(y 0).val, hr⟩ ⟨(y 1).val, hn⟩ := by
    blk_ext
  have e2 : (win0_20.blk t).view.emb y = ix2 ⟨(bat t).val * 2048 + (qrow t ⟨(y 0).val, hr⟩).val, by omega⟩ ⟨(y 1).val, hn⟩ := by
    blk_ext [idx t]
  rw [e2]
  exact (congrArg _ e1).trans (ga_point m c t ⟨(y 0).val, hr⟩ ⟨(y 1).val, hn⟩)

theorem arrGb : (dats m 0 c).arrAt 21 cfg0.N = resGb m c := by
  refine (dats m 0 c).arrAt_eq_of_covers 21 _ (by decide +kernel) fun t _ y => ?_
  blk_simp [idx t]
  rw [after0_21]
  have hr : (y 0).val < 256 := (y 0).isLt
  have hn : (y 1).val < 1024 := (y 1).isLt
  have e1 : y = ix2 ⟨(y 0).val, hr⟩ ⟨(y 1).val, hn⟩ := by
    blk_ext
  have e2 : (win0_21.blk t).view.emb y = ix2 ⟨(bat t).val * 2048 + (qrow t ⟨(y 0).val, hr⟩).val, by omega⟩ ⟨(y 1).val, hn⟩ := by
    blk_ext [idx t]
  rw [e2]
  exact (congrArg _ e1).trans (gb_point m c t ⟨(y 0).val, hr⟩ ⟨(y 1).val, hn⟩)

theorem arrKrt : (dats m 0 c).arrAt 15 cfg0.N = resKrt m c := by
  refine (dats m 0 c).arrAt_eq_of_covers 15 _ (by decide +kernel) fun t _ y => ?_
  blk_simp [idx t]
  rw [after0_15]
  have hr : (y 1).val < 32 := (y 1).isLt
  have hn : (y 2).val < 256 := (y 2).isLt
  have e1 : y = ix3 0 ⟨(y 1).val, hr⟩ ⟨(y 2).val, hn⟩ := by
    blk_ext
  have e2 : (win0_15.blk t).view.emb y = ix3 (bat t) ⟨(y 1).val, hr⟩ (qrow t ⟨(y 2).val, hn⟩) := by
    blk_ext [idx t]
  rw [e2]
  exact (congrArg _ e1).trans (krt_point m c t ⟨(y 1).val, hr⟩ ⟨(y 2).val, hn⟩)

theorem arrKt : (dats m 0 c).arrAt 16 cfg0.N = resKt m c := by
  refine (dats m 0 c).arrAt_eq_of_covers 16 _ (by decide +kernel) fun t _ y => ?_
  blk_simp [idx t]
  rw [after0_16]
  have hr : (y 1).val < 512 := (y 1).isLt
  have hn : (y 2).val < 256 := (y 2).isLt
  have e1 : y = ix3 0 ⟨(y 1).val, hr⟩ ⟨(y 2).val, hn⟩ := by
    blk_ext
  have e2 : (win0_16.blk t).view.emb y = ix3 (bat t) ⟨(y 1).val, hr⟩ (qrow t ⟨(y 2).val, hn⟩) := by
    blk_ext [idx t]
  rw [e2]
  exact (congrArg _ e1).trans (kt_point m c t ⟨(y 1).val, hr⟩ ⟨(y 2).val, hn⟩)

theorem arrVt : (dats m 0 c).arrAt 17 cfg0.N = resVt m c := by
  refine (dats m 0 c).arrAt_eq_of_covers 17 _ (by decide +kernel) fun t _ y => ?_
  blk_simp [idx t]
  rw [after0_17]
  have hr : (y 1).val < 512 := (y 1).isLt
  have hn : (y 2).val < 256 := (y 2).isLt
  have e1 : y = ix3 0 ⟨(y 1).val, hr⟩ ⟨(y 2).val, hn⟩ := by
    blk_ext
  have e2 : (win0_17.blk t).view.emb y = ix3 (bat t) ⟨(y 1).val, hr⟩ (qrow t ⟨(y 2).val, hn⟩) := by
    blk_ext [idx t]
  rw [e2]
  exact (congrArg _ e1).trans (vt_point m c t ⟨(y 1).val, hr⟩ ⟨(y 2).val, hn⟩)

end Cert.ProjIdeal.Value
end
-- ==== Proof.ProjAlgebraic.lean ====
/-
  The value claim of the projection: at exact arithmetic, the six results of the kernel are the reference's.
-/
module

public import proofs.«01_k».proof.Defs
public import proofs.«01_k».proof.Proof.Gen.Proj.Frame
public import proofs.«01_k».proof.Proof.Gen.ProjReferenceIdeal.Run
public import proofs.«01_k».proof.Proof.ProjResult
public import Idealize.ShloMosaic.Lib.Quiescent

@[expose] public section
set_option maxRecDepth 16384
noncomputable section
namespace Cert.LayerProj
open Idealize.ShloMosaic Idealize.ShloMosaic.TcCoe Idealize.SL.Sem

/-- The reference ends with its arguments unchanged; it declares no semaphore. -/
theorem reference_quiet : Cert.quiescent_ProjReferenceIdeal := fun m ρ _ =>
  (θ_run Cert.ProjReferenceIdeal.defs _ _).mono (fun r h => ⟨fun c => (h c).2.2.2.2.2.2,
      Idealize.ShloMosaic.sem_eq_zero_of_no_sems (by decide) r.2⟩)
    (Cert.ProjReferenceIdeal.Value.run (F := Ideal) m ρ)

theorem algebraic : Cert.algebraic_ProjIdeal_ProjReferenceIdeal := by
  intro m ρ m' ρ' _ hagree
  refine ⟨fun c => Cert.ProjIdeal.Value.resCkv m c, fun c => Cert.ProjIdeal.Value.resKrt m c, fun c => Cert.ProjIdeal.Value.resKt m c,
    fun c => Cert.ProjIdeal.Value.resVt m c, fun c => Cert.ProjIdeal.Value.resGa m c, fun c => Cert.ProjIdeal.Value.resGb m c, ?_, ?_⟩
  · refine (θ_run _ _ _).mono (fun _ h c => ⟨(h c).1.trans (Cert.ProjIdeal.Value.arrCkv m c), (h c).2.2.2.1.trans (Cert.ProjIdeal.Value.arrKrt m c),
      (h c).2.2.2.2.1.trans (Cert.ProjIdeal.Value.arrKt m c), (h c).2.2.2.2.2.1.trans (Cert.ProjIdeal.Value.arrVt m c),
      (h c).2.2.2.2.2.2.2.2.1.trans (Cert.ProjIdeal.Value.arrGa m c), (h c).2.2.2.2.2.2.2.2.2.1.trans (Cert.ProjIdeal.Value.arrGb m c),
      (h c).2.2.2.2.2.2.2.2.2.2⟩) (Cert.ProjIdeal.Value.run_blocks (F := Ideal) m ρ)
  · refine (θ_run _ _ _).mono (fun _ h c => ⟨(h c).1.trans ?_, (h c).2.1.trans ?_, (h c).2.2.1.trans ?_, (h c).2.2.2.1.trans ?_, (h c).2.2.2.2.1.trans ?_,
      (h c).2.2.2.2.2.1.trans ?_, (h c).2.2.2.2.2.2⟩) (Cert.ProjReferenceIdeal.Value.run_ref m' ρ')
    all_goals
      obtain ⟨h0, h1, h2, h3, h4, h5, h6⟩ := hagree c
    · rw [h0, h1, h2, h5]
      rfl
    all_goals
      rw [h0, h1, h2]
      rfl

end Cert.LayerProj
end
-- ==== Proof.SampPoint.lean ====
/-
  What the projection kernel stores at a grid point, as the functions of its inputs.
-/
module

public import proofs.«01_k».proof.Proof.Gen.SampIdeal.Frame
public import Idealize.ShloMosaic.Lib.Pipeline.ValueKit

@[expose] public section
set_option maxRecDepth 16384
noncomputable section
namespace Cert.SampIdeal.Value
open Cert.SampIdeal Cert.SampIdeal.Gen Idealize.ShloMosaic Idealize.ShloMosaic.TcCoe Idealize.SL.Sem
variable {F : FTy → Type} [FloatOps F]

theorem zz : (![0, 0] : Fin 2 → Nat) = fun _ => 0 := funext fun a => by fin_cases a <;> rfl
theorem zzz : (![0, 0, 0] : Fin 3 → Nat) = fun _ => 0 := funext fun a => by fin_cases a <;> rfl

/-- The normed rows of the tile. -/
abbrev hnK (x0 : Vec F S256x1024 .f32) (x1 : Vec F S1x1024 .f32) : FVec F S256x1024 .bf16 := k0_pay2 x0 x1

/-- The tile's keys, values and positional part, columns first. -/
abbrev ytK (x0 : Vec F S256x1024 .f32) (x1 : Vec F S1x1024 .f32) (x3 : Vec F S1056x1024 .bf16) : FVec F S1056x256 .f32 := k0_pay52 (k0_pay2 x0 x1) x3

/-- The pieces the block-attention keys of a tile are stored in. -/
def ktL (hn : FVec F S256x1024 .bf16) (w : Vec F S1056x1024 .bf16) (T : Vec F S16x256 .f32) : List (View.Piece (Elt F) S1x512x256 .f32) :=
  [⟨(Rect.unit (s := S1x512x256) ![0, 464, 0] ![1, 48, 256] inb_S1x512x256_S1x48x256_0_464_0), k0_pay95 (k0_pay52 hn w)⟩,
    ⟨(Rect.unit (s := S1x512x256) ![0, 456, 0] ![1, 8, 256] inb_S1x512x256_S1x8x256_0_456_0), k0_pay94 (k0_pay54 T) (k0_pay55 T) (k0_pay91 (k0_pay52 hn w)) (k0_pay92 (k0_pay52 hn w))⟩,
    ⟨(Rect.unit (s := S1x512x256) ![0, 448, 0] ![1, 8, 256] inb_S1x512x256_S1x8x256_0_448_0), k0_pay93 (k0_pay54 T) (k0_pay55 T) (k0_pay91 (k0_pay52 hn w)) (k0_pay92 (k0_pay52 hn w))⟩,
    ⟨(Rect.unit (s := S1x512x256) ![0, 400, 0] ![1, 48, 256] inb_S1x512x256_S1x48x256_0_400_0), k0_pay90 (k0_pay52 hn w)⟩,
    ⟨(Rect.unit (s := S1x512x256) ![0, 392, 0] ![1, 8, 256] inb_S1x512x256_S1x8x256_0_392_0), k0_pay89 (k0_pay52 hn w) (k0_pay54 T) (k0_pay55 T)⟩,
    ⟨(Rect.unit (s := S1x512x256) ![0, 384, 0] ![1, 8, 256] inb_S1x512x256_S1x8x256_0_384_0), k0_pay88 (k0_pay52 hn w) (k0_pay54 T) (k0_pay55 T)⟩,
    ⟨(Rect.unit (s := S1x512x256) ![0, 336, 0] ![1, 48, 256] inb_S1x512x256_S1x48x256_0_336_0), k0_pay85 (k0_pay52 hn w)⟩,
    ⟨(Rect.unit (s := S1x512x256) ![0, 328, 0] ![1, 8, 256] inb_S1x512x256_S1x8x256_0_328_0), k0_pay84 (k0_pay54 T) (k0_pay55 T) (k0_pay81 (k0_pay52 hn w)) (k0_pay82 (k0_pay52 hn w))⟩,
    ⟨(Rect.unit (s := S1x512x256) ![0, 320, 0] ![1, 8, 256] inb_S1x512x256_S1x8x256_0_320_0), k0_pay83 (k0_pay54 T) (k0_pay55 T) (k0_pay81 (k0_pay52 hn w)) (k0_pay82 (k0_pay52 hn w))⟩,
    ⟨(Rect.unit (s := S1x512x256) ![0, 272, 0] ![1, 48, 256] inb_S1x512x256_S1x48x256_0_272_0), k0_pay80 (k0_pay52 hn w)⟩,
    ⟨(Rect.unit (s := S1x512x256) ![0, 264, 0] ![1, 8, 256] inb_S1x512x256_S1x8x256_0_264_0), k0_pay79 (k0_pay52 hn w) (k0_pay54 T) (k0_pay55 T)⟩,
    ⟨(Rect.unit (s := S1x512x256) ![0, 256, 0] ![1, 8, 256] inb_S1x512x256_S1x8x256_0_256_0), k0_pay78 (k0_pay52 hn w) (k0_pay54 T) (k0_pay55 T)⟩,
    ⟨(Rect.unit (s := S1x512x256) ![0, 208, 0] ![1, 48, 256] inb_S1x512x256_S1x48x256_0_208_0), k0_pay75 (k0_pay52 hn w)⟩,
    ⟨(Rect.unit (s := S1x512x256) ![0, 200, 0] ![1, 8, 256] inb_S1x512x256_S1x8x256_0_200_0), k0_pay74 (k0_pay54 T) (k0_pay55 T) (k0_pay71 (k0_pay52 hn w)) (k0_pay72 (k0_pay52 hn w))⟩,
    ⟨(Rect.unit (s := S1x512x256) ![0, 192, 0] ![1, 8, 256] inb_S1x512x256_S1x8x256_0_192_0), k0_pay73 (k0_pay54 T) (k0_pay55 T) (k0_pay71 (k0_pay52 hn w)) (k0_pay72 (k0_pay52 hn w))⟩,
    ⟨(Rect.unit (s := S1x512x256) ![0, 144, 0] ![1, 48, 256] inb_S1x512x256_S1x48x256_0_144_0), k0_pay70 (k0_pay52 hn w)⟩,
    ⟨(Rect.unit (s := S1x512x256) ![0, 136, 0] ![1, 8, 256] inb_S1x512x256_S1x8x256_0_136_0), k0_pay69 (k0_pay52 hn w) (k0_pay54 T) (k0_pay55 T)⟩,
    ⟨(Rect.unit (s := S1x512x256) ![0, 128, 0] ![1, 8, 256] inb_S1x512x256_S1x8x256_0_128_0), k0_pay68 (k0_pay52 hn w) (k0_pay54 T) (k0_pay55 T)⟩,
    ⟨(Rect.unit (s := S1x512x256) ![0, 80, 0] ![1, 48, 256] inb_S1x512x256_S1x48x256_0_80_0), k0_pay65 (k0_pay52 hn w)⟩,
    ⟨(Rect.unit (s := S1x512x256) ![0, 72, 0] ![1, 8, 256] inb_S1x512x256_S1x8x256_0_72_0), k0_pay64 (k0_pay54 T) (k0_pay55 T) (k0_pay61 hn w) (k0_pay62 hn w)⟩,
    ⟨(Rect.unit (s := S1x512x256) ![0, 64, 0] ![1, 8, 256] inb_S1x512x256_S1x8x256_0_64_0), k0_pay63 (k0_pay54 T) (k0_pay55 T) (k0_pay61 hn w) (k0_pay62 hn w)⟩,
    ⟨(Rect.unit (s := S1x512x256) ![0, 16, 0] ![1, 48, 256] inb_S1x512x256_S1x48x256_0_16_0), k0_pay60 hn w⟩,
    ⟨(Rect.unit (s := S1x512x256) ![0, 8, 0] ![1, 8, 256] inb_S1x512x256_S1x8x256_0_8_0), k0_pay59 hn w T⟩,
    ⟨(Rect.unit (s := S1x512x256) ![0, 0, 0] ![1, 8, 256] inb_S1x512x256_S1x8x256_0_0_0), k0_pay58 hn w T⟩]

theorem ldx {e : EltTy} (X : S256x1024.Idx → Elt F e) : View.ld X (Rect.unit (s := S256x1024) ![0, 0] ![256, 1024] inb_S256x1024_S256x1024_0_0) = X := View.ld_unit_zero zz _ X
theorem ldg {e : EltTy} (X : S1x1024.Idx → Elt F e) : View.ld X (Rect.unit (s := S1x1024) ![0, 0] ![1, 1024] inb_S1x1024_S1x1024_0_0) = X := View.ld_unit_zero zz _ X
theorem ldwt {e : EltTy} (X : S1056x1024.Idx → Elt F e) : View.ld X (Rect.unit (s := S1056x1024) ![0, 0] ![1056, 1024] inb_S1056x1024_S1056x1024_0_0) = X := View.ld_unit_zero zz _ X
theorem ldgkv {e : EltTy} (X : S1x256.Idx → Elt F e) : View.ld X (Rect.unit (s := S1x256) ![0, 0] ![1, 256] inb_S1x256_S1x256_0_0) = X := View.ld_unit_zero zz _ X
theorem ldt10 {e : EltTy} (X : S16x256.Idx → Elt F e) : View.ld X (Rect.unit (s := S16x256) ![0, 0] ![16, 256] inb_S16x256_S16x256_0_0) = X := View.ld_unit_zero zz _ X
theorem ldt11 {e : EltTy} (X : S32x256.Idx → Elt F e) : View.ld X (Rect.unit (s := S32x256) ![0, 0] ![32, 256] inb_S32x256_S32x256_0_0) = X := View.ld_unit_zero zz _ X

set_option maxHeartbeats 4000000 in
theorem out0_A_12_eq (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3456 .bf16) (harg3 : arg3.IsWhole) (arg4 : Memref sig .tc .vmem S1056x1024 .bf16) (harg4 : arg4.IsWhole) (arg5 : Memref sig .tc .vmem S1x512 .f32) (harg5 : arg5.IsWhole) (arg6 : Memref sig .tc .vmem S512x768 .bf16) (harg6 : arg6.IsWhole) (arg7 : Memref sig .tc .vmem S1x256 .f32) (harg7 : arg7.IsWhole) (arg8 : Memref sig .tc .vmem S4x128x512 .bf16) (harg8 : arg8.IsWhole) (arg9 : Memref sig .tc .vmem S256x384 .f32) (harg9 : arg9.IsWhole) (arg10 : Memref sig .tc .vmem S256x384 .f32) (harg10 : arg10.IsWhole) (arg11 : Memref sig .tc .vmem S16x256 .f32) (harg11 : arg11.IsWhole) (arg12 : Memref sig .tc .vmem S32x256 .f32) (harg12 : arg12.IsWhole) (arg13 : Memref sig .tc .vmem S256x256 .f32) (harg13 : arg13.IsWhole) (arg14 : Memref sig .tc .vmem S256x384 .bf16) (harg14 : arg14.IsWhole) (arg15 : Memref sig .tc .vmem S1x1x256x256 .bf16) (harg15 : arg15.IsWhole) (arg16 : Memref sig .tc .vmem S1x32x256 .f32) (harg16 : arg16.IsWhole) (arg17 : Memref sig .tc .vmem S1x512x256 .f32) (harg17 : arg17.IsWhole) (arg18 : Memref sig .tc .vmem S1x512x256 .f32) (harg18 : arg18.IsWhole) (arg19 : Memref sig .tc .vmem S256x512 .bf16) (harg19 : arg19.IsWhole) (arg20 : Memref sig .tc .vmem S1x8x256x384 .bf16) (harg20 : arg20.IsWhole) (arg21 : Memref sig .tc .vmem S256x1024 .f32) (harg21 : arg21.IsWhole) (arg22 : Memref sig .tc .vmem S256x1024 .f32) (harg22 : arg22.IsWhole)
    (x0 : Vec F S256x1024 .f32) (x1 : Vec F S1x1024 .f32) (x2 : Vec F S1024x3456 .bf16) (x3 : Vec F S1056x1024 .bf16) (x4 : Vec F S1x512 .f32) (x5 : Vec F S512x768 .bf16) (x6 : Vec F S1x256 .f32) (x7 : Vec F S4x128x512 .bf16) (x8 : Vec F S256x384 .f32) (x9 : Vec F S256x384 .f32) (x10 : Vec F S16x256 .f32) (x11 : Vec F S32x256 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 = k0_pay9 (k0_pay4 x0 x1 (View.ld x2 (Rect.unit (s := S1024x3456) ![0, 512] ![1024, 256] inb_S1024x3456_S1024x256_0_512))) x6 := by
  unfold out0_A_12 kernelRun0_A
  dsimp only
  rw [View.read_writes_junk_eq_canon, View.canon_cons_unit_zero zz]
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, ldg, ldwt, ldgkv, ldt10, ldt11, ldx]

set_option maxHeartbeats 4000000 in
theorem out0_A_15_eq (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3456 .bf16) (harg3 : arg3.IsWhole) (arg4 : Memref sig .tc .vmem S1056x1024 .bf16) (harg4 : arg4.IsWhole) (arg5 : Memref sig .tc .vmem S1x512 .f32) (harg5 : arg5.IsWhole) (arg6 : Memref sig .tc .vmem S512x768 .bf16) (harg6 : arg6.IsWhole) (arg7 : Memref sig .tc .vmem S1x256 .f32) (harg7 : arg7.IsWhole) (arg8 : Memref sig .tc .vmem S4x128x512 .bf16) (harg8 : arg8.IsWhole) (arg9 : Memref sig .tc .vmem S256x384 .f32) (harg9 : arg9.IsWhole) (arg10 : Memref sig .tc .vmem S256x384 .f32) (harg10 : arg10.IsWhole) (arg11 : Memref sig .tc .vmem S16x256 .f32) (harg11 : arg11.IsWhole) (arg12 : Memref sig .tc .vmem S32x256 .f32) (harg12 : arg12.IsWhole) (arg13 : Memref sig .tc .vmem S256x256 .f32) (harg13 : arg13.IsWhole) (arg14 : Memref sig .tc .vmem S256x384 .bf16) (harg14 : arg14.IsWhole) (arg15 : Memref sig .tc .vmem S1x1x256x256 .bf16) (harg15 : arg15.IsWhole) (arg16 : Memref sig .tc .vmem S1x32x256 .f32) (harg16 : arg16.IsWhole) (arg17 : Memref sig .tc .vmem S1x512x256 .f32) (harg17 : arg17.IsWhole) (arg18 : Memref sig .tc .vmem S1x512x256 .f32) (harg18 : arg18.IsWhole) (arg19 : Memref sig .tc .vmem S256x512 .bf16) (harg19 : arg19.IsWhole) (arg20 : Memref sig .tc .vmem S1x8x256x384 .bf16) (harg20 : arg20.IsWhole) (arg21 : Memref sig .tc .vmem S256x1024 .f32) (harg21 : arg21.IsWhole) (arg22 : Memref sig .tc .vmem S256x1024 .f32) (harg22 : arg22.IsWhole)
    (x0 : Vec F S256x1024 .f32) (x1 : Vec F S1x1024 .f32) (x2 : Vec F S1024x3456 .bf16) (x3 : Vec F S1056x1024 .bf16) (x4 : Vec F S1x512 .f32) (x5 : Vec F S512x768 .bf16) (x6 : Vec F S1x256 .f32) (x7 : Vec F S4x128x512 .bf16) (x8 : Vec F S256x384 .f32) (x9 : Vec F S256x384 .f32) (x10 : Vec F S16x256 .f32) (x11 : Vec F S32x256 .f32) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 = k0_pay1 (k0_pay99 x11) (k0_pay100 (ytK x0 x1 x3)) (k0_pay102 (ytK x0 x1 x3) x11) (k0_pay103 (ytK x0 x1 x3) x11) := by
  unfold out0_A_15 kernelRun0_A
  dsimp only
  rw [View.read_writes_junk_eq_canon, View.canon_cons_unit_zero zzz]
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, ldg, ldwt, ldgkv, ldt10, ldt11, ldx]

set_option maxHeartbeats 4000000 in
theorem out0_A_17_eq (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3456 .bf16) (harg3 : arg3.IsWhole) (arg4 : Memref sig .tc .vmem S1056x1024 .bf16) (harg4 : arg4.IsWhole) (arg5 : Memref sig .tc .vmem S1x512 .f32) (harg5 : arg5.IsWhole) (arg6 : Memref sig .tc .vmem S512x768 .bf16) (harg6 : arg6.IsWhole) (arg7 : Memref sig .tc .vmem S1x256 .f32) (harg7 : arg7.IsWhole) (arg8 : Memref sig .tc .vmem S4x128x512 .bf16) (harg8 : arg8.IsWhole) (arg9 : Memref sig .tc .vmem S256x384 .f32) (harg9 : arg9.IsWhole) (arg10 : Memref sig .tc .vmem S256x384 .f32) (harg10 : arg10.IsWhole) (arg11 : Memref sig .tc .vmem S16x256 .f32) (harg11 : arg11.IsWhole) (arg12 : Memref sig .tc .vmem S32x256 .f32) (harg12 : arg12.IsWhole) (arg13 : Memref sig .tc .vmem S256x256 .f32) (harg13 : arg13.IsWhole) (arg14 : Memref sig .tc .vmem S256x384 .bf16) (harg14 : arg14.IsWhole) (arg15 : Memref sig .tc .vmem S1x1x256x256 .bf16) (harg15 : arg15.IsWhole) (arg16 : Memref sig .tc .vmem S1x32x256 .f32) (harg16 : arg16.IsWhole) (arg17 : Memref sig .tc .vmem S1x512x256 .f32) (harg17 : arg17.IsWhole) (arg18 : Memref sig .tc .vmem S1x512x256 .f32) (harg18 : arg18.IsWhole) (arg19 : Memref sig .tc .vmem S256x512 .bf16) (harg19 : arg19.IsWhole) (arg20 : Memref sig .tc .vmem S1x8x256x384 .bf16) (harg20 : arg20.IsWhole) (arg21 : Memref sig .tc .vmem S256x1024 .f32) (harg21 : arg21.IsWhole) (arg22 : Memref sig .tc .vmem S256x1024 .f32) (harg22 : arg22.IsWhole)
    (x0 : Vec F S256x1024 .f32) (x1 : Vec F S1x1024 .f32) (x2 : Vec F S1024x3456 .bf16) (x3 : Vec F S1056x1024 .bf16) (x4 : Vec F S1x512 .f32) (x5 : Vec F S512x768 .bf16) (x6 : Vec F S1x256 .f32) (x7 : Vec F S4x128x512 .bf16) (x8 : Vec F S256x384 .f32) (x9 : Vec F S256x384 .f32) (x10 : Vec F S16x256 .f32) (x11 : Vec F S32x256 .f32) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 = k0_pay96 (ytK x0 x1 x3) := by
  unfold out0_A_17 kernelRun0_A
  dsimp only
  rw [View.read_writes_junk_eq_canon, View.canon_cons_unit_zero zzz]
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, ldg, ldwt, ldgkv, ldt10, ldt11, ldx]

set_option maxHeartbeats 4000000 in
theorem out0_A_20_eq (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3456 .bf16) (harg3 : arg3.IsWhole) (arg4 : Memref sig .tc .vmem S1056x1024 .bf16) (harg4 : arg4.IsWhole) (arg5 : Memref sig .tc .vmem S1x512 .f32) (harg5 : arg5.IsWhole) (arg6 : Memref sig .tc .vmem S512x768 .bf16) (harg6 : arg6.IsWhole) (arg7 : Memref sig .tc .vmem S1x256 .f32) (harg7 : arg7.IsWhole) (arg8 : Memref sig .tc .vmem S4x128x512 .bf16) (harg8 : arg8.IsWhole) (arg9 : Memref sig .tc .vmem S256x384 .f32) (harg9 : arg9.IsWhole) (arg10 : Memref sig .tc .vmem S256x384 .f32) (harg10 : arg10.IsWhole) (arg11 : Memref sig .tc .vmem S16x256 .f32) (harg11 : arg11.IsWhole) (arg12 : Memref sig .tc .vmem S32x256 .f32) (harg12 : arg12.IsWhole) (arg13 : Memref sig .tc .vmem S256x256 .f32) (harg13 : arg13.IsWhole) (arg14 : Memref sig .tc .vmem S256x384 .bf16) (harg14 : arg14.IsWhole) (arg15 : Memref sig .tc .vmem S1x1x256x256 .bf16) (harg15 : arg15.IsWhole) (arg16 : Memref sig .tc .vmem S1x32x256 .f32) (harg16 : arg16.IsWhole) (arg17 : Memref sig .tc .vmem S1x512x256 .f32) (harg17 : arg17.IsWhole) (arg18 : Memref sig .tc .vmem S1x512x256 .f32) (harg18 : arg18.IsWhole) (arg19 : Memref sig .tc .vmem S256x512 .bf16) (harg19 : arg19.IsWhole) (arg20 : Memref sig .tc .vmem S1x8x256x384 .bf16) (harg20 : arg20.IsWhole) (arg21 : Memref sig .tc .vmem S256x1024 .f32) (harg21 : arg21.IsWhole) (arg22 : Memref sig .tc .vmem S256x1024 .f32) (harg22 : arg22.IsWhole)
    (x0 : Vec F S256x1024 .f32) (x1 : Vec F S1x1024 .f32) (x2 : Vec F S1024x3456 .bf16) (x3 : Vec F S1056x1024 .bf16) (x4 : Vec F S1x512 .f32) (x5 : Vec F S512x768 .bf16) (x6 : Vec F S1x256 .f32) (x7 : Vec F S4x128x512 .bf16) (x8 : Vec F S256x384 .f32) (x9 : Vec F S256x384 .f32) (x10 : Vec F S16x256 .f32) (x11 : Vec F S32x256 .f32) :
    out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 = k0_pay7 x0 x1 (View.ld x2 (Rect.unit (s := S1024x3456) ![0, 1408] ![1024, 1024] inb_S1024x3456_S1024x1024_0_1408)) := by
  unfold out0_A_20 kernelRun0_A
  dsimp only
  rw [View.read_writes_junk_eq_canon, View.canon_cons_unit_zero zz]
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, ldg, ldwt, ldgkv, ldt10, ldt11, ldx]

set_option maxHeartbeats 4000000 in
theorem out0_A_21_eq (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3456 .bf16) (harg3 : arg3.IsWhole) (arg4 : Memref sig .tc .vmem S1056x1024 .bf16) (harg4 : arg4.IsWhole) (arg5 : Memref sig .tc .vmem S1x512 .f32) (harg5 : arg5.IsWhole) (arg6 : Memref sig .tc .vmem S512x768 .bf16) (harg6 : arg6.IsWhole) (arg7 : Memref sig .tc .vmem S1x256 .f32) (harg7 : arg7.IsWhole) (arg8 : Memref sig .tc .vmem S4x128x512 .bf16) (harg8 : arg8.IsWhole) (arg9 : Memref sig .tc .vmem S256x384 .f32) (harg9 : arg9.IsWhole) (arg10 : Memref sig .tc .vmem S256x384 .f32) (harg10 : arg10.IsWhole) (arg11 : Memref sig .tc .vmem S16x256 .f32) (harg11 : arg11.IsWhole) (arg12 : Memref sig .tc .vmem S32x256 .f32) (harg12 : arg12.IsWhole) (arg13 : Memref sig .tc .vmem S256x256 .f32) (harg13 : arg13.IsWhole) (arg14 : Memref sig .tc .vmem S256x384 .bf16) (harg14 : arg14.IsWhole) (arg15 : Memref sig .tc .vmem S1x1x256x256 .bf16) (harg15 : arg15.IsWhole) (arg16 : Memref sig .tc .vmem S1x32x256 .f32) (harg16 : arg16.IsWhole) (arg17 : Memref sig .tc .vmem S1x512x256 .f32) (harg17 : arg17.IsWhole) (arg18 : Memref sig .tc .vmem S1x512x256 .f32) (harg18 : arg18.IsWhole) (arg19 : Memref sig .tc .vmem S256x512 .bf16) (harg19 : arg19.IsWhole) (arg20 : Memref sig .tc .vmem S1x8x256x384 .bf16) (harg20 : arg20.IsWhole) (arg21 : Memref sig .tc .vmem S256x1024 .f32) (harg21 : arg21.IsWhole) (arg22 : Memref sig .tc .vmem S256x1024 .f32) (harg22 : arg22.IsWhole)
    (x0 : Vec F S256x1024 .f32) (x1 : Vec F S1x1024 .f32) (x2 : Vec F S1024x3456 .bf16) (x3 : Vec F S1056x1024 .bf16) (x4 : Vec F S1x512 .f32) (x5 : Vec F S512x768 .bf16) (x6 : Vec F S1x256 .f32) (x7 : Vec F S4x128x512 .bf16) (x8 : Vec F S256x384 .f32) (x9 : Vec F S256x384 .f32) (x10 : Vec F S16x256 .f32) (x11 : Vec F S32x256 .f32) :
    out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 = k0_pay8 (hnK x0 x1) (View.ld x2 (Rect.unit (s := S1024x3456) ![0, 2432] ![1024, 1024] inb_S1024x3456_S1024x1024_0_2432)) := by
  unfold out0_A_21 kernelRun0_A
  dsimp only
  rw [View.read_writes_junk_eq_canon, View.canon_cons_unit_zero zz]
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, ldg, ldwt, ldgkv, ldt10, ldt11, ldx]

set_option maxHeartbeats 4000000 in
theorem out0_A_16_eq (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3456 .bf16) (harg3 : arg3.IsWhole) (arg4 : Memref sig .tc .vmem S1056x1024 .bf16) (harg4 : arg4.IsWhole) (arg5 : Memref sig .tc .vmem S1x512 .f32) (harg5 : arg5.IsWhole) (arg6 : Memref sig .tc .vmem S512x768 .bf16) (harg6 : arg6.IsWhole) (arg7 : Memref sig .tc .vmem S1x256 .f32) (harg7 : arg7.IsWhole) (arg8 : Memref sig .tc .vmem S4x128x512 .bf16) (harg8 : arg8.IsWhole) (arg9 : Memref sig .tc .vmem S256x384 .f32) (harg9 : arg9.IsWhole) (arg10 : Memref sig .tc .vmem S256x384 .f32) (harg10 : arg10.IsWhole) (arg11 : Memref sig .tc .vmem S16x256 .f32) (harg11 : arg11.IsWhole) (arg12 : Memref sig .tc .vmem S32x256 .f32) (harg12 : arg12.IsWhole) (arg13 : Memref sig .tc .vmem S256x256 .f32) (harg13 : arg13.IsWhole) (arg14 : Memref sig .tc .vmem S256x384 .bf16) (harg14 : arg14.IsWhole) (arg15 : Memref sig .tc .vmem S1x1x256x256 .bf16) (harg15 : arg15.IsWhole) (arg16 : Memref sig .tc .vmem S1x32x256 .f32) (harg16 : arg16.IsWhole) (arg17 : Memref sig .tc .vmem S1x512x256 .f32) (harg17 : arg17.IsWhole) (arg18 : Memref sig .tc .vmem S1x512x256 .f32) (harg18 : arg18.IsWhole) (arg19 : Memref sig .tc .vmem S256x512 .bf16) (harg19 : arg19.IsWhole) (arg20 : Memref sig .tc .vmem S1x8x256x384 .bf16) (harg20 : arg20.IsWhole) (arg21 : Memref sig .tc .vmem S256x1024 .f32) (harg21 : arg21.IsWhole) (arg22 : Memref sig .tc .vmem S256x1024 .f32) (harg22 : arg22.IsWhole)
    (x0 : Vec F S256x1024 .f32) (x1 : Vec F S1x1024 .f32) (x2 : Vec F S1024x3456 .bf16) (x3 : Vec F S1056x1024 .bf16) (x4 : Vec F S1x512 .f32) (x5 : Vec F S512x768 .bf16) (x6 : Vec F S1x256 .f32) (x7 : Vec F S4x128x512 .bf16) (x8 : Vec F S256x384 .f32) (x9 : Vec F S256x384 .f32) (x10 : Vec F S16x256 .f32) (x11 : Vec F S32x256 .f32) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 = View.canon (ktL (hnK x0 x1) x3 x10) := by
  unfold out0_A_16 kernelRun0_A
  dsimp only
  rw [View.read_writes_junk_eq_canon]
  unfold ktL
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, ldg, ldwt, ldgkv, ldt10, ldt11, ldx]

end Cert.SampIdeal.Value
end
-- ==== Proof.SampVal.lean ====
/-
  The projection kernel's payloads, read at a row or a column of a tile.
-/
module

public import proofs.«01_k».proof.Proof.Gen.SampIdeal.Frame
public import Idealize.ShloMosaic.Lib.Pipeline.ValueKit
public import proofs.«01_k».proof.Proof.SampPoint
public import proofs.«01_k».proof.Proof.ProjMath
public import Idealize.ShloMosaic.Lib.Pointwise

@[expose] public section
set_option maxRecDepth 16384
noncomputable section
namespace Cert.SampIdeal.Value
open Cert.SampIdeal Cert.SampIdeal.Gen Idealize.ShloMosaic Idealize.ShloMosaic.TcCoe Idealize.SL.Sem
open Cert.TailMath Cert.ProjMath

/-- The normed rows. -/
theorem hn_apply (x : Vec Ideal S256x1024 .f32) (g : Vec Ideal S1x1024 .f32) (p : Fin 256) (k : Fin 1024) :
    k0_pay2 x g (ix2 p k) = rms (fun j => x (ix2 p j)) (fun j => g (ix2 0 j)) k := by
  pointwise [k0_pay2, rms]

/-- The key and value latents before their norm. -/
theorem lat_apply (x : Vec Ideal S256x1024 .f32) (g : Vec Ideal S1x1024 .f32) (w : Vec Ideal S1024x256 .bf16) (p j : Fin 256) :
    k0_pay4 x g w (ix2 p j) = col (fun j => x (ix2 p j)) (fun j => g (ix2 0 j)) (fun k => w (ix2 k j)) := by
  unfold col
  simp only [← hn_apply]
  pointwise [k0_pay4]

/-- The normed latents. -/
theorem ckv_apply (y : FVec Ideal S256x256 .f32) (g : Vec Ideal S1x256 .f32) (p j : Fin 256) :
    k0_pay9 y g (ix2 p j) = rmsL (fun j => y (ix2 p j)) (fun j => g (ix2 0 j)) j := by
  pointwise [k0_pay9, rmsL]

/-- The two gates. -/
theorem ga_apply (x : Vec Ideal S256x1024 .f32) (g : Vec Ideal S1x1024 .f32) (w : Vec Ideal S1024x1024 .bf16) (p : Fin 256) (j : Fin 1024) :
    k0_pay7 x g w (ix2 p j) = Ideal.logistic (col (fun j => x (ix2 p j)) (fun j => g (ix2 0 j)) (fun k => w (ix2 k j))) := by
  unfold col
  simp only [← hn_apply]
  pointwise [k0_pay7]

theorem gb_apply (x : Vec Ideal S256x1024 .f32) (g : Vec Ideal S1x1024 .f32) (w : Vec Ideal S1024x1024 .bf16) (p : Fin 256) (j : Fin 1024) :
    k0_pay8 (k0_pay2 x g) w (ix2 p j) = Ideal.logistic (col (fun j => x (ix2 p j)) (fun j => g (ix2 0 j)) (fun k => w (ix2 k j))) := by
  unfold col
  simp only [← hn_apply]
  pointwise [k0_pay8]

/-- The columns-first product. -/
theorem yt_apply (x : Vec Ideal S256x1024 .f32) (g : Vec Ideal S1x1024 .f32) (w : Vec Ideal S1056x1024 .bf16) (r : Fin 1056) (p : Fin 256) :
    k0_pay52 (k0_pay2 x g) w (ix2 r p) = col (fun j => x (ix2 p j)) (fun j => g (ix2 0 j)) (fun k => w (ix2 r k)) := by
  unfold col
  simp only [← hn_apply]
  have e : k0_pay52 (k0_pay2 x g) w (ix2 r p) = ∑ k : Fin 1024, w (ix2 r k) * k0_pay2 x g (ix2 p k) := by
    pointwise [k0_pay52]
  rw [e]
  exact Finset.sum_congr rfl fun k _ => mul_comm _ _

/-- The values. -/
theorem vt_apply (Y : FVec Ideal S1056x256 .f32) (r : Fin 512) (p : Fin 256) :
    k0_pay96 Y (ix3 0 r p) = Y (ix2 ⟨512 + r.val, by omega⟩ p) := by
  pointwise [k0_pay96]

/-- The two halves of the positional keys. -/
theorem kr_lo (Y : FVec Ideal S1056x256 .f32) (T : Vec Ideal S32x256 .f32) (i : Fin 16) (p : Fin 256) :
    k0_pay1 (k0_pay99 T) (k0_pay100 Y) (k0_pay102 Y T) (k0_pay103 Y T) (ix3 0 (⟨i.val, by omega⟩ : Fin 32) p)
      = Y (ix2 ⟨1024 + i.val, by omega⟩ p) * T (ix2 ⟨i.val, by omega⟩ p) - Y (ix2 ⟨1040 + i.val, by omega⟩ p) * T (ix2 ⟨16 + i.val, by omega⟩ p) := by
  pointwise [k0_pay1, k0_pay99, k0_pay100, k0_pay102, k0_pay103, k0_pay101, k0_pay98, k0_pay97]

theorem kr_hi (Y : FVec Ideal S1056x256 .f32) (T : Vec Ideal S32x256 .f32) (i : Fin 16) (p : Fin 256) :
    k0_pay1 (k0_pay99 T) (k0_pay100 Y) (k0_pay102 Y T) (k0_pay103 Y T) (ix3 0 (⟨16 + i.val, by omega⟩ : Fin 32) p)
      = Y (ix2 ⟨1040 + i.val, by omega⟩ p) * T (ix2 ⟨i.val, by omega⟩ p) + Y (ix2 ⟨1024 + i.val, by omega⟩ p) * T (ix2 ⟨16 + i.val, by omega⟩ p) := by
  pointwise [k0_pay1, k0_pay99, k0_pay100, k0_pay102, k0_pay103, k0_pay101, k0_pay98, k0_pay97]

/-- A column of the block-attention keys: the first sixteen of every sixty-four are rotated. -/
def ktV (Y : FVec Ideal S1056x256 .f32) (T : Vec Ideal S16x256 .f32) (r : Fin 512) (p : Fin 256) : EReal :=
  if h1 : r.val % 64 < 8 then
    Y (ix2 ⟨r.val, by omega⟩ p) * T (ix2 ⟨r.val % 64, by omega⟩ p) - Y (ix2 ⟨r.val + 8, by omega⟩ p) * T (ix2 ⟨r.val % 64 + 8, by omega⟩ p)
  else if h2 : r.val % 64 < 16 then
    Y (ix2 ⟨r.val, by omega⟩ p) * T (ix2 ⟨r.val % 64 - 8, by omega⟩ p) + Y (ix2 ⟨r.val - 8, by omega⟩ p) * T (ix2 ⟨r.val % 64, by omega⟩ p)
  else Y (ix2 ⟨r.val, by omega⟩ p)

theorem at2 {m n : ℕ} (X : (Shape.mk 2 ![m, n]).Idx → EReal) {a b : Fin m} (p : Fin n) (h : a.val = b.val) : X (ix2 a p) = X (ix2 b p) :=
  congrArg (fun a => X (ix2 a p)) (Fin.ext h)

theorem ktV_lo (Y : FVec Ideal S1056x256 .f32) (T : Vec Ideal S16x256 .f32) (r : Fin 512) (p : Fin 256) (o : ℕ) (ho : o % 64 = 0) (i : Fin 8) (h : r.val = o + i.val)
    (a b : Fin 1056) (ha : a.val = o + i.val) (hb : b.val = o + 8 + i.val) (c d : Fin 16) (hc : c.val = i.val) (hd : d.val = 8 + i.val) :
    ktV Y T r p = Y (ix2 a p) * T (ix2 c p) - Y (ix2 b p) * T (ix2 d p) := by
  have hi := i.isLt
  unfold ktV
  rw [dif_pos (by omega)]
  exact congrArg₂ (· - ·) (congrArg₂ (· * ·) (at2 Y p (by show r.val = a.val; omega)) (at2 T p (by show r.val % 64 = c.val; omega)))
    (congrArg₂ (· * ·) (at2 Y p (by show r.val + 8 = b.val; omega)) (at2 T p (by show r.val % 64 + 8 = d.val; omega)))

theorem ktV_mid (Y : FVec Ideal S1056x256 .f32) (T : Vec Ideal S16x256 .f32) (r : Fin 512) (p : Fin 256) (o : ℕ) (ho : o % 64 = 0) (i : Fin 8) (h : r.val = o + 8 + i.val)
    (a b : Fin 1056) (ha : a.val = o + i.val) (hb : b.val = o + 8 + i.val) (c d : Fin 16) (hc : c.val = i.val) (hd : d.val = 8 + i.val) :
    ktV Y T r p = Y (ix2 b p) * T (ix2 c p) + Y (ix2 a p) * T (ix2 d p) := by
  have hi := i.isLt
  unfold ktV
  rw [dif_neg (by omega), dif_pos (by omega)]
  exact congrArg₂ (· + ·) (congrArg₂ (· * ·) (at2 Y p (by show r.val = b.val; omega)) (at2 T p (by show r.val % 64 - 8 = c.val; omega)))
    (congrArg₂ (· * ·) (at2 Y p (by show r.val - 8 = a.val; omega)) (at2 T p (by show r.val % 64 = d.val; omega)))

theorem ktV_hi (Y : FVec Ideal S1056x256 .f32) (T : Vec Ideal S16x256 .f32) (r : Fin 512) (p : Fin 256) (o : ℕ) (ho : o % 64 = 0) (i : Fin 48) (h : r.val = o + 16 + i.val)
    (a : Fin 1056) (ha : a.val = o + 16 + i.val) : ktV Y T r p = Y (ix2 a p) := by
  have hi := i.isLt
  unfold ktV
  rw [dif_neg (by omega), dif_neg (by omega)]
  exact at2 Y p (by show r.val = a.val; omega)

theorem kt0 (hn : FVec Ideal S256x1024 .bf16) (w : Vec Ideal S1056x1024 .bf16) (T : Vec Ideal S16x256 .f32) (i : Fin 8) (p : Fin 256) :
    k0_pay58 hn w T (ix3 0 i p) = k0_pay52 hn w (ix2 ⟨i.val, by omega⟩ p) * T (ix2 ⟨i.val, by omega⟩ p) - k0_pay52 hn w (ix2 ⟨8 + i.val, by omega⟩ p) * T (ix2 ⟨8 + i.val, by omega⟩ p) := by
  pointwise [k0_pay58, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt1 (hn : FVec Ideal S256x1024 .bf16) (w : Vec Ideal S1056x1024 .bf16) (T : Vec Ideal S16x256 .f32) (i : Fin 8) (p : Fin 256) :
    k0_pay59 hn w T (ix3 0 i p) = k0_pay52 hn w (ix2 ⟨8 + i.val, by omega⟩ p) * T (ix2 ⟨i.val, by omega⟩ p) + k0_pay52 hn w (ix2 ⟨i.val, by omega⟩ p) * T (ix2 ⟨8 + i.val, by omega⟩ p) := by
  pointwise [k0_pay59, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt2 (hn : FVec Ideal S256x1024 .bf16) (w : Vec Ideal S1056x1024 .bf16) (T : Vec Ideal S16x256 .f32) (i : Fin 48) (p : Fin 256) :
    k0_pay60 hn w (ix3 0 i p) = k0_pay52 hn w (ix2 ⟨16 + i.val, by omega⟩ p) := by
  pointwise [k0_pay60, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt3 (hn : FVec Ideal S256x1024 .bf16) (w : Vec Ideal S1056x1024 .bf16) (T : Vec Ideal S16x256 .f32) (i : Fin 8) (p : Fin 256) :
    k0_pay63 (k0_pay54 T) (k0_pay55 T) (k0_pay61 hn w) (k0_pay62 hn w) (ix3 0 i p) = k0_pay52 hn w (ix2 ⟨64 + i.val, by omega⟩ p) * T (ix2 ⟨i.val, by omega⟩ p) - k0_pay52 hn w (ix2 ⟨72 + i.val, by omega⟩ p) * T (ix2 ⟨8 + i.val, by omega⟩ p) := by
  pointwise [k0_pay63, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt4 (hn : FVec Ideal S256x1024 .bf16) (w : Vec Ideal S1056x1024 .bf16) (T : Vec Ideal S16x256 .f32) (i : Fin 8) (p : Fin 256) :
    k0_pay64 (k0_pay54 T) (k0_pay55 T) (k0_pay61 hn w) (k0_pay62 hn w) (ix3 0 i p) = k0_pay52 hn w (ix2 ⟨72 + i.val, by omega⟩ p) * T (ix2 ⟨i.val, by omega⟩ p) + k0_pay52 hn w (ix2 ⟨64 + i.val, by omega⟩ p) * T (ix2 ⟨8 + i.val, by omega⟩ p) := by
  pointwise [k0_pay64, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt5 (hn : FVec Ideal S256x1024 .bf16) (w : Vec Ideal S1056x1024 .bf16) (T : Vec Ideal S16x256 .f32) (i : Fin 48) (p : Fin 256) :
    k0_pay65 (k0_pay52 hn w) (ix3 0 i p) = k0_pay52 hn w (ix2 ⟨80 + i.val, by omega⟩ p) := by
  pointwise [k0_pay65, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt6 (hn : FVec Ideal S256x1024 .bf16) (w : Vec Ideal S1056x1024 .bf16) (T : Vec Ideal S16x256 .f32) (i : Fin 8) (p : Fin 256) :
    k0_pay68 (k0_pay52 hn w) (k0_pay54 T) (k0_pay55 T) (ix3 0 i p) = k0_pay52 hn w (ix2 ⟨128 + i.val, by omega⟩ p) * T (ix2 ⟨i.val, by omega⟩ p) - k0_pay52 hn w (ix2 ⟨136 + i.val, by omega⟩ p) * T (ix2 ⟨8 + i.val, by omega⟩ p) := by
  pointwise [k0_pay68, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt7 (hn : FVec Ideal S256x1024 .bf16) (w : Vec Ideal S1056x1024 .bf16) (T : Vec Ideal S16x256 .f32) (i : Fin 8) (p : Fin 256) :
    k0_pay69 (k0_pay52 hn w) (k0_pay54 T) (k0_pay55 T) (ix3 0 i p) = k0_pay52 hn w (ix2 ⟨136 + i.val, by omega⟩ p) * T (ix2 ⟨i.val, by omega⟩ p) + k0_pay52 hn w (ix2 ⟨128 + i.val, by omega⟩ p) * T (ix2 ⟨8 + i.val, by omega⟩ p) := by
  pointwise [k0_pay69, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt8 (hn : FVec Ideal S256x1024 .bf16) (w : Vec Ideal S1056x1024 .bf16) (T : Vec Ideal S16x256 .f32) (i : Fin 48) (p : Fin 256) :
    k0_pay70 (k0_pay52 hn w) (ix3 0 i p) = k0_pay52 hn w (ix2 ⟨144 + i.val, by omega⟩ p) := by
  pointwise [k0_pay70, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt9 (hn : FVec Ideal S256x1024 .bf16) (w : Vec Ideal S1056x1024 .bf16) (T : Vec Ideal S16x256 .f32) (i : Fin 8) (p : Fin 256) :
    k0_pay73 (k0_pay54 T) (k0_pay55 T) (k0_pay71 (k0_pay52 hn w)) (k0_pay72 (k0_pay52 hn w)) (ix3 0 i p) = k0_pay52 hn w (ix2 ⟨192 + i.val, by omega⟩ p) * T (ix2 ⟨i.val, by omega⟩ p) - k0_pay52 hn w (ix2 ⟨200 + i.val, by omega⟩ p) * T (ix2 ⟨8 + i.val, by omega⟩ p) := by
  pointwise [k0_pay73, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt10 (hn : FVec Ideal S256x1024 .bf16) (w : Vec Ideal S1056x1024 .bf16) (T : Vec Ideal S16x256 .f32) (i : Fin 8) (p : Fin 256) :
    k0_pay74 (k0_pay54 T) (k0_pay55 T) (k0_pay71 (k0_pay52 hn w)) (k0_pay72 (k0_pay52 hn w)) (ix3 0 i p) = k0_pay52 hn w (ix2 ⟨200 + i.val, by omega⟩ p) * T (ix2 ⟨i.val, by omega⟩ p) + k0_pay52 hn w (ix2 ⟨192 + i.val, by omega⟩ p) * T (ix2 ⟨8 + i.val, by omega⟩ p) := by
  pointwise [k0_pay74, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt11 (hn : FVec Ideal S256x1024 .bf16) (w : Vec Ideal S1056x1024 .bf16) (T : Vec Ideal S16x256 .f32) (i : Fin 48) (p : Fin 256) :
    k0_pay75 (k0_pay52 hn w) (ix3 0 i p) = k0_pay52 hn w (ix2 ⟨208 + i.val, by omega⟩ p) := by
  pointwise [k0_pay75, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt12 (hn : FVec Ideal S256x1024 .bf16) (w : Vec Ideal S1056x1024 .bf16) (T : Vec Ideal S16x256 .f32) (i : Fin 8) (p : Fin 256) :
    k0_pay78 (k0_pay52 hn w) (k0_pay54 T) (k0_pay55 T) (ix3 0 i p) = k0_pay52 hn w (ix2 ⟨256 + i.val, by omega⟩ p) * T (ix2 ⟨i.val, by omega⟩ p) - k0_pay52 hn w (ix2 ⟨264 + i.val, by omega⟩ p) * T (ix2 ⟨8 + i.val, by omega⟩ p) := by
  pointwise [k0_pay78, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt13 (hn : FVec Ideal S256x1024 .bf16) (w : Vec Ideal S1056x1024 .bf16) (T : Vec Ideal S16x256 .f32) (i : Fin 8) (p : Fin 256) :
    k0_pay79 (k0_pay52 hn w) (k0_pay54 T) (k0_pay55 T) (ix3 0 i p) = k0_pay52 hn w (ix2 ⟨264 + i.val, by omega⟩ p) * T (ix2 ⟨i.val, by omega⟩ p) + k0_pay52 hn w (ix2 ⟨256 + i.val, by omega⟩ p) * T (ix2 ⟨8 + i.val, by omega⟩ p) := by
  pointwise [k0_pay79, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt14 (hn : FVec Ideal S256x1024 .bf16) (w : Vec Ideal S1056x1024 .bf16) (T : Vec Ideal S16x256 .f32) (i : Fin 48) (p : Fin 256) :
    k0_pay80 (k0_pay52 hn w) (ix3 0 i p) = k0_pay52 hn w (ix2 ⟨272 + i.val, by omega⟩ p) := by
  pointwise [k0_pay80, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt15 (hn : FVec Ideal S256x1024 .bf16) (w : Vec Ideal S1056x1024 .bf16) (T : Vec Ideal S16x256 .f32) (i : Fin 8) (p : Fin 256) :
    k0_pay83 (k0_pay54 T) (k0_pay55 T) (k0_pay81 (k0_pay52 hn w)) (k0_pay82 (k0_pay52 hn w)) (ix3 0 i p) = k0_pay52 hn w (ix2 ⟨320 + i.val, by omega⟩ p) * T (ix2 ⟨i.val, by omega⟩ p) - k0_pay52 hn w (ix2 ⟨328 + i.val, by omega⟩ p) * T (ix2 ⟨8 + i.val, by omega⟩ p) := by
  pointwise [k0_pay83, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt16 (hn : FVec Ideal S256x1024 .bf16) (w : Vec Ideal S1056x1024 .bf16) (T : Vec Ideal S16x256 .f32) (i : Fin 8) (p : Fin 256) :
    k0_pay84 (k0_pay54 T) (k0_pay55 T) (k0_pay81 (k0_pay52 hn w)) (k0_pay82 (k0_pay52 hn w)) (ix3 0 i p) = k0_pay52 hn w (ix2 ⟨328 + i.val, by omega⟩ p) * T (ix2 ⟨i.val, by omega⟩ p) + k0_pay52 hn w (ix2 ⟨320 + i.val, by omega⟩ p) * T (ix2 ⟨8 + i.val, by omega⟩ p) := by
  pointwise [k0_pay84, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt17 (hn : FVec Ideal S256x1024 .bf16) (w : Vec Ideal S1056x1024 .bf16) (T : Vec Ideal S16x256 .f32) (i : Fin 48) (p : Fin 256) :
    k0_pay85 (k0_pay52 hn w) (ix3 0 i p) = k0_pay52 hn w (ix2 ⟨336 + i.val, by omega⟩ p) := by
  pointwise [k0_pay85, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt18 (hn : FVec Ideal S256x1024 .bf16) (w : Vec Ideal S1056x1024 .bf16) (T : Vec Ideal S16x256 .f32) (i : Fin 8) (p : Fin 256) :
    k0_pay88 (k0_pay52 hn w) (k0_pay54 T) (k0_pay55 T) (ix3 0 i p) = k0_pay52 hn w (ix2 ⟨384 + i.val, by omega⟩ p) * T (ix2 ⟨i.val, by omega⟩ p) - k0_pay52 hn w (ix2 ⟨392 + i.val, by omega⟩ p) * T (ix2 ⟨8 + i.val, by omega⟩ p) := by
  pointwise [k0_pay88, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt19 (hn : FVec Ideal S256x1024 .bf16) (w : Vec Ideal S1056x1024 .bf16) (T : Vec Ideal S16x256 .f32) (i : Fin 8) (p : Fin 256) :
    k0_pay89 (k0_pay52 hn w) (k0_pay54 T) (k0_pay55 T) (ix3 0 i p) = k0_pay52 hn w (ix2 ⟨392 + i.val, by omega⟩ p) * T (ix2 ⟨i.val, by omega⟩ p) + k0_pay52 hn w (ix2 ⟨384 + i.val, by omega⟩ p) * T (ix2 ⟨8 + i.val, by omega⟩ p) := by
  pointwise [k0_pay89, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt20 (hn : FVec Ideal S256x1024 .bf16) (w : Vec Ideal S1056x1024 .bf16) (T : Vec Ideal S16x256 .f32) (i : Fin 48) (p : Fin 256) :
    k0_pay90 (k0_pay52 hn w) (ix3 0 i p) = k0_pay52 hn w (ix2 ⟨400 + i.val, by omega⟩ p) := by
  pointwise [k0_pay90, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt21 (hn : FVec Ideal S256x1024 .bf16) (w : Vec Ideal S1056x1024 .bf16) (T : Vec Ideal S16x256 .f32) (i : Fin 8) (p : Fin 256) :
    k0_pay93 (k0_pay54 T) (k0_pay55 T) (k0_pay91 (k0_pay52 hn w)) (k0_pay92 (k0_pay52 hn w)) (ix3 0 i p) = k0_pay52 hn w (ix2 ⟨448 + i.val, by omega⟩ p) * T (ix2 ⟨i.val, by omega⟩ p) - k0_pay52 hn w (ix2 ⟨456 + i.val, by omega⟩ p) * T (ix2 ⟨8 + i.val, by omega⟩ p) := by
  pointwise [k0_pay93, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt22 (hn : FVec Ideal S256x1024 .bf16) (w : Vec Ideal S1056x1024 .bf16) (T : Vec Ideal S16x256 .f32) (i : Fin 8) (p : Fin 256) :
    k0_pay94 (k0_pay54 T) (k0_pay55 T) (k0_pay91 (k0_pay52 hn w)) (k0_pay92 (k0_pay52 hn w)) (ix3 0 i p) = k0_pay52 hn w (ix2 ⟨456 + i.val, by omega⟩ p) * T (ix2 ⟨i.val, by omega⟩ p) + k0_pay52 hn w (ix2 ⟨448 + i.val, by omega⟩ p) * T (ix2 ⟨8 + i.val, by omega⟩ p) := by
  pointwise [k0_pay94, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem kt23 (hn : FVec Ideal S256x1024 .bf16) (w : Vec Ideal S1056x1024 .bf16) (T : Vec Ideal S16x256 .f32) (i : Fin 48) (p : Fin 256) :
    k0_pay95 (k0_pay52 hn w) (ix3 0 i p) = k0_pay52 hn w (ix2 ⟨464 + i.val, by omega⟩ p) := by
  pointwise [k0_pay95, k0_pay53, k0_pay54, k0_pay55, k0_pay56, k0_pay57, k0_pay61, k0_pay62, k0_pay66, k0_pay67, k0_pay71, k0_pay72, k0_pay76, k0_pay77, k0_pay81, k0_pay82, k0_pay86, k0_pay87, k0_pay91, k0_pay92]

theorem ix3_eta {n : ℕ} (x : (Shape.mk 3 ![1, n, 256]).Idx) : x = ix3 (0 : Fin 1) (x 1) (x 2) := funext fun a => by
  fin_cases a
  · exact Fin.ext (by have := (x 0).isLt; show (x 0).val = 0; exact Nat.lt_one_iff.mp this)
  · rfl
  · rfl

theorem ktL_cover (hn : FVec Ideal S256x1024 .bf16) (w : Vec Ideal S1056x1024 .bf16) (T : Vec Ideal S16x256 .f32) (y : S1x512x256.Idx) :
    ∃ pc ∈ ktL hn w T, y ∈ pc.1.set :=
  View.cover_of_tiledBy (ktL hn w T) ![1, 8, 256] (by sl_kernel_rfl) y

/-- The block-attention keys of a tile. -/
theorem kt_apply (hn : FVec Ideal S256x1024 .bf16) (w : Vec Ideal S1056x1024 .bf16) (T : Vec Ideal S16x256 .f32) (r : Fin 512) (p : Fin 256) :
    View.canon (ktL hn w T) (ix3 0 r p) = ktV (k0_pay52 hn w) T r p := by
  have hc := ktL_cover hn w T (ix3 0 r p)
  unfold ktL at hc ⊢
  canon_tiles x hx using hc
  · obtain ⟨i, p', rfl⟩ : ∃ (i : Fin 48) (p' : Fin 256), x = ix3 0 i p' := ⟨x 1, x 2, ix3_eta x⟩
    have e1 : r.val = 464 + i.val := by first | assumption | (rw [Nat.zero_add]; assumption)
    obtain rfl : p = p' := Fin.ext (by first | assumption | (rw [← Nat.zero_add p'.val]; assumption))
    exact (kt23 hn w T i p).trans (ktV_hi _ _ r p 448 rfl i (by omega) ⟨464 + i.val, by omega⟩ (by first | rfl | omega | exact (Nat.zero_add _).symm)).symm
  · obtain ⟨i, p', rfl⟩ : ∃ (i : Fin 8) (p' : Fin 256), x = ix3 0 i p' := ⟨x 1, x 2, ix3_eta x⟩
    have e1 : r.val = 456 + i.val := by first | assumption | (rw [Nat.zero_add]; assumption)
    obtain rfl : p = p' := Fin.ext (by first | assumption | (rw [← Nat.zero_add p'.val]; assumption))
    exact (kt22 hn w T i p).trans (ktV_mid _ _ r p 448 rfl i (by omega) ⟨448 + i.val, by omega⟩ ⟨456 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm
  · obtain ⟨i, p', rfl⟩ : ∃ (i : Fin 8) (p' : Fin 256), x = ix3 0 i p' := ⟨x 1, x 2, ix3_eta x⟩
    have e1 : r.val = 448 + i.val := by first | assumption | (rw [Nat.zero_add]; assumption)
    obtain rfl : p = p' := Fin.ext (by first | assumption | (rw [← Nat.zero_add p'.val]; assumption))
    exact (kt21 hn w T i p).trans (ktV_lo _ _ r p 448 rfl i (by omega) ⟨448 + i.val, by omega⟩ ⟨456 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm
  · obtain ⟨i, p', rfl⟩ : ∃ (i : Fin 48) (p' : Fin 256), x = ix3 0 i p' := ⟨x 1, x 2, ix3_eta x⟩
    have e1 : r.val = 400 + i.val := by first | assumption | (rw [Nat.zero_add]; assumption)
    obtain rfl : p = p' := Fin.ext (by first | assumption | (rw [← Nat.zero_add p'.val]; assumption))
    exact (kt20 hn w T i p).trans (ktV_hi _ _ r p 384 rfl i (by omega) ⟨400 + i.val, by omega⟩ (by first | rfl | omega | exact (Nat.zero_add _).symm)).symm
  · obtain ⟨i, p', rfl⟩ : ∃ (i : Fin 8) (p' : Fin 256), x = ix3 0 i p' := ⟨x 1, x 2, ix3_eta x⟩
    have e1 : r.val = 392 + i.val := by first | assumption | (rw [Nat.zero_add]; assumption)
    obtain rfl : p = p' := Fin.ext (by first | assumption | (rw [← Nat.zero_add p'.val]; assumption))
    exact (kt19 hn w T i p).trans (ktV_mid _ _ r p 384 rfl i (by omega) ⟨384 + i.val, by omega⟩ ⟨392 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm
  · obtain ⟨i, p', rfl⟩ : ∃ (i : Fin 8) (p' : Fin 256), x = ix3 0 i p' := ⟨x 1, x 2, ix3_eta x⟩
    have e1 : r.val = 384 + i.val := by first | assumption | (rw [Nat.zero_add]; assumption)
    obtain rfl : p = p' := Fin.ext (by first | assumption | (rw [← Nat.zero_add p'.val]; assumption))
    exact (kt18 hn w T i p).trans (ktV_lo _ _ r p 384 rfl i (by omega) ⟨384 + i.val, by omega⟩ ⟨392 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm
  · obtain ⟨i, p', rfl⟩ : ∃ (i : Fin 48) (p' : Fin 256), x = ix3 0 i p' := ⟨x 1, x 2, ix3_eta x⟩
    have e1 : r.val = 336 + i.val := by first | assumption | (rw [Nat.zero_add]; assumption)
    obtain rfl : p = p' := Fin.ext (by first | assumption | (rw [← Nat.zero_add p'.val]; assumption))
    exact (kt17 hn w T i p).trans (ktV_hi _ _ r p 320 rfl i (by omega) ⟨336 + i.val, by omega⟩ (by first | rfl | omega | exact (Nat.zero_add _).symm)).symm
  · obtain ⟨i, p', rfl⟩ : ∃ (i : Fin 8) (p' : Fin 256), x = ix3 0 i p' := ⟨x 1, x 2, ix3_eta x⟩
    have e1 : r.val = 328 + i.val := by first | assumption | (rw [Nat.zero_add]; assumption)
    obtain rfl : p = p' := Fin.ext (by first | assumption | (rw [← Nat.zero_add p'.val]; assumption))
    exact (kt16 hn w T i p).trans (ktV_mid _ _ r p 320 rfl i (by omega) ⟨320 + i.val, by omega⟩ ⟨328 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm
  · obtain ⟨i, p', rfl⟩ : ∃ (i : Fin 8) (p' : Fin 256), x = ix3 0 i p' := ⟨x 1, x 2, ix3_eta x⟩
    have e1 : r.val = 320 + i.val := by first | assumption | (rw [Nat.zero_add]; assumption)
    obtain rfl : p = p' := Fin.ext (by first | assumption | (rw [← Nat.zero_add p'.val]; assumption))
    exact (kt15 hn w T i p).trans (ktV_lo _ _ r p 320 rfl i (by omega) ⟨320 + i.val, by omega⟩ ⟨328 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm
  · obtain ⟨i, p', rfl⟩ : ∃ (i : Fin 48) (p' : Fin 256), x = ix3 0 i p' := ⟨x 1, x 2, ix3_eta x⟩
    have e1 : r.val = 272 + i.val := by first | assumption | (rw [Nat.zero_add]; assumption)
    obtain rfl : p = p' := Fin.ext (by first | assumption | (rw [← Nat.zero_add p'.val]; assumption))
    exact (kt14 hn w T i p).trans (ktV_hi _ _ r p 256 rfl i (by omega) ⟨272 + i.val, by omega⟩ (by first | rfl | omega | exact (Nat.zero_add _).symm)).symm
  · obtain ⟨i, p', rfl⟩ : ∃ (i : Fin 8) (p' : Fin 256), x = ix3 0 i p' := ⟨x 1, x 2, ix3_eta x⟩
    have e1 : r.val = 264 + i.val := by first | assumption | (rw [Nat.zero_add]; assumption)
    obtain rfl : p = p' := Fin.ext (by first | assumption | (rw [← Nat.zero_add p'.val]; assumption))
    exact (kt13 hn w T i p).trans (ktV_mid _ _ r p 256 rfl i (by omega) ⟨256 + i.val, by omega⟩ ⟨264 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm
  · obtain ⟨i, p', rfl⟩ : ∃ (i : Fin 8) (p' : Fin 256), x = ix3 0 i p' := ⟨x 1, x 2, ix3_eta x⟩
    have e1 : r.val = 256 + i.val := by first | assumption | (rw [Nat.zero_add]; assumption)
    obtain rfl : p = p' := Fin.ext (by first | assumption | (rw [← Nat.zero_add p'.val]; assumption))
    exact (kt12 hn w T i p).trans (ktV_lo _ _ r p 256 rfl i (by omega) ⟨256 + i.val, by omega⟩ ⟨264 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm
  · obtain ⟨i, p', rfl⟩ : ∃ (i : Fin 48) (p' : Fin 256), x = ix3 0 i p' := ⟨x 1, x 2, ix3_eta x⟩
    have e1 : r.val = 208 + i.val := by first | assumption | (rw [Nat.zero_add]; assumption)
    obtain rfl : p = p' := Fin.ext (by first | assumption | (rw [← Nat.zero_add p'.val]; assumption))
    exact (kt11 hn w T i p).trans (ktV_hi _ _ r p 192 rfl i (by omega) ⟨208 + i.val, by omega⟩ (by first | rfl | omega | exact (Nat.zero_add _).symm)).symm
  · obtain ⟨i, p', rfl⟩ : ∃ (i : Fin 8) (p' : Fin 256), x = ix3 0 i p' := ⟨x 1, x 2, ix3_eta x⟩
    have e1 : r.val = 200 + i.val := by first | assumption | (rw [Nat.zero_add]; assumption)
    obtain rfl : p = p' := Fin.ext (by first | assumption | (rw [← Nat.zero_add p'.val]; assumption))
    exact (kt10 hn w T i p).trans (ktV_mid _ _ r p 192 rfl i (by omega) ⟨192 + i.val, by omega⟩ ⟨200 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm
  · obtain ⟨i, p', rfl⟩ : ∃ (i : Fin 8) (p' : Fin 256), x = ix3 0 i p' := ⟨x 1, x 2, ix3_eta x⟩
    have e1 : r.val = 192 + i.val := by first | assumption | (rw [Nat.zero_add]; assumption)
    obtain rfl : p = p' := Fin.ext (by first | assumption | (rw [← Nat.zero_add p'.val]; assumption))
    exact (kt9 hn w T i p).trans (ktV_lo _ _ r p 192 rfl i (by omega) ⟨192 + i.val, by omega⟩ ⟨200 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm
  · obtain ⟨i, p', rfl⟩ : ∃ (i : Fin 48) (p' : Fin 256), x = ix3 0 i p' := ⟨x 1, x 2, ix3_eta x⟩
    have e1 : r.val = 144 + i.val := by first | assumption | (rw [Nat.zero_add]; assumption)
    obtain rfl : p = p' := Fin.ext (by first | assumption | (rw [← Nat.zero_add p'.val]; assumption))
    exact (kt8 hn w T i p).trans (ktV_hi _ _ r p 128 rfl i (by omega) ⟨144 + i.val, by omega⟩ (by first | rfl | omega | exact (Nat.zero_add _).symm)).symm
  · obtain ⟨i, p', rfl⟩ : ∃ (i : Fin 8) (p' : Fin 256), x = ix3 0 i p' := ⟨x 1, x 2, ix3_eta x⟩
    have e1 : r.val = 136 + i.val := by first | assumption | (rw [Nat.zero_add]; assumption)
    obtain rfl : p = p' := Fin.ext (by first | assumption | (rw [← Nat.zero_add p'.val]; assumption))
    exact (kt7 hn w T i p).trans (ktV_mid _ _ r p 128 rfl i (by omega) ⟨128 + i.val, by omega⟩ ⟨136 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm
  · obtain ⟨i, p', rfl⟩ : ∃ (i : Fin 8) (p' : Fin 256), x = ix3 0 i p' := ⟨x 1, x 2, ix3_eta x⟩
    have e1 : r.val = 128 + i.val := by first | assumption | (rw [Nat.zero_add]; assumption)
    obtain rfl : p = p' := Fin.ext (by first | assumption | (rw [← Nat.zero_add p'.val]; assumption))
    exact (kt6 hn w T i p).trans (ktV_lo _ _ r p 128 rfl i (by omega) ⟨128 + i.val, by omega⟩ ⟨136 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm
  · obtain ⟨i, p', rfl⟩ : ∃ (i : Fin 48) (p' : Fin 256), x = ix3 0 i p' := ⟨x 1, x 2, ix3_eta x⟩
    have e1 : r.val = 80 + i.val := by first | assumption | (rw [Nat.zero_add]; assumption)
    obtain rfl : p = p' := Fin.ext (by first | assumption | (rw [← Nat.zero_add p'.val]; assumption))
    exact (kt5 hn w T i p).trans (ktV_hi _ _ r p 64 rfl i (by omega) ⟨80 + i.val, by omega⟩ (by first | rfl | omega | exact (Nat.zero_add _).symm)).symm
  · obtain ⟨i, p', rfl⟩ : ∃ (i : Fin 8) (p' : Fin 256), x = ix3 0 i p' := ⟨x 1, x 2, ix3_eta x⟩
    have e1 : r.val = 72 + i.val := by first | assumption | (rw [Nat.zero_add]; assumption)
    obtain rfl : p = p' := Fin.ext (by first | assumption | (rw [← Nat.zero_add p'.val]; assumption))
    exact (kt4 hn w T i p).trans (ktV_mid _ _ r p 64 rfl i (by omega) ⟨64 + i.val, by omega⟩ ⟨72 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm
  · obtain ⟨i, p', rfl⟩ : ∃ (i : Fin 8) (p' : Fin 256), x = ix3 0 i p' := ⟨x 1, x 2, ix3_eta x⟩
    have e1 : r.val = 64 + i.val := by first | assumption | (rw [Nat.zero_add]; assumption)
    obtain rfl : p = p' := Fin.ext (by first | assumption | (rw [← Nat.zero_add p'.val]; assumption))
    exact (kt3 hn w T i p).trans (ktV_lo _ _ r p 64 rfl i (by omega) ⟨64 + i.val, by omega⟩ ⟨72 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm
  · obtain ⟨i, p', rfl⟩ : ∃ (i : Fin 48) (p' : Fin 256), x = ix3 0 i p' := ⟨x 1, x 2, ix3_eta x⟩
    have e1 : r.val = 16 + i.val := by first | assumption | (rw [Nat.zero_add]; assumption)
    obtain rfl : p = p' := Fin.ext (by first | assumption | (rw [← Nat.zero_add p'.val]; assumption))
    exact (kt2 hn w T i p).trans (ktV_hi _ _ r p 0 rfl i (by omega) ⟨16 + i.val, by omega⟩ (by first | rfl | omega | exact (Nat.zero_add _).symm)).symm
  · obtain ⟨i, p', rfl⟩ : ∃ (i : Fin 8) (p' : Fin 256), x = ix3 0 i p' := ⟨x 1, x 2, ix3_eta x⟩
    have e1 : r.val = 8 + i.val := by first | assumption | (rw [Nat.zero_add]; assumption)
    obtain rfl : p = p' := Fin.ext (by first | assumption | (rw [← Nat.zero_add p'.val]; assumption))
    exact (kt1 hn w T i p).trans (ktV_mid _ _ r p 0 rfl i (by omega) ⟨i.val, by omega⟩ ⟨8 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm
  · obtain ⟨i, p', rfl⟩ : ∃ (i : Fin 8) (p' : Fin 256), x = ix3 0 i p' := ⟨x 1, x 2, ix3_eta x⟩
    have e1 : r.val = 0 + i.val := by first | assumption | (rw [Nat.zero_add]; assumption)
    obtain rfl : p = p' := Fin.ext (by first | assumption | (rw [← Nat.zero_add p'.val]; assumption))
    exact (kt0 hn w T i p).trans (ktV_lo _ _ r p 0 rfl i (by omega) ⟨i.val, by omega⟩ ⟨8 + i.val, by omega⟩ (by first | rfl | omega | exact (Nat.zero_add _).symm) (by first | rfl | omega | exact (Nat.zero_add _).symm) ⟨i.val, by omega⟩ ⟨8 + i.val, by omega⟩ (by first | rfl | omega | exact (Nat.zero_add _).symm) (by first | rfl | omega | exact (Nat.zero_add _).symm)).symm

end Cert.SampIdeal.Value
end
-- ==== Proof.SampRef.lean ====
/-
  The reference of the sample group's projection, at an index.
-/
module

public import proofs.«01_k».proof.Proof.Gen.SampReferenceIdeal.Run
public import proofs.«01_k».proof.Proof.ProjMath
public import Idealize.ShloMosaic.Lib.Pointwise
public import Idealize.ShloMosaic.Lib.IdealHost

@[expose] public section
set_option maxRecDepth 16384
noncomputable section
namespace Cert.SampReferenceIdeal.Value
open Cert.SampReferenceIdeal Cert.SampReferenceIdeal.Gen Idealize.ShloMosaic Idealize.ShloMosaic.TcCoe Idealize.SL.Sem

/-- The input projection of the normed rows. -/
def zR (A0 : FVec Ideal S128x4x1024 .f32) (A1 : FVec Ideal S1024 .f32) (A2 : FVec Ideal S1024x4384 .f32) : FVec Ideal S128x4x4384 .f32 :=
  Host.dotGeneral dot_S128x4x1024_S1024x4384_S128x4x4384_2_0_01_1_n_n none (mulf (mulf A0 (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf A0 A0) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 A1))) A2

/-- The cosines of the positional key part. -/
def cosR : FVec Ideal S4x16 .f32 :=
  Host.cos (mulf (broadcastInDim S4x16 ![0, 1] bcast_S4x1_S4x16_0_1 (broadcastInDim S4x1 ![0] bcast_S4_S4x1_0 (sitofp .f32 (addi (broadcastInDim S4 ![] bcast_S_S4 (constantI S_ 32 8192#32)) (iotaInDim S4 32 0))))) (broadcastInDim S4x16 ![0, 1] bcast_S1x16_S4x16_0_1 (broadcastInDim S1x16 ![1] bcast_S16_S1x16_1 (Host.divf (broadcastInDim S16 ![] bcast_S_S16 (constant S_ .f32 0x3F800000#32)) (Host.powf (broadcastInDim S16 ![] bcast_S_S16 (constant S_ .f32 0x461C4000#32)) (mulf (sitofp .f32 (iotaInDim S16 32 0)) (broadcastInDim S16 ![] bcast_S_S16 (constant S_ .f32 0x3D800000#32))))))))

/-- The sines of the positional key part. -/
def sinR : FVec Ideal S4x16 .f32 :=
  Host.sin (mulf (broadcastInDim S4x16 ![0, 1] bcast_S4x1_S4x16_0_1 (broadcastInDim S4x1 ![0] bcast_S4_S4x1_0 (sitofp .f32 (addi (broadcastInDim S4 ![] bcast_S_S4 (constantI S_ 32 8192#32)) (iotaInDim S4 32 0))))) (broadcastInDim S4x16 ![0, 1] bcast_S1x16_S4x16_0_1 (broadcastInDim S1x16 ![1] bcast_S16_S1x16_1 (Host.divf (broadcastInDim S16 ![] bcast_S_S16 (constant S_ .f32 0x3F800000#32)) (Host.powf (broadcastInDim S16 ![] bcast_S_S16 (constant S_ .f32 0x461C4000#32)) (mulf (sitofp .f32 (iotaInDim S16 32 0)) (broadcastInDim S16 ![] bcast_S_S16 (constant S_ .f32 0x3D800000#32))))))))

/-- The cosines of the block-attention keys. -/
def cosM : FVec Ideal S4x8 .f32 :=
  Host.cos (mulf (broadcastInDim S4x8 ![0, 1] bcast_S4x1_S4x8_0_1 (broadcastInDim S4x1 ![0] bcast_S4_S4x1_0 (sitofp .f32 (addi (broadcastInDim S4 ![] bcast_S_S4 (constantI S_ 32 8192#32)) (iotaInDim S4 32 0))))) (broadcastInDim S4x8 ![0, 1] bcast_S1x8_S4x8_0_1 (broadcastInDim S1x8 ![1] bcast_S8_S1x8_1 (Host.divf (broadcastInDim S8 ![] bcast_S_S8 (constant S_ .f32 0x3F800000#32)) (Host.powf (broadcastInDim S8 ![] bcast_S_S8 (constant S_ .f32 0x48F42400#32)) (mulf (sitofp .f32 (iotaInDim S8 32 0)) (broadcastInDim S8 ![] bcast_S_S8 (constant S_ .f32 0x3E000000#32))))))))

/-- The sines of the block-attention keys. -/
def sinM : FVec Ideal S4x8 .f32 :=
  Host.sin (mulf (broadcastInDim S4x8 ![0, 1] bcast_S4x1_S4x8_0_1 (broadcastInDim S4x1 ![0] bcast_S4_S4x1_0 (sitofp .f32 (addi (broadcastInDim S4 ![] bcast_S_S4 (constantI S_ 32 8192#32)) (iotaInDim S4 32 0))))) (broadcastInDim S4x8 ![0, 1] bcast_S1x8_S4x8_0_1 (broadcastInDim S1x8 ![1] bcast_S8_S1x8_1 (Host.divf (broadcastInDim S8 ![] bcast_S_S8 (constant S_ .f32 0x3F800000#32)) (Host.powf (broadcastInDim S8 ![] bcast_S_S8 (constant S_ .f32 0x48F42400#32)) (mulf (sitofp .f32 (iotaInDim S8 32 0)) (broadcastInDim S8 ![] bcast_S_S8 (constant S_ .f32 0x3E000000#32))))))))

variable (z : FVec Ideal S128x4x4384 .f32)

/-- The normed latents. -/
def ckvR (A5 : FVec Ideal S256 .f32) : FVec Ideal S512x256 .f32 :=
  shapeCast _ (mulf (mulf (extractStridedSlice S128x4x256 ![0, 0, 512] z slices_S128x4x4384_S128x4x256_0_0_512) (broadcastInDim S128x4x256 ![0, 1, 2] bcast_S128x4x1_S128x4x256_0_1_2 (Host.rsqrt (addf (Host.divf (broadcastInDim S128x4x1 ![0, 1] bcast_S128x4_S128x4x1_0_1 (Host.reduceAdd (mulf (extractStridedSlice S128x4x256 ![0, 0, 512] z slices_S128x4x4384_S128x4x256_0_0_512) (extractStridedSlice S128x4x256 ![0, 0, 512] z slices_S128x4x4384_S128x4x256_0_0_512)) (constant S_ .f32 0x00000000#32) reducesTo_S128x4x256_S128x4_d2 h_S_)) (broadcastInDim S128x4x1 ![] bcast_S_S128x4x1 (constant S_ .f32 0x43800000#32))) (broadcastInDim S128x4x1 ![] bcast_S_S128x4x1 (constant S_ .f32 0x358637BD#32)))))) (broadcastInDim S128x4x256 ![0, 1, 2] bcast_S1x1x256_S128x4x256_0_1_2 (broadcastInDim S1x1x256 ![2] bcast_S256_S1x1x256_2 A5))) shapeCasts_S128x4x256_S512x256

/-- The rotated positional keys, columns first. -/
def krtR : FVec Ideal S1x32x512 .f32 :=
  transpose S1x32x512 [0, 2, 1] (shapeCast _ (shapeCast _ (concatenate S128x4x1x32 3 [⟨S128x4x1x16, (subf (mulf (extractStridedSlice S128x4x1x16 ![0, 0, 0, 0] (broadcastInDim S128x4x1x32 ![0, 1, 3] bcast_S128x4x32_S128x4x1x32_0_1_3 (extractStridedSlice S128x4x32 ![0, 0, 768] z slices_S128x4x4384_S128x4x32_0_0_768)) slices_S128x4x1x32_S128x4x1x16_0_0_0_0) (broadcastInDim S128x4x1x16 ![0, 1, 2, 3] bcast_S1x4x1x16_S128x4x1x16_0_1_2_3 (broadcastInDim S1x4x1x16 ![1, 2, 3] bcast_S4x1x16_S1x4x1x16_1_2_3 (broadcastInDim S4x1x16 ![0, 2] bcast_S4x16_S4x1x16_0_2 cosR)))) (mulf (extractStridedSlice S128x4x1x16 ![0, 0, 0, 16] (broadcastInDim S128x4x1x32 ![0, 1, 3] bcast_S128x4x32_S128x4x1x32_0_1_3 (extractStridedSlice S128x4x32 ![0, 0, 768] z slices_S128x4x4384_S128x4x32_0_0_768)) slices_S128x4x1x32_S128x4x1x16_0_0_0_16) (broadcastInDim S128x4x1x16 ![0, 1, 2, 3] bcast_S1x4x1x16_S128x4x1x16_0_1_2_3 (broadcastInDim S1x4x1x16 ![1, 2, 3] bcast_S4x1x16_S1x4x1x16_1_2_3 (broadcastInDim S4x1x16 ![0, 2] bcast_S4x16_S4x1x16_0_2 sinR)))))⟩, ⟨S128x4x1x16, (addf (mulf (extractStridedSlice S128x4x1x16 ![0, 0, 0, 16] (broadcastInDim S128x4x1x32 ![0, 1, 3] bcast_S128x4x32_S128x4x1x32_0_1_3 (extractStridedSlice S128x4x32 ![0, 0, 768] z slices_S128x4x4384_S128x4x32_0_0_768)) slices_S128x4x1x32_S128x4x1x16_0_0_0_16) (broadcastInDim S128x4x1x16 ![0, 1, 2, 3] bcast_S1x4x1x16_S128x4x1x16_0_1_2_3 (broadcastInDim S1x4x1x16 ![1, 2, 3] bcast_S4x1x16_S1x4x1x16_1_2_3 (broadcastInDim S4x1x16 ![0, 2] bcast_S4x16_S4x1x16_0_2 cosR)))) (mulf (extractStridedSlice S128x4x1x16 ![0, 0, 0, 0] (broadcastInDim S128x4x1x32 ![0, 1, 3] bcast_S128x4x32_S128x4x1x32_0_1_3 (extractStridedSlice S128x4x32 ![0, 0, 768] z slices_S128x4x4384_S128x4x32_0_0_768)) slices_S128x4x1x32_S128x4x1x16_0_0_0_0) (broadcastInDim S128x4x1x16 ![0, 1, 2, 3] bcast_S1x4x1x16_S128x4x1x16_0_1_2_3 (broadcastInDim S1x4x1x16 ![1, 2, 3] bcast_S4x1x16_S1x4x1x16_1_2_3 (broadcastInDim S4x1x16 ![0, 2] bcast_S4x16_S4x1x16_0_2 sinR)))))⟩] concatenates_S128x4x1x16_S128x4x1x16_S128x4x1x32_d3) shapeCasts_S128x4x1x32_S128x4x32) shapeCasts_S128x4x32_S1x512x32) transposes_S1x512x32_S1x32x512_0_2_1

/-- The block-attention keys before they are laid out columns first. -/
def kmR : FVec Ideal S128x4x8x64 .f32 :=
  concatenate S128x4x8x64 3 [⟨S128x4x8x16, (concatenate S128x4x8x16 3 [⟨S128x4x8x8, (subf (mulf (extractStridedSlice S128x4x8x8 ![0, 0, 0, 0] (extractStridedSlice S128x4x8x16 ![0, 0, 0, 0] (shapeCast _ (extractStridedSlice S128x4x512 ![0, 0, 1312] z slices_S128x4x4384_S128x4x512_0_0_1312) shapeCasts_S128x4x512_S128x4x8x64) slices_S128x4x8x64_S128x4x8x16_0_0_0_0) slices_S128x4x8x16_S128x4x8x8_0_0_0_0) (broadcastInDim S128x4x8x8 ![0, 1, 2, 3] bcast_S1x4x1x8_S128x4x8x8_0_1_2_3 (broadcastInDim S1x4x1x8 ![1, 2, 3] bcast_S4x1x8_S1x4x1x8_1_2_3 (broadcastInDim S4x1x8 ![0, 2] bcast_S4x8_S4x1x8_0_2 cosM)))) (mulf (extractStridedSlice S128x4x8x8 ![0, 0, 0, 8] (extractStridedSlice S128x4x8x16 ![0, 0, 0, 0] (shapeCast _ (extractStridedSlice S128x4x512 ![0, 0, 1312] z slices_S128x4x4384_S128x4x512_0_0_1312) shapeCasts_S128x4x512_S128x4x8x64) slices_S128x4x8x64_S128x4x8x16_0_0_0_0) slices_S128x4x8x16_S128x4x8x8_0_0_0_8) (broadcastInDim S128x4x8x8 ![0, 1, 2, 3] bcast_S1x4x1x8_S128x4x8x8_0_1_2_3 (broadcastInDim S1x4x1x8 ![1, 2, 3] bcast_S4x1x8_S1x4x1x8_1_2_3 (broadcastInDim S4x1x8 ![0, 2] bcast_S4x8_S4x1x8_0_2 sinM)))))⟩, ⟨S128x4x8x8, (addf (mulf (extractStridedSlice S128x4x8x8 ![0, 0, 0, 8] (extractStridedSlice S128x4x8x16 ![0, 0, 0, 0] (shapeCast _ (extractStridedSlice S128x4x512 ![0, 0, 1312] z slices_S128x4x4384_S128x4x512_0_0_1312) shapeCasts_S128x4x512_S128x4x8x64) slices_S128x4x8x64_S128x4x8x16_0_0_0_0) slices_S128x4x8x16_S128x4x8x8_0_0_0_8) (broadcastInDim S128x4x8x8 ![0, 1, 2, 3] bcast_S1x4x1x8_S128x4x8x8_0_1_2_3 (broadcastInDim S1x4x1x8 ![1, 2, 3] bcast_S4x1x8_S1x4x1x8_1_2_3 (broadcastInDim S4x1x8 ![0, 2] bcast_S4x8_S4x1x8_0_2 cosM)))) (mulf (extractStridedSlice S128x4x8x8 ![0, 0, 0, 0] (extractStridedSlice S128x4x8x16 ![0, 0, 0, 0] (shapeCast _ (extractStridedSlice S128x4x512 ![0, 0, 1312] z slices_S128x4x4384_S128x4x512_0_0_1312) shapeCasts_S128x4x512_S128x4x8x64) slices_S128x4x8x64_S128x4x8x16_0_0_0_0) slices_S128x4x8x16_S128x4x8x8_0_0_0_0) (broadcastInDim S128x4x8x8 ![0, 1, 2, 3] bcast_S1x4x1x8_S128x4x8x8_0_1_2_3 (broadcastInDim S1x4x1x8 ![1, 2, 3] bcast_S4x1x8_S1x4x1x8_1_2_3 (broadcastInDim S4x1x8 ![0, 2] bcast_S4x8_S4x1x8_0_2 sinM)))))⟩] concatenates_S128x4x8x8_S128x4x8x8_S128x4x8x16_d3)⟩, ⟨S128x4x8x48, (extractStridedSlice S128x4x8x48 ![0, 0, 0, 16] (shapeCast _ (extractStridedSlice S128x4x512 ![0, 0, 1312] z slices_S128x4x4384_S128x4x512_0_0_1312) shapeCasts_S128x4x512_S128x4x8x64) slices_S128x4x8x64_S128x4x8x48_0_0_0_16)⟩] concatenates_S128x4x8x16_S128x4x8x48_S128x4x8x64_d3

/-- The block-attention keys, columns first. -/
def ktR : FVec Ideal S1x512x512 .f32 :=
  transpose S1x512x512 [0, 2, 1] (shapeCast _ (kmR z) shapeCasts_S128x4x8x64_S1x512x512) transposes_S1x512x512_S1x512x512_0_2_1

/-- The block-attention values, columns first. -/
def vtR : FVec Ideal S1x512x512 .f32 :=
  transpose S1x512x512 [0, 2, 1] (shapeCast _ (shapeCast _ (extractStridedSlice S128x4x512 ![0, 0, 1824] z slices_S128x4x4384_S128x4x512_0_0_1824) shapeCasts_S128x4x512_S128x4x8x64) shapeCasts_S128x4x8x64_S1x512x512) transposes_S1x512x512_S1x512x512_0_2_1

/-- The two gates. -/
def gaR : FVec Ideal S512x1024 .f32 :=
  shapeCast _ (Host.divf (broadcastInDim S128x4x1024 ![] bcast_S_S128x4x1024 (constant S_ .f32 0x3F800000#32)) (addf (broadcastInDim S128x4x1024 ![] bcast_S_S128x4x1024 (constant S_ .f32 0x3F800000#32)) (Host.exp (Host.negf (extractStridedSlice S128x4x1024 ![0, 0, 2336] z slices_S128x4x4384_S128x4x1024_0_0_2336))))) shapeCasts_S128x4x1024_S512x1024
def gbR : FVec Ideal S512x1024 .f32 :=
  shapeCast _ (Host.divf (broadcastInDim S128x4x1024 ![] bcast_S_S128x4x1024 (constant S_ .f32 0x3F800000#32)) (addf (broadcastInDim S128x4x1024 ![] bcast_S_S128x4x1024 (constant S_ .f32 0x3F800000#32)) (Host.exp (Host.negf (extractStridedSlice S128x4x1024 ![0, 0, 3360] z slices_S128x4x4384_S128x4x1024_0_0_3360))))) shapeCasts_S128x4x1024_S512x1024

open Cert.TailMath Cert.ProjMath

theorem zR_apply (A0 : FVec Ideal S128x4x1024 .f32) (A1 : FVec Ideal S1024 .f32) (A2 : FVec Ideal S1024x4384 .f32) (b : Fin 128) (q : Fin 4) (n : Fin 4384) :
    zR A0 A1 A2 (ix3 b q n) = col (fun j => A0 (ix3 b q j)) (fun j => A1 (ix1 j)) (fun k => A2 (ix2 k n)) := by
  pointwise [zR, col, rms]

theorem ckvR_apply (A5 : FVec Ideal S256 .f32) (b : Fin 128) (q : Fin 4) (j : Fin 256) :
    ckvR z A5 (ix2 (⟨b.val * 4 + q.val, by omega⟩ : Fin 512) j) = rmsL (fun j => z (ix3 b q ⟨512 + j.val, by omega⟩)) (fun j => A5 (ix1 j)) j := by
  pointwise [ckvR, rmsL]

theorem gaR_apply (b : Fin 128) (q : Fin 4) (j : Fin 1024) :
    gaR z (ix2 (⟨b.val * 4 + q.val, by omega⟩ : Fin 512) j) = Ideal.logistic (z (ix3 b q ⟨2336 + j.val, by omega⟩)) := by
  pointwise [gaR, Ideal.logistic]

theorem gbR_apply (b : Fin 128) (q : Fin 4) (j : Fin 1024) :
    gbR z (ix2 (⟨b.val * 4 + q.val, by omega⟩ : Fin 512) j) = Ideal.logistic (z (ix3 b q ⟨3360 + j.val, by omega⟩)) := by
  pointwise [gbR, Ideal.logistic]

theorem vtR_apply (b : Fin 128) (h : Fin 8) (d : Fin 64) (q : Fin 4) :
    vtR z (ix3 0 (⟨h.val * 64 + d.val, by omega⟩ : Fin 512) (⟨b.val * 4 + q.val, by omega⟩ : Fin 512)) = z (ix3 b q ⟨1824 + (h.val * 64 + d.val), by omega⟩) := by
  pointwise [vtR]

theorem ktR_apply (b : Fin 128) (h : Fin 8) (d : Fin 64) (q : Fin 4) :
    ktR z (ix3 0 (⟨h.val * 64 + d.val, by omega⟩ : Fin 512) (⟨b.val * 4 + q.val, by omega⟩ : Fin 512)) = kmR z (ix4 b q h d) := by
  pointwise [ktR]

theorem kmR_lo (b : Fin 128) (h : Fin 8) (i : Fin 8) (q : Fin 4) :
    kmR z (ix4 b q h ⟨i.val, by omega⟩)
      = z (ix3 b q ⟨1312 + (h.val * 64 + i.val), by omega⟩) * cosM (ix2 q i) - z (ix3 b q ⟨1312 + (h.val * 64 + (8 + i.val)), by omega⟩) * sinM (ix2 q i) := by
  pointwise [kmR]
  rw [dif_pos (by omega)]

theorem kmR_mid (b : Fin 128) (h : Fin 8) (i : Fin 8) (q : Fin 4) :
    kmR z (ix4 b q h ⟨8 + i.val, by omega⟩)
      = z (ix3 b q ⟨1312 + (h.val * 64 + (8 + i.val)), by omega⟩) * cosM (ix2 q i) + z (ix3 b q ⟨1312 + (h.val * 64 + i.val), by omega⟩) * sinM (ix2 q i) := by
  pointwise [kmR]
  rw [dif_pos (by omega)]

theorem kmR_hi (b : Fin 128) (h : Fin 8) (i : Fin 48) (q : Fin 4) :
    kmR z (ix4 b q h ⟨16 + i.val, by omega⟩) = z (ix3 b q ⟨1312 + (h.val * 64 + (16 + i.val)), by omega⟩) := by
  pointwise [kmR]

theorem krtR_lo (b : Fin 128) (i : Fin 16) (q : Fin 4) :
    krtR z (ix3 0 (⟨i.val, by omega⟩ : Fin 32) (⟨b.val * 4 + q.val, by omega⟩ : Fin 512))
      = z (ix3 b q ⟨768 + i.val, by omega⟩) * cosR (ix2 q i) - z (ix3 b q ⟨768 + (16 + i.val), by omega⟩) * sinR (ix2 q i) := by
  pointwise [krtR]

theorem krtR_hi (b : Fin 128) (i : Fin 16) (q : Fin 4) :
    krtR z (ix3 0 (⟨16 + i.val, by omega⟩ : Fin 32) (⟨b.val * 4 + q.val, by omega⟩ : Fin 512))
      = z (ix3 b q ⟨768 + (16 + i.val), by omega⟩) * cosR (ix2 q i) + z (ix3 b q ⟨768 + i.val, by omega⟩) * sinR (ix2 q i) := by
  pointwise [krtR]

/-- The reference's run: its results, as the functions above of the arguments, which it keeps. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v113) = ckvR (zR (m ((c.tc : Thread nD τ).loc main_arg0)) (m ((c.tc : Thread nD τ).loc main_arg1)) (m ((c.tc : Thread nD τ).loc main_arg2))) (m ((c.tc : Thread nD τ).loc main_arg5))
      ∧ r.2.mem ((c.tc : Thread nD τ).loc main_v115) = krtR (zR (m ((c.tc : Thread nD τ).loc main_arg0)) (m ((c.tc : Thread nD τ).loc main_arg1)) (m ((c.tc : Thread nD τ).loc main_arg2)))
      ∧ r.2.mem ((c.tc : Thread nD τ).loc main_v117) = ktR (zR (m ((c.tc : Thread nD τ).loc main_arg0)) (m ((c.tc : Thread nD τ).loc main_arg1)) (m ((c.tc : Thread nD τ).loc main_arg2)))
      ∧ r.2.mem ((c.tc : Thread nD τ).loc main_v119) = vtR (zR (m ((c.tc : Thread nD τ).loc main_arg0)) (m ((c.tc : Thread nD τ).loc main_arg1)) (m ((c.tc : Thread nD τ).loc main_arg2)))
      ∧ r.2.mem ((c.tc : Thread nD τ).loc main_v126) = gaR (zR (m ((c.tc : Thread nD τ).loc main_arg0)) (m ((c.tc : Thread nD τ).loc main_arg1)) (m ((c.tc : Thread nD τ).loc main_arg2)))
      ∧ r.2.mem ((c.tc : Thread nD τ).loc main_v133) = gbR (zR (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (run m ρ)
  · rfl
  · unfold res_main_v115
    rfl
  · unfold res_main_v117
    rfl
  · rfl
  · rfl
  · rfl

end Cert.SampReferenceIdeal.Value
end
-- ==== Proof.SampBlocks.lean ====
/-
  What the sample group's projection's windows hold at a grid point, in the arrays the program is given.
-/
module

public import proofs.«01_k».proof.Proof.Gen.SampIdeal.Value
public import proofs.«01_k».proof.Proof.SampRef
public import Idealize.ShloMosaic.Lib.Pipeline.ValueKit
public import Idealize.ShloMosaic.Lib.Pointwise
public import Idealize.ShloMosaic.Lib.StableHlo.RunRead

@[expose] public section
set_option maxRecDepth 16384
noncomputable section
namespace Cert.SampIdeal.Value
open Cert.SampIdeal Cert.SampIdeal.Gen Idealize.ShloMosaic Idealize.ShloMosaic.TcCoe Idealize.SL.Sem
open Idealize.ShloMosaic.Pipeline (Dat)
open Cert.SampReferenceIdeal.Value (cosR sinR cosM sinM)

abbrev D0 (m : (ℓ : Loc nD τ sig) → Buf (Elt Ideal) ℓ) (c : Dev nD) : FVec Ideal S128x4x1024 .f32 := m ((c.tc : Thread nD τ).loc main_arg0)
abbrev D1 (m : (ℓ : Loc nD τ sig) → Buf (Elt Ideal) ℓ) (c : Dev nD) : FVec Ideal S1024 .f32 := m ((c.tc : Thread nD τ).loc main_arg1)
abbrev D2 (m : (ℓ : Loc nD τ sig) → Buf (Elt Ideal) ℓ) (c : Dev nD) : FVec Ideal S1024x4384 .f32 := m ((c.tc : Thread nD τ).loc main_arg2)
abbrev D5 (m : (ℓ : Loc nD τ sig) → Buf (Elt Ideal) ℓ) (c : Dev nD) : FVec Ideal S256 .f32 := m ((c.tc : Thread nD τ).loc main_arg5)

variable (m : (ℓ : Loc nD τ sig) → Buf (Elt Ideal) ℓ)

theorem idx : ∀ t : Fin cfg0.N, win0_0.index t = ![t.val, 0]
    ∧ win0_1.index t = ![0, 0]
    ∧ win0_2.index t = ![0, 0]
    ∧ win0_3.index t = ![0, 0]
    ∧ win0_6.index t = ![0, 0]
    ∧ win0_10.index t = ![0, t.val]
    ∧ win0_11.index t = ![0, t.val]
    ∧ win0_12.index t = ![t.val, 0]
    ∧ win0_15.index t = ![0, 0, t.val]
    ∧ win0_16.index t = ![0, 0, t.val]
    ∧ win0_17.index t = ![0, 0, t.val]
    ∧ win0_20.index t = ![t.val, 0]
    ∧ win0_21.index t = ![t.val, 0] :=
  (by decide +kernel : ∀ t : Fin grid0.N, _)

theorem t2 (t : Fin cfg0.N) : t.val < 2 := by have := t.isLt; have : cfg0.N = 2 := N_0; omega

/-- The sequence of a row of the tile of a grid point. -/
abbrev bat (t : Fin cfg0.N) (p : Fin 256) : Fin 128 := ⟨(t.val * 256 + p.val) / 4, by have := t2 t; omega⟩

/-- The token of a row of the tile of a grid point, in its sequence. -/
abbrev qrow (t : Fin cfg0.N) (p : Fin 256) : Fin 4 := ⟨(t.val * 256 + p.val) % 4, by omega⟩

theorem row_lt (t : Fin cfg0.N) (p : Fin 256) : (t.val * 256 + p.val) / 4 * 4 + (t.val * 256 + p.val) % 4 < 512 := by have := t2 t; omega

/-- A row of the tile of a grid point, in the array of all rows. -/
abbrev row (t : Fin cfg0.N) (p : Fin 256) : Fin 512 := ⟨(bat t p).val * 4 + (qrow t p).val, row_lt t p⟩

/-- The positions of all rows. -/
def posT : IVec S512 32 := shapeCast _ (broadcastInDim S128x4 ![0, 1] bcast_S1x4_S128x4_0_1 (shapeCast S1x4 (addi (broadcastInDim S4 ![] bcast_S_S4 (constantI S_ 32 8192#32)) (iotaInDim S4 32 0)) shapeCasts_S4_S1x4)) shapeCasts_S128x4_S512

/-- The angles' cosines and sines of all rows. -/
def cosMT : FVec Ideal S512x8 .f32 :=
  Host.cos (mulf (broadcastInDim S512x8 ![0, 1] bcast_S512x1_S512x8_0_1 (broadcastInDim S512x1 ![0] bcast_S512_S512x1_0 (sitofp .f32 posT))) (broadcastInDim S512x8 ![0, 1] bcast_S1x8_S512x8_0_1 (broadcastInDim S1x8 ![1] bcast_S8_S1x8_1 (Host.divf (broadcastInDim S8 ![] bcast_S_S8 (constant S_ .f32 0x3F800000#32)) (Host.powf (broadcastInDim S8 ![] bcast_S_S8 (constant S_ .f32 0x48F42400#32)) (mulf (sitofp .f32 (iotaInDim S8 32 0)) (broadcastInDim S8 ![] bcast_S_S8 (constant S_ .f32 0x3E000000#32))))))))
def sinMT : FVec Ideal S512x8 .f32 :=
  Host.sin (mulf (broadcastInDim S512x8 ![0, 1] bcast_S512x1_S512x8_0_1 (broadcastInDim S512x1 ![0] bcast_S512_S512x1_0 (sitofp .f32 posT))) (broadcastInDim S512x8 ![0, 1] bcast_S1x8_S512x8_0_1 (broadcastInDim S1x8 ![1] bcast_S8_S1x8_1 (Host.divf (broadcastInDim S8 ![] bcast_S_S8 (constant S_ .f32 0x3F800000#32)) (Host.powf (broadcastInDim S8 ![] bcast_S_S8 (constant S_ .f32 0x48F42400#32)) (mulf (sitofp .f32 (iotaInDim S8 32 0)) (broadcastInDim S8 ![] bcast_S_S8 (constant S_ .f32 0x3E000000#32))))))))
def cosRT : FVec Ideal S512x16 .f32 :=
  Host.cos (mulf (broadcastInDim S512x16 ![0, 1] bcast_S512x1_S512x16_0_1 (broadcastInDim S512x1 ![0] bcast_S512_S512x1_0 (sitofp .f32 posT))) (broadcastInDim S512x16 ![0, 1] bcast_S1x16_S512x16_0_1 (broadcastInDim S1x16 ![1] bcast_S16_S1x16_1 (Host.divf (broadcastInDim S16 ![] bcast_S_S16 (constant S_ .f32 0x3F800000#32)) (Host.powf (broadcastInDim S16 ![] bcast_S_S16 (constant S_ .f32 0x461C4000#32)) (mulf (sitofp .f32 (iotaInDim S16 32 0)) (broadcastInDim S16 ![] bcast_S_S16 (constant S_ .f32 0x3D800000#32))))))))
def sinRT : FVec Ideal S512x16 .f32 :=
  Host.sin (mulf (broadcastInDim S512x16 ![0, 1] bcast_S512x1_S512x16_0_1 (broadcastInDim S512x1 ![0] bcast_S512_S512x1_0 (sitofp .f32 posT))) (broadcastInDim S512x16 ![0, 1] bcast_S1x16_S512x16_0_1 (broadcastInDim S1x16 ![1] bcast_S16_S1x16_1 (Host.divf (broadcastInDim S16 ![] bcast_S_S16 (constant S_ .f32 0x3F800000#32)) (Host.powf (broadcastInDim S16 ![] bcast_S_S16 (constant S_ .f32 0x461C4000#32)) (mulf (sitofp .f32 (iotaInDim S16 32 0)) (broadcastInDim S16 ![] bcast_S_S16 (constant S_ .f32 0x3D800000#32))))))))

set_option maxHeartbeats 2000000 in
theorem cosMT_apply (b : Fin 128) (q : Fin 4) (i : Fin 8) : cosMT (ix2 (⟨b.val * 4 + q.val, by omega⟩ : Fin 512) i) = cosM (ix2 q i) := by
  pointwise [cosMT, posT, cosM]

set_option maxHeartbeats 2000000 in
theorem sinMT_apply (b : Fin 128) (q : Fin 4) (i : Fin 8) : sinMT (ix2 (⟨b.val * 4 + q.val, by omega⟩ : Fin 512) i) = sinM (ix2 q i) := by
  pointwise [sinMT, posT, sinM]

set_option maxHeartbeats 2000000 in
theorem cosRT_apply (b : Fin 128) (q : Fin 4) (i : Fin 16) : cosRT (ix2 (⟨b.val * 4 + q.val, by omega⟩ : Fin 512) i) = cosR (ix2 q i) := by
  pointwise [cosRT, posT, cosR]

set_option maxHeartbeats 2000000 in
theorem sinRT_apply (b : Fin 128) (q : Fin 4) (i : Fin 16) : sinRT (ix2 (⟨b.val * 4 + q.val, by omega⟩ : Fin 512) i) = sinR (ix2 q i) := by
  pointwise [sinRT, posT, sinR]

theorem cat2 {S S1 S2 : Shape} {d : Fin S.rank} {α : Type} {a a' : S1.Idx → α} {b b' : S2.Idx → α} (h) (h') (ea : a = a') (eb : b = b') :
    concatenate (α := α) S d [⟨S1, a⟩, ⟨S2, b⟩] h = concatenate S d [⟨S1, a'⟩, ⟨S2, b'⟩] h' := by
  subst ea eb; rfl

theorem cat3 {S S1 S2 S3 : Shape} {d : Fin S.rank} {α : Type} {a a' : S1.Idx → α} {b b' : S2.Idx → α} {e e' : S3.Idx → α} (h) (h') (ea : a = a') (eb : b = b') (ee : e = e') :
    concatenate (α := α) S d [⟨S1, a⟩, ⟨S2, b⟩, ⟨S3, e⟩] h = concatenate S d [⟨S1, a'⟩, ⟨S2, b'⟩, ⟨S3, e'⟩] h' := by
  subst ea eb ee; rfl

theorem cat4 {S S1 S2 S3 S4 : Shape} {d : Fin S.rank} {α : Type} {a a' : S1.Idx → α} {b b' : S2.Idx → α} {e e' : S3.Idx → α} {f f' : S4.Idx → α} (h) (h')
    (ea : a = a') (eb : b = b') (ee : e = e') (ef : f = f') :
    concatenate (α := α) S d [⟨S1, a⟩, ⟨S2, b⟩, ⟨S3, e⟩, ⟨S4, f⟩] h = concatenate S d [⟨S1, a'⟩, ⟨S2, b'⟩, ⟨S3, e'⟩, ⟨S4, f'⟩] h' := by
  subst ea eb ee ef; rfl

/-- The row weights. -/
theorem V_wrow (c : Dev nD) : ∃ Z : FVec Ideal S1024x128 .f32, (V m c main_v12 : FVec Ideal S1024x3456 .bf16) =
    truncf .bf16 (concatenate S1024x3456 1 [⟨S1024x768, extractStridedSlice S1024x768 ![0, 0] (D2 m c) slices_S1024x4384_S1024x768_0_0⟩,
      ⟨S1024x512, extractStridedSlice S1024x512 ![0, 800] (D2 m c) slices_S1024x4384_S1024x512_0_800⟩, ⟨S1024x128, Z⟩,
      ⟨S1024x2048, extractStridedSlice S1024x2048 ![0, 2336] (D2 m c) slices_S1024x4384_S1024x2048_0_2336⟩] concatenates_S1024x768_S1024x512_S1024x128_S1024x2048_S1024x3456_d1) bitsLt_bf16_f32 := by
  refine ⟨V m c main_v7, ?_⟩
  unfold V
  after_reads_simp
  refine congrArg (fun z => truncf .bf16 z bitsLt_bf16_f32) (cat4 _ _ ?_ ?_ ?_ ?_)
  all_goals
    after_reads_simp
  all_goals rfl

/-- The columns-first weights. -/
theorem V_wt (c : Dev nD) : (V m c main_v18 : FVec Ideal S1056x1024 .bf16) =
    truncf .bf16 (transpose S1056x1024 [1, 0] (concatenate S1024x1056 1 [⟨S1024x512, extractStridedSlice S1024x512 ![0, 1312] (D2 m c) slices_S1024x4384_S1024x512_0_1312⟩,
      ⟨S1024x512, extractStridedSlice S1024x512 ![0, 1824] (D2 m c) slices_S1024x4384_S1024x512_0_1824⟩,
      ⟨S1024x32, extractStridedSlice S1024x32 ![0, 768] (D2 m c) slices_S1024x4384_S1024x32_0_768⟩] concatenates_S1024x512_S1024x512_S1024x32_S1024x1056_d1) transposes_S1024x1056_S1056x1024_1_0) bitsLt_bf16_f32 := by
  unfold V
  after_reads_simp
  refine congrArg (fun z => truncf .bf16 (transpose S1056x1024 [1, 0] z transposes_S1024x1056_S1056x1024_1_0) bitsLt_bf16_f32) (cat3 _ _ ?_ ?_ ?_)
  all_goals
    after_reads_simp
  all_goals rfl

/-- The angles of the block-attention keys, columns first. -/
theorem V_tkt (c : Dev nD) : (V m c main_v144 : FVec Ideal S16x512 .f32) =
    concatenate S16x512 0 [⟨S8x512, transpose S8x512 [1, 0] cosMT transposes_S512x8_S8x512_1_0⟩, ⟨S8x512, transpose S8x512 [1, 0] sinMT transposes_S512x8_S8x512_1_0⟩] concatenates_S8x512_S8x512_S16x512_d0 := by
  unfold V
  after_reads_simp
  refine cat2 _ _ ?_ ?_
  all_goals
    after_reads_simp
  all_goals rfl

/-- The angles of the positional keys, columns first. -/
theorem V_trt (c : Dev nD) : (V m c main_v147 : FVec Ideal S32x512 .f32) =
    concatenate S32x512 0 [⟨S16x512, transpose S16x512 [1, 0] cosRT transposes_S512x16_S16x512_1_0⟩, ⟨S16x512, transpose S16x512 [1, 0] sinRT transposes_S512x16_S16x512_1_0⟩] concatenates_S16x512_S16x512_S32x512_d0 := by
  unfold V
  after_reads_simp
  refine cat2 _ _ ?_ ?_
  all_goals
    after_reads_simp
  all_goals rfl

theorem V_x (c : Dev nD) : (V m c main_v65 : FVec Ideal S512x1024 .f32) = shapeCast _ (D0 m c) shapeCasts_S128x4x1024_S512x1024 := by
  unfold V
  after_reads_simp
  all_goals rfl

theorem V_g (c : Dev nD) : (V m c main_v62 : FVec Ideal S1x1024 .f32) = shapeCast _ (D1 m c) shapeCasts_S1024_S1x1024 := by
  unfold V
  after_reads_simp
  all_goals rfl

theorem V_gkv (c : Dev nD) : (V m c main_v64 : FVec Ideal S1x256 .f32) = shapeCast _ (D5 m c) shapeCasts_S256_S1x256 := by
  unfold V
  after_reads_simp
  all_goals rfl

set_option maxHeartbeats 2000000 in
theorem arr_x (c : Dev nD) (t : Fin cfg0.N) (p : Fin 256) (j : Fin 1024) :
    (V m c main_v65 : FVec Ideal S512x1024 .f32) (ix2 (row t p) j) = D0 m c (ix3 (bat t p) (qrow t p) j) := by
  rw [V_x]
  pointwise
  exact congrArg₂ (fun b q => D0 m c (ix3 b q j)) (Fin.ext (by show ((t.val * 256 + p.val) / 4 * 4 + (t.val * 256 + p.val) % 4) / 4 = (t.val * 256 + p.val) / 4; omega))
    (Fin.ext (by show ((t.val * 256 + p.val) / 4 * 4 + (t.val * 256 + p.val) % 4) % 4 = (t.val * 256 + p.val) % 4; omega))

set_option maxHeartbeats 2000000 in
theorem blk_x (c : Dev nD) (t : Fin cfg0.N) (p : Fin 256) (j : Fin 1024) :
    (iblk m c 0 t : Vec Ideal S256x1024 .f32) (ix2 p j) = D0 m c (ix3 (bat t p) (qrow t p) j) := by
  have e : (win0_0.blk t).view.emb (ix2 p j) = ix2 (row t p) j := by
    blk_ext [idx t]
  refine Eq.trans ?_ (arr_x m c t p j)
  blk_simp [iblk, idx t]
  exact congrArg (V m c main_v65 : FVec Ideal S512x1024 .f32) e

set_option maxHeartbeats 2000000 in
theorem arr_g (c : Dev nD) (t : Fin cfg0.N) (j : Fin 1024) :
    (V m c main_v62 : FVec Ideal S1x1024 .f32) (ix2 0 j) = D1 m c (ix1 j) := by
  rw [V_g]
  pointwise

set_option maxHeartbeats 2000000 in
theorem blk_g (c : Dev nD) (t : Fin cfg0.N) (j : Fin 1024) :
    (iblk m c 1 t : Vec Ideal S1x1024 .f32) (ix2 0 j) = D1 m c (ix1 j) := by
  have e : (win0_1.blk t).view.emb (ix2 0 j) = ix2 0 j := by
    blk_ext [idx t]
  refine Eq.trans ?_ (arr_g m c t j)
  blk_simp [iblk, idx t]
  exact congrArg (V m c main_v62 : FVec Ideal S1x1024 .f32) e

set_option maxHeartbeats 2000000 in
theorem arr_gkv (c : Dev nD) (t : Fin cfg0.N) (j : Fin 256) :
    (V m c main_v64 : FVec Ideal S1x256 .f32) (ix2 0 j) = D5 m c (ix1 j) := by
  rw [V_gkv]
  pointwise

set_option maxHeartbeats 2000000 in
theorem blk_gkv (c : Dev nD) (t : Fin cfg0.N) (j : Fin 256) :
    (iblk m c 6 t : Vec Ideal S1x256 .f32) (ix2 0 j) = D5 m c (ix1 j) := by
  have e : (win0_6.blk t).view.emb (ix2 0 j) = ix2 0 j := by
    blk_ext [idx t]
  refine Eq.trans ?_ (arr_gkv m c t j)
  blk_simp [iblk, idx t]
  exact congrArg (V m c main_v64 : FVec Ideal S1x256 .f32) e

set_option maxHeartbeats 2000000 in
theorem arr_wkv (c : Dev nD) (t : Fin cfg0.N) (k : Fin 1024) (j : Fin 256) :
    (V m c main_v12 : FVec Ideal S1024x3456 .bf16) (ix2 k ⟨512 + j.val, by omega⟩) = D2 m c (ix2 k ⟨512 + j.val, by omega⟩) := by
  obtain ⟨Z, he⟩ := V_wrow m c
  rw [he]
  pointwise
  rw [dif_pos (by omega)]

set_option maxHeartbeats 2000000 in
theorem blk_wkv (c : Dev nD) (t : Fin cfg0.N) (k : Fin 1024) (j : Fin 256) :
    (iblk m c 2 t : Vec Ideal S1024x3456 .bf16) (ix2 k ⟨512 + j.val, by omega⟩) = D2 m c (ix2 k ⟨512 + j.val, by omega⟩) := by
  have e : (win0_2.blk t).view.emb (ix2 k ⟨512 + j.val, by omega⟩) = ix2 k ⟨512 + j.val, by omega⟩ := by
    blk_ext [idx t]
  refine Eq.trans ?_ (arr_wkv m c t k j)
  blk_simp [iblk, idx t]
  exact congrArg (V m c main_v12 : FVec Ideal S1024x3456 .bf16) e

set_option maxHeartbeats 2000000 in
theorem arr_wga (c : Dev nD) (t : Fin cfg0.N) (k : Fin 1024) (j : Fin 1024) :
    (V m c main_v12 : FVec Ideal S1024x3456 .bf16) (ix2 k ⟨1408 + j.val, by omega⟩) = D2 m c (ix2 k ⟨2336 + j.val, by omega⟩) := by
  obtain ⟨Z, he⟩ := V_wrow m c
  rw [he]
  pointwise
  rw [dif_neg (by omega), dif_neg (by omega), dif_neg (by omega)]
  exact congrArg (fun a => D2 m c (ix2 k a)) (Fin.ext (by show 2336 + (1408 + j.val - 768 - 512 - 128) = 2336 + j.val; omega))

set_option maxHeartbeats 2000000 in
theorem blk_wga (c : Dev nD) (t : Fin cfg0.N) (k : Fin 1024) (j : Fin 1024) :
    (iblk m c 2 t : Vec Ideal S1024x3456 .bf16) (ix2 k ⟨1408 + j.val, by omega⟩) = D2 m c (ix2 k ⟨2336 + j.val, by omega⟩) := by
  have e : (win0_2.blk t).view.emb (ix2 k ⟨1408 + j.val, by omega⟩) = ix2 k ⟨1408 + j.val, by omega⟩ := by
    blk_ext [idx t]
  refine Eq.trans ?_ (arr_wga m c t k j)
  blk_simp [iblk, idx t]
  exact congrArg (V m c main_v12 : FVec Ideal S1024x3456 .bf16) e

set_option maxHeartbeats 2000000 in
theorem arr_wgb (c : Dev nD) (t : Fin cfg0.N) (k : Fin 1024) (j : Fin 1024) :
    (V m c main_v12 : FVec Ideal S1024x3456 .bf16) (ix2 k ⟨2432 + j.val, by omega⟩) = D2 m c (ix2 k ⟨3360 + j.val, by omega⟩) := by
  obtain ⟨Z, he⟩ := V_wrow m c
  rw [he]
  pointwise
  rw [dif_neg (by omega), dif_neg (by omega), dif_neg (by omega)]
  exact congrArg (fun a => D2 m c (ix2 k a)) (Fin.ext (by show 2336 + (2432 + j.val - 768 - 512 - 128) = 3360 + j.val; omega))

set_option maxHeartbeats 2000000 in
theorem blk_wgb (c : Dev nD) (t : Fin cfg0.N) (k : Fin 1024) (j : Fin 1024) :
    (iblk m c 2 t : Vec Ideal S1024x3456 .bf16) (ix2 k ⟨2432 + j.val, by omega⟩) = D2 m c (ix2 k ⟨3360 + j.val, by omega⟩) := by
  have e : (win0_2.blk t).view.emb (ix2 k ⟨2432 + j.val, by omega⟩) = ix2 k ⟨2432 + j.val, by omega⟩ := by
    blk_ext [idx t]
  refine Eq.trans ?_ (arr_wgb m c t k j)
  blk_simp [iblk, idx t]
  exact congrArg (V m c main_v12 : FVec Ideal S1024x3456 .bf16) e

set_option maxHeartbeats 2000000 in
theorem arr_wk (c : Dev nD) (t : Fin cfg0.N) (r : Fin 512) (k : Fin 1024) :
    (V m c main_v18 : FVec Ideal S1056x1024 .bf16) (ix2 ⟨r.val, by omega⟩ k) = D2 m c (ix2 k ⟨1312 + r.val, by omega⟩) := by
  rw [V_wt]
  pointwise

set_option maxHeartbeats 2000000 in
theorem blk_wk (c : Dev nD) (t : Fin cfg0.N) (r : Fin 512) (k : Fin 1024) :
    (iblk m c 3 t : Vec Ideal S1056x1024 .bf16) (ix2 ⟨r.val, by omega⟩ k) = D2 m c (ix2 k ⟨1312 + r.val, by omega⟩) := by
  have e : (win0_3.blk t).view.emb (ix2 ⟨r.val, by omega⟩ k) = ix2 ⟨r.val, by omega⟩ k := by
    blk_ext [idx t]
  refine Eq.trans ?_ (arr_wk m c t r k)
  blk_simp [iblk, idx t]
  exact congrArg (V m c main_v18 : FVec Ideal S1056x1024 .bf16) e

set_option maxHeartbeats 2000000 in
theorem arr_wv (c : Dev nD) (t : Fin cfg0.N) (r : Fin 512) (k : Fin 1024) :
    (V m c main_v18 : FVec Ideal S1056x1024 .bf16) (ix2 ⟨512 + r.val, by omega⟩ k) = D2 m c (ix2 k ⟨1824 + r.val, by omega⟩) := by
  rw [V_wt]
  pointwise

set_option maxHeartbeats 2000000 in
theorem blk_wv (c : Dev nD) (t : Fin cfg0.N) (r : Fin 512) (k : Fin 1024) :
    (iblk m c 3 t : Vec Ideal S1056x1024 .bf16) (ix2 ⟨512 + r.val, by omega⟩ k) = D2 m c (ix2 k ⟨1824 + r.val, by omega⟩) := by
  have e : (win0_3.blk t).view.emb (ix2 ⟨512 + r.val, by omega⟩ k) = ix2 ⟨512 + r.val, by omega⟩ k := by
    blk_ext [idx t]
  refine Eq.trans ?_ (arr_wv m c t r k)
  blk_simp [iblk, idx t]
  exact congrArg (V m c main_v18 : FVec Ideal S1056x1024 .bf16) e

set_option maxHeartbeats 2000000 in
theorem arr_wr (c : Dev nD) (t : Fin cfg0.N) (r : Fin 32) (k : Fin 1024) :
    (V m c main_v18 : FVec Ideal S1056x1024 .bf16) (ix2 ⟨1024 + r.val, by omega⟩ k) = D2 m c (ix2 k ⟨768 + r.val, by omega⟩) := by
  rw [V_wt]
  pointwise
  rw [dif_neg (by omega), dif_neg (by omega)]
  exact congrArg (fun a => D2 m c (ix2 k a)) (Fin.ext (by show 768 + (1024 + r.val - 512 - 512) = 768 + r.val; omega))

set_option maxHeartbeats 2000000 in
theorem blk_wr (c : Dev nD) (t : Fin cfg0.N) (r : Fin 32) (k : Fin 1024) :
    (iblk m c 3 t : Vec Ideal S1056x1024 .bf16) (ix2 ⟨1024 + r.val, by omega⟩ k) = D2 m c (ix2 k ⟨768 + r.val, by omega⟩) := by
  have e : (win0_3.blk t).view.emb (ix2 ⟨1024 + r.val, by omega⟩ k) = ix2 ⟨1024 + r.val, by omega⟩ k := by
    blk_ext [idx t]
  refine Eq.trans ?_ (arr_wr m c t r k)
  blk_simp [iblk, idx t]
  exact congrArg (V m c main_v18 : FVec Ideal S1056x1024 .bf16) e

set_option maxHeartbeats 2000000 in
theorem arr_ck (c : Dev nD) (t : Fin cfg0.N) (i : Fin 8) (p : Fin 256) :
    (V m c main_v144 : FVec Ideal S16x512 .f32) (ix2 ⟨i.val, by omega⟩ (row t p)) = cosM (ix2 (qrow t p) i) := by
  rw [V_tkt]
  refine Eq.trans ?_ (cosMT_apply (bat t p) (qrow t p) i)
  pointwise

set_option maxHeartbeats 2000000 in
theorem blk_ck (c : Dev nD) (t : Fin cfg0.N) (i : Fin 8) (p : Fin 256) :
    (iblk m c 10 t : Vec Ideal S16x256 .f32) (ix2 ⟨i.val, by omega⟩ p) = cosM (ix2 (qrow t p) i) := by
  have e : (win0_10.blk t).view.emb (ix2 ⟨i.val, by omega⟩ p) = ix2 ⟨i.val, by omega⟩ (row t p) := by
    blk_ext [idx t]
  refine Eq.trans ?_ (arr_ck m c t i p)
  blk_simp [iblk, idx t]
  exact congrArg (V m c main_v144 : FVec Ideal S16x512 .f32) e

set_option maxHeartbeats 2000000 in
theorem arr_sk (c : Dev nD) (t : Fin cfg0.N) (i : Fin 8) (p : Fin 256) :
    (V m c main_v144 : FVec Ideal S16x512 .f32) (ix2 ⟨8 + i.val, by omega⟩ (row t p)) = sinM (ix2 (qrow t p) i) := by
  rw [V_tkt]
  refine Eq.trans ?_ (sinMT_apply (bat t p) (qrow t p) i)
  pointwise

set_option maxHeartbeats 2000000 in
theorem blk_sk (c : Dev nD) (t : Fin cfg0.N) (i : Fin 8) (p : Fin 256) :
    (iblk m c 10 t : Vec Ideal S16x256 .f32) (ix2 ⟨8 + i.val, by omega⟩ p) = sinM (ix2 (qrow t p) i) := by
  have e : (win0_10.blk t).view.emb (ix2 ⟨8 + i.val, by omega⟩ p) = ix2 ⟨8 + i.val, by omega⟩ (row t p) := by
    blk_ext [idx t]
  refine Eq.trans ?_ (arr_sk m c t i p)
  blk_simp [iblk, idx t]
  exact congrArg (V m c main_v144 : FVec Ideal S16x512 .f32) e

set_option maxHeartbeats 2000000 in
theorem arr_cr (c : Dev nD) (t : Fin cfg0.N) (i : Fin 16) (p : Fin 256) :
    (V m c main_v147 : FVec Ideal S32x512 .f32) (ix2 ⟨i.val, by omega⟩ (row t p)) = cosR (ix2 (qrow t p) i) := by
  rw [V_trt]
  refine Eq.trans ?_ (cosRT_apply (bat t p) (qrow t p) i)
  pointwise

set_option maxHeartbeats 2000000 in
theorem blk_cr (c : Dev nD) (t : Fin cfg0.N) (i : Fin 16) (p : Fin 256) :
    (iblk m c 11 t : Vec Ideal S32x256 .f32) (ix2 ⟨i.val, by omega⟩ p) = cosR (ix2 (qrow t p) i) := by
  have e : (win0_11.blk t).view.emb (ix2 ⟨i.val, by omega⟩ p) = ix2 ⟨i.val, by omega⟩ (row t p) := by
    blk_ext [idx t]
  refine Eq.trans ?_ (arr_cr m c t i p)
  blk_simp [iblk, idx t]
  exact congrArg (V m c main_v147 : FVec Ideal S32x512 .f32) e

set_option maxHeartbeats 2000000 in
theorem arr_sr (c : Dev nD) (t : Fin cfg0.N) (i : Fin 16) (p : Fin 256) :
    (V m c main_v147 : FVec Ideal S32x512 .f32) (ix2 ⟨16 + i.val, by omega⟩ (row t p)) = sinR (ix2 (qrow t p) i) := by
  rw [V_trt]
  refine Eq.trans ?_ (sinRT_apply (bat t p) (qrow t p) i)
  pointwise

set_option maxHeartbeats 2000000 in
theorem blk_sr (c : Dev nD) (t : Fin cfg0.N) (i : Fin 16) (p : Fin 256) :
    (iblk m c 11 t : Vec Ideal S32x256 .f32) (ix2 ⟨16 + i.val, by omega⟩ p) = sinR (ix2 (qrow t p) i) := by
  have e : (win0_11.blk t).view.emb (ix2 ⟨16 + i.val, by omega⟩ p) = ix2 ⟨16 + i.val, by omega⟩ (row t p) := by
    blk_ext [idx t]
  refine Eq.trans ?_ (arr_sr m c t i p)
  blk_simp [iblk, idx t]
  exact congrArg (V m c main_v147 : FVec Ideal S32x512 .f32) e

end Cert.SampIdeal.Value
end
-- ==== Proof.SampResult.lean ====
/-
  The result arrays of the sample group's projection are the reference's results of its arguments.
-/
module

public import proofs.«01_k».proof.Proof.SampVal
public import proofs.«01_k».proof.Proof.SampBlocks

@[expose] public section
set_option maxRecDepth 16384
noncomputable section
namespace Cert.SampIdeal.Value
open Cert.SampIdeal Cert.SampIdeal.Gen Idealize.ShloMosaic Idealize.ShloMosaic.TcCoe Idealize.SL.Sem Cert.TailMath Cert.ProjMath
open Cert.SampReferenceIdeal.Value

variable (m : (ℓ : Loc nD τ sig) → Buf (Elt Ideal) ℓ) (c : Dev nD)

/-- The projection of the arguments. -/
def Z : FVec Ideal Cert.SampReferenceIdeal.S128x4x4384 .f32 := zR (D0 m c) (D1 m c) (D2 m c)

/-- The six results of the arguments. -/
def resCkv : FVec Ideal S512x256 .f32 := ckvR (Z m c) (D5 m c)
def resKrt : FVec Ideal S1x32x512 .f32 := krtR (Z m c)
def resKt : FVec Ideal S1x512x512 .f32 := ktR (Z m c)
def resVt : FVec Ideal S1x512x512 .f32 := vtR (Z m c)
def resGa : FVec Ideal S512x1024 .f32 := gaR (Z m c)
def resGb : FVec Ideal S512x1024 .f32 := gbR (Z m c)

theorem col_eq (t : Fin cfg0.N) (p : Fin 256) (n : Fin 4384) (w : Fin 1024 → EReal) (hw : ∀ k, w k = D2 m c (ix2 k n)) :
    col (fun j => (iblk m c 0 t : Vec Ideal S256x1024 .f32) (ix2 p j)) (fun j => (iblk m c 1 t : Vec Ideal S1x1024 .f32) (ix2 0 j)) w
      = Z m c (ix3 (bat t p) (qrow t p) n) := by
  refine Eq.trans ?_ (zR_apply (D0 m c) (D1 m c) (D2 m c) (bat t p) (qrow t p) n).symm
  rw [funext (blk_x m c t p), funext (blk_g m c t), funext hw]

theorem ld_kv (X : Vec Ideal S1024x3456 .bf16) (k : Fin 1024) (j : Fin 256) :
    (View.ld X (Rect.unit (s := S1024x3456) ![0, 512] ![1024, 256] inb_S1024x3456_S1024x256_0_512) : Vec Ideal S1024x256 .bf16) (ix2 k j) = X (ix2 k ⟨512 + j.val, by omega⟩) :=
  View.ld_unit_apply_of X ![0, 512] ![1024, 256] inb_S1024x3456_S1024x256_0_512 (ix2 k j) _ (fun a => by
    fin_cases a
    · exact (Nat.zero_add _).symm
    · rfl)

theorem ld_ga (X : Vec Ideal S1024x3456 .bf16) (k : Fin 1024) (j : Fin 1024) :
    (View.ld X (Rect.unit (s := S1024x3456) ![0, 1408] ![1024, 1024] inb_S1024x3456_S1024x1024_0_1408) : Vec Ideal S1024x1024 .bf16) (ix2 k j) = X (ix2 k ⟨1408 + j.val, by omega⟩) :=
  View.ld_unit_apply_of X ![0, 1408] ![1024, 1024] inb_S1024x3456_S1024x1024_0_1408 (ix2 k j) _ (fun a => by
    fin_cases a
    · exact (Nat.zero_add _).symm
    · rfl)

theorem ld_gb (X : Vec Ideal S1024x3456 .bf16) (k : Fin 1024) (j : Fin 1024) :
    (View.ld X (Rect.unit (s := S1024x3456) ![0, 2432] ![1024, 1024] inb_S1024x3456_S1024x1024_0_2432) : Vec Ideal S1024x1024 .bf16) (ix2 k j) = X (ix2 k ⟨2432 + j.val, by omega⟩) :=
  View.ld_unit_apply_of X ![0, 2432] ![1024, 1024] inb_S1024x3456_S1024x1024_0_2432 (ix2 k j) _ (fun a => by
    fin_cases a
    · exact (Nat.zero_add _).symm
    · rfl)

/-- The columns-first product of a tile, at a grid point. -/
abbrev Yt (t : Fin cfg0.N) : FVec Ideal S1056x256 .f32 := k0_pay52 (k0_pay2 (iblk m c 0 t : Vec Ideal S256x1024 .f32) (iblk m c 1 t : Vec Ideal S1x1024 .f32)) (iblk m c 3 t : Vec Ideal S1056x1024 .bf16)

theorem yk (t : Fin cfg0.N) (r : Fin 512) (p : Fin 256) : Yt m c t (ix2 ⟨r.val, by omega⟩ p) = Z m c (ix3 (bat t p) (qrow t p) ⟨1312 + r.val, by omega⟩) :=
  (yt_apply _ _ _ _ p).trans (col_eq m c t p _ _ fun k => blk_wk m c t r k)

theorem yv (t : Fin cfg0.N) (r : Fin 512) (p : Fin 256) : Yt m c t (ix2 ⟨512 + r.val, by omega⟩ p) = Z m c (ix3 (bat t p) (qrow t p) ⟨1824 + r.val, by omega⟩) :=
  (yt_apply _ _ _ _ p).trans (col_eq m c t p _ _ fun k => blk_wv m c t r k)

theorem yr (t : Fin cfg0.N) (r : Fin 32) (p : Fin 256) : Yt m c t (ix2 ⟨1024 + r.val, by omega⟩ p) = Z m c (ix3 (bat t p) (qrow t p) ⟨768 + r.val, by omega⟩) :=
  (yt_apply _ _ _ _ p).trans (col_eq m c t p _ _ fun k => blk_wr m c t r k)

theorem ckv_point (t : Fin cfg0.N) (p j : Fin 256) :
    ((outsAt0 m c t).1 : Vec Ideal S256x256 .f32) (ix2 p j) = resCkv m c (ix2 (row t p) j) := by
  simp only [outsAt0]
  rw [out0_A_12_eq]
  refine (ckv_apply _ _ p j).trans (Eq.trans ?_ (ckvR_apply (Z m c) (D5 m c) (bat t p) (qrow t p) j).symm)
  have e1 : ∀ j : Fin 256, k0_pay4 (iblk m c 0 t : Vec Ideal S256x1024 .f32) (iblk m c 1 t : Vec Ideal S1x1024 .f32)
      (View.ld (iblk m c 2 t : Vec Ideal S1024x3456 .bf16) (Rect.unit (s := S1024x3456) ![0, 512] ![1024, 256] inb_S1024x3456_S1024x256_0_512)) (ix2 p j)
      = Z m c (ix3 (bat t p) (qrow t p) ⟨512 + j.val, by omega⟩) := fun j =>
    (lat_apply _ _ _ p j).trans (col_eq m c t p _ _ fun k => (ld_kv _ k j).trans (blk_wkv m c t k j))
  exact congrArg₂ (fun y g => rmsL y g j) (funext e1) (funext (blk_gkv m c t))

theorem ga_point (t : Fin cfg0.N) (p : Fin 256) (j : Fin 1024) :
    ((outsAt0 m c t).2.2.2.2.2.2.2.2.1 : Vec Ideal S256x1024 .f32) (ix2 p j) = resGa m c (ix2 (row t p) j) := by
  simp only [outsAt0]
  rw [out0_A_20_eq]
  refine (ga_apply _ _ _ p j).trans (Eq.trans ?_ (gaR_apply (Z m c) (bat t p) (qrow t p) j).symm)
  exact congrArg Ideal.logistic (col_eq m c t p _ _ fun k => (ld_ga _ k j).trans (blk_wga m c t k j))

theorem gb_point (t : Fin cfg0.N) (p : Fin 256) (j : Fin 1024) :
    ((outsAt0 m c t).2.2.2.2.2.2.2.2.2 : Vec Ideal S256x1024 .f32) (ix2 p j) = resGb m c (ix2 (row t p) j) := by
  simp only [outsAt0]
  rw [out0_A_21_eq]
  refine (gb_apply _ _ _ p j).trans (Eq.trans ?_ (gbR_apply (Z m c) (bat t p) (qrow t p) j).symm)
  exact congrArg Ideal.logistic (col_eq m c t p _ _ fun k => (ld_gb _ k j).trans (blk_wgb m c t k j))

theorem split64 (r : Fin 512) : ∃ (h : Fin 8) (d : Fin 64), r = ⟨h.val * 64 + d.val, by omega⟩ :=
  ⟨⟨r.val / 64, by omega⟩, ⟨r.val % 64, by omega⟩, Fin.ext (by show r.val = r.val / 64 * 64 + r.val % 64; omega)⟩

theorem vt_point (t : Fin cfg0.N) (r : Fin 512) (p : Fin 256) :
    ((outsAt0 m c t).2.2.2.2.2.1 : Vec Ideal S1x512x256 .f32) (ix3 0 r p) = resVt m c (ix3 0 r (row t p)) := by
  simp only [outsAt0]
  rw [out0_A_17_eq]
  obtain ⟨h, d, rfl⟩ := split64 r
  exact (vt_apply _ _ p).trans ((yv m c t ⟨h.val * 64 + d.val, by omega⟩ p).trans (vtR_apply (Z m c) (bat t p) h d (qrow t p)).symm)

theorem krt_point (t : Fin cfg0.N) (r : Fin 32) (p : Fin 256) :
    ((outsAt0 m c t).2.2.2.1 : Vec Ideal S1x32x256 .f32) (ix3 0 r p) = resKrt m c (ix3 0 r (row t p)) := by
  simp only [outsAt0]
  rw [out0_A_15_eq]
  by_cases hr : r.val < 16
  · obtain ⟨i, rfl⟩ : ∃ i : Fin 16, r = ⟨i.val, lt_of_lt_of_le i.isLt (by decide)⟩ := ⟨⟨r.val, hr⟩, rfl⟩
    refine (kr_lo _ _ i p).trans (Eq.trans ?_ (krtR_lo (Z m c) (bat t p) i (qrow t p)).symm)
    exact congrArg₂ (· - ·) (congrArg₂ (· * ·) (yr m c t ⟨i.val, by omega⟩ p) (blk_cr m c t i p))
      (congrArg₂ (· * ·) ((at2 _ p (by show 1040 + i.val = 1024 + (16 + i.val); omega)).trans (yr m c t ⟨16 + i.val, by omega⟩ p)) (blk_sr m c t i p))
  · obtain ⟨i, rfl⟩ : ∃ i : Fin 16, r = ⟨16 + i.val, lt_of_lt_of_le (Nat.add_lt_add_left i.isLt 16) (by decide)⟩ := ⟨⟨r.val - 16, by omega⟩, Fin.ext (by show r.val = 16 + (r.val - 16); omega)⟩
    refine (kr_hi _ _ i p).trans (Eq.trans ?_ (krtR_hi (Z m c) (bat t p) i (qrow t p)).symm)
    exact congrArg₂ (· + ·) (congrArg₂ (· * ·) ((at2 _ p (by show 1040 + i.val = 1024 + (16 + i.val); omega)).trans (yr m c t ⟨16 + i.val, by omega⟩ p)) (blk_cr m c t i p))
      (congrArg₂ (· * ·) (yr m c t ⟨i.val, by omega⟩ p) (blk_sr m c t i p))

theorem kt_point (t : Fin cfg0.N) (r : Fin 512) (p : Fin 256) :
    ((outsAt0 m c t).2.2.2.2.1 : Vec Ideal S1x512x256 .f32) (ix3 0 r p) = resKt m c (ix3 0 r (row t p)) := by
  simp only [outsAt0]
  rw [out0_A_16_eq]
  refine (kt_apply _ _ _ r p).trans ?_
  obtain ⟨h, d, rfl⟩ := split64 r
  refine Eq.trans ?_ (ktR_apply (Z m c) (bat t p) h d (qrow t p)).symm
  by_cases h1 : d.val < 8
  · obtain ⟨i, rfl⟩ : ∃ i : Fin 8, d = ⟨i.val, lt_of_lt_of_le i.isLt (by decide)⟩ := ⟨⟨d.val, h1⟩, rfl⟩
    refine (ktV_lo _ _ _ p (h.val * 64) (by omega) i rfl ⟨h.val * 64 + i.val, by omega⟩ ⟨h.val * 64 + (8 + i.val), by omega⟩ rfl
      (by show h.val * 64 + (8 + i.val) = h.val * 64 + 8 + i.val; omega) ⟨i.val, by omega⟩ ⟨8 + i.val, by omega⟩ rfl rfl).trans (Eq.trans ?_ (kmR_lo (Z m c) (bat t p) h i (qrow t p)).symm)
    exact congrArg₂ (· - ·) (congrArg₂ (· * ·) (yk m c t ⟨h.val * 64 + i.val, by omega⟩ p) (blk_ck m c t i p))
      (congrArg₂ (· * ·) (yk m c t ⟨h.val * 64 + (8 + i.val), by omega⟩ p) (blk_sk m c t i p))
  · by_cases h2 : d.val < 16
    · obtain ⟨i, rfl⟩ : ∃ i : Fin 8, d = ⟨8 + i.val, lt_of_lt_of_le (Nat.add_lt_add_left i.isLt 8) (by decide)⟩ := ⟨⟨d.val - 8, by omega⟩, Fin.ext (by show d.val = 8 + (d.val - 8); omega)⟩
      refine (ktV_mid _ _ _ p (h.val * 64) (by omega) i (by show h.val * 64 + (8 + i.val) = h.val * 64 + 8 + i.val; omega) ⟨h.val * 64 + i.val, by omega⟩ ⟨h.val * 64 + (8 + i.val), by omega⟩ rfl
        (by show h.val * 64 + (8 + i.val) = h.val * 64 + 8 + i.val; omega) ⟨i.val, by omega⟩ ⟨8 + i.val, by omega⟩ rfl rfl).trans (Eq.trans ?_ (kmR_mid (Z m c) (bat t p) h i (qrow t p)).symm)
      exact congrArg₂ (· + ·) (congrArg₂ (· * ·) (yk m c t ⟨h.val * 64 + (8 + i.val), by omega⟩ p) (blk_ck m c t i p))
        (congrArg₂ (· * ·) (yk m c t ⟨h.val * 64 + i.val, by omega⟩ p) (blk_sk m c t i p))
    · obtain ⟨i, rfl⟩ : ∃ i : Fin 48, d = ⟨16 + i.val, lt_of_lt_of_le (Nat.add_lt_add_left i.isLt 16) (by decide)⟩ := ⟨⟨d.val - 16, by omega⟩, Fin.ext (by show d.val = 16 + (d.val - 16); omega)⟩
      refine (ktV_hi _ _ _ p (h.val * 64) (by omega) i (by show h.val * 64 + (16 + i.val) = h.val * 64 + 16 + i.val; omega) ⟨h.val * 64 + (16 + i.val), by omega⟩
        (by show h.val * 64 + (16 + i.val) = h.val * 64 + 16 + i.val; omega)).trans (Eq.trans ?_ (kmR_hi (Z m c) (bat t p) h i (qrow t p)).symm)
      exact yk m c t ⟨h.val * 64 + (16 + i.val), by omega⟩ p

theorem arrCkv : (dats m 0 c).arrAt 12 cfg0.N = resCkv m c := by
  refine (dats m 0 c).arrAt_eq_of_covers 12 _ (by decide +kernel) fun t _ y => ?_
  blk_simp [idx t]
  rw [after0_12]
  have hr : (y 0).val < 256 := (y 0).isLt
  have hn : (y 1).val < 256 := (y 1).isLt
  have e1 : y = ix2 ⟨(y 0).val, hr⟩ ⟨(y 1).val, hn⟩ := by
    blk_ext
  have e2 : (win0_12.blk t).view.emb y = ix2 (row t ⟨(y 0).val, hr⟩) ⟨(y 1).val, hn⟩ := by
    blk_ext [idx t]
  rw [e2]
  exact (congrArg _ e1).trans (ckv_point m c t ⟨(y 0).val, hr⟩ ⟨(y 1).val, hn⟩)

theorem arrGa : (dats m 0 c).arrAt 20 cfg0.N = resGa m c := by
  refine (dats m 0 c).arrAt_eq_of_covers 20 _ (by decide +kernel) fun t _ y => ?_
  blk_simp [idx t]
  rw [after0_20]
  have hr : (y 0).val < 256 := (y 0).isLt
  have hn : (y 1).val < 1024 := (y 1).isLt
  have e1 : y = ix2 ⟨(y 0).val, hr⟩ ⟨(y 1).val, hn⟩ := by
    blk_ext
  have e2 : (win0_20.blk t).view.emb y = ix2 (row t ⟨(y 0).val, hr⟩) ⟨(y 1).val, hn⟩ := by
    blk_ext [idx t]
  rw [e2]
  exact (congrArg _ e1).trans (ga_point m c t ⟨(y 0).val, hr⟩ ⟨(y 1).val, hn⟩)

theorem arrGb : (dats m 0 c).arrAt 21 cfg0.N = resGb m c := by
  refine (dats m 0 c).arrAt_eq_of_covers 21 _ (by decide +kernel) fun t _ y => ?_
  blk_simp [idx t]
  rw [after0_21]
  have hr : (y 0).val < 256 := (y 0).isLt
  have hn : (y 1).val < 1024 := (y 1).isLt
  have e1 : y = ix2 ⟨(y 0).val, hr⟩ ⟨(y 1).val, hn⟩ := by
    blk_ext
  have e2 : (win0_21.blk t).view.emb y = ix2 (row t ⟨(y 0).val, hr⟩) ⟨(y 1).val, hn⟩ := by
    blk_ext [idx t]
  rw [e2]
  exact (congrArg _ e1).trans (gb_point m c t ⟨(y 0).val, hr⟩ ⟨(y 1).val, hn⟩)

theorem arrKrt : (dats m 0 c).arrAt 15 cfg0.N = resKrt m c := by
  refine (dats m 0 c).arrAt_eq_of_covers 15 _ (by decide +kernel) fun t _ y => ?_
  blk_simp [idx t]
  rw [after0_15]
  have hr : (y 1).val < 32 := (y 1).isLt
  have hn : (y 2).val < 256 := (y 2).isLt
  have e1 : y = ix3 0 ⟨(y 1).val, hr⟩ ⟨(y 2).val, hn⟩ := by
    blk_ext
  have e2 : (win0_15.blk t).view.emb y = ix3 0 ⟨(y 1).val, hr⟩ (row t ⟨(y 2).val, hn⟩) := by
    blk_ext [idx t]
  rw [e2]
  exact (congrArg _ e1).trans (krt_point m c t ⟨(y 1).val, hr⟩ ⟨(y 2).val, hn⟩)

theorem arrKt : (dats m 0 c).arrAt 16 cfg0.N = resKt m c := by
  refine (dats m 0 c).arrAt_eq_of_covers 16 _ (by decide +kernel) fun t _ y => ?_
  blk_simp [idx t]
  rw [after0_16]
  have hr : (y 1).val < 512 := (y 1).isLt
  have hn : (y 2).val < 256 := (y 2).isLt
  have e1 : y = ix3 0 ⟨(y 1).val, hr⟩ ⟨(y 2).val, hn⟩ := by
    blk_ext
  have e2 : (win0_16.blk t).view.emb y = ix3 0 ⟨(y 1).val, hr⟩ (row t ⟨(y 2).val, hn⟩) := by
    blk_ext [idx t]
  rw [e2]
  exact (congrArg _ e1).trans (kt_point m c t ⟨(y 1).val, hr⟩ ⟨(y 2).val, hn⟩)

theorem arrVt : (dats m 0 c).arrAt 17 cfg0.N = resVt m c := by
  refine (dats m 0 c).arrAt_eq_of_covers 17 _ (by decide +kernel) fun t _ y => ?_
  blk_simp [idx t]
  rw [after0_17]
  have hr : (y 1).val < 512 := (y 1).isLt
  have hn : (y 2).val < 256 := (y 2).isLt
  have e1 : y = ix3 0 ⟨(y 1).val, hr⟩ ⟨(y 2).val, hn⟩ := by
    blk_ext
  have e2 : (win0_17.blk t).view.emb y = ix3 0 ⟨(y 1).val, hr⟩ (row t ⟨(y 2).val, hn⟩) := by
    blk_ext [idx t]
  rw [e2]
  exact (congrArg _ e1).trans (vt_point m c t ⟨(y 1).val, hr⟩ ⟨(y 2).val, hn⟩)

end Cert.SampIdeal.Value
end
-- ==== Proof.SampAlgebraic.lean ====
/-
  The value claim of the sample group's projection: at exact arithmetic, the six results of the kernel are the reference's.
-/
module

public import proofs.«01_k».proof.Defs
public import proofs.«01_k».proof.Proof.Gen.Samp.Frame
public import proofs.«01_k».proof.Proof.Gen.SampReferenceIdeal.Run
public import proofs.«01_k».proof.Proof.SampResult
public import Idealize.ShloMosaic.Lib.Quiescent

@[expose] public section
set_option maxRecDepth 16384
noncomputable section
namespace Cert.LayerSamp
open Idealize.ShloMosaic Idealize.ShloMosaic.TcCoe Idealize.SL.Sem

/-- The reference ends with its arguments unchanged; it declares no semaphore. -/
theorem reference_quiet : Cert.quiescent_SampReferenceIdeal := fun m ρ _ =>
  (θ_run Cert.SampReferenceIdeal.defs _ _).mono (fun r h => ⟨fun c => (h c).2.2.2.2.2.2,
      Idealize.ShloMosaic.sem_eq_zero_of_no_sems (by decide) r.2⟩)
    (Cert.SampReferenceIdeal.Value.run (F := Ideal) m ρ)

theorem algebraic : Cert.algebraic_SampIdeal_SampReferenceIdeal := by
  intro m ρ m' ρ' _ hagree
  refine ⟨fun c => Cert.SampIdeal.Value.resCkv m c, fun c => Cert.SampIdeal.Value.resKrt m c, fun c => Cert.SampIdeal.Value.resKt m c,
    fun c => Cert.SampIdeal.Value.resVt m c, fun c => Cert.SampIdeal.Value.resGa m c, fun c => Cert.SampIdeal.Value.resGb m c, ?_, ?_⟩
  · refine (θ_run _ _ _).mono (fun _ h c => ⟨(h c).1.trans (Cert.SampIdeal.Value.arrCkv m c), (h c).2.2.2.1.trans (Cert.SampIdeal.Value.arrKrt m c),
      (h c).2.2.2.2.1.trans (Cert.SampIdeal.Value.arrKt m c), (h c).2.2.2.2.2.1.trans (Cert.SampIdeal.Value.arrVt m c),
      (h c).2.2.2.2.2.2.2.2.1.trans (Cert.SampIdeal.Value.arrGa m c), (h c).2.2.2.2.2.2.2.2.2.1.trans (Cert.SampIdeal.Value.arrGb m c),
      (h c).2.2.2.2.2.2.2.2.2.2⟩) (Cert.SampIdeal.Value.run_blocks (F := Ideal) m ρ)
  · refine (θ_run _ _ _).mono (fun _ h c => ⟨(h c).1.trans ?_, (h c).2.1.trans ?_, (h c).2.2.1.trans ?_, (h c).2.2.2.1.trans ?_, (h c).2.2.2.2.1.trans ?_,
      (h c).2.2.2.2.2.1.trans ?_, (h c).2.2.2.2.2.2⟩) (Cert.SampReferenceIdeal.Value.run_ref m' ρ')
    all_goals
      obtain ⟨h0, h1, h2, h3, h4, h5, h6⟩ := hagree c
    · rw [h0, h1, h2, h5]
      rfl
    all_goals
      rw [h0, h1, h2]
      rfl

end Cert.LayerSamp
end
-- ==== Proof.lean ====
/-
  The certificate: the frames of the kernels and of the references, and the four value claims.
-/
module

public import proofs.«01_k».proof.Proof.Algebraic
public import proofs.«01_k».proof.Proof.Gen.Kernel.Frame
public import proofs.«01_k».proof.Proof.TailAlgebraic
public import proofs.«01_k».proof.Proof.Gen.Tail.Frame
public import proofs.«01_k».proof.Proof.ProjAlgebraic
public import proofs.«01_k».proof.Proof.Gen.Proj.Frame
public import proofs.«01_k».proof.Proof.SampAlgebraic
public import proofs.«01_k».proof.Proof.Gen.Samp.Frame

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Tail.Gen.facts, Cert.TailIdeal.Gen.facts, Cert.TailReferenceIdeal.Gen.facts,
    Cert.Proj.Gen.facts, Cert.ProjIdeal.Gen.facts, Cert.ProjReferenceIdeal.Gen.facts,
    Cert.Samp.Gen.facts, Cert.SampIdeal.Gen.facts, Cert.SampReferenceIdeal.Gen.facts, Cert.Finite.facts,
    fun m ρ _ => Cert.Kernel.Gen.frame m ρ, fun m ρ _ => Cert.KernelIdeal.Gen.frame m ρ, fun m ρ _ => Cert.KernelIdeal.Gen.frame m ρ,
    Cert.Attention.reference_quiet, @Cert.Attention.reference_quiet_finite Cert.Finite.facts,
    fun m ρ _ => Cert.Tail.Gen.frame m ρ, fun m ρ _ => Cert.TailIdeal.Gen.frame m ρ, Cert.LayerTail.reference_quiet,
    fun m ρ _ => Cert.Proj.Gen.frame m ρ, fun m ρ _ => Cert.ProjIdeal.Gen.frame m ρ, Cert.LayerProj.reference_quiet,
    fun m ρ _ => Cert.Samp.Gen.frame m ρ, fun m ρ _ => Cert.SampIdeal.Gen.frame m ρ, Cert.LayerSamp.reference_quiet,
    trivial, @Cert.Attention.algebraic Cert.Finite.facts, trivial, Cert.LayerTail.algebraic, trivial, Cert.LayerProj.algebraic, trivial, Cert.LayerSamp.algebraic⟩

end Cert.Proof

end
